-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Experts [hPre_tiles : Cert.Pre_tiles.Facts] (m : (ℓ : Loc Cert.Experts.nD Cert.Experts.τ Cert.Experts.sig) → Buf (Elt Bits) ℓ) : Prop :=
  ∀ c : Dev Cert.Experts.nD,
    (Cert.Pre_tiles.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).1 = (fun _ => 1#1)
    ∧ (Cert.Pre_tiles.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).2 = (fun _ => 1#1)

def Pre_ExpertsIdeal [hPre_tiles : Cert.Pre_tiles.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tiles.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).1 = (fun _ => 1#1)
    ∧ (Cert.Pre_tiles.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tiles [hPre_tiles : Cert.Pre_tiles.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tiles.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).1 = (fun _ => 1#1)
    ∧ (Cert.Pre_tiles.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_MergeLow (m : (ℓ : Loc Cert.MergeLow.nD Cert.MergeLow.τ Cert.MergeLow.sig) → Buf (Elt Bits) ℓ) : Prop :=
  True

def Pre_MergeLowIdeal (m : (ℓ : Loc Cert.MergeLowIdeal.nD Cert.MergeLowIdeal.τ Cert.MergeLowIdeal.sig) → Buf (Elt Ideal) ℓ) : Prop :=
  True

def Pre_MergeLowReferenceIdeal (m : (ℓ : Loc Cert.MergeLowReferenceIdeal.nD Cert.MergeLowReferenceIdeal.τ Cert.MergeLowReferenceIdeal.sig) → Buf (Elt Ideal) ℓ) : Prop :=
  True

def Pre_MergeHigh (m : (ℓ : Loc Cert.MergeHigh.nD Cert.MergeHigh.τ Cert.MergeHigh.sig) → Buf (Elt Bits) ℓ) : Prop :=
  True

def Pre_MergeHighIdeal (m : (ℓ : Loc Cert.MergeHighIdeal.nD Cert.MergeHighIdeal.τ Cert.MergeHighIdeal.sig) → Buf (Elt Ideal) ℓ) : Prop :=
  True

def Pre_MergeHighReferenceIdeal (m : (ℓ : Loc Cert.MergeHighReferenceIdeal.nD Cert.MergeHighReferenceIdeal.τ Cert.MergeHighReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Experts [hExperts : Cert.Experts.Facts] [hPre_tiles : Cert.Pre_tiles.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_tiles : Cert.Pre_tiles.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_tiles [hExpertsReferenceIdeal : Cert.ExpertsReferenceIdeal.Facts] [hPre_tiles : Cert.Pre_tiles.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tiles m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_MergeLow [hMergeLow : Cert.MergeLow.Facts] : Prop :=
  ∀ (m : (ℓ : Loc Cert.MergeLow.nD Cert.MergeLow.τ Cert.MergeLow.sig) → Buf (Elt Bits) ℓ) (g : Dev Cert.MergeLow.nD → PrngReg), Pre_MergeLow m →
    θ_run (Cert.MergeLow.defs (F := Bits)) (onTc (τ := Cert.MergeLow.τ) (Cert.MergeLow.main (F := Bits))) ⟨m, fun _ => 0, g⟩ (fun r => (∀ c : Dev Cert.MergeLow.nD,
      r.2.mem ((c.tc : Thread Cert.MergeLow.nD Cert.MergeLow.τ).loc Cert.MergeLow.main_arg0) = m ((c.tc : Thread Cert.MergeLow.nD Cert.MergeLow.τ).loc Cert.MergeLow.main_arg0)
      ∧ r.2.mem ((c.tc : Thread Cert.MergeLow.nD Cert.MergeLow.τ).loc Cert.MergeLow.main_arg1) = m ((c.tc : Thread Cert.MergeLow.nD Cert.MergeLow.τ).loc Cert.MergeLow.main_arg1)
      ∧ r.2.mem ((c.tc : Thread Cert.MergeLow.nD Cert.MergeLow.τ).loc Cert.MergeLow.main_arg2) = m ((c.tc : Thread Cert.MergeLow.nD Cert.MergeLow.τ).loc Cert.MergeLow.main_arg2)
      ∧ r.2.mem ((c.tc : Thread Cert.MergeLow.nD Cert.MergeLow.τ).loc Cert.MergeLow.main_arg3) = m ((c.tc : Thread Cert.MergeLow.nD Cert.MergeLow.τ).loc Cert.MergeLow.main_arg3)
      ∧ r.2.mem ((c.tc : Thread Cert.MergeLow.nD Cert.MergeLow.τ).loc Cert.MergeLow.main_arg4) = m ((c.tc : Thread Cert.MergeLow.nD Cert.MergeLow.τ).loc Cert.MergeLow.main_arg4)
      ∧ r.2.mem ((c.tc : Thread Cert.MergeLow.nD Cert.MergeLow.τ).loc Cert.MergeLow.main_arg5) = m ((c.tc : Thread Cert.MergeLow.nD Cert.MergeLow.τ).loc Cert.MergeLow.main_arg5)
      ∧ r.2.mem ((c.tc : Thread Cert.MergeLow.nD Cert.MergeLow.τ).loc Cert.MergeLow.main_arg6) = m ((c.tc : Thread Cert.MergeLow.nD Cert.MergeLow.τ).loc Cert.MergeLow.main_arg6)
      ∧ r.2.mem ((c.tc : Thread Cert.MergeLow.nD Cert.MergeLow.τ).loc Cert.MergeLow.main_arg7) = m ((c.tc : Thread Cert.MergeLow.nD Cert.MergeLow.τ).loc Cert.MergeLow.main_arg7)
      ∧ r.2.mem ((c.tc : Thread Cert.MergeLow.nD Cert.MergeLow.τ).loc Cert.MergeLow.main_arg8) = m ((c.tc : Thread Cert.MergeLow.nD Cert.MergeLow.τ).loc Cert.MergeLow.main_arg8)
      ∧ r.2.mem ((c.tc : Thread Cert.MergeLow.nD Cert.MergeLow.τ).loc Cert.MergeLow.main_arg9) = m ((c.tc : Thread Cert.MergeLow.nD Cert.MergeLow.τ).loc Cert.MergeLow.main_arg9))
      ∧ r.2.sem = fun _ => 0)

def quiescent_MergeLowIdeal [hMergeLowIdeal : Cert.MergeLowIdeal.Facts] : Prop :=
  ∀ (m : (ℓ : Loc Cert.MergeLowIdeal.nD Cert.MergeLowIdeal.τ Cert.MergeLowIdeal.sig) → Buf (Elt Ideal) ℓ) (g : Dev Cert.MergeLowIdeal.nD → PrngReg), Pre_MergeLowIdeal m →
    θ_run (Cert.MergeLowIdeal.defs (F := Ideal)) (onTc (τ := Cert.MergeLowIdeal.τ) (Cert.MergeLowIdeal.main (F := Ideal))) ⟨m, fun _ => 0, g⟩ (fun r => (∀ c : Dev Cert.MergeLowIdeal.nD,
      r.2.mem ((c.tc : Thread Cert.MergeLowIdeal.nD Cert.MergeLowIdeal.τ).loc Cert.MergeLowIdeal.main_arg0) = m ((c.tc : Thread Cert.MergeLowIdeal.nD Cert.MergeLowIdeal.τ).loc Cert.MergeLowIdeal.main_arg0)
      ∧ r.2.mem ((c.tc : Thread Cert.MergeLowIdeal.nD Cert.MergeLowIdeal.τ).loc Cert.MergeLowIdeal.main_arg1) = m ((c.tc : Thread Cert.MergeLowIdeal.nD Cert.MergeLowIdeal.τ).loc Cert.MergeLowIdeal.main_arg1)
      ∧ r.2.mem ((c.tc : Thread Cert.MergeLowIdeal.nD Cert.MergeLowIdeal.τ).loc Cert.MergeLowIdeal.main_arg2) = m ((c.tc : Thread Cert.MergeLowIdeal.nD Cert.MergeLowIdeal.τ).loc Cert.MergeLowIdeal.main_arg2)
      ∧ r.2.mem ((c.tc : Thread Cert.MergeLowIdeal.nD Cert.MergeLowIdeal.τ).loc Cert.MergeLowIdeal.main_arg3) = m ((c.tc : Thread Cert.MergeLowIdeal.nD Cert.MergeLowIdeal.τ).loc Cert.MergeLowIdeal.main_arg3)
      ∧ r.2.mem ((c.tc : Thread Cert.MergeLowIdeal.nD Cert.MergeLowIdeal.τ).loc Cert.MergeLowIdeal.main_arg4) = m ((c.tc : Thread Cert.MergeLowIdeal.nD Cert.MergeLowIdeal.τ).loc Cert.MergeLowIdeal.main_arg4)
      ∧ r.2.mem ((c.tc : Thread Cert.MergeLowIdeal.nD Cert.MergeLowIdeal.τ).loc Cert.MergeLowIdeal.main_arg5) = m ((c.tc : Thread Cert.MergeLowIdeal.nD Cert.MergeLowIdeal.τ).loc Cert.MergeLowIdeal.main_arg5)
      ∧ r.2.mem ((c.tc : Thread Cert.MergeLowIdeal.nD Cert.MergeLowIdeal.τ).loc Cert.MergeLowIdeal.main_arg6) = m ((c.tc : Thread Cert.MergeLowIdeal.nD Cert.MergeLowIdeal.τ).loc Cert.MergeLowIdeal.main_arg6)
      ∧ r.2.mem ((c.tc : Thread Cert.MergeLowIdeal.nD Cert.MergeLowIdeal.τ).loc Cert.MergeLowIdeal.main_arg7) = m ((c.tc : Thread Cert.MergeLowIdeal.nD Cert.MergeLowIdeal.τ).loc Cert.MergeLowIdeal.main_arg7)
      ∧ r.2.mem ((c.tc : Thread Cert.MergeLowIdeal.nD Cert.MergeLowIdeal.τ).loc Cert.MergeLowIdeal.main_arg8) = m ((c.tc : Thread Cert.MergeLowIdeal.nD Cert.MergeLowIdeal.τ).loc Cert.MergeLowIdeal.main_arg8)
      ∧ r.2.mem ((c.tc : Thread Cert.MergeLowIdeal.nD Cert.MergeLowIdeal.τ).loc Cert.MergeLowIdeal.main_arg9) = m ((c.tc : Thread Cert.MergeLowIdeal.nD Cert.MergeLowIdeal.τ).loc Cert.MergeLowIdeal.main_arg9))
      ∧ r.2.sem = fun _ => 0)

def quiescent_MergeLowReferenceIdeal [hMergeLowReferenceIdeal : Cert.MergeLowReferenceIdeal.Facts] : Prop :=
  ∀ (m : (ℓ : Loc Cert.MergeLowReferenceIdeal.nD Cert.MergeLowReferenceIdeal.τ Cert.MergeLowReferenceIdeal.sig) → Buf (Elt Ideal) ℓ) (g : Dev Cert.MergeLowReferenceIdeal.nD → PrngReg), Pre_MergeLowReferenceIdeal m →
    θ_run (Cert.MergeLowReferenceIdeal.defs (F := Ideal)) (onTc (τ := Cert.MergeLowReferenceIdeal.τ) (Cert.MergeLowReferenceIdeal.main (F := Ideal))) ⟨m, fun _ => 0, g⟩ (fun r => (∀ c : Dev Cert.MergeLowReferenceIdeal.nD,
      r.2.mem ((c.tc : Thread Cert.MergeLowReferenceIdeal.nD Cert.MergeLowReferenceIdeal.τ).loc Cert.MergeLowReferenceIdeal.main_arg0) = m ((c.tc : Thread Cert.MergeLowReferenceIdeal.nD Cert.MergeLowReferenceIdeal.τ).loc Cert.MergeLowReferenceIdeal.main_arg0)
      ∧ r.2.mem ((c.tc : Thread Cert.MergeLowReferenceIdeal.nD Cert.MergeLowReferenceIdeal.τ).loc Cert.MergeLowReferenceIdeal.main_arg1) = m ((c.tc : Thread Cert.MergeLowReferenceIdeal.nD Cert.MergeLowReferenceIdeal.τ).loc Cert.MergeLowReferenceIdeal.main_arg1)
      ∧ r.2.mem ((c.tc : Thread Cert.MergeLowReferenceIdeal.nD Cert.MergeLowReferenceIdeal.τ).loc Cert.MergeLowReferenceIdeal.main_arg2) = m ((c.tc : Thread Cert.MergeLowReferenceIdeal.nD Cert.MergeLowReferenceIdeal.τ).loc Cert.MergeLowReferenceIdeal.main_arg2)
      ∧ r.2.mem ((c.tc : Thread Cert.MergeLowReferenceIdeal.nD Cert.MergeLowReferenceIdeal.τ).loc Cert.MergeLowReferenceIdeal.main_arg3) = m ((c.tc : Thread Cert.MergeLowReferenceIdeal.nD Cert.MergeLowReferenceIdeal.τ).loc Cert.MergeLowReferenceIdeal.main_arg3)
      ∧ r.2.mem ((c.tc : Thread Cert.MergeLowReferenceIdeal.nD Cert.MergeLowReferenceIdeal.τ).loc Cert.MergeLowReferenceIdeal.main_arg4) = m ((c.tc : Thread Cert.MergeLowReferenceIdeal.nD Cert.MergeLowReferenceIdeal.τ).loc Cert.MergeLowReferenceIdeal.main_arg4)
      ∧ r.2.mem ((c.tc : Thread Cert.MergeLowReferenceIdeal.nD Cert.MergeLowReferenceIdeal.τ).loc Cert.MergeLowReferenceIdeal.main_arg5) = m ((c.tc : Thread Cert.MergeLowReferenceIdeal.nD Cert.MergeLowReferenceIdeal.τ).loc Cert.MergeLowReferenceIdeal.main_arg5)
      ∧ r.2.mem ((c.tc : Thread Cert.MergeLowReferenceIdeal.nD Cert.MergeLowReferenceIdeal.τ).loc Cert.MergeLowReferenceIdeal.main_arg6) = m ((c.tc : Thread Cert.MergeLowReferenceIdeal.nD Cert.MergeLowReferenceIdeal.τ).loc Cert.MergeLowReferenceIdeal.main_arg6)
      ∧ r.2.mem ((c.tc : Thread Cert.MergeLowReferenceIdeal.nD Cert.MergeLowReferenceIdeal.τ).loc Cert.MergeLowReferenceIdeal.main_arg7) = m ((c.tc : Thread Cert.MergeLowReferenceIdeal.nD Cert.MergeLowReferenceIdeal.τ).loc Cert.MergeLowReferenceIdeal.main_arg7)
      ∧ r.2.mem ((c.tc : Thread Cert.MergeLowReferenceIdeal.nD Cert.MergeLowReferenceIdeal.τ).loc Cert.MergeLowReferenceIdeal.main_arg8) = m ((c.tc : Thread Cert.MergeLowReferenceIdeal.nD Cert.MergeLowReferenceIdeal.τ).loc Cert.MergeLowReferenceIdeal.main_arg8)
      ∧ r.2.mem ((c.tc : Thread Cert.MergeLowReferenceIdeal.nD Cert.MergeLowReferenceIdeal.τ).loc Cert.MergeLowReferenceIdeal.main_arg9) = m ((c.tc : Thread Cert.MergeLowReferenceIdeal.nD Cert.MergeLowReferenceIdeal.τ).loc Cert.MergeLowReferenceIdeal.main_arg9))
      ∧ r.2.sem = fun _ => 0)

def quiescent_MergeHigh [hMergeHigh : Cert.MergeHigh.Facts] : Prop :=
  ∀ (m : (ℓ : Loc Cert.MergeHigh.nD Cert.MergeHigh.τ Cert.MergeHigh.sig) → Buf (Elt Bits) ℓ) (g : Dev Cert.MergeHigh.nD → PrngReg), Pre_MergeHigh m →
    θ_run (Cert.MergeHigh.defs (F := Bits)) (onTc (τ := Cert.MergeHigh.τ) (Cert.MergeHigh.main (F := Bits))) ⟨m, fun _ => 0, g⟩ (fun r => (∀ c : Dev Cert.MergeHigh.nD,
      r.2.mem ((c.tc : Thread Cert.MergeHigh.nD Cert.MergeHigh.τ).loc Cert.MergeHigh.main_arg0) = m ((c.tc : Thread Cert.MergeHigh.nD Cert.MergeHigh.τ).loc Cert.MergeHigh.main_arg0)
      ∧ r.2.mem ((c.tc : Thread Cert.MergeHigh.nD Cert.MergeHigh.τ).loc Cert.MergeHigh.main_arg1) = m ((c.tc : Thread Cert.MergeHigh.nD Cert.MergeHigh.τ).loc Cert.MergeHigh.main_arg1)
      ∧ r.2.mem ((c.tc : Thread Cert.MergeHigh.nD Cert.MergeHigh.τ).loc Cert.MergeHigh.main_arg2) = m ((c.tc : Thread Cert.MergeHigh.nD Cert.MergeHigh.τ).loc Cert.MergeHigh.main_arg2)
      ∧ r.2.mem ((c.tc : Thread Cert.MergeHigh.nD Cert.MergeHigh.τ).loc Cert.MergeHigh.main_arg3) = m ((c.tc : Thread Cert.MergeHigh.nD Cert.MergeHigh.τ).loc Cert.MergeHigh.main_arg3)
      ∧ r.2.mem ((c.tc : Thread Cert.MergeHigh.nD Cert.MergeHigh.τ).loc Cert.MergeHigh.main_arg4) = m ((c.tc : Thread Cert.MergeHigh.nD Cert.MergeHigh.τ).loc Cert.MergeHigh.main_arg4)
      ∧ r.2.mem ((c.tc : Thread Cert.MergeHigh.nD Cert.MergeHigh.τ).loc Cert.MergeHigh.main_arg5) = m ((c.tc : Thread Cert.MergeHigh.nD Cert.MergeHigh.τ).loc Cert.MergeHigh.main_arg5)
      ∧ r.2.mem ((c.tc : Thread Cert.MergeHigh.nD Cert.MergeHigh.τ).loc Cert.MergeHigh.main_arg6) = m ((c.tc : Thread Cert.MergeHigh.nD Cert.MergeHigh.τ).loc Cert.MergeHigh.main_arg6)
      ∧ r.2.mem ((c.tc : Thread Cert.MergeHigh.nD Cert.MergeHigh.τ).loc Cert.MergeHigh.main_arg7) = m ((c.tc : Thread Cert.MergeHigh.nD Cert.MergeHigh.τ).loc Cert.MergeHigh.main_arg7)
      ∧ r.2.mem ((c.tc : Thread Cert.MergeHigh.nD Cert.MergeHigh.τ).loc Cert.MergeHigh.main_arg8) = m ((c.tc : Thread Cert.MergeHigh.nD Cert.MergeHigh.τ).loc Cert.MergeHigh.main_arg8)
      ∧ r.2.mem ((c.tc : Thread Cert.MergeHigh.nD Cert.MergeHigh.τ).loc Cert.MergeHigh.main_arg9) = m ((c.tc : Thread Cert.MergeHigh.nD Cert.MergeHigh.τ).loc Cert.MergeHigh.main_arg9))
      ∧ r.2.sem = fun _ => 0)

def quiescent_MergeHighIdeal [hMergeHighIdeal : Cert.MergeHighIdeal.Facts] : Prop :=
  ∀ (m : (ℓ : Loc Cert.MergeHighIdeal.nD Cert.MergeHighIdeal.τ Cert.MergeHighIdeal.sig) → Buf (Elt Ideal) ℓ) (g : Dev Cert.MergeHighIdeal.nD → PrngReg), Pre_MergeHighIdeal m →
    θ_run (Cert.MergeHighIdeal.defs (F := Ideal)) (onTc (τ := Cert.MergeHighIdeal.τ) (Cert.MergeHighIdeal.main (F := Ideal))) ⟨m, fun _ => 0, g⟩ (fun r => (∀ c : Dev Cert.MergeHighIdeal.nD,
      r.2.mem ((c.tc : Thread Cert.MergeHighIdeal.nD Cert.MergeHighIdeal.τ).loc Cert.MergeHighIdeal.main_arg0) = m ((c.tc : Thread Cert.MergeHighIdeal.nD Cert.MergeHighIdeal.τ).loc Cert.MergeHighIdeal.main_arg0)
      ∧ r.2.mem ((c.tc : Thread Cert.MergeHighIdeal.nD Cert.MergeHighIdeal.τ).loc Cert.MergeHighIdeal.main_arg1) = m ((c.tc : Thread Cert.MergeHighIdeal.nD Cert.MergeHighIdeal.τ).loc Cert.MergeHighIdeal.main_arg1)
      ∧ r.2.mem ((c.tc : Thread Cert.MergeHighIdeal.nD Cert.MergeHighIdeal.τ).loc Cert.MergeHighIdeal.main_arg2) = m ((c.tc : Thread Cert.MergeHighIdeal.nD Cert.MergeHighIdeal.τ).loc Cert.MergeHighIdeal.main_arg2)
      ∧ r.2.mem ((c.tc : Thread Cert.MergeHighIdeal.nD Cert.MergeHighIdeal.τ).loc Cert.MergeHighIdeal.main_arg3) = m ((c.tc : Thread Cert.MergeHighIdeal.nD Cert.MergeHighIdeal.τ).loc Cert.MergeHighIdeal.main_arg3)
      ∧ r.2.mem ((c.tc : Thread Cert.MergeHighIdeal.nD Cert.MergeHighIdeal.τ).loc Cert.MergeHighIdeal.main_arg4) = m ((c.tc : Thread Cert.MergeHighIdeal.nD Cert.MergeHighIdeal.τ).loc Cert.MergeHighIdeal.main_arg4)
      ∧ r.2.mem ((c.tc : Thread Cert.MergeHighIdeal.nD Cert.MergeHighIdeal.τ).loc Cert.MergeHighIdeal.main_arg5) = m ((c.tc : Thread Cert.MergeHighIdeal.nD Cert.MergeHighIdeal.τ).loc Cert.MergeHighIdeal.main_arg5)
      ∧ r.2.mem ((c.tc : Thread Cert.MergeHighIdeal.nD Cert.MergeHighIdeal.τ).loc Cert.MergeHighIdeal.main_arg6) = m ((c.tc : Thread Cert.MergeHighIdeal.nD Cert.MergeHighIdeal.τ).loc Cert.MergeHighIdeal.main_arg6)
      ∧ r.2.mem ((c.tc : Thread Cert.MergeHighIdeal.nD Cert.MergeHighIdeal.τ).loc Cert.MergeHighIdeal.main_arg7) = m ((c.tc : Thread Cert.MergeHighIdeal.nD Cert.MergeHighIdeal.τ).loc Cert.MergeHighIdeal.main_arg7)
      ∧ r.2.mem ((c.tc : Thread Cert.MergeHighIdeal.nD Cert.MergeHighIdeal.τ).loc Cert.MergeHighIdeal.main_arg8) = m ((c.tc : Thread Cert.MergeHighIdeal.nD Cert.MergeHighIdeal.τ).loc Cert.MergeHighIdeal.main_arg8)
      ∧ r.2.mem ((c.tc : Thread Cert.MergeHighIdeal.nD Cert.MergeHighIdeal.τ).loc Cert.MergeHighIdeal.main_arg9) = m ((c.tc : Thread Cert.MergeHighIdeal.nD Cert.MergeHighIdeal.τ).loc Cert.MergeHighIdeal.main_arg9))
      ∧ r.2.sem = fun _ => 0)

def quiescent_MergeHighReferenceIdeal [hMergeHighReferenceIdeal : Cert.MergeHighReferenceIdeal.Facts] : Prop :=
  ∀ (m : (ℓ : Loc Cert.MergeHighReferenceIdeal.nD Cert.MergeHighReferenceIdeal.τ Cert.MergeHighReferenceIdeal.sig) → Buf (Elt Ideal) ℓ) (g : Dev Cert.MergeHighReferenceIdeal.nD → PrngReg), Pre_MergeHighReferenceIdeal m →
    θ_run (Cert.MergeHighReferenceIdeal.defs (F := Ideal)) (onTc (τ := Cert.MergeHighReferenceIdeal.τ) (Cert.MergeHighReferenceIdeal.main (F := Ideal))) ⟨m, fun _ => 0, g⟩ (fun r => (∀ c : Dev Cert.MergeHighReferenceIdeal.nD,
      r.2.mem ((c.tc : Thread Cert.MergeHighReferenceIdeal.nD Cert.MergeHighReferenceIdeal.τ).loc Cert.MergeHighReferenceIdeal.main_arg0) = m ((c.tc : Thread Cert.MergeHighReferenceIdeal.nD Cert.MergeHighReferenceIdeal.τ).loc Cert.MergeHighReferenceIdeal.main_arg0)
      ∧ r.2.mem ((c.tc : Thread Cert.MergeHighReferenceIdeal.nD Cert.MergeHighReferenceIdeal.τ).loc Cert.MergeHighReferenceIdeal.main_arg1) = m ((c.tc : Thread Cert.MergeHighReferenceIdeal.nD Cert.MergeHighReferenceIdeal.τ).loc Cert.MergeHighReferenceIdeal.main_arg1)
      ∧ r.2.mem ((c.tc : Thread Cert.MergeHighReferenceIdeal.nD Cert.MergeHighReferenceIdeal.τ).loc Cert.MergeHighReferenceIdeal.main_arg2) = m ((c.tc : Thread Cert.MergeHighReferenceIdeal.nD Cert.MergeHighReferenceIdeal.τ).loc Cert.MergeHighReferenceIdeal.main_arg2)
      ∧ r.2.mem ((c.tc : Thread Cert.MergeHighReferenceIdeal.nD Cert.MergeHighReferenceIdeal.τ).loc Cert.MergeHighReferenceIdeal.main_arg3) = m ((c.tc : Thread Cert.MergeHighReferenceIdeal.nD Cert.MergeHighReferenceIdeal.τ).loc Cert.MergeHighReferenceIdeal.main_arg3)
      ∧ r.2.mem ((c.tc : Thread Cert.MergeHighReferenceIdeal.nD Cert.MergeHighReferenceIdeal.τ).loc Cert.MergeHighReferenceIdeal.main_arg4) = m ((c.tc : Thread Cert.MergeHighReferenceIdeal.nD Cert.MergeHighReferenceIdeal.τ).loc Cert.MergeHighReferenceIdeal.main_arg4)
      ∧ r.2.mem ((c.tc : Thread Cert.MergeHighReferenceIdeal.nD Cert.MergeHighReferenceIdeal.τ).loc Cert.MergeHighReferenceIdeal.main_arg5) = m ((c.tc : Thread Cert.MergeHighReferenceIdeal.nD Cert.MergeHighReferenceIdeal.τ).loc Cert.MergeHighReferenceIdeal.main_arg5)
      ∧ r.2.mem ((c.tc : Thread Cert.MergeHighReferenceIdeal.nD Cert.MergeHighReferenceIdeal.τ).loc Cert.MergeHighReferenceIdeal.main_arg6) = m ((c.tc : Thread Cert.MergeHighReferenceIdeal.nD Cert.MergeHighReferenceIdeal.τ).loc Cert.MergeHighReferenceIdeal.main_arg6)
      ∧ r.2.mem ((c.tc : Thread Cert.MergeHighReferenceIdeal.nD Cert.MergeHighReferenceIdeal.τ).loc Cert.MergeHighReferenceIdeal.main_arg7) = m ((c.tc : Thread Cert.MergeHighReferenceIdeal.nD Cert.MergeHighReferenceIdeal.τ).loc Cert.MergeHighReferenceIdeal.main_arg7)
      ∧ r.2.mem ((c.tc : Thread Cert.MergeHighReferenceIdeal.nD Cert.MergeHighReferenceIdeal.τ).loc Cert.MergeHighReferenceIdeal.main_arg8) = m ((c.tc : Thread Cert.MergeHighReferenceIdeal.nD Cert.MergeHighReferenceIdeal.τ).loc Cert.MergeHighReferenceIdeal.main_arg8)
      ∧ r.2.mem ((c.tc : Thread Cert.MergeHighReferenceIdeal.nD Cert.MergeHighReferenceIdeal.τ).loc Cert.MergeHighReferenceIdeal.main_arg9) = m ((c.tc : Thread Cert.MergeHighReferenceIdeal.nD Cert.MergeHighReferenceIdeal.τ).loc Cert.MergeHighReferenceIdeal.main_arg9))
      ∧ r.2.sem = fun _ => 0)

def preserves_Kernel_KernelIdeal : Prop :=
  IdealRules.named_const.Statement Cert.KernelIdeal.κ "q_scale" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Experts_ExpertsIdeal : Prop :=
  True

def algebraic_ExpertsIdeal_ExpertsReferenceIdeal_on_rows_held [hExpertsIdeal : Cert.ExpertsIdeal.Facts] [hExpertsReferenceIdeal : Cert.ExpertsReferenceIdeal.Facts] [hPre_tiles : Cert.Pre_tiles.Facts] [hOn_rows_held : Cert.On_rows_held.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![147456, 1024]⟩ : Shape).Idx, (Cert.On_rows_held.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) i = 1#1 → r.2.mem ((c.tc : Thread Cert.ExpertsIdeal.nD Cert.ExpertsIdeal.τ).loc Cert.ExpertsIdeal.main_v2) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          (∀ i : (⟨2, ![147456, 1024]⟩ : Shape).Idx, (Cert.On_rows_held.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) i = 1#1 → r.2.mem ((c.tc : Thread Cert.ExpertsReferenceIdeal.nD Cert.ExpertsReferenceIdeal.τ).loc Cert.ExpertsReferenceIdeal.main_v40) i = v0 c i)
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v12_0)) (v1 : (c : Dev Cert.InprojIdeal.nD) → Buf (Elt Ideal) ((c.tc : Thread Cert.InprojIdeal.nD Cert.InprojIdeal.τ).loc Cert.InprojIdeal.main_v12_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v12_0) = v0 c
          ∧ r.2.mem ((c.tc : Thread Cert.InprojIdeal.nD Cert.InprojIdeal.τ).loc Cert.InprojIdeal.main_v12_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v21) = v0 c
          ∧ r.2.mem ((c.tc : Thread Cert.InprojReferenceIdeal.nD Cert.InprojReferenceIdeal.τ).loc Cert.InprojReferenceIdeal.main_v22) = v1 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_MergeLow_MergeLowIdeal : Prop :=
  True

def algebraic_MergeLowIdeal_MergeLowReferenceIdeal [hMergeLowIdeal : Cert.MergeLowIdeal.Facts] [hMergeLowReferenceIdeal : Cert.MergeLowReferenceIdeal.Facts] : Prop :=
  ∀ (m : (ℓ : Loc Cert.MergeLowIdeal.nD Cert.MergeLowIdeal.τ Cert.MergeLowIdeal.sig) → Buf (Elt Ideal) ℓ) (g : Dev Cert.MergeLowIdeal.nD → PrngReg)
    (m' : (ℓ : Loc Cert.MergeLowReferenceIdeal.nD Cert.MergeLowReferenceIdeal.τ Cert.MergeLowReferenceIdeal.sig) → Buf (Elt Ideal) ℓ) (g' : Dev Cert.MergeLowReferenceIdeal.nD → PrngReg), Pre_MergeLowIdeal m →
    (∀ c : Dev Cert.MergeLowIdeal.nD,
      m' ((c.tc : Thread Cert.MergeLowReferenceIdeal.nD Cert.MergeLowReferenceIdeal.τ).loc Cert.MergeLowReferenceIdeal.main_arg0) = m ((c.tc : Thread Cert.MergeLowIdeal.nD Cert.MergeLowIdeal.τ).loc Cert.MergeLowIdeal.main_arg0)
      ∧ m' ((c.tc : Thread Cert.MergeLowReferenceIdeal.nD Cert.MergeLowReferenceIdeal.τ).loc Cert.MergeLowReferenceIdeal.main_arg1) = m ((c.tc : Thread Cert.MergeLowIdeal.nD Cert.MergeLowIdeal.τ).loc Cert.MergeLowIdeal.main_arg1)
      ∧ m' ((c.tc : Thread Cert.MergeLowReferenceIdeal.nD Cert.MergeLowReferenceIdeal.τ).loc Cert.MergeLowReferenceIdeal.main_arg2) = m ((c.tc : Thread Cert.MergeLowIdeal.nD Cert.MergeLowIdeal.τ).loc Cert.MergeLowIdeal.main_arg2)
      ∧ m' ((c.tc : Thread Cert.MergeLowReferenceIdeal.nD Cert.MergeLowReferenceIdeal.τ).loc Cert.MergeLowReferenceIdeal.main_arg3) = m ((c.tc : Thread Cert.MergeLowIdeal.nD Cert.MergeLowIdeal.τ).loc Cert.MergeLowIdeal.main_arg3)
      ∧ m' ((c.tc : Thread Cert.MergeLowReferenceIdeal.nD Cert.MergeLowReferenceIdeal.τ).loc Cert.MergeLowReferenceIdeal.main_arg4) = m ((c.tc : Thread Cert.MergeLowIdeal.nD Cert.MergeLowIdeal.τ).loc Cert.MergeLowIdeal.main_arg4)
      ∧ m' ((c.tc : Thread Cert.MergeLowReferenceIdeal.nD Cert.MergeLowReferenceIdeal.τ).loc Cert.MergeLowReferenceIdeal.main_arg5) = m ((c.tc : Thread Cert.MergeLowIdeal.nD Cert.MergeLowIdeal.τ).loc Cert.MergeLowIdeal.main_arg5)
      ∧ m' ((c.tc : Thread Cert.MergeLowReferenceIdeal.nD Cert.MergeLowReferenceIdeal.τ).loc Cert.MergeLowReferenceIdeal.main_arg6) = m ((c.tc : Thread Cert.MergeLowIdeal.nD Cert.MergeLowIdeal.τ).loc Cert.MergeLowIdeal.main_arg6)
      ∧ m' ((c.tc : Thread Cert.MergeLowReferenceIdeal.nD Cert.MergeLowReferenceIdeal.τ).loc Cert.MergeLowReferenceIdeal.main_arg7) = m ((c.tc : Thread Cert.MergeLowIdeal.nD Cert.MergeLowIdeal.τ).loc Cert.MergeLowIdeal.main_arg7)
      ∧ m' ((c.tc : Thread Cert.MergeLowReferenceIdeal.nD Cert.MergeLowReferenceIdeal.τ).loc Cert.MergeLowReferenceIdeal.main_arg8) = m ((c.tc : Thread Cert.MergeLowIdeal.nD Cert.MergeLowIdeal.τ).loc Cert.MergeLowIdeal.main_arg8)
      ∧ m' ((c.tc : Thread Cert.MergeLowReferenceIdeal.nD Cert.MergeLowReferenceIdeal.τ).loc Cert.MergeLowReferenceIdeal.main_arg9) = m ((c.tc : Thread Cert.MergeLowIdeal.nD Cert.MergeLowIdeal.τ).loc Cert.MergeLowIdeal.main_arg9)) →
    ∃ (v0 : (c : Dev Cert.MergeLowIdeal.nD) → Buf (Elt Ideal) ((c.tc : Thread Cert.MergeLowIdeal.nD Cert.MergeLowIdeal.τ).loc Cert.MergeLowIdeal.main_v6_0)) (v1 : (c : Dev Cert.MergeLowIdeal.nD) → Buf (Elt Ideal) ((c.tc : Thread Cert.MergeLowIdeal.nD Cert.MergeLowIdeal.τ).loc Cert.MergeLowIdeal.main_v6_1)),
      θ_run (Cert.MergeLowIdeal.defs (F := Ideal)) (onTc (τ := Cert.MergeLowIdeal.τ) (Cert.MergeLowIdeal.main (F := Ideal))) ⟨m, fun _ => 0, g⟩ (fun r => ∀ c : Dev Cert.MergeLowIdeal.nD,
          r.2.mem ((c.tc : Thread Cert.MergeLowIdeal.nD Cert.MergeLowIdeal.τ).loc Cert.MergeLowIdeal.main_v6_0) = v0 c
          ∧ r.2.mem ((c.tc : Thread Cert.MergeLowIdeal.nD Cert.MergeLowIdeal.τ).loc Cert.MergeLowIdeal.main_v6_1) = v1 c
          ∧ r.2.mem ((c.tc : Thread Cert.MergeLowIdeal.nD Cert.MergeLowIdeal.τ).loc Cert.MergeLowIdeal.main_arg0) = m ((c.tc : Thread Cert.MergeLowIdeal.nD Cert.MergeLowIdeal.τ).loc Cert.MergeLowIdeal.main_arg0)
          ∧ r.2.mem ((c.tc : Thread Cert.MergeLowIdeal.nD Cert.MergeLowIdeal.τ).loc Cert.MergeLowIdeal.main_arg1) = m ((c.tc : Thread Cert.MergeLowIdeal.nD Cert.MergeLowIdeal.τ).loc Cert.MergeLowIdeal.main_arg1)
          ∧ r.2.mem ((c.tc : Thread Cert.MergeLowIdeal.nD Cert.MergeLowIdeal.τ).loc Cert.MergeLowIdeal.main_arg2) = m ((c.tc : Thread Cert.MergeLowIdeal.nD Cert.MergeLowIdeal.τ).loc Cert.MergeLowIdeal.main_arg2)
          ∧ r.2.mem ((c.tc : Thread Cert.MergeLowIdeal.nD Cert.MergeLowIdeal.τ).loc Cert.MergeLowIdeal.main_arg3) = m ((c.tc : Thread Cert.MergeLowIdeal.nD Cert.MergeLowIdeal.τ).loc Cert.MergeLowIdeal.main_arg3)
          ∧ r.2.mem ((c.tc : Thread Cert.MergeLowIdeal.nD Cert.MergeLowIdeal.τ).loc Cert.MergeLowIdeal.main_arg4) = m ((c.tc : Thread Cert.MergeLowIdeal.nD Cert.MergeLowIdeal.τ).loc Cert.MergeLowIdeal.main_arg4)
          ∧ r.2.mem ((c.tc : Thread Cert.MergeLowIdeal.nD Cert.MergeLowIdeal.τ).loc Cert.MergeLowIdeal.main_arg5) = m ((c.tc : Thread Cert.MergeLowIdeal.nD Cert.MergeLowIdeal.τ).loc Cert.MergeLowIdeal.main_arg5)
          ∧ r.2.mem ((c.tc : Thread Cert.MergeLowIdeal.nD Cert.MergeLowIdeal.τ).loc Cert.MergeLowIdeal.main_arg6) = m ((c.tc : Thread Cert.MergeLowIdeal.nD Cert.MergeLowIdeal.τ).loc Cert.MergeLowIdeal.main_arg6)
          ∧ r.2.mem ((c.tc : Thread Cert.MergeLowIdeal.nD Cert.MergeLowIdeal.τ).loc Cert.MergeLowIdeal.main_arg7) = m ((c.tc : Thread Cert.MergeLowIdeal.nD Cert.MergeLowIdeal.τ).loc Cert.MergeLowIdeal.main_arg7)
          ∧ r.2.mem ((c.tc : Thread Cert.MergeLowIdeal.nD Cert.MergeLowIdeal.τ).loc Cert.MergeLowIdeal.main_arg8) = m ((c.tc : Thread Cert.MergeLowIdeal.nD Cert.MergeLowIdeal.τ).loc Cert.MergeLowIdeal.main_arg8)
          ∧ r.2.mem ((c.tc : Thread Cert.MergeLowIdeal.nD Cert.MergeLowIdeal.τ).loc Cert.MergeLowIdeal.main_arg9) = m ((c.tc : Thread Cert.MergeLowIdeal.nD Cert.MergeLowIdeal.τ).loc Cert.MergeLowIdeal.main_arg9))
      ∧ θ_run (Cert.MergeLowReferenceIdeal.defs (F := Ideal)) (onTc (τ := Cert.MergeLowReferenceIdeal.τ) (Cert.MergeLowReferenceIdeal.main (F := Ideal))) ⟨m', fun _ => 0, g'⟩ (fun r => ∀ c : Dev Cert.MergeLowReferenceIdeal.nD,
          r.2.mem ((c.tc : Thread Cert.MergeLowReferenceIdeal.nD Cert.MergeLowReferenceIdeal.τ).loc Cert.MergeLowReferenceIdeal.main_v21) = v0 c
          ∧ r.2.mem ((c.tc : Thread Cert.MergeLowReferenceIdeal.nD Cert.MergeLowReferenceIdeal.τ).loc Cert.MergeLowReferenceIdeal.main_v35) = v1 c
          ∧ r.2.mem ((c.tc : Thread Cert.MergeLowReferenceIdeal.nD Cert.MergeLowReferenceIdeal.τ).loc Cert.MergeLowReferenceIdeal.main_arg0) = m' ((c.tc : Thread Cert.MergeLowReferenceIdeal.nD Cert.MergeLowReferenceIdeal.τ).loc Cert.MergeLowReferenceIdeal.main_arg0)
          ∧ r.2.mem ((c.tc : Thread Cert.MergeLowReferenceIdeal.nD Cert.MergeLowReferenceIdeal.τ).loc Cert.MergeLowReferenceIdeal.main_arg1) = m' ((c.tc : Thread Cert.MergeLowReferenceIdeal.nD Cert.MergeLowReferenceIdeal.τ).loc Cert.MergeLowReferenceIdeal.main_arg1)
          ∧ r.2.mem ((c.tc : Thread Cert.MergeLowReferenceIdeal.nD Cert.MergeLowReferenceIdeal.τ).loc Cert.MergeLowReferenceIdeal.main_arg2) = m' ((c.tc : Thread Cert.MergeLowReferenceIdeal.nD Cert.MergeLowReferenceIdeal.τ).loc Cert.MergeLowReferenceIdeal.main_arg2)
          ∧ r.2.mem ((c.tc : Thread Cert.MergeLowReferenceIdeal.nD Cert.MergeLowReferenceIdeal.τ).loc Cert.MergeLowReferenceIdeal.main_arg3) = m' ((c.tc : Thread Cert.MergeLowReferenceIdeal.nD Cert.MergeLowReferenceIdeal.τ).loc Cert.MergeLowReferenceIdeal.main_arg3)
          ∧ r.2.mem ((c.tc : Thread Cert.MergeLowReferenceIdeal.nD Cert.MergeLowReferenceIdeal.τ).loc Cert.MergeLowReferenceIdeal.main_arg4) = m' ((c.tc : Thread Cert.MergeLowReferenceIdeal.nD Cert.MergeLowReferenceIdeal.τ).loc Cert.MergeLowReferenceIdeal.main_arg4)
          ∧ r.2.mem ((c.tc : Thread Cert.MergeLowReferenceIdeal.nD Cert.MergeLowReferenceIdeal.τ).loc Cert.MergeLowReferenceIdeal.main_arg5) = m' ((c.tc : Thread Cert.MergeLowReferenceIdeal.nD Cert.MergeLowReferenceIdeal.τ).loc Cert.MergeLowReferenceIdeal.main_arg5)
          ∧ r.2.mem ((c.tc : Thread Cert.MergeLowReferenceIdeal.nD Cert.MergeLowReferenceIdeal.τ).loc Cert.MergeLowReferenceIdeal.main_arg6) = m' ((c.tc : Thread Cert.MergeLowReferenceIdeal.nD Cert.MergeLowReferenceIdeal.τ).loc Cert.MergeLowReferenceIdeal.main_arg6)
          ∧ r.2.mem ((c.tc : Thread Cert.MergeLowReferenceIdeal.nD Cert.MergeLowReferenceIdeal.τ).loc Cert.MergeLowReferenceIdeal.main_arg7) = m' ((c.tc : Thread Cert.MergeLowReferenceIdeal.nD Cert.MergeLowReferenceIdeal.τ).loc Cert.MergeLowReferenceIdeal.main_arg7)
          ∧ r.2.mem ((c.tc : Thread Cert.MergeLowReferenceIdeal.nD Cert.MergeLowReferenceIdeal.τ).loc Cert.MergeLowReferenceIdeal.main_arg8) = m' ((c.tc : Thread Cert.MergeLowReferenceIdeal.nD Cert.MergeLowReferenceIdeal.τ).loc Cert.MergeLowReferenceIdeal.main_arg8)
          ∧ r.2.mem ((c.tc : Thread Cert.MergeLowReferenceIdeal.nD Cert.MergeLowReferenceIdeal.τ).loc Cert.MergeLowReferenceIdeal.main_arg9) = m' ((c.tc : Thread Cert.MergeLowReferenceIdeal.nD Cert.MergeLowReferenceIdeal.τ).loc Cert.MergeLowReferenceIdeal.main_arg9))

def preserves_MergeHigh_MergeHighIdeal : Prop :=
  True

def algebraic_MergeHighIdeal_MergeHighReferenceIdeal [hMergeHighIdeal : Cert.MergeHighIdeal.Facts] [hMergeHighReferenceIdeal : Cert.MergeHighReferenceIdeal.Facts] : Prop :=
  ∀ (m : (ℓ : Loc Cert.MergeHighIdeal.nD Cert.MergeHighIdeal.τ Cert.MergeHighIdeal.sig) → Buf (Elt Ideal) ℓ) (g : Dev Cert.MergeHighIdeal.nD → PrngReg)
    (m' : (ℓ : Loc Cert.MergeHighReferenceIdeal.nD Cert.MergeHighReferenceIdeal.τ Cert.MergeHighReferenceIdeal.sig) → Buf (Elt Ideal) ℓ) (g' : Dev Cert.MergeHighReferenceIdeal.nD → PrngReg), Pre_MergeHighIdeal m →
    (∀ c : Dev Cert.MergeHighIdeal.nD,
      m' ((c.tc : Thread Cert.MergeHighReferenceIdeal.nD Cert.MergeHighReferenceIdeal.τ).loc Cert.MergeHighReferenceIdeal.main_arg0) = m ((c.tc : Thread Cert.MergeHighIdeal.nD Cert.MergeHighIdeal.τ).loc Cert.MergeHighIdeal.main_arg0)
      ∧ m' ((c.tc : Thread Cert.MergeHighReferenceIdeal.nD Cert.MergeHighReferenceIdeal.τ).loc Cert.MergeHighReferenceIdeal.main_arg1) = m ((c.tc : Thread Cert.MergeHighIdeal.nD Cert.MergeHighIdeal.τ).loc Cert.MergeHighIdeal.main_arg1)
      ∧ m' ((c.tc : Thread Cert.MergeHighReferenceIdeal.nD Cert.MergeHighReferenceIdeal.τ).loc Cert.MergeHighReferenceIdeal.main_arg2) = m ((c.tc : Thread Cert.MergeHighIdeal.nD Cert.MergeHighIdeal.τ).loc Cert.MergeHighIdeal.main_arg2)
      ∧ m' ((c.tc : Thread Cert.MergeHighReferenceIdeal.nD Cert.MergeHighReferenceIdeal.τ).loc Cert.MergeHighReferenceIdeal.main_arg3) = m ((c.tc : Thread Cert.MergeHighIdeal.nD Cert.MergeHighIdeal.τ).loc Cert.MergeHighIdeal.main_arg3)
      ∧ m' ((c.tc : Thread Cert.MergeHighReferenceIdeal.nD Cert.MergeHighReferenceIdeal.τ).loc Cert.MergeHighReferenceIdeal.main_arg4) = m ((c.tc : Thread Cert.MergeHighIdeal.nD Cert.MergeHighIdeal.τ).loc Cert.MergeHighIdeal.main_arg4)
      ∧ m' ((c.tc : Thread Cert.MergeHighReferenceIdeal.nD Cert.MergeHighReferenceIdeal.τ).loc Cert.MergeHighReferenceIdeal.main_arg5) = m ((c.tc : Thread Cert.MergeHighIdeal.nD Cert.MergeHighIdeal.τ).loc Cert.MergeHighIdeal.main_arg5)
      ∧ m' ((c.tc : Thread Cert.MergeHighReferenceIdeal.nD Cert.MergeHighReferenceIdeal.τ).loc Cert.MergeHighReferenceIdeal.main_arg6) = m ((c.tc : Thread Cert.MergeHighIdeal.nD Cert.MergeHighIdeal.τ).loc Cert.MergeHighIdeal.main_arg6)
      ∧ m' ((c.tc : Thread Cert.MergeHighReferenceIdeal.nD Cert.MergeHighReferenceIdeal.τ).loc Cert.MergeHighReferenceIdeal.main_arg7) = m ((c.tc : Thread Cert.MergeHighIdeal.nD Cert.MergeHighIdeal.τ).loc Cert.MergeHighIdeal.main_arg7)
      ∧ m' ((c.tc : Thread Cert.MergeHighReferenceIdeal.nD Cert.MergeHighReferenceIdeal.τ).loc Cert.MergeHighReferenceIdeal.main_arg8) = m ((c.tc : Thread Cert.MergeHighIdeal.nD Cert.MergeHighIdeal.τ).loc Cert.MergeHighIdeal.main_arg8)
      ∧ m' ((c.tc : Thread Cert.MergeHighReferenceIdeal.nD Cert.MergeHighReferenceIdeal.τ).loc Cert.MergeHighReferenceIdeal.main_arg9) = m ((c.tc : Thread Cert.MergeHighIdeal.nD Cert.MergeHighIdeal.τ).loc Cert.MergeHighIdeal.main_arg9)) →
    ∃ (v0 : (c : Dev Cert.MergeHighIdeal.nD) → Buf (Elt Ideal) ((c.tc : Thread Cert.MergeHighIdeal.nD Cert.MergeHighIdeal.τ).loc Cert.MergeHighIdeal.main_v6_0)) (v1 : (c : Dev Cert.MergeHighIdeal.nD) → Buf (Elt Ideal) ((c.tc : Thread Cert.MergeHighIdeal.nD Cert.MergeHighIdeal.τ).loc Cert.MergeHighIdeal.main_v6_1)),
      θ_run (Cert.MergeHighIdeal.defs (F := Ideal)) (onTc (τ := Cert.MergeHighIdeal.τ) (Cert.MergeHighIdeal.main (F := Ideal))) ⟨m, fun _ => 0, g⟩ (fun r => ∀ c : Dev Cert.MergeHighIdeal.nD,
          r.2.mem ((c.tc : Thread Cert.MergeHighIdeal.nD Cert.MergeHighIdeal.τ).loc Cert.MergeHighIdeal.main_v6_0) = v0 c
          ∧ r.2.mem ((c.tc : Thread Cert.MergeHighIdeal.nD Cert.MergeHighIdeal.τ).loc Cert.MergeHighIdeal.main_v6_1) = v1 c
          ∧ r.2.mem ((c.tc : Thread Cert.MergeHighIdeal.nD Cert.MergeHighIdeal.τ).loc Cert.MergeHighIdeal.main_arg0) = m ((c.tc : Thread Cert.MergeHighIdeal.nD Cert.MergeHighIdeal.τ).loc Cert.MergeHighIdeal.main_arg0)
          ∧ r.2.mem ((c.tc : Thread Cert.MergeHighIdeal.nD Cert.MergeHighIdeal.τ).loc Cert.MergeHighIdeal.main_arg1) = m ((c.tc : Thread Cert.MergeHighIdeal.nD Cert.MergeHighIdeal.τ).loc Cert.MergeHighIdeal.main_arg1)
          ∧ r.2.mem ((c.tc : Thread Cert.MergeHighIdeal.nD Cert.MergeHighIdeal.τ).loc Cert.MergeHighIdeal.main_arg2) = m ((c.tc : Thread Cert.MergeHighIdeal.nD Cert.MergeHighIdeal.τ).loc Cert.MergeHighIdeal.main_arg2)
          ∧ r.2.mem ((c.tc : Thread Cert.MergeHighIdeal.nD Cert.MergeHighIdeal.τ).loc Cert.MergeHighIdeal.main_arg3) = m ((c.tc : Thread Cert.MergeHighIdeal.nD Cert.MergeHighIdeal.τ).loc Cert.MergeHighIdeal.main_arg3)
          ∧ r.2.mem ((c.tc : Thread Cert.MergeHighIdeal.nD Cert.MergeHighIdeal.τ).loc Cert.MergeHighIdeal.main_arg4) = m ((c.tc : Thread Cert.MergeHighIdeal.nD Cert.MergeHighIdeal.τ).loc Cert.MergeHighIdeal.main_arg4)
          ∧ r.2.mem ((c.tc : Thread Cert.MergeHighIdeal.nD Cert.MergeHighIdeal.τ).loc Cert.MergeHighIdeal.main_arg5) = m ((c.tc : Thread Cert.MergeHighIdeal.nD Cert.MergeHighIdeal.τ).loc Cert.MergeHighIdeal.main_arg5)
          ∧ r.2.mem ((c.tc : Thread Cert.MergeHighIdeal.nD Cert.MergeHighIdeal.τ).loc Cert.MergeHighIdeal.main_arg6) = m ((c.tc : Thread Cert.MergeHighIdeal.nD Cert.MergeHighIdeal.τ).loc Cert.MergeHighIdeal.main_arg6)
          ∧ r.2.mem ((c.tc : Thread Cert.MergeHighIdeal.nD Cert.MergeHighIdeal.τ).loc Cert.MergeHighIdeal.main_arg7) = m ((c.tc : Thread Cert.MergeHighIdeal.nD Cert.MergeHighIdeal.τ).loc Cert.MergeHighIdeal.main_arg7)
          ∧ r.2.mem ((c.tc : Thread Cert.MergeHighIdeal.nD Cert.MergeHighIdeal.τ).loc Cert.MergeHighIdeal.main_arg8) = m ((c.tc : Thread Cert.MergeHighIdeal.nD Cert.MergeHighIdeal.τ).loc Cert.MergeHighIdeal.main_arg8)
          ∧ r.2.mem ((c.tc : Thread Cert.MergeHighIdeal.nD Cert.MergeHighIdeal.τ).loc Cert.MergeHighIdeal.main_arg9) = m ((c.tc : Thread Cert.MergeHighIdeal.nD Cert.MergeHighIdeal.τ).loc Cert.MergeHighIdeal.main_arg9))
      ∧ θ_run (Cert.MergeHighReferenceIdeal.defs (F := Ideal)) (onTc (τ := Cert.MergeHighReferenceIdeal.τ) (Cert.MergeHighReferenceIdeal.main (F := Ideal))) ⟨m', fun _ => 0, g'⟩ (fun r => ∀ c : Dev Cert.MergeHighReferenceIdeal.nD,
          r.2.mem ((c.tc : Thread Cert.MergeHighReferenceIdeal.nD Cert.MergeHighReferenceIdeal.τ).loc Cert.MergeHighReferenceIdeal.main_v21) = v0 c
          ∧ r.2.mem ((c.tc : Thread Cert.MergeHighReferenceIdeal.nD Cert.MergeHighReferenceIdeal.τ).loc Cert.MergeHighReferenceIdeal.main_v35) = v1 c
          ∧ r.2.mem ((c.tc : Thread Cert.MergeHighReferenceIdeal.nD Cert.MergeHighReferenceIdeal.τ).loc Cert.MergeHighReferenceIdeal.main_arg0) = m' ((c.tc : Thread Cert.MergeHighReferenceIdeal.nD Cert.MergeHighReferenceIdeal.τ).loc Cert.MergeHighReferenceIdeal.main_arg0)
          ∧ r.2.mem ((c.tc : Thread Cert.MergeHighReferenceIdeal.nD Cert.MergeHighReferenceIdeal.τ).loc Cert.MergeHighReferenceIdeal.main_arg1) = m' ((c.tc : Thread Cert.MergeHighReferenceIdeal.nD Cert.MergeHighReferenceIdeal.τ).loc Cert.MergeHighReferenceIdeal.main_arg1)
          ∧ r.2.mem ((c.tc : Thread Cert.MergeHighReferenceIdeal.nD Cert.MergeHighReferenceIdeal.τ).loc Cert.MergeHighReferenceIdeal.main_arg2) = m' ((c.tc : Thread Cert.MergeHighReferenceIdeal.nD Cert.MergeHighReferenceIdeal.τ).loc Cert.MergeHighReferenceIdeal.main_arg2)
          ∧ r.2.mem ((c.tc : Thread Cert.MergeHighReferenceIdeal.nD Cert.MergeHighReferenceIdeal.τ).loc Cert.MergeHighReferenceIdeal.main_arg3) = m' ((c.tc : Thread Cert.MergeHighReferenceIdeal.nD Cert.MergeHighReferenceIdeal.τ).loc Cert.MergeHighReferenceIdeal.main_arg3)
          ∧ r.2.mem ((c.tc : Thread Cert.MergeHighReferenceIdeal.nD Cert.MergeHighReferenceIdeal.τ).loc Cert.MergeHighReferenceIdeal.main_arg4) = m' ((c.tc : Thread Cert.MergeHighReferenceIdeal.nD Cert.MergeHighReferenceIdeal.τ).loc Cert.MergeHighReferenceIdeal.main_arg4)
          ∧ r.2.mem ((c.tc : Thread Cert.MergeHighReferenceIdeal.nD Cert.MergeHighReferenceIdeal.τ).loc Cert.MergeHighReferenceIdeal.main_arg5) = m' ((c.tc : Thread Cert.MergeHighReferenceIdeal.nD Cert.MergeHighReferenceIdeal.τ).loc Cert.MergeHighReferenceIdeal.main_arg5)
          ∧ r.2.mem ((c.tc : Thread Cert.MergeHighReferenceIdeal.nD Cert.MergeHighReferenceIdeal.τ).loc Cert.MergeHighReferenceIdeal.main_arg6) = m' ((c.tc : Thread Cert.MergeHighReferenceIdeal.nD Cert.MergeHighReferenceIdeal.τ).loc Cert.MergeHighReferenceIdeal.main_arg6)
          ∧ r.2.mem ((c.tc : Thread Cert.MergeHighReferenceIdeal.nD Cert.MergeHighReferenceIdeal.τ).loc Cert.MergeHighReferenceIdeal.main_arg7) = m' ((c.tc : Thread Cert.MergeHighReferenceIdeal.nD Cert.MergeHighReferenceIdeal.τ).loc Cert.MergeHighReferenceIdeal.main_arg7)
          ∧ r.2.mem ((c.tc : Thread Cert.MergeHighReferenceIdeal.nD Cert.MergeHighReferenceIdeal.τ).loc Cert.MergeHighReferenceIdeal.main_arg8) = m' ((c.tc : Thread Cert.MergeHighReferenceIdeal.nD Cert.MergeHighReferenceIdeal.τ).loc Cert.MergeHighReferenceIdeal.main_arg8)
          ∧ r.2.mem ((c.tc : Thread Cert.MergeHighReferenceIdeal.nD Cert.MergeHighReferenceIdeal.τ).loc Cert.MergeHighReferenceIdeal.main_arg9) = m' ((c.tc : Thread Cert.MergeHighReferenceIdeal.nD Cert.MergeHighReferenceIdeal.τ).loc Cert.MergeHighReferenceIdeal.main_arg9))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hInproj : Cert.Inproj.Facts) (hInprojIdeal : Cert.InprojIdeal.Facts) (hInprojReferenceIdeal : Cert.InprojReferenceIdeal.Facts) (hMergeLow : Cert.MergeLow.Facts) (hMergeLowIdeal : Cert.MergeLowIdeal.Facts) (hMergeLowReferenceIdeal : Cert.MergeLowReferenceIdeal.Facts) (hMergeHigh : Cert.MergeHigh.Facts) (hMergeHighIdeal : Cert.MergeHighIdeal.Facts) (hMergeHighReferenceIdeal : Cert.MergeHighReferenceIdeal.Facts) (hPre_finite : Cert.Pre_finite.Facts) (hPre_tiles : Cert.Pre_tiles.Facts) (hOn_rows_held : Cert.On_rows_held.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_tiles := hPre_tiles)
    ∧ quiescent_ExpertsIdeal (hExpertsIdeal := hExpertsIdeal) (hPre_tiles := hPre_tiles)
    ∧ quiescent_ExpertsReferenceIdeal (hExpertsReferenceIdeal := hExpertsReferenceIdeal)
    ∧ quiescent_ExpertsReferenceIdeal_pre_tiles (hExpertsReferenceIdeal := hExpertsReferenceIdeal) (hPre_tiles := hPre_tiles)
    ∧ quiescent_Inproj (hInproj := hInproj)
    ∧ quiescent_InprojIdeal (hInprojIdeal := hInprojIdeal)
    ∧ quiescent_InprojReferenceIdeal (hInprojReferenceIdeal := hInprojReferenceIdeal)
    ∧ quiescent_MergeLow (hMergeLow := hMergeLow)
    ∧ quiescent_MergeLowIdeal (hMergeLowIdeal := hMergeLowIdeal)
    ∧ quiescent_MergeLowReferenceIdeal (hMergeLowReferenceIdeal := hMergeLowReferenceIdeal)
    ∧ quiescent_MergeHigh (hMergeHigh := hMergeHigh)
    ∧ quiescent_MergeHighIdeal (hMergeHighIdeal := hMergeHighIdeal)
    ∧ quiescent_MergeHighReferenceIdeal (hMergeHighReferenceIdeal := hMergeHighReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal_on_rows_held (hExpertsIdeal := hExpertsIdeal) (hExpertsReferenceIdeal := hExpertsReferenceIdeal) (hPre_tiles := hPre_tiles) (hOn_rows_held := hOn_rows_held)
    ∧ preserves_Inproj_InprojIdeal
    ∧ algebraic_InprojIdeal_InprojReferenceIdeal (hInprojIdeal := hInprojIdeal) (hInprojReferenceIdeal := hInprojReferenceIdeal)
    ∧ preserves_MergeLow_MergeLowIdeal
    ∧ algebraic_MergeLowIdeal_MergeLowReferenceIdeal (hMergeLowIdeal := hMergeLowIdeal) (hMergeLowReferenceIdeal := hMergeLowReferenceIdeal)
    ∧ preserves_MergeHigh_MergeHighIdeal
    ∧ algebraic_MergeHighIdeal_MergeHighReferenceIdeal (hMergeHighIdeal := hMergeHighIdeal) (hMergeHighReferenceIdeal := hMergeHighReferenceIdeal)
-- ==== On_rows_held.lean ====
abbrev S288 : Shape := ⟨1, ![288]⟩
abbrev S1 : Shape := ⟨1, ![1]⟩
abbrev S147456x512 : Shape := ⟨2, ![147456, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S147456 : Shape := ⟨1, ![147456]⟩
abbrev S_ : Shape := ⟨0, ![]⟩
abbrev S147456x1 : Shape := ⟨2, ![147456, 1]⟩
abbrev S147456x1024 : Shape := ⟨2, ![147456, 1024]⟩

class Facts : Prop where
  bcast_S_S1 : S_.BroadcastsInDim S1 (![] : Fin 0 → Fin S1.rank)
  bcast_S1_S147456_0 : S1.BroadcastsInDim S147456 (![0] : Fin 1 → Fin S147456.rank)
  bcast_S147456_S147456x1_0 : S147456.BroadcastsInDim S147456x1 (![0] : Fin 1 → Fin S147456x1.rank)
  bcast_S147456x1_S147456x1024_0_1 : S147456x1.BroadcastsInDim S147456x1024 (![0, 1] : Fin 2 → Fin S147456x1024.rank)

variable [Facts]

def fn {F : FTy → Type} [FloatOps F] (main_arg0 : IVec S288 32) (main_arg1 : IVec S1 32) (main_arg2 : IVec S147456x512 32) (main_arg3 : FVec F S32x1024x2048 .f32) (main_arg4 : FVec F S32x2048 .f32) (main_arg5 : FVec F S32x1024x1024 .f32) (main_arg6 : FVec F S32x1024 .f32) : IVec S147456x1024 1 :=
  let main_v0 : IVec S147456 32 := iotaInDim S147456 32 0
  let main_c : IVec S_ 32 := constantI S_ 32 512#32
  let main_v1 : IVec S1 32 := broadcastInDim S1 ![] bcast_S_S1 main_c
  let main_v2 : IVec S1 32 := muli main_arg1 main_v1
  let main_v3 : IVec S147456 32 := broadcastInDim S147456 ![0] bcast_S1_S147456_0 main_v2
  let main_v4 : IVec S147456 1 := cmpi .slt main_v0 main_v3
  let main_v5 : IVec S147456x1 1 := broadcastInDim S147456x1 ![0] bcast_S147456_S147456x1_0 main_v4
  let main_v6 : IVec S147456x1024 1 := broadcastInDim S147456x1024 ![0, 1] bcast_S147456x1_S147456x1024_0_1 main_v5
  main_v6
-- ==== Pre_finite.lean ====
abbrev S65536x10240 : Shape := ⟨2, ![65536, 10240]⟩
abbrev S65536x128 : Shape := ⟨2, ![65536, 128]⟩
abbrev S65536x3072 : Shape := ⟨2, ![65536, 3072]⟩
abbrev S_ : Shape := ⟨0, ![]⟩

class Facts : Prop where
  slices_S65536x10240_S65536x3072_0_3072 : S65536x10240.Slices ![0, 3072] S65536x3072
  bitsLt_bf16_f32 : FTy.bits .bf16 < FTy.bits .f32
  bcast_S_S65536x3072 : S_.BroadcastsInDim S65536x3072 (![] : Fin 0 → Fin S65536x3072.rank)
  bcast_S_S65536x128 : S_.BroadcastsInDim S65536x128 (![] : Fin 0 → Fin S65536x128.rank)

variable [Facts]

def fn {F : FTy → Type} [FloatOps F] (main_arg0 : FVec F S65536x10240 .bf16) (main_arg1 : FVec F S65536x128 .f32) : IVec S65536x3072 1 × IVec S65536x128 1 :=
  let main_v0 : FVec F S65536x3072 .bf16 := (extractStridedSlice S65536x3072 ![0, 3072] · slices_S65536x10240_S65536x3072_0_3072) main_arg0
  let main_v1 : FVec F S65536x3072 .f32 := (extf .f32 · bitsLt_bf16_f32) main_v0
  let main_v2 : FVec F S65536x3072 .f32 := Host.absf main_v1
  let main_cst : FVec F S_ .f32 := constant S_ .f32 0x7F800000#32
  let main_v3 : FVec F S65536x3072 .f32 := broadcastInDim S65536x3072 ![] bcast_S_S65536x3072 main_cst
  let main_v4 : IVec S65536x3072 1 := cmpf .olt main_v2 main_v3
  let main_v5 : FVec F S65536x128 .f32 := Host.absf main_arg1
  let main_cst_0 : FVec F S_ .f32 := constant S_ .f32 0x7F800000#32
  let main_v6 : FVec F S65536x128 .f32 := broadcastInDim S65536x128 ![] bcast_S_S65536x128 main_cst_0
  let main_v7 : IVec S65536x128 1 := cmpf .olt main_v5 main_v6
  (main_v4, main_v7)
-- ==== Pre_tiles.lean ====
abbrev S288 : Shape := ⟨1, ![288]⟩
abbrev S1 : Shape := ⟨1, ![1]⟩
abbrev S147456x512 : Shape := ⟨2, ![147456, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S288 : S_.BroadcastsInDim S288 (![] : Fin 0 → Fin S288.rank)
  bcast_S_S1 : S_.BroadcastsInDim S1 (![] : Fin 0 → Fin S1.rank)

variable [Facts]

def fn {F : FTy → Type} [FloatOps F] (main_arg0 : IVec S288 32) (main_arg1 : IVec S1 32) (main_arg2 : IVec S147456x512 32) (main_arg3 : FVec F S32x1024x2048 .f32) (main_arg4 : FVec F S32x2048 .f32) (main_arg5 : FVec F S32x1024x1024 .f32) (main_arg6 : FVec F S32x1024 .f32) : IVec S288 1 × IVec S1 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 288#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Kernel.lean ====
abbrev S65536x10240 : Shape := ⟨2, ![65536, 10240]⟩
abbrev S65536x128 : Shape := ⟨2, ![65536, 128]⟩
abbrev S16x4096x10240 : Shape := ⟨3, ![16, 4096, 10240]⟩
abbrev S16x4096x128 : Shape := ⟨3, ![16, 4096, 128]⟩
abbrev S16x4096x1024 : Shape := ⟨3, ![16, 4096, 1024]⟩
abbrev S1x4096x256 : Shape := ⟨3, ![1, 4096, 256]⟩
abbrev S1x4096x128 : Shape := ⟨3, ![1, 4096, 128]⟩
abbrev S2x4096x256 : Shape := ⟨3, ![2, 4096, 256]⟩
abbrev S2x8x144x512 : Shape := ⟨4, ![2, 8, 144, 512]⟩
abbrev S2x2x1x512 : Shape := ⟨4, ![2, 2, 1, 512]⟩
abbrev S2x2x144x512 : Shape := ⟨4, ![2, 2, 144, 512]⟩
abbrev S2x2x512x512 : Shape := ⟨4, ![2, 2, 512, 512]⟩
abbrev S4096x128 : Shape := ⟨2, ![4096, 128]⟩
abbrev S128x128 : Shape := ⟨2, ![128, 128]⟩
abbrev S16x512 : Shape := ⟨2, ![16, 512]⟩
abbrev S1x512x128 : Shape := ⟨3, ![1, 512, 128]⟩
abbrev S512x128 : Shape := ⟨2, ![512, 128]⟩
abbrev S128x512 : Shape := ⟨2, ![128, 512]⟩
abbrev S144x512 : Shape := ⟨2, ![144, 512]⟩
abbrev S1x1x144x512 : Shape := ⟨4, ![1, 1, 144, 512]⟩
abbrev S256x512 : Shape := ⟨2, ![256, 512]⟩
abbrev S2x1x512 : Shape := ⟨3, ![2, 1, 512]⟩
abbrev S1x2x1x512 : Shape := ⟨4, ![1, 2, 1, 512]⟩
abbrev S2x144x512 : Shape := ⟨3, ![2, 144, 512]⟩
abbrev S1x2x144x512 : Shape := ⟨4, ![1, 2, 144, 512]⟩
abbrev S1x512x256 : Shape := ⟨3, ![1, 512, 256]⟩
abbrev S512x256 : Shape := ⟨2, ![512, 256]⟩
abbrev S512x512 : Shape := ⟨2, ![512, 512]⟩
abbrev S1x1x512x512 : Shape := ⟨4, ![1, 1, 512, 512]⟩
abbrev S1x1x1x512 : Shape := ⟨4, ![1, 1, 1, 512]⟩
abbrev S1x512 : Shape := ⟨2, ![1, 512]⟩
abbrev S512 : Shape := ⟨1, ![512]⟩
abbrev S65536x1024 : Shape := ⟨2, ![65536, 1024]⟩

abbrev nBuf : Space → Nat
  | .hbm => 6
  | .vmem => 15
  | .smem => 0
  | _ => 0

abbrev bufTy : (tb : Table) → Fin (tcTables nBuf tb) → BufTy
  | .hbm, ⟨0, _⟩ => ⟨S65536x10240, .bf16⟩
  | .hbm, ⟨1, _⟩ => ⟨S65536x128, .f32⟩
  | .hbm, ⟨2, _⟩ => ⟨S16x4096x10240, .bf16⟩
  | .hbm, ⟨3, _⟩ => ⟨S16x4096x128, .f32⟩
  | .hbm, ⟨4, _⟩ => ⟨S16x4096x1024, .bf16⟩
  | .hbm, ⟨5, _⟩ => ⟨S65536x1024, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x128, .f32⟩
  | .local _ .vmem, ⟨7, _⟩ => ⟨S1x4096x128, .f32⟩
  | .local _ .vmem, ⟨8, _⟩ => ⟨S1x4096x256, .bf16⟩
  | .local _ .vmem, ⟨9, _⟩ => ⟨S1x4096x256, .bf16⟩
  | .local _ .vmem, ⟨10, _⟩ => ⟨S2x4096x256, .bf16⟩
  | .local _ .vmem, ⟨11, _⟩ => ⟨S2x8x144x512, .bf16⟩
  | .local _ .vmem, ⟨12, _⟩ => ⟨S2x2x1x512, .f32⟩
  | .local _ .vmem, ⟨13, _⟩ => ⟨S2x2x144x512, .f32⟩
  | .local _ .vmem, ⟨14, _⟩ => ⟨S2x2x512x512, .f32⟩
  | _, _ => ⟨S65536x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_mult1 : BitVec 32 :=
  let c2_i32_438 : BitVec 32 := 2#32
  let c0_i32_437 : BitVec 32 := 0#32
  let v595 : BitVec 32 := Scalar.muli c2_i32_438 c0_i32_437
  let c1_i32_439 : BitVec 32 := 1#32
  let v596 : BitVec 32 := Scalar.addi v595 c1_i32_439
  let c512_i32 : BitVec 32 := 512#32
  let v597 : BitVec 32 := Scalar.muli v596 c512_i32
  v597
def k0_off1 (c1_i32_439 : BitVec 32) : Fin 3 → Nat :=
  let c0_440 : Index := 0#32
  let c2_i32_438 : BitVec 32 := 2#32
  let c0_i32_437 : BitVec 32 := 0#32
  let v595 : BitVec 32 := Scalar.muli c2_i32_438 c0_i32_437
  let v596 : BitVec 32 := Scalar.addi v595 c1_i32_439
  let c512_i32 : BitVec 32 := 512#32
  let v597 : BitVec 32 := Scalar.muli v596 c512_i32
  let v598 : BitVec 32 := v597
  let v599 : Index := Scalar.indexCast v598
  let c0_441 : Index := 0#32
  ![0, v599.toNat, 0]
def k0_mult2 : BitVec 32 :=
  let c2_i32_438 : BitVec 32 := 2#32
  let c0_i32_437 : BitVec 32 := 0#32
  let v595 : BitVec 32 := Scalar.muli c2_i32_438 c0_i32_437
  let c1_i32_439 : BitVec 32 := 1#32
  let v596 : BitVec 32 := Scalar.addi v595 c1_i32_439
  let c512_i32_447 : BitVec 32 := 512#32
  let v606 : BitVec 32 := Scalar.muli v596 c512_i32_447
  v606
def k0_off2 (c1_i32_439 : BitVec 32) : Fin 3 → Nat :=
  let c1_448 : Index := 1#32
  let c2_i32_438 : BitVec 32 := 2#32
  let c0_i32_437 : BitVec 32 := 0#32
  let v595 : BitVec 32 := Scalar.muli c2_i32_438 c0_i32_437
  let v596 : BitVec 32 := Scalar.addi v595 c1_i32_439
  let c512_i32_447 : BitVec 32 := 512#32
  let v606 : BitVec 32 := Scalar.muli v596 c512_i32_447
  let v607 : BitVec 32 := v606
  let v608 : Index := Scalar.indexCast v607
  let c0_449 : Index := 0#32
  ![1, v608.toNat, 0]
def k0_off3 : Fin 4 → Nat :=
  let c0_468 : Index := 0#32
  let c2_i32_438 : BitVec 32 := 2#32
  let c0_i32_437 : BitVec 32 := 0#32
  let v595 : BitVec 32 := Scalar.muli c2_i32_438 c0_i32_437
  let v632 : Index := Scalar.indexCast v595
  let c0_469 : Index := 0#32
  let c0_470 : Index := 0#32
  ![0, v632.toNat, 0, 0]
def k0_off4 : Fin 4 → Nat :=
  let c1_493 : Index := 1#32
  let c2_i32_438 : BitVec 32 := 2#32
  let c0_i32_437 : BitVec 32 := 0#32
  let v595 : BitVec 32 := Scalar.muli c2_i32_438 c0_i32_437
  let v660 : Index := Scalar.indexCast v595
  let c0_494 : Index := 0#32
  let c0_495 : Index := 0#32
  ![1, v660.toNat, 0, 0]
def k0_mult3 : BitVec 32 :=
  let c2_i32_438 : BitVec 32 := 2#32
  let c0_i32_437 : BitVec 32 := 0#32
  let v595 : BitVec 32 := Scalar.muli c2_i32_438 c0_i32_437
  let c2_i32_505 : BitVec 32 := 2#32
  let v671 : BitVec 32 := Scalar.addi v595 c2_i32_505
  let c512_i32_506 : BitVec 32 := 512#32
  let v672 : BitVec 32 := Scalar.muli v671 c512_i32_506
  v672
def k0_mult4 : BitVec 32 :=
  let c2_i32_438 : BitVec 32 := 2#32
  let c0_i32_437 : BitVec 32 := 0#32
  let v595 : BitVec 32 := Scalar.muli c2_i32_438 c0_i32_437
  let c2_i32_505 : BitVec 32 := 2#32
  let v671 : BitVec 32 := Scalar.addi v595 c2_i32_505
  let c512_i32_514 : BitVec 32 := 512#32
  let v681 : BitVec 32 := Scalar.muli v671 c512_i32_514
  v681
def k0_off5 : Fin 4 → Nat :=
  let c0_536 : Index := 0#32
  let c2_i32_438 : BitVec 32 := 2#32
  let c0_i32_437 : BitVec 32 := 0#32
  let v595 : BitVec 32 := Scalar.muli c2_i32_438 c0_i32_437
  let c1_i32_522 : BitVec 32 := 1#32
  let v690 : BitVec 32 := Scalar.addi v595 c1_i32_522
  let v708 : Index := Scalar.indexCast v690
  let c0_537 : Index := 0#32
  let c0_538 : Index := 0#32
  ![0, v708.toNat, 0, 0]
def k0_off6 : Fin 4 → Nat :=
  let c1_561 : Index := 1#32
  let c2_i32_438 : BitVec 32 := 2#32
  let c0_i32_437 : BitVec 32 := 0#32
  let v595 : BitVec 32 := Scalar.muli c2_i32_438 c0_i32_437
  let c1_i32_522 : BitVec 32 := 1#32
  let v690 : BitVec 32 := Scalar.addi v595 c1_i32_522
  let v736 : Index := Scalar.indexCast v690
  let c0_562 : Index := 0#32
  let c0_563 : Index := 0#32
  ![1, v736.toNat, 0, 0]
def k0_mult5 : BitVec 32 :=
  let c2_i32_677 : BitVec 32 := 2#32
  let c0_i32_676 : BitVec 32 := 0#32
  let v869 : BitVec 32 := Scalar.muli c2_i32_677 c0_i32_676
  let c1_i32_678 : BitVec 32 := 1#32
  let v870 : BitVec 32 := Scalar.addi v869 c1_i32_678
  let c512_i32_679 : BitVec 32 := 512#32
  let v871 : BitVec 32 := Scalar.muli v870 c512_i32_679
  v871
def k0_mult6 : BitVec 32 :=
  let c2_i32_677 : BitVec 32 := 2#32
  let c0_i32_676 : BitVec 32 := 0#32
  let v869 : BitVec 32 := Scalar.muli c2_i32_677 c0_i32_676
  let c1_i32_678 : BitVec 32 := 1#32
  let v870 : BitVec 32 := Scalar.addi v869 c1_i32_678
  let c512_i32_687 : BitVec 32 := 512#32
  let v880 : BitVec 32 := Scalar.muli v870 c512_i32_687
  v880
def k0_mult7 : BitVec 32 :=
  let c2_i32_677 : BitVec 32 := 2#32
  let c0_i32_676 : BitVec 32 := 0#32
  let v869 : BitVec 32 := Scalar.muli c2_i32_677 c0_i32_676
  let c2_i32_745 : BitVec 32 := 2#32
  let v945 : BitVec 32 := Scalar.addi v869 c2_i32_745
  let c512_i32_746 : BitVec 32 := 512#32
  let v946 : BitVec 32 := Scalar.muli v945 c512_i32_746
  v946
def k0_mult8 : BitVec 32 :=
  let c2_i32_677 : BitVec 32 := 2#32
  let c0_i32_676 : BitVec 32 := 0#32
  let v869 : BitVec 32 := Scalar.muli c2_i32_677 c0_i32_676
  let c2_i32_745 : BitVec 32 := 2#32
  let v945 : BitVec 32 := Scalar.addi v869 c2_i32_745
  let c512_i32_754 : BitVec 32 := 512#32
  let v955 : BitVec 32 := Scalar.muli v945 c512_i32_754
  v955
@[reducible] def k0_t1_loop : Scf.Loop 32 :=
  let c0_i32_984 : BitVec 32 := 0#32
  let c2_i32_985 : BitVec 32 := 2#32
  let v1209 : BitVec 32 := Scalar.addi c0_i32_984 c2_i32_985
  let c1_i32_986 : BitVec 32 := 1#32
  ⟨c0_i32_984, v1209, c1_i32_986⟩
def k0_mult9 (k0_t1 : Fin k0_t1_loop.trips) : BitVec 32 :=
  let c2_i32_1510 : BitVec 32 := 2#32
  let c0_i32_984 : BitVec 32 := 0#32
  let c1_i32_986 : BitVec 32 := 1#32
  let arg12 : BitVec 32 := Scf.iv c0_i32_984 c1_i32_986 k0_t1
  let v1797 : BitVec 32 := Scalar.muli c2_i32_1510 arg12
  let c1_i32_1511 : BitVec 32 := 1#32
  let v1798 : BitVec 32 := Scalar.addi v1797 c1_i32_1511
  let c512_i32_1512 : BitVec 32 := 512#32
  let v1799 : BitVec 32 := Scalar.muli v1798 c512_i32_1512
  v1799
def k0_off7 (k0_t1 : Fin k0_t1_loop.trips) (c1_i32_1511 : BitVec 32) : Fin 3 → Nat :=
  let c0_1513 : Index := 0#32
  let c2_i32_1510 : BitVec 32 := 2#32
  let c0_i32_984 : BitVec 32 := 0#32
  let c1_i32_986 : BitVec 32 := 1#32
  let arg12 : BitVec 32 := Scf.iv c0_i32_984 c1_i32_986 k0_t1
  let v1797 : BitVec 32 := Scalar.muli c2_i32_1510 arg12
  let v1798 : BitVec 32 := Scalar.addi v1797 c1_i32_1511
  let c512_i32_1512 : BitVec 32 := 512#32
  let v1799 : BitVec 32 := Scalar.muli v1798 c512_i32_1512
  let v1800 : BitVec 32 := v1799
  let v1801 : Index := Scalar.indexCast v1800
  let c0_1514 : Index := 0#32
  ![0, v1801.toNat, 0]
def k0_mult10 (k0_t1 : Fin k0_t1_loop.trips) : BitVec 32 :=
  let c2_i32_1510 : BitVec 32 := 2#32
  let c0_i32_984 : BitVec 32 := 0#32
  let c1_i32_986 : BitVec 32 := 1#32
  let arg12 : BitVec 32 := Scf.iv c0_i32_984 c1_i32_986 k0_t1
  let v1797 : BitVec 32 := Scalar.muli c2_i32_1510 arg12
  let c1_i32_1511 : BitVec 32 := 1#32
  let v1798 : BitVec 32 := Scalar.addi v1797 c1_i32_1511
  let c512_i32_1520 : BitVec 32 := 512#32
  let v1808 : BitVec 32 := Scalar.muli v1798 c512_i32_1520
  v1808
def k0_off8 (k0_t1 : Fin k0_t1_loop.trips) (c1_i32_1511 : BitVec 32) : Fin 3 → Nat :=
  let c1_1521 : Index := 1#32
  let c2_i32_1510 : BitVec 32 := 2#32
  let c0_i32_984 : BitVec 32 := 0#32
  let c1_i32_986 : BitVec 32 := 1#32
  let arg12 : BitVec 32 := Scf.iv c0_i32_984 c1_i32_986 k0_t1
  let v1797 : BitVec 32 := Scalar.muli c2_i32_1510 arg12
  let v1798 : BitVec 32 := Scalar.addi v1797 c1_i32_1511
  let c512_i32_1520 : BitVec 32 := 512#32
  let v1808 : BitVec 32 := Scalar.muli v1798 c512_i32_1520
  let v1809 : BitVec 32 := v1808
  let v1810 : Index := Scalar.indexCast v1809
  let c0_1522 : Index := 0#32
  ![1, v1810.toNat, 0]
def k0_off9 (k0_t1 : Fin k0_t1_loop.trips) : Fin 4 → Nat :=
  let c0_1541 : Index := 0#32
  let c2_i32_1510 : BitVec 32 := 2#32
  let c0_i32_984 : BitVec 32 := 0#32
  let c1_i32_986 : BitVec 32 := 1#32
  let arg12 : BitVec 32 := Scf.iv c0_i32_984 c1_i32_986 k0_t1
  let v1797 : BitVec 32 := Scalar.muli c2_i32_1510 arg12
  let v1834 : Index := Scalar.indexCast v1797
  let c0_1542 : Index := 0#32
  let c0_1543 : Index := 0#32
  ![0, v1834.toNat, 0, 0]
def k0_off10 (k0_t1 : Fin k0_t1_loop.trips) : Fin 4 → Nat :=
  let c1_1566 : Index := 1#32
  let c2_i32_1510 : BitVec 32 := 2#32
  let c0_i32_984 : BitVec 32 := 0#32
  let c1_i32_986 : BitVec 32 := 1#32
  let arg12 : BitVec 32 := Scf.iv c0_i32_984 c1_i32_986 k0_t1
  let v1797 : BitVec 32 := Scalar.muli c2_i32_1510 arg12
  let v1862 : Index := Scalar.indexCast v1797
  let c0_1567 : Index := 0#32
  let c0_1568 : Index := 0#32
  ![1, v1862.toNat, 0, 0]
def k0_mult11 (k0_t1 : Fin k0_t1_loop.trips) : BitVec 32 :=
  let c2_i32_1510 : BitVec 32 := 2#32
  let c0_i32_984 : BitVec 32 := 0#32
  let c1_i32_986 : BitVec 32 := 1#32
  let arg12 : BitVec 32 := Scf.iv c0_i32_984 c1_i32_986 k0_t1
  let v1797 : BitVec 32 := Scalar.muli c2_i32_1510 arg12
  let c2_i32_1578 : BitVec 32 := 2#32
  let v1873 : BitVec 32 := Scalar.addi v1797 c2_i32_1578
  let c512_i32_1579 : BitVec 32 := 512#32
  let v1874 : BitVec 32 := Scalar.muli v1873 c512_i32_1579
  v1874
def k0_mult12 (k0_t1 : Fin k0_t1_loop.trips) : BitVec 32 :=
  let c2_i32_1510 : BitVec 32 := 2#32
  let c0_i32_984 : BitVec 32 := 0#32
  let c1_i32_986 : BitVec 32 := 1#32
  let arg12 : BitVec 32 := Scf.iv c0_i32_984 c1_i32_986 k0_t1
  let v1797 : BitVec 32 := Scalar.muli c2_i32_1510 arg12
  let c2_i32_1578 : BitVec 32 := 2#32
  let v1873 : BitVec 32 := Scalar.addi v1797 c2_i32_1578
  let c512_i32_1587 : BitVec 32 := 512#32
  let v1883 : BitVec 32 := Scalar.muli v1873 c512_i32_1587
  v1883
def k0_off11 (k0_t1 : Fin k0_t1_loop.trips) : Fin 4 → Nat :=
  let c0_1609 : Index := 0#32
  let c2_i32_1510 : BitVec 32 := 2#32
  let c0_i32_984 : BitVec 32 := 0#32
  let c1_i32_986 : BitVec 32 := 1#32
  let arg12 : BitVec 32 := Scf.iv c0_i32_984 c1_i32_986 k0_t1
  let v1797 : BitVec 32 := Scalar.muli c2_i32_1510 arg12
  let c1_i32_1595 : BitVec 32 := 1#32
  let v1892 : BitVec 32 := Scalar.addi v1797 c1_i32_1595
  let v1910 : Index := Scalar.indexCast v1892
  let c0_1610 : Index := 0#32
  let c0_1611 : Index := 0#32
  ![0, v1910.toNat, 0, 0]
def k0_off12 (k0_t1 : Fin k0_t1_loop.trips) : Fin 4 → Nat :=
  let c1_1634 : Index := 1#32
  let c2_i32_1510 : BitVec 32 := 2#32
  let c0_i32_984 : BitVec 32 := 0#32
  let c1_i32_986 : BitVec 32 := 1#32
  let arg12 : BitVec 32 := Scf.iv c0_i32_984 c1_i32_986 k0_t1
  let v1797 : BitVec 32 := Scalar.muli c2_i32_1510 arg12
  let c1_i32_1595 : BitVec 32 := 1#32
  let v1892 : BitVec 32 := Scalar.addi v1797 c1_i32_1595
  let v1938 : Index := Scalar.indexCast v1892
  let c0_1635 : Index := 0#32
  let c0_1636 : Index := 0#32
  ![1, v1938.toNat, 0, 0]
@[reducible] def k0_t2_loop : Scf.Loop 32 :=
  let c0_i32_1090 : BitVec 32 := 0#32
  let c2_i32_1091 : BitVec 32 := 2#32
  let v1332 : BitVec 32 := Scalar.addi c0_i32_1090 c2_i32_1091
  let c1_i32_1092 : BitVec 32 := 1#32
  ⟨c0_i32_1090, v1332, c1_i32_1092⟩
def k0_mult13 (k0_t2 : Fin k0_t2_loop.trips) : BitVec 32 :=
  let c2_i32_1510 : BitVec 32 := 2#32
  let c0_i32_1090 : BitVec 32 := 0#32
  let c1_i32_1092 : BitVec 32 := 1#32
  let arg12 : BitVec 32 := Scf.iv c0_i32_1090 c1_i32_1092 k0_t2
  let v1797 : BitVec 32 := Scalar.muli c2_i32_1510 arg12
  let c1_i32_1511 : BitVec 32 := 1#32
  let v1798 : BitVec 32 := Scalar.addi v1797 c1_i32_1511
  let c512_i32_1512 : BitVec 32 := 512#32
  let v1799 : BitVec 32 := Scalar.muli v1798 c512_i32_1512
  v1799
def k0_off13 (k0_t2 : Fin k0_t2_loop.trips) (c1_i32_1511 : BitVec 32) : Fin 3 → Nat :=
  let c0_1513 : Index := 0#32
  let c2_i32_1510 : BitVec 32 := 2#32
  let c0_i32_1090 : BitVec 32 := 0#32
  let c1_i32_1092 : BitVec 32 := 1#32
  let arg12 : BitVec 32 := Scf.iv c0_i32_1090 c1_i32_1092 k0_t2
  let v1797 : BitVec 32 := Scalar.muli c2_i32_1510 arg12
  let v1798 : BitVec 32 := Scalar.addi v1797 c1_i32_1511
  let c512_i32_1512 : BitVec 32 := 512#32
  let v1799 : BitVec 32 := Scalar.muli v1798 c512_i32_1512
  let v1800 : BitVec 32 := v1799
  let v1801 : Index := Scalar.indexCast v1800
  let c0_1514 : Index := 0#32
  ![0, v1801.toNat, 0]
def k0_mult14 (k0_t2 : Fin k0_t2_loop.trips) : BitVec 32 :=
  let c2_i32_1510 : BitVec 32 := 2#32
  let c0_i32_1090 : BitVec 32 := 0#32
  let c1_i32_1092 : BitVec 32 := 1#32
  let arg12 : BitVec 32 := Scf.iv c0_i32_1090 c1_i32_1092 k0_t2
  let v1797 : BitVec 32 := Scalar.muli c2_i32_1510 arg12
  let c1_i32_1511 : BitVec 32 := 1#32
  let v1798 : BitVec 32 := Scalar.addi v1797 c1_i32_1511
  let c512_i32_1520 : BitVec 32 := 512#32
  let v1808 : BitVec 32 := Scalar.muli v1798 c512_i32_1520
  v1808
def k0_off14 (k0_t2 : Fin k0_t2_loop.trips) (c1_i32_1511 : BitVec 32) : Fin 3 → Nat :=
  let c1_1521 : Index := 1#32
  let c2_i32_1510 : BitVec 32 := 2#32
  let c0_i32_1090 : BitVec 32 := 0#32
  let c1_i32_1092 : BitVec 32 := 1#32
  let arg12 : BitVec 32 := Scf.iv c0_i32_1090 c1_i32_1092 k0_t2
  let v1797 : BitVec 32 := Scalar.muli c2_i32_1510 arg12
  let v1798 : BitVec 32 := Scalar.addi v1797 c1_i32_1511
  let c512_i32_1520 : BitVec 32 := 512#32
  let v1808 : BitVec 32 := Scalar.muli v1798 c512_i32_1520
  let v1809 : BitVec 32 := v1808
  let v1810 : Index := Scalar.indexCast v1809
  let c0_1522 : Index := 0#32
  ![1, v1810.toNat, 0]
def k0_off15 (k0_t2 : Fin k0_t2_loop.trips) : Fin 4 → Nat :=
  let c0_1541 : Index := 0#32
  let c2_i32_1510 : BitVec 32 := 2#32
  let c0_i32_1090 : BitVec 32 := 0#32
  let c1_i32_1092 : BitVec 32 := 1#32
  let arg12 : BitVec 32 := Scf.iv c0_i32_1090 c1_i32_1092 k0_t2
  let v1797 : BitVec 32 := Scalar.muli c2_i32_1510 arg12
  let v1834 : Index := Scalar.indexCast v1797
  let c0_1542 : Index := 0#32
  let c0_1543 : Index := 0#32
  ![0, v1834.toNat, 0, 0]
def k0_off16 (k0_t2 : Fin k0_t2_loop.trips) : Fin 4 → Nat :=
  let c1_1566 : Index := 1#32
  let c2_i32_1510 : BitVec 32 := 2#32
  let c0_i32_1090 : BitVec 32 := 0#32
  let c1_i32_1092 : BitVec 32 := 1#32
  let arg12 : BitVec 32 := Scf.iv c0_i32_1090 c1_i32_1092 k0_t2
  let v1797 : BitVec 32 := Scalar.muli c2_i32_1510 arg12
  let v1862 : Index := Scalar.indexCast v1797
  let c0_1567 : Index := 0#32
  let c0_1568 : Index := 0#32
  ![1, v1862.toNat, 0, 0]
def k0_mult15 (k0_t2 : Fin k0_t2_loop.trips) : BitVec 32 :=
  let c2_i32_1510 : BitVec 32 := 2#32
  let c0_i32_1090 : BitVec 32 := 0#32
  let c1_i32_1092 : BitVec 32 := 1#32
  let arg12 : BitVec 32 := Scf.iv c0_i32_1090 c1_i32_1092 k0_t2
  let v1797 : BitVec 32 := Scalar.muli c2_i32_1510 arg12
  let c2_i32_1578 : BitVec 32 := 2#32
  let v1873 : BitVec 32 := Scalar.addi v1797 c2_i32_1578
  let c512_i32_1579 : BitVec 32 := 512#32
  let v1874 : BitVec 32 := Scalar.muli v1873 c512_i32_1579
  v1874
def k0_mult16 (k0_t2 : Fin k0_t2_loop.trips) : BitVec 32 :=
  let c2_i32_1510 : BitVec 32 := 2#32
  let c0_i32_1090 : BitVec 32 := 0#32
  let c1_i32_1092 : BitVec 32 := 1#32
  let arg12 : BitVec 32 := Scf.iv c0_i32_1090 c1_i32_1092 k0_t2
  let v1797 : BitVec 32 := Scalar.muli c2_i32_1510 arg12
  let c2_i32_1578 : BitVec 32 := 2#32
  let v1873 : BitVec 32 := Scalar.addi v1797 c2_i32_1578
  let c512_i32_1587 : BitVec 32 := 512#32
  let v1883 : BitVec 32 := Scalar.muli v1873 c512_i32_1587
  v1883
def k0_off17 (k0_t2 : Fin k0_t2_loop.trips) : Fin 4 → Nat :=
  let c0_1609 : Index := 0#32
  let c2_i32_1510 : BitVec 32 := 2#32
  let c0_i32_1090 : BitVec 32 := 0#32
  let c1_i32_1092 : BitVec 32 := 1#32
  let arg12 : BitVec 32 := Scf.iv c0_i32_1090 c1_i32_1092 k0_t2
  let v1797 : BitVec 32 := Scalar.muli c2_i32_1510 arg12
  let c1_i32_1595 : BitVec 32 := 1#32
  let v1892 : BitVec 32 := Scalar.addi v1797 c1_i32_1595
  let v1910 : Index := Scalar.indexCast v1892
  let c0_1610 : Index := 0#32
  let c0_1611 : Index := 0#32
  ![0, v1910.toNat, 0, 0]
def k0_off18 (k0_t2 : Fin k0_t2_loop.trips) : Fin 4 → Nat :=
  let c1_1634 : Index := 1#32
  let c2_i32_1510 : BitVec 32 := 2#32
  let c0_i32_1090 : BitVec 32 := 0#32
  let c1_i32_1092 : BitVec 32 := 1#32
  let arg12 : BitVec 32 := Scf.iv c0_i32_1090 c1_i32_1092 k0_t2
  let v1797 : BitVec 32 := Scalar.muli c2_i32_1510 arg12
  let c1_i32_1595 : BitVec 32 := 1#32
  let v1892 : BitVec 32 := Scalar.addi v1797 c1_i32_1595
  let v1938 : Index := Scalar.indexCast v1892
  let c0_1635 : Index := 0#32
  let c0_1636 : Index := 0#32
  ![1, v1938.toNat, 0, 0]
@[reducible] def k0_t3_loop : Scf.Loop 32 :=
  let c0_i32_1264 : BitVec 32 := 0#32
  let c3_i32_1265 : BitVec 32 := 3#32
  let v1521 : BitVec 32 := Scalar.addi c0_i32_1264 c3_i32_1265
  let c1_i32_1266 : BitVec 32 := 1#32
  ⟨c0_i32_1264, v1521, c1_i32_1266⟩
def k0_mult17 (k0_t3 : Fin k0_t3_loop.trips) : BitVec 32 :=
  let c2_i32_1510 : BitVec 32 := 2#32
  let c0_i32_1264 : BitVec 32 := 0#32
  let c1_i32_1266 : BitVec 32 := 1#32
  let arg12 : BitVec 32 := Scf.iv c0_i32_1264 c1_i32_1266 k0_t3
  let v1797 : BitVec 32 := Scalar.muli c2_i32_1510 arg12
  let c1_i32_1511 : BitVec 32 := 1#32
  let v1798 : BitVec 32 := Scalar.addi v1797 c1_i32_1511
  let c512_i32_1512 : BitVec 32 := 512#32
  let v1799 : BitVec 32 := Scalar.muli v1798 c512_i32_1512
  v1799
def k0_off19 (k0_t3 : Fin k0_t3_loop.trips) (c1_i32_1511 : BitVec 32) : Fin 3 → Nat :=
  let c0_1513 : Index := 0#32
  let c2_i32_1510 : BitVec 32 := 2#32
  let c0_i32_1264 : BitVec 32 := 0#32
  let c1_i32_1266 : BitVec 32 := 1#32
  let arg12 : BitVec 32 := Scf.iv c0_i32_1264 c1_i32_1266 k0_t3
  let v1797 : BitVec 32 := Scalar.muli c2_i32_1510 arg12
  let v1798 : BitVec 32 := Scalar.addi v1797 c1_i32_1511
  let c512_i32_1512 : BitVec 32 := 512#32
  let v1799 : BitVec 32 := Scalar.muli v1798 c512_i32_1512
  let v1800 : BitVec 32 := v1799
  let v1801 : Index := Scalar.indexCast v1800
  let c0_1514 : Index := 0#32
  ![0, v1801.toNat, 0]
def k0_mult18 (k0_t3 : Fin k0_t3_loop.trips) : BitVec 32 :=
  let c2_i32_1510 : BitVec 32 := 2#32
  let c0_i32_1264 : BitVec 32 := 0#32
  let c1_i32_1266 : BitVec 32 := 1#32
  let arg12 : BitVec 32 := Scf.iv c0_i32_1264 c1_i32_1266 k0_t3
  let v1797 : BitVec 32 := Scalar.muli c2_i32_1510 arg12
  let c1_i32_1511 : BitVec 32 := 1#32
  let v1798 : BitVec 32 := Scalar.addi v1797 c1_i32_1511
  let c512_i32_1520 : BitVec 32 := 512#32
  let v1808 : BitVec 32 := Scalar.muli v1798 c512_i32_1520
  v1808
def k0_off20 (k0_t3 : Fin k0_t3_loop.trips) (c1_i32_1511 : BitVec 32) : Fin 3 → Nat :=
  let c1_1521 : Index := 1#32
  let c2_i32_1510 : BitVec 32 := 2#32
  let c0_i32_1264 : BitVec 32 := 0#32
  let c1_i32_1266 : BitVec 32 := 1#32
  let arg12 : BitVec 32 := Scf.iv c0_i32_1264 c1_i32_1266 k0_t3
  let v1797 : BitVec 32 := Scalar.muli c2_i32_1510 arg12
  let v1798 : BitVec 32 := Scalar.addi v1797 c1_i32_1511
  let c512_i32_1520 : BitVec 32 := 512#32
  let v1808 : BitVec 32 := Scalar.muli v1798 c512_i32_1520
  let v1809 : BitVec 32 := v1808
  let v1810 : Index := Scalar.indexCast v1809
  let c0_1522 : Index := 0#32
  ![1, v1810.toNat, 0]
def k0_off21 (k0_t3 : Fin k0_t3_loop.trips) : Fin 4 → Nat :=
  let c0_1541 : Index := 0#32
  let c2_i32_1510 : BitVec 32 := 2#32
  let c0_i32_1264 : BitVec 32 := 0#32
  let c1_i32_1266 : BitVec 32 := 1#32
  let arg12 : BitVec 32 := Scf.iv c0_i32_1264 c1_i32_1266 k0_t3
  let v1797 : BitVec 32 := Scalar.muli c2_i32_1510 arg12
  let v1834 : Index := Scalar.indexCast v1797
  let c0_1542 : Index := 0#32
  let c0_1543 : Index := 0#32
  ![0, v1834.toNat, 0, 0]
def k0_off22 (k0_t3 : Fin k0_t3_loop.trips) : Fin 4 → Nat :=
  let c1_1566 : Index := 1#32
  let c2_i32_1510 : BitVec 32 := 2#32
  let c0_i32_1264 : BitVec 32 := 0#32
  let c1_i32_1266 : BitVec 32 := 1#32
  let arg12 : BitVec 32 := Scf.iv c0_i32_1264 c1_i32_1266 k0_t3
  let v1797 : BitVec 32 := Scalar.muli c2_i32_1510 arg12
  let v1862 : Index := Scalar.indexCast v1797
  let c0_1567 : Index := 0#32
  let c0_1568 : Index := 0#32
  ![1, v1862.toNat, 0, 0]
def k0_mult19 (k0_t3 : Fin k0_t3_loop.trips) : BitVec 32 :=
  let c2_i32_1510 : BitVec 32 := 2#32
  let c0_i32_1264 : BitVec 32 := 0#32
  let c1_i32_1266 : BitVec 32 := 1#32
  let arg12 : BitVec 32 := Scf.iv c0_i32_1264 c1_i32_1266 k0_t3
  let v1797 : BitVec 32 := Scalar.muli c2_i32_1510 arg12
  let c2_i32_1578 : BitVec 32 := 2#32
  let v1873 : BitVec 32 := Scalar.addi v1797 c2_i32_1578
  let c512_i32_1579 : BitVec 32 := 512#32
  let v1874 : BitVec 32 := Scalar.muli v1873 c512_i32_1579
  v1874
def k0_mult20 (k0_t3 : Fin k0_t3_loop.trips) : BitVec 32 :=
  let c2_i32_1510 : BitVec 32 := 2#32
  let c0_i32_1264 : BitVec 32 := 0#32
  let c1_i32_1266 : BitVec 32 := 1#32
  let arg12 : BitVec 32 := Scf.iv c0_i32_1264 c1_i32_1266 k0_t3
  let v1797 : BitVec 32 := Scalar.muli c2_i32_1510 arg12
  let c2_i32_1578 : BitVec 32 := 2#32
  let v1873 : BitVec 32 := Scalar.addi v1797 c2_i32_1578
  let c512_i32_1587 : BitVec 32 := 512#32
  let v1883 : BitVec 32 := Scalar.muli v1873 c512_i32_1587
  v1883
def k0_off23 (k0_t3 : Fin k0_t3_loop.trips) : Fin 4 → Nat :=
  let c0_1609 : Index := 0#32
  let c2_i32_1510 : BitVec 32 := 2#32
  let c0_i32_1264 : BitVec 32 := 0#32
  let c1_i32_1266 : BitVec 32 := 1#32
  let arg12 : BitVec 32 := Scf.iv c0_i32_1264 c1_i32_1266 k0_t3
  let v1797 : BitVec 32 := Scalar.muli c2_i32_1510 arg12
  let c1_i32_1595 : BitVec 32 := 1#32
  let v1892 : BitVec 32 := Scalar.addi v1797 c1_i32_1595
  let v1910 : Index := Scalar.indexCast v1892
  let c0_1610 : Index := 0#32
  let c0_1611 : Index := 0#32
  ![0, v1910.toNat, 0, 0]
def k0_off24 (k0_t3 : Fin k0_t3_loop.trips) : Fin 4 → Nat :=
  let c1_1634 : Index := 1#32
  let c2_i32_1510 : BitVec 32 := 2#32
  let c0_i32_1264 : BitVec 32 := 0#32
  let c1_i32_1266 : BitVec 32 := 1#32
  let arg12 : BitVec 32 := Scf.iv c0_i32_1264 c1_i32_1266 k0_t3
  let v1797 : BitVec 32 := Scalar.muli c2_i32_1510 arg12
  let c1_i32_1595 : BitVec 32 := 1#32
  let v1892 : BitVec 32 := Scalar.addi v1797 c1_i32_1595
  let v1938 : Index := Scalar.indexCast v1892
  let c0_1635 : Index := 0#32
  let c0_1636 : Index := 0#32
  ![1, v1938.toNat, 0, 0]
@[reducible] def k0_t4_loop : Scf.Loop 32 :=
  let c0_i32_1370 : BitVec 32 := 0#32
  let c3_i32_1371 : BitVec 32 := 3#32
  let v1644 : BitVec 32 := Scalar.addi c0_i32_1370 c3_i32_1371
  let c1_i32_1372 : BitVec 32 := 1#32
  ⟨c0_i32_1370, v1644, c1_i32_1372⟩
def k0_mult21 (k0_t4 : Fin k0_t4_loop.trips) : BitVec 32 :=
  let c2_i32_1510 : BitVec 32 := 2#32
  let c0_i32_1370 : BitVec 32 := 0#32
  let c1_i32_1372 : BitVec 32 := 1#32
  let arg12 : BitVec 32 := Scf.iv c0_i32_1370 c1_i32_1372 k0_t4
  let v1797 : BitVec 32 := Scalar.muli c2_i32_1510 arg12
  let c1_i32_1511 : BitVec 32 := 1#32
  let v1798 : BitVec 32 := Scalar.addi v1797 c1_i32_1511
  let c512_i32_1512 : BitVec 32 := 512#32
  let v1799 : BitVec 32 := Scalar.muli v1798 c512_i32_1512
  v1799
def k0_off25 (k0_t4 : Fin k0_t4_loop.trips) (c1_i32_1511 : BitVec 32) : Fin 3 → Nat :=
  let c0_1513 : Index := 0#32
  let c2_i32_1510 : BitVec 32 := 2#32
  let c0_i32_1370 : BitVec 32 := 0#32
  let c1_i32_1372 : BitVec 32 := 1#32
  let arg12 : BitVec 32 := Scf.iv c0_i32_1370 c1_i32_1372 k0_t4
  let v1797 : BitVec 32 := Scalar.muli c2_i32_1510 arg12
  let v1798 : BitVec 32 := Scalar.addi v1797 c1_i32_1511
  let c512_i32_1512 : BitVec 32 := 512#32
  let v1799 : BitVec 32 := Scalar.muli v1798 c512_i32_1512
  let v1800 : BitVec 32 := v1799
  let v1801 : Index := Scalar.indexCast v1800
  let c0_1514 : Index := 0#32
  ![0, v1801.toNat, 0]
def k0_mult22 (k0_t4 : Fin k0_t4_loop.trips) : BitVec 32 :=
  let c2_i32_1510 : BitVec 32 := 2#32
  let c0_i32_1370 : BitVec 32 := 0#32
  let c1_i32_1372 : BitVec 32 := 1#32
  let arg12 : BitVec 32 := Scf.iv c0_i32_1370 c1_i32_1372 k0_t4
  let v1797 : BitVec 32 := Scalar.muli c2_i32_1510 arg12
  let c1_i32_1511 : BitVec 32 := 1#32
  let v1798 : BitVec 32 := Scalar.addi v1797 c1_i32_1511
  let c512_i32_1520 : BitVec 32 := 512#32
  let v1808 : BitVec 32 := Scalar.muli v1798 c512_i32_1520
  v1808
def k0_off26 (k0_t4 : Fin k0_t4_loop.trips) (c1_i32_1511 : BitVec 32) : Fin 3 → Nat :=
  let c1_1521 : Index := 1#32
  let c2_i32_1510 : BitVec 32 := 2#32
  let c0_i32_1370 : BitVec 32 := 0#32
  let c1_i32_1372 : BitVec 32 := 1#32
  let arg12 : BitVec 32 := Scf.iv c0_i32_1370 c1_i32_1372 k0_t4
  let v1797 : BitVec 32 := Scalar.muli c2_i32_1510 arg12
  let v1798 : BitVec 32 := Scalar.addi v1797 c1_i32_1511
  let c512_i32_1520 : BitVec 32 := 512#32
  let v1808 : BitVec 32 := Scalar.muli v1798 c512_i32_1520
  let v1809 : BitVec 32 := v1808
  let v1810 : Index := Scalar.indexCast v1809
  let c0_1522 : Index := 0#32
  ![1, v1810.toNat, 0]
def k0_off27 (k0_t4 : Fin k0_t4_loop.trips) : Fin 4 → Nat :=
  let c0_1541 : Index := 0#32
  let c2_i32_1510 : BitVec 32 := 2#32
  let c0_i32_1370 : BitVec 32 := 0#32
  let c1_i32_1372 : BitVec 32 := 1#32
  let arg12 : BitVec 32 := Scf.iv c0_i32_1370 c1_i32_1372 k0_t4
  let v1797 : BitVec 32 := Scalar.muli c2_i32_1510 arg12
  let v1834 : Index := Scalar.indexCast v1797
  let c0_1542 : Index := 0#32
  let c0_1543 : Index := 0#32
  ![0, v1834.toNat, 0, 0]
def k0_off28 (k0_t4 : Fin k0_t4_loop.trips) : Fin 4 → Nat :=
  let c1_1566 : Index := 1#32
  let c2_i32_1510 : BitVec 32 := 2#32
  let c0_i32_1370 : BitVec 32 := 0#32
  let c1_i32_1372 : BitVec 32 := 1#32
  let arg12 : BitVec 32 := Scf.iv c0_i32_1370 c1_i32_1372 k0_t4
  let v1797 : BitVec 32 := Scalar.muli c2_i32_1510 arg12
  let v1862 : Index := Scalar.indexCast v1797
  let c0_1567 : Index := 0#32
  let c0_1568 : Index := 0#32
  ![1, v1862.toNat, 0, 0]
def k0_mult23 (k0_t4 : Fin k0_t4_loop.trips) : BitVec 32 :=
  let c2_i32_1510 : BitVec 32 := 2#32
  let c0_i32_1370 : BitVec 32 := 0#32
  let c1_i32_1372 : BitVec 32 := 1#32
  let arg12 : BitVec 32 := Scf.iv c0_i32_1370 c1_i32_1372 k0_t4
  let v1797 : BitVec 32 := Scalar.muli c2_i32_1510 arg12
  let c2_i32_1578 : BitVec 32 := 2#32
  let v1873 : BitVec 32 := Scalar.addi v1797 c2_i32_1578
  let c512_i32_1579 : BitVec 32 := 512#32
  let v1874 : BitVec 32 := Scalar.muli v1873 c512_i32_1579
  v1874
def k0_mult24 (k0_t4 : Fin k0_t4_loop.trips) : BitVec 32 :=
  let c2_i32_1510 : BitVec 32 := 2#32
  let c0_i32_1370 : BitVec 32 := 0#32
  let c1_i32_1372 : BitVec 32 := 1#32
  let arg12 : BitVec 32 := Scf.iv c0_i32_1370 c1_i32_1372 k0_t4
  let v1797 : BitVec 32 := Scalar.muli c2_i32_1510 arg12
  let c2_i32_1578 : BitVec 32 := 2#32
  let v1873 : BitVec 32 := Scalar.addi v1797 c2_i32_1578
  let c512_i32_1587 : BitVec 32 := 512#32
  let v1883 : BitVec 32 := Scalar.muli v1873 c512_i32_1587
  v1883
def k0_off29 (k0_t4 : Fin k0_t4_loop.trips) : Fin 4 → Nat :=
  let c0_1609 : Index := 0#32
  let c2_i32_1510 : BitVec 32 := 2#32
  let c0_i32_1370 : BitVec 32 := 0#32
  let c1_i32_1372 : BitVec 32 := 1#32
  let arg12 : BitVec 32 := Scf.iv c0_i32_1370 c1_i32_1372 k0_t4
  let v1797 : BitVec 32 := Scalar.muli c2_i32_1510 arg12
  let c1_i32_1595 : BitVec 32 := 1#32
  let v1892 : BitVec 32 := Scalar.addi v1797 c1_i32_1595
  let v1910 : Index := Scalar.indexCast v1892
  let c0_1610 : Index := 0#32
  let c0_1611 : Index := 0#32
  ![0, v1910.toNat, 0, 0]
def k0_off30 (k0_t4 : Fin k0_t4_loop.trips) : Fin 4 → Nat :=
  let c1_1634 : Index := 1#32
  let c2_i32_1510 : BitVec 32 := 2#32
  let c0_i32_1370 : BitVec 32 := 0#32
  let c1_i32_1372 : BitVec 32 := 1#32
  let arg12 : BitVec 32 := Scf.iv c0_i32_1370 c1_i32_1372 k0_t4
  let v1797 : BitVec 32 := Scalar.muli c2_i32_1510 arg12
  let c1_i32_1595 : BitVec 32 := 1#32
  let v1892 : BitVec 32 := Scalar.addi v1797 c1_i32_1595
  let v1938 : Index := Scalar.indexCast v1892
  let c0_1635 : Index := 0#32
  let c0_1636 : Index := 0#32
  ![1, v1938.toNat, 0, 0]
def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "q_scale" => some (((Real.sqrt 128)⁻¹ * (Real.log 2)⁻¹ : ℝ) : EReal)
  | _ => none
-- ==== ReferenceIdeal.lean ====
abbrev S65536x10240 : Shape := ⟨2, ![65536, 10240]⟩
abbrev S65536x128 : Shape := ⟨2, ![65536, 128]⟩
abbrev S65536x1024 : Shape := ⟨2, ![65536, 1024]⟩
abbrev S16x4096x8x128 : Shape := ⟨4, ![16, 4096, 8, 128]⟩
abbrev S16x8x4096x128 : Shape := ⟨4, ![16, 8, 4096, 128]⟩
abbrev S65536x8 : Shape := ⟨2, ![65536, 8]⟩
abbrev S_ : Shape := ⟨0, ![]⟩
abbrev S16x4096x8 : Shape := ⟨3, ![16, 4096, 8]⟩
abbrev S16x8x4096 : Shape := ⟨3, ![16, 8, 4096]⟩
abbrev S4096 : Shape := ⟨1, ![4096]⟩
abbrev S16x8x4096x4096 : Shape := ⟨4, ![16, 8, 4096, 4096]⟩
abbrev S16x8x4096x1 : Shape := ⟨4, ![16, 8, 4096, 1]⟩
abbrev S16x8x1x4096 : Shape := ⟨4, ![16, 8, 1, 4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 62
  | .vmem => 0
  | .smem => 0
  | _ => 0

abbrev bufTy : (tb : Table) → Fin (tcTables nBuf tb) → BufTy
  | .hbm, ⟨0, _⟩ => ⟨S65536x10240, .bf16⟩
  | .hbm, ⟨1, _⟩ => ⟨S65536x128, .f32⟩
  | .hbm, ⟨2, _⟩ => ⟨S65536x1024, .bf16⟩
  | .hbm, ⟨3, _⟩ => ⟨S65536x1024, .f32⟩
  | .hbm, ⟨4, _⟩ => ⟨S16x4096x8x128, .f32⟩
  | .hbm, ⟨5, _⟩ => ⟨S16x8x4096x128, .f32⟩
  | .hbm, ⟨6, _⟩ => ⟨S65536x1024, .bf16⟩
  | .hbm, ⟨7, _⟩ => ⟨S65536x1024, .f32⟩
  | .hbm, ⟨8, _⟩ => ⟨S16x4096x8x128, .f32⟩
  | .hbm, ⟨9, _⟩ => ⟨S16x8x4096x128, .f32⟩
  | .hbm, ⟨10, _⟩ => ⟨S65536x1024, .bf16⟩
  | .hbm, ⟨11, _⟩ => ⟨S65536x1024, .f32⟩
  | .hbm, ⟨12, _⟩ => ⟨S16x4096x8x128, .f32⟩
  | .hbm, ⟨13, _⟩ => ⟨S16x8x4096x128, .f32⟩
  | .hbm, ⟨14, _⟩ => ⟨S65536x8, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S65536x8, .f32⟩
  | .hbm, ⟨19, _⟩ => ⟨S65536x8, .f32⟩
  | .hbm, ⟨20, _⟩ => ⟨S16x4096x8, .f32⟩
  | .hbm, ⟨21, _⟩ => ⟨S16x8x4096, .f32⟩
  | .hbm, ⟨22, _⟩ => ⟨S4096, .i32⟩
  | .hbm, ⟨23, _⟩ => ⟨S16x8x4096x4096, .f32⟩
  | .hbm, ⟨24, _⟩ => ⟨S_, .f32⟩
  | .hbm, ⟨25, _⟩ => ⟨S_, .f32⟩
  | .hbm, ⟨26, _⟩ => ⟨S16x8x4096x4096, .f32⟩
  | .hbm, ⟨27, _⟩ => ⟨S16x8x4096x4096, .f32⟩
  | .hbm, ⟨28, _⟩ => ⟨S16x8x4096x1, .f32⟩
  | .hbm, ⟨29, _⟩ => ⟨S16x8x4096x4096, .f32⟩
  | .hbm, ⟨30, _⟩ => ⟨S16x8x4096x4096, .f32⟩
  | .hbm, ⟨31, _⟩ => ⟨S16x8x1x4096, .f32⟩
  | .hbm, ⟨32, _⟩ => ⟨S16x8x4096x4096, .f32⟩
  | .hbm, ⟨33, _⟩ => ⟨S16x8x4096x4096, .f32⟩
  | .hbm, ⟨34, _⟩ => ⟨S1x4096, .i32⟩
  | .hbm, ⟨35, _⟩ => ⟨S4096x1, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S_, .f32⟩
  | .hbm, ⟨40, _⟩ => ⟨S_, .f32⟩
  | .hbm, ⟨41, _⟩ => ⟨S16x8x4096x4096, .i1⟩
  | .hbm, ⟨42, _⟩ => ⟨S16x8x4096x4096, .f32⟩
  | .hbm, ⟨43, _⟩ => ⟨S16x8x4096x4096, .f32⟩
  | .hbm, ⟨44, _⟩ => ⟨S_, .f32⟩
  | .hbm, ⟨45, _⟩ => ⟨S16x8x4096, .f32⟩
  | .hbm, ⟨46, _⟩ => ⟨S_, .f32⟩
  | .hbm, ⟨47, _⟩ => ⟨S16x8x4096, .f32⟩
  | .hbm, ⟨48, _⟩ => ⟨S16x8x4096, .f32⟩
  | .hbm, ⟨49, _⟩ => ⟨S16x8x4096x1, .f32⟩
  | .hbm, ⟨50, _⟩ => ⟨S16x8x4096x4096, .f32⟩
  | .hbm, ⟨51, _⟩ => ⟨S16x8x4096x4096, .f32⟩
  | .hbm, ⟨52, _⟩ => ⟨S16x8x4096x4096, .f32⟩
  | .hbm, ⟨53, _⟩ => ⟨S_, .f32⟩
  | .hbm, ⟨54, _⟩ => ⟨S16x8x4096, .f32⟩
  | .hbm, ⟨55, _⟩ => ⟨S16x8x4096x1, .f32⟩
  | .hbm, ⟨56, _⟩ => ⟨S16x8x4096x4096, .f32⟩
  | .hbm, ⟨57, _⟩ => ⟨S16x8x4096x4096, .f32⟩
  | .hbm, ⟨58, _⟩ => ⟨S16x8x4096x128, .f32⟩
  | .hbm, ⟨59, _⟩ => ⟨S16x4096x8x128, .f32⟩
  | .hbm, ⟨60, _⟩ => ⟨S65536x1024, .f32⟩
  | .hbm, ⟨61, _⟩ => ⟨S65536x1024, .bf16⟩
  | _, _ => ⟨S65536x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_1 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== Experts.lean ====
abbrev S288 : Shape := ⟨1, ![288]⟩
abbrev S1 : Shape := ⟨1, ![1]⟩
abbrev S147456x512 : Shape := ⟨2, ![147456, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S147456x1024 : Shape := ⟨2, ![147456, 1024]⟩
abbrev S512x512 : Shape := ⟨2, ![512, 512]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x1024 : Shape := ⟨2, ![512, 1024]⟩
abbrev S1024x2048 : Shape := ⟨2, ![1024, 2048]⟩
abbrev S1024x1024 : Shape := ⟨2, ![1024, 1024]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S147456x512, .i32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S147456x1024, .bf16⟩
  | .local _ .vmem, ⟨0, _⟩ => ⟨S512x512, .i32⟩
  | .local _ .vmem, ⟨1, _⟩ => ⟨S512x512, .i32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S147456x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S288 : Shape := ⟨1, ![288]⟩
abbrev S1 : Shape := ⟨1, ![1]⟩
abbrev S147456x512 : Shape := ⟨2, ![147456, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S147456x1024 : Shape := ⟨2, ![147456, 1024]⟩
abbrev S288x512 : Shape := ⟨2, ![288, 512]⟩
abbrev S147456 : Shape := ⟨1, ![147456]⟩
abbrev S147456x1 : Shape := ⟨2, ![147456, 1]⟩
abbrev S1x32 : Shape := ⟨2, ![1, 32]⟩
abbrev S147456x32 : Shape := ⟨2, ![147456, 32]⟩
abbrev S147456x32x2048 : Shape := ⟨3, ![147456, 32, 2048]⟩
abbrev S1x32x2048 : Shape := ⟨3, ![1, 32, 2048]⟩
abbrev S147456x32x1024 : Shape := ⟨3, ![147456, 32, 1024]⟩
abbrev S32x1024x147456 : Shape := ⟨3, ![32, 1024, 147456]⟩
abbrev S1x32x1024 : Shape := ⟨3, ![1, 32, 1024]⟩
abbrev S147456x32x1 : Shape := ⟨3, ![147456, 32, 1]⟩

abbrev nBuf : Space → Nat
  | .hbm => 68
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456x512, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S_, .i32⟩
  | .hbm, ⟨8, _⟩ => ⟨S147456x512, .i32⟩
  | .hbm, ⟨9, _⟩ => ⟨S147456x512, .i32⟩
  | .hbm, ⟨10, _⟩ => ⟨S147456x512, .f32⟩
  | .hbm, ⟨11, _⟩ => ⟨S_, .i32⟩
  | .hbm, ⟨12, _⟩ => ⟨S147456x512, .i32⟩
  | .hbm, ⟨13, _⟩ => ⟨S147456x512, .i32⟩
  | .hbm, ⟨14, _⟩ => ⟨S147456x512, .f32⟩
  | .hbm, ⟨15, _⟩ => ⟨S147456x1024, .f32⟩
  | .hbm, ⟨16, _⟩ => ⟨S288x512, .i32⟩
  | .hbm, ⟨17, _⟩ => ⟨S147456, .i32⟩
  | .hbm, ⟨18, _⟩ => ⟨S147456x1, .i32⟩
  | .hbm, ⟨19, _⟩ => ⟨S1x32, .i32⟩
  | .hbm, ⟨20, _⟩ => ⟨S147456x32, .i32⟩
  | .hbm, ⟨21, _⟩ => ⟨S147456x32, .i32⟩
  | .hbm, ⟨22, _⟩ => ⟨S147456x32, .i1⟩
  | .hbm, ⟨23, _⟩ => ⟨S147456x32, .f32⟩
  | .hbm, ⟨24, _⟩ => ⟨S147456x32x2048, .f32⟩
  | .hbm, ⟨25, _⟩ => ⟨S1x32x2048, .f32⟩
  | .hbm, ⟨26, _⟩ => ⟨S147456x32x2048, .f32⟩
  | .hbm, ⟨27, _⟩ => ⟨S147456x32x2048, .f32⟩
  | .hbm, ⟨28, _⟩ => ⟨S147456x32x1024, .f32⟩
  | .hbm, ⟨29, _⟩ => ⟨S_, .f32⟩
  | .hbm, ⟨30, _⟩ => ⟨S147456x32x1024, .f32⟩
  | .hbm, ⟨31, _⟩ => ⟨S147456x32x1024, .f32⟩
  | .hbm, ⟨32, _⟩ => ⟨S147456x32x1024, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S147456x32x1024, .f32⟩
  | .hbm, ⟨37, _⟩ => ⟨S147456x32x1024, .f32⟩
  | .hbm, ⟨38, _⟩ => ⟨S_, .f32⟩
  | .hbm, ⟨39, _⟩ => ⟨S147456x32x1024, .f32⟩
  | .hbm, ⟨40, _⟩ => ⟨S147456x32x1024, .f32⟩
  | .hbm, ⟨41, _⟩ => ⟨S_, .f32⟩
  | .hbm, ⟨42, _⟩ => ⟨S147456x32x1024, .f32⟩
  | .hbm, ⟨43, _⟩ => ⟨S147456x32x1024, .f32⟩
  | .hbm, ⟨44, _⟩ => ⟨S147456x32x1024, .f32⟩
  | .hbm, ⟨45, _⟩ => ⟨S147456x32x1024, .f32⟩
  | .hbm, ⟨46, _⟩ => ⟨S_, .f32⟩
  | .hbm, ⟨47, _⟩ => ⟨S147456x32x1024, .f32⟩
  | .hbm, ⟨48, _⟩ => ⟨S147456x32x1024, .f32⟩
  | .hbm, ⟨49, _⟩ => ⟨S_, .f32⟩
  | .hbm, ⟨50, _⟩ => ⟨S147456x32x1024, .f32⟩
  | .hbm, ⟨51, _⟩ => ⟨S147456x32x1024, .f32⟩
  | .hbm, ⟨52, _⟩ => ⟨S147456x32x1024, .f32⟩
  | .hbm, ⟨53, _⟩ => ⟨S_, .f32⟩
  | .hbm, ⟨54, _⟩ => ⟨S147456x32x1024, .f32⟩
  | .hbm, ⟨55, _⟩ => ⟨S147456x32x1024, .f32⟩
  | .hbm, ⟨56, _⟩ => ⟨S147456x32x1024, .f32⟩
  | .hbm, ⟨57, _⟩ => ⟨S32x1024x147456, .f32⟩
  | .hbm, ⟨58, _⟩ => ⟨S147456x32x1024, .f32⟩
  | .hbm, ⟨59, _⟩ => ⟨S1x32x1024, .f32⟩
  | .hbm, ⟨60, _⟩ => ⟨S147456x32x1024, .f32⟩
  | .hbm, ⟨61, _⟩ => ⟨S147456x32x1024, .f32⟩
  | .hbm, ⟨62, _⟩ => ⟨S147456x32x1, .f32⟩
  | .hbm, ⟨63, _⟩ => ⟨S147456x32x1024, .f32⟩
  | .hbm, ⟨64, _⟩ => ⟨S147456x32x1024, .f32⟩
  | .hbm, ⟨65, _⟩ => ⟨S_, .f32⟩
  | .hbm, ⟨66, _⟩ => ⟨S147456x1024, .f32⟩
  | .hbm, ⟨67, _⟩ => ⟨S147456x1024, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_cst_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩

abbrev nD : Nat := 1
abbrev τ : Topo := Topo.v7x

variable {F : FTy → Type} [FloatOps F]
-- ==== Inproj.lean ====
abbrev S65536x1024 : Shape := ⟨2, ![65536, 1024]⟩
abbrev S1024 : Shape := ⟨1, ![1024]⟩
abbrev S1024x10256 : Shape := ⟨2, ![1024, 10256]⟩
abbrev S1024x2048 : Shape := ⟨2, ![1024, 2048]⟩
abbrev S1024x1024 : Shape := ⟨2, ![1024, 1024]⟩
abbrev S1024x3072 : Shape := ⟨2, ![1024, 3072]⟩
abbrev S1024x10240 : Shape := ⟨2, ![1024, 10240]⟩
abbrev S1024x8 : Shape := ⟨2, ![1024, 8]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S65536x10240 : Shape := ⟨2, ![65536, 10240]⟩
abbrev S65536x128 : Shape := ⟨2, ![65536, 128]⟩
abbrev S1024x2560 : Shape := ⟨2, ![1024, 2560]⟩
abbrev S1024x1 : Shape := ⟨2, ![1024, 1]⟩

abbrev nBuf : Space → Nat
  | .hbm => 19
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x10256, .f32⟩
  | .hbm, ⟨3, _⟩ => ⟨S1024x10256, .bf16⟩
  | .hbm, ⟨4, _⟩ => ⟨S1024x2048, .bf16⟩
  | .hbm, ⟨5, _⟩ => ⟨S1024x1024, .bf16⟩
  | .hbm, ⟨6, _⟩ => ⟨S1024x3072, .bf16⟩
  | .hbm, ⟨7, _⟩ => ⟨S1024x1024, .bf16⟩
  | .hbm, ⟨8, _⟩ => ⟨S1024x3072, .bf16⟩
  | .hbm, ⟨9, _⟩ => ⟨S1024x10240, .bf16⟩
  | .hbm, ⟨10, _⟩ => ⟨S1024x8, .bf16⟩
  | .hbm, ⟨11, _⟩ => ⟨S1024x8, .bf16⟩
  | .hbm, ⟨12, _⟩ => ⟨S1024x16, .bf16⟩
  | .hbm, ⟨13, _⟩ => ⟨S_, .i32⟩
  | .hbm, ⟨14, _⟩ => ⟨S_, .bf16⟩
  | .hbm, ⟨15, _⟩ => ⟨S1024x128, .bf16⟩
  | .hbm, ⟨16, _⟩ => ⟨S1x1024, .f32⟩
  | .hbm, ⟨17, _⟩ => ⟨S65536x10240, .bf16⟩
  | .hbm, ⟨18, _⟩ => ⟨S65536x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S1024x2560, .bf16⟩
  | .local _ .vmem, ⟨5, _⟩ => ⟨S1024x128, .bf16⟩
  | .local _ .vmem, ⟨6, _⟩ => ⟨S1024x2560, .bf16⟩
  | .local _ .vmem, ⟨7, _⟩ => ⟨S1024x2560, .bf16⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InprojReferenceIdeal.lean ====
abbrev S65536x1024 : Shape := ⟨2, ![65536, 1024]⟩
abbrev S1024 : Shape := ⟨1, ![1024]⟩
abbrev S1024x10256 : Shape := ⟨2, ![1024, 10256]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x10256 : Shape := ⟨2, ![65536, 10256]⟩
abbrev S65536x8 : Shape := ⟨2, ![65536, 8]⟩
abbrev S65536x16 : Shape := ⟨2, ![65536, 16]⟩
abbrev S65536x2048 : Shape := ⟨2, ![65536, 2048]⟩
abbrev S65536x4096 : Shape := ⟨2, ![65536, 4096]⟩
abbrev S65536x10240 : Shape := ⟨2, ![65536, 10240]⟩
abbrev S65536x128 : Shape := ⟨2, ![65536, 128]⟩

abbrev nBuf : Space → Nat
  | .hbm => 31
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x10256, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x10256, .f32⟩
  | .hbm, ⟨20, _⟩ => ⟨S65536x8, .f32⟩
  | .hbm, ⟨21, _⟩ => ⟨S65536x8, .f32⟩
  | .hbm, ⟨22, _⟩ => ⟨S65536x16, .f32⟩
  | .hbm, ⟨23, _⟩ => ⟨S65536x2048, .f32⟩
  | .hbm, ⟨24, _⟩ => ⟨S65536x4096, .f32⟩
  | .hbm, ⟨25, _⟩ => ⟨S65536x4096, .f32⟩
  | .hbm, ⟨26, _⟩ => ⟨S65536x10240, .f32⟩
  | .hbm, ⟨27, _⟩ => ⟨S65536x10240, .bf16⟩
  | .hbm, ⟨28, _⟩ => ⟨S_, .i32⟩
  | .hbm, ⟨29, _⟩ => ⟨S_, .f32⟩
  | .hbm, ⟨30, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== MergeLow.lean ====
abbrev S65536x1024 : Shape := ⟨2, ![65536, 1024]⟩
abbrev S65536x10240 : Shape := ⟨2, ![65536, 10240]⟩
abbrev S3x1024x1024 : Shape := ⟨3, ![3, 1024, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1x1024 : Shape := ⟨2, ![1, 1024]⟩
abbrev S32x1024 : Shape := ⟨2, ![32, 1024]⟩
abbrev S32x1 : Shape := ⟨2, ![32, 1]⟩
abbrev S32768x1024 : Shape := ⟨2, ![32768, 1024]⟩
abbrev S8x32768 : Shape := ⟨2, ![8, 32768]⟩
abbrev S512x1024 : Shape := ⟨2, ![512, 1024]⟩
abbrev S8x512 : Shape := ⟨2, ![8, 512]⟩
abbrev S1x1024x1024 : Shape := ⟨3, ![1, 1024, 1024]⟩
abbrev S512 : Shape := ⟨1, ![512]⟩
abbrev S512x1 : Shape := ⟨2, ![512, 1]⟩
abbrev S32x512 : Shape := ⟨2, ![32, 512]⟩
abbrev S1x512 : Shape := ⟨2, ![1, 512]⟩
abbrev S512x512 : Shape := ⟨2, ![512, 512]⟩

abbrev nBuf : Space → Nat
  | .hbm => 21
  | .vmem => 29
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .bf16⟩
  | .hbm, ⟨3, _⟩ => ⟨S65536x10240, .bf16⟩
  | .hbm, ⟨4, _⟩ => ⟨S65536x1024, .f32⟩
  | .hbm, ⟨5, _⟩ => ⟨S3x1024x1024, .f32⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S3x1024x1024, .bf16⟩
  | .hbm, ⟨11, _⟩ => ⟨S1024x1024, .bf16⟩
  | .hbm, ⟨12, _⟩ => ⟨S1x1024, .f32⟩
  | .hbm, ⟨13, _⟩ => ⟨S32x1024, .f32⟩
  | .hbm, ⟨14, _⟩ => ⟨S32x1024, .bf16⟩
  | .hbm, ⟨15, _⟩ => ⟨S32x1, .f32⟩
  | .hbm, ⟨16, _⟩ => ⟨S32768x1024, .f32⟩
  | .hbm, ⟨17, _⟩ => ⟨S32768x1024, .bf16⟩
  | .hbm, ⟨18, _⟩ => ⟨S8x32768, .i32⟩
  | .hbm, ⟨19, _⟩ => ⟨S8x32768, .f32⟩
  | .hbm, ⟨20, _⟩ => ⟨S32x1, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S3x1024x1024, .bf16⟩
  | .local _ .vmem, ⟨15, _⟩ => ⟨S1024x1024, .bf16⟩
  | .local _ .vmem, ⟨16, _⟩ => ⟨S1x1024, .f32⟩
  | .local _ .vmem, ⟨17, _⟩ => ⟨S32x1024, .bf16⟩
  | .local _ .vmem, ⟨18, _⟩ => ⟨S32x1, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S8x512, .i32⟩
  | .local _ .vmem, ⟨24, _⟩ => ⟨S8x512, .i32⟩
  | .local _ .vmem, ⟨25, _⟩ => ⟨S8x512, .f32⟩
  | .local _ .vmem, ⟨26, _⟩ => ⟨S8x512, .f32⟩
  | .local _ .vmem, ⟨27, _⟩ => ⟨S32x1, .f32⟩
  | .local _ .vmem, ⟨28, _⟩ => ⟨S32x1, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c7_i32 : BitVec 32 := 7#32
  let c0_i32_0 : BitVec 32 := 0#32
  ![v0.toNat, c7_i32.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c8_i32 : BitVec 32 := 8#32
  let c0_i32_0 : BitVec 32 := 0#32
  ![v0.toNat, c8_i32.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c9_i32 : BitVec 32 := 9#32
  let c0_i32_0 : BitVec 32 := 0#32
  ![v0.toNat, c9_i32.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S32x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MergeLowReferenceIdeal.lean ====
abbrev S65536x1024 : Shape := ⟨2, ![65536, 1024]⟩
abbrev S65536x10240 : Shape := ⟨2, ![65536, 10240]⟩
abbrev S3x1024x1024 : Shape := ⟨3, ![3, 1024, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S65536x1x1024 : Shape := ⟨3, ![65536, 1, 1024]⟩
abbrev S65536x3x1024 : Shape := ⟨3, ![65536, 3, 1024]⟩
abbrev S32768x3x1024 : Shape := ⟨3, ![32768, 3, 1024]⟩
abbrev S3x1024x32768 : Shape := ⟨3, ![3, 1024, 32768]⟩
abbrev S32768x3072 : Shape := ⟨2, ![32768, 3072]⟩
abbrev S_ : Shape := ⟨0, ![]⟩
abbrev S32768x1024 : Shape := ⟨2, ![32768, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .bf16⟩
  | .hbm, ⟨3, _⟩ => ⟨S65536x10240, .bf16⟩
  | .hbm, ⟨4, _⟩ => ⟨S65536x1024, .f32⟩
  | .hbm, ⟨5, _⟩ => ⟨S3x1024x1024, .f32⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S65536x1x1024, .bf16⟩
  | .hbm, ⟨11, _⟩ => ⟨S65536x1x1024, .bf16⟩
  | .hbm, ⟨12, _⟩ => ⟨S65536x1x1024, .bf16⟩
  | .hbm, ⟨13, _⟩ => ⟨S65536x3x1024, .bf16⟩
  | .hbm, ⟨14, _⟩ => ⟨S32768x3x1024, .bf16⟩
  | .hbm, ⟨15, _⟩ => ⟨S32768x3x1024, .f32⟩
  | .hbm, ⟨16, _⟩ => ⟨S3x1024x32768, .f32⟩
  | .hbm, ⟨17, _⟩ => ⟨S32768x3x1024, .f32⟩
  | .hbm, ⟨18, _⟩ => ⟨S32768x3072, .bf16⟩
  | .hbm, ⟨19, _⟩ => ⟨S32768x3072, .f32⟩
  | .hbm, ⟨20, _⟩ => ⟨S32768x3x1024, .f32⟩
  | .hbm, ⟨21, _⟩ => ⟨S32768x3x1024, .f32⟩
  | .hbm, ⟨22, _⟩ => ⟨S32768x3x1024, .f32⟩
  | .hbm, ⟨23, _⟩ => ⟨S_, .f32⟩
  | .hbm, ⟨24, _⟩ => ⟨S32768x3x1024, .f32⟩
  | .hbm, ⟨25, _⟩ => ⟨S32768x3x1024, .f32⟩
  | .hbm, ⟨26, _⟩ => ⟨S_, .f32⟩
  | .hbm, ⟨27, _⟩ => ⟨S32768x3x1024, .f32⟩
  | .hbm, ⟨28, _⟩ => ⟨S32768x3x1024, .f32⟩
  | .hbm, ⟨29, _⟩ => ⟨S32768x1024, .f32⟩
  | .hbm, ⟨30, _⟩ => ⟨S32768x3x1024, .f32⟩
  | .hbm, ⟨31, _⟩ => ⟨S_, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S32768x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== MergeHigh.lean ====
abbrev S65536x1024 : Shape := ⟨2, ![65536, 1024]⟩
abbrev S65536x10240 : Shape := ⟨2, ![65536, 10240]⟩
abbrev S3x1024x1024 : Shape := ⟨3, ![3, 1024, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1x1024 : Shape := ⟨2, ![1, 1024]⟩
abbrev S32x1024 : Shape := ⟨2, ![32, 1024]⟩
abbrev S32x1 : Shape := ⟨2, ![32, 1]⟩
abbrev S32768x1024 : Shape := ⟨2, ![32768, 1024]⟩
abbrev S8x32768 : Shape := ⟨2, ![8, 32768]⟩
abbrev S512x1024 : Shape := ⟨2, ![512, 1024]⟩
abbrev S8x512 : Shape := ⟨2, ![8, 512]⟩
abbrev S1x1024x1024 : Shape := ⟨3, ![1, 1024, 1024]⟩
abbrev S512 : Shape := ⟨1, ![512]⟩
abbrev S512x1 : Shape := ⟨2, ![512, 1]⟩
abbrev S32x512 : Shape := ⟨2, ![32, 512]⟩
abbrev S1x512 : Shape := ⟨2, ![1, 512]⟩
abbrev S512x512 : Shape := ⟨2, ![512, 512]⟩

abbrev nBuf : Space → Nat
  | .hbm => 21
  | .vmem => 29
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .bf16⟩
  | .hbm, ⟨3, _⟩ => ⟨S65536x10240, .bf16⟩
  | .hbm, ⟨4, _⟩ => ⟨S65536x1024, .f32⟩
  | .hbm, ⟨5, _⟩ => ⟨S3x1024x1024, .f32⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S3x1024x1024, .bf16⟩
  | .hbm, ⟨11, _⟩ => ⟨S1024x1024, .bf16⟩
  | .hbm, ⟨12, _⟩ => ⟨S1x1024, .f32⟩
  | .hbm, ⟨13, _⟩ => ⟨S32x1024, .f32⟩
  | .hbm, ⟨14, _⟩ => ⟨S32x1024, .bf16⟩
  | .hbm, ⟨15, _⟩ => ⟨S32x1, .f32⟩
  | .hbm, ⟨16, _⟩ => ⟨S32768x1024, .f32⟩
  | .hbm, ⟨17, _⟩ => ⟨S32768x1024, .bf16⟩
  | .hbm, ⟨18, _⟩ => ⟨S8x32768, .i32⟩
  | .hbm, ⟨19, _⟩ => ⟨S8x32768, .f32⟩
  | .hbm, ⟨20, _⟩ => ⟨S32x1, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S3x1024x1024, .bf16⟩
  | .local _ .vmem, ⟨15, _⟩ => ⟨S1024x1024, .bf16⟩
  | .local _ .vmem, ⟨16, _⟩ => ⟨S1x1024, .f32⟩
  | .local _ .vmem, ⟨17, _⟩ => ⟨S32x1024, .bf16⟩
  | .local _ .vmem, ⟨18, _⟩ => ⟨S32x1, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S8x512, .i32⟩
  | .local _ .vmem, ⟨24, _⟩ => ⟨S8x512, .i32⟩
  | .local _ .vmem, ⟨25, _⟩ => ⟨S8x512, .f32⟩
  | .local _ .vmem, ⟨26, _⟩ => ⟨S8x512, .f32⟩
  | .local _ .vmem, ⟨27, _⟩ => ⟨S32x1, .f32⟩
  | .local _ .vmem, ⟨28, _⟩ => ⟨S32x1, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.addi c64_i32 arg0
  let c7_i32 : BitVec 32 := 7#32
  let c0_i32 : BitVec 32 := 0#32
  ![v0.toNat, c7_i32.toNat]

def cc0_transform_4 (i : grid0.Coords) : Fin 2 → Nat :=
  let arg0 : BitVec 32 := BitVec.ofNat 32 (i 0).val
  let c64_i32 : BitVec 32 := 64#32
  let v0 : BitVec 32 := Scalar.addi c64_i32 arg0
  let c8_i32 : BitVec 32 := 8#32
  let c0_i32 : BitVec 32 := 0#32
  ![v0.toNat, c8_i32.toNat]

def cc0_transform_5 (i : grid0.Coords) : Fin 2 → Nat :=
  let arg0 : BitVec 32 := BitVec.ofNat 32 (i 0).val
  let c64_i32 : BitVec 32 := 64#32
  let v0 : BitVec 32 := Scalar.addi c64_i32 arg0
  let c9_i32 : BitVec 32 := 9#32
  let c0_i32 : BitVec 32 := 0#32
  ![v0.toNat, c9_i32.toNat]

def cc0_transform_6 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S32x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MergeHighReferenceIdeal.lean ====
abbrev S65536x1024 : Shape := ⟨2, ![65536, 1024]⟩
abbrev S65536x10240 : Shape := ⟨2, ![65536, 10240]⟩
abbrev S3x1024x1024 : Shape := ⟨3, ![3, 1024, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S65536x1x1024 : Shape := ⟨3, ![65536, 1, 1024]⟩
abbrev S65536x3x1024 : Shape := ⟨3, ![65536, 3, 1024]⟩
abbrev S32768x3x1024 : Shape := ⟨3, ![32768, 3, 1024]⟩
abbrev S3x1024x32768 : Shape := ⟨3, ![3, 1024, 32768]⟩
abbrev S32768x3072 : Shape := ⟨2, ![32768, 3072]⟩
abbrev S_ : Shape := ⟨0, ![]⟩
abbrev S32768x1024 : Shape := ⟨2, ![32768, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .bf16⟩
  | .hbm, ⟨3, _⟩ => ⟨S65536x10240, .bf16⟩
  | .hbm, ⟨4, _⟩ => ⟨S65536x1024, .f32⟩
  | .hbm, ⟨5, _⟩ => ⟨S3x1024x1024, .f32⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S65536x1x1024, .bf16⟩
  | .hbm, ⟨11, _⟩ => ⟨S65536x1x1024, .bf16⟩
  | .hbm, ⟨12, _⟩ => ⟨S65536x1x1024, .bf16⟩
  | .hbm, ⟨13, _⟩ => ⟨S65536x3x1024, .bf16⟩
  | .hbm, ⟨14, _⟩ => ⟨S32768x3x1024, .bf16⟩
  | .hbm, ⟨15, _⟩ => ⟨S32768x3x1024, .f32⟩
  | .hbm, ⟨16, _⟩ => ⟨S3x1024x32768, .f32⟩
  | .hbm, ⟨17, _⟩ => ⟨S32768x3x1024, .f32⟩
  | .hbm, ⟨18, _⟩ => ⟨S32768x3072, .bf16⟩
  | .hbm, ⟨19, _⟩ => ⟨S32768x3072, .f32⟩
  | .hbm, ⟨20, _⟩ => ⟨S32768x3x1024, .f32⟩
  | .hbm, ⟨21, _⟩ => ⟨S32768x3x1024, .f32⟩
  | .hbm, ⟨22, _⟩ => ⟨S32768x3x1024, .f32⟩
  | .hbm, ⟨23, _⟩ => ⟨S_, .f32⟩
  | .hbm, ⟨24, _⟩ => ⟨S32768x3x1024, .f32⟩
  | .hbm, ⟨25, _⟩ => ⟨S32768x3x1024, .f32⟩
  | .hbm, ⟨26, _⟩ => ⟨S_, .f32⟩
  | .hbm, ⟨27, _⟩ => ⟨S32768x3x1024, .f32⟩
  | .hbm, ⟨28, _⟩ => ⟨S32768x3x1024, .f32⟩
  | .hbm, ⟨29, _⟩ => ⟨S32768x1024, .f32⟩
  | .hbm, ⟨30, _⟩ => ⟨S32768x3x1024, .f32⟩
  | .hbm, ⟨31, _⟩ => ⟨S_, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S32768x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Proof.Ref.lean ====
/- The reference's run, and what it computes. -/
module

public import proofs.«01_k».proof.Defs
public import proofs.«01_k».proof.Proof.Gen.ReferenceIdeal
public import Idealize.ShloMosaic.Lib.Pointwise
public import Idealize.ShloMosaic.Lib.Claim
public import Idealize.ShloMosaic.Lib.Quiescent

@[expose] public section

set_option maxRecDepth 16384

noncomputable section

namespace Cert.ReferenceIdeal.Fox

open Cert.ReferenceIdeal Cert.ReferenceIdeal.Gen
open Idealize.ShloMosaic Idealize.ShloMosaic.TcCoe
open Idealize.SL.Sem

/-! ## The reference's values -/

variable (X : FVec Ideal S65536x10240 .bf16) (Y : FVec Ideal S65536x128 .f32)

/-- A part of the projected rows, head by head. -/
def heads (off : Fin 2 → ℕ) (h : S65536x10240.Slices off S65536x1024) : FVec Ideal S16x8x4096x128 .f32 :=
  transpose S16x8x4096x128 [0, 2, 1, 3] (shapeCast S16x4096x8x128 (extf .f32 (extractStridedSlice S65536x1024 off X h) bitsLt_bf16_f32)
    shapeCasts_S65536x1024_S16x4096x8x128) transposes_S16x4096x8x128_S16x8x4096x128_0_2_1_3

/-- The log-forget sums, head by head. -/
def sums : FVec Ideal S16x8x4096 .f32 :=
  transpose S16x8x4096 [0, 2, 1] (shapeCast S16x4096x8 (mulf (extractStridedSlice S65536x8 ![0, 8] Y slices_S65536x128_S65536x8_0_8)
    (broadcastInDim S65536x8 ![] bcast_S_S65536x8 (Host.negf (Host.log (constant S_ .f32 0x40000000#32)))))
    shapeCasts_S65536x8_S16x4096x8) transposes_S16x4096x8_S16x8x4096_0_2_1

/-- The scores, before the mask. -/
def scores (q k : FVec Ideal S16x8x4096x128 .f32) (c : FVec Ideal S16x8x4096 .f32) : FVec Ideal S16x8x4096x4096 .f32 :=
  subf (addf (Host.divf (Host.dotGeneral dot_S16x8x4096x128_S16x8x4096x128_S16x8x4096x4096_3_3_2_2_01_01 none q k)
      (broadcastInDim S16x8x4096x4096 ![] bcast_S_S16x8x4096x4096 (Host.sqrt (constant S_ .f32 0x43000000#32))))
    (broadcastInDim S16x8x4096x4096 ![0, 1, 2, 3] bcast_S16x8x4096x1_S16x8x4096x4096_0_1_2_3 (broadcastInDim S16x8x4096x1 ![0, 1, 2] bcast_S16x8x4096_S16x8x4096x1_0_1_2 c)))
    (broadcastInDim S16x8x4096x4096 ![0, 1, 2, 3] bcast_S16x8x1x4096_S16x8x4096x4096_0_1_2_3 (broadcastInDim S16x8x1x4096 ![0, 1, 3] bcast_S16x8x4096_S16x8x1x4096_0_1_3 c))

/-- Keys after the query score nothing. -/
def masked (s : FVec Ideal S16x8x4096x4096 .f32) : FVec Ideal S16x8x4096x4096 .f32 :=
  select (broadcastInDim S16x8x4096x4096 ![2, 3] bcast_S4096x4096_S16x8x4096x4096_2_3
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    s (broadcastInDim S16x8x4096x4096 ![] bcast_S_S16x8x4096x4096 (constant S_ .f32 0xFF800000#32))

/-- A number per query, at every key. -/
def perQuery (x : FVec Ideal S16x8x4096 .f32) : FVec Ideal S16x8x4096x4096 .f32 :=
  broadcastInDim S16x8x4096x4096 ![0, 1, 2, 3] bcast_S16x8x4096x1_S16x8x4096x4096_0_1_2_3 (broadcastInDim S16x8x4096x1 ![0, 1, 2] bcast_S16x8x4096_S16x8x4096x1_0_1_2 x)

def top (s : FVec Ideal S16x8x4096x4096 .f32) : FVec Ideal S16x8x4096 .f32 :=
  maximumf (broadcastInDim S16x8x4096 ![] bcast_S_S16x8x4096 (constant S_ .f32 0xFF800000#32))
    (Host.reduce FloatOps.maximumf s (constant S_ .f32 0xFF800000#32) reducesTo_S16x8x4096x4096_S16x8x4096_d3 h_S_)

def expo (s : FVec Ideal S16x8x4096x4096 .f32) : FVec Ideal S16x8x4096x4096 .f32 := Host.exp (subf s (perQuery (top s)))

def total (e : FVec Ideal S16x8x4096x4096 .f32) : FVec Ideal S16x8x4096 .f32 :=
  Host.reduceAdd e (constant S_ .f32 0x00000000#32) reducesTo_S16x8x4096x4096_S16x8x4096_d3 h_S_

/-- The weighted values. -/
def mixed (e : FVec Ideal S16x8x4096x4096 .f32) (v : FVec Ideal S16x8x4096x128 .f32) : FVec Ideal S16x8x4096x128 .f32 :=
  Host.dotGeneral dot_S16x8x4096x4096_S16x8x4096x128_S16x8x4096x128_3_2_2_3_01_01 none (Host.divf e (perQuery (total e))) v

/-- The heads side by side again. -/
def merged (o : FVec Ideal S16x8x4096x128 .f32) : FVec Ideal S65536x1024 .bf16 :=
  truncf .bf16 (shapeCast S65536x1024 (transpose S16x4096x8x128 [0, 2, 1, 3] o transposes_S16x8x4096x128_S16x4096x8x128_0_2_1_3)
    shapeCasts_S16x4096x8x128_S65536x1024) bitsLt_bf16_f32

/-- The reference. -/
def ref : FVec Ideal S65536x1024 .bf16 :=
  merged (mixed (expo (masked (scores (heads X ![0, 3072] slices_S65536x10240_S65536x1024_0_3072) (heads X ![0, 4096] slices_S65536x10240_S65536x1024_0_4096) (sums Y))))
    (heads X ![0, 5120] slices_S65536x10240_S65536x1024_0_5120))

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v50) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  rfl

end Cert.ReferenceIdeal.Fox

end
-- ==== Proof.RefAt.lean ====
/- The reference's values at an index. -/
module

public import proofs.«01_k».proof.Proof.Ref
public import Idealize.ShloMosaic.Lib.Pipeline.ValueKit

@[expose] public section

set_option maxRecDepth 16384

noncomputable section

namespace Cert.ReferenceIdeal.Fox

open Cert.ReferenceIdeal Cert.ReferenceIdeal.Gen
open Idealize.ShloMosaic Idealize.ShloMosaic.TcCoe
open Idealize.SL.Sem

variable (X : FVec Ideal S65536x10240 .bf16) (Y : FVec Ideal S65536x128 .f32)
variable (b : Fin 16) (g : Fin 8) (y x : Fin 4096) (d : Fin 128)

theorem minf_bits : Ideal.ofBits .f32 0xFF800000#32 = (⊥ : EReal) := by
  simp [Ideal.ofBits, Ideal.ieee]
theorem two_bits : Ideal.ofBits .f32 0x40000000#32 = ((2 : ℝ) : EReal) := by
  norm_num [Ideal.ofBits, Ideal.ieee, BitVec.extractLsb', Nat.shiftRight_eq_div_pow]
theorem dh_bits : Ideal.ofBits .f32 0x43000000#32 = ((128 : ℝ) : EReal) := by
  norm_num [Ideal.ofBits, Ideal.ieee, BitVec.extractLsb', Nat.shiftRight_eq_div_pow]

theorem cmp_sle {a b : ℕ} (ha : a < 2 ^ 31) (hb : b < 2 ^ 31) :
    IntOp.cmpi .sle (BitVec.ofNat 32 a) (BitVec.ofNat 32 b) = BitVec.ofBool (decide (a ≤ b)) := by
  have i {n : ℕ} (h : n < 2 ^ 31) : (BitVec.ofNat 32 n).toInt = n := by
    rw [BitVec.toInt_eq_toNat_of_lt (by rw [BitVec.toNat_ofNat]; omega), BitVec.toNat_ofNat]; omega
  unfold IntOp.cmpi BitVec.sle
  simp only [i ha, i hb, Nat.cast_le]

theorem heads_at (off : ℕ) (h : S65536x10240.Slices ![0, off] S65536x1024) (h0) (h1) :
    heads X ![0, off] h (ix4 b g y d) = X (ix2 ⟨4096 * b.val + y.val, h0⟩ ⟨off + (128 * g.val + d.val), h1⟩) := by
  pointwise [heads]
  blk_point []

theorem sums_at : sums Y (ix3 b g y) = Y (ix2 ⟨4096 * b.val + y.val, by omega⟩ ⟨8 + g.val, by omega⟩) * ((-Real.log 2 : ℝ) : EReal) := by
  pointwise [sums]
  have e : -Ideal.log (Ideal.ofBits .f32 0x40000000#32) = ((-Real.log 2 : ℝ) : EReal) := by
    rw [two_bits, Ideal.log_coe, if_neg (by norm_num), EReal.coe_neg]
  rw [e]
  blk_point []

theorem scores_at (q k : FVec Ideal S16x8x4096x128 .f32) (c : FVec Ideal S16x8x4096 .f32) : scores q k c (ix4 b g y x)
    = (∑ d : Fin 128, q (ix4 b g y d) * k (ix4 b g x d)) * (((Real.sqrt 128)⁻¹ : ℝ) : EReal) + c (ix3 b g y) - c (ix3 b g x) := by
  pointwise [scores]
  have e : Ideal.sqrt (Ideal.ofBits .f32 0x43000000#32) = ((Real.sqrt 128 : ℝ) : EReal) := by
    rw [dh_bits, Ideal.sqrt_coe, if_neg (by norm_num)]
  rw [e, Ideal.div_coe (by positivity), one_div]

theorem masked_at (s : FVec Ideal S16x8x4096x4096 .f32) : masked s (ix4 b g y x) = if x.val ≤ y.val then s (ix4 b g y x) else ⊥ := by
  pointwise [masked]
  rw [cmp_sle (by omega) (by omega), minf_bits]
  by_cases h : x.val ≤ y.val <;> simp [h, Scalar.select]

theorem perQuery_at (c : FVec Ideal S16x8x4096 .f32) : perQuery c (ix4 b g y x) = c (ix3 b g y) := by
  pointwise [perQuery]

/-- A maximum along the last of four axes. -/
theorem max_at {n0 n1 n2 n3 : ℕ} (s : FVec Ideal ⟨4, ![n0, n1, n2, n3]⟩ .f32) (v : FVec Ideal S_ .f32) (h : (⟨4, ![n0, n1, n2, n3]⟩ : Shape).ReducesTo [3] ⟨3, ![n0, n1, n2]⟩)
    (hu : 0 < S_.numel) (a : Fin n0) (b : Fin n1) (c : Fin n2) :
    Host.reduce FloatOps.maximumf s v h hu (ix3 a b c) = Finset.univ.fold max (v (Shape.Idx.first hu)) fun x : Fin n3 => s (ix4 a b c x) := by
  pointwise

/-- The larger of minus infinity and a value is the value. -/
theorem floor_at (r : FVec Ideal S16x8x4096 .f32) (i : S16x8x4096.Idx) :
    maximumf (broadcastInDim S16x8x4096 ![] bcast_S_S16x8x4096 (constant S_ .f32 0xFF800000#32)) r i = r i := by
  change max (Ideal.ofBits .f32 0xFF800000#32) (r i) = r i
  rw [minf_bits, max_eq_right bot_le]

theorem top_at (s : FVec Ideal S16x8x4096x4096 .f32) : top s (ix3 b g y) = Finset.univ.fold max ⊥ fun x : Fin 4096 => s (ix4 b g y x) := by
  unfold top
  refine (floor_at _ _).trans ((max_at s (constant S_ .f32 0xFF800000#32) reducesTo_S16x8x4096x4096_S16x8x4096_d3 h_S_ b g y).trans ?_)
  rw [show constant (F := Ideal) S_ .f32 0xFF800000#32 (Shape.Idx.first h_S_) = (⊥ : EReal) from minf_bits]

theorem expo_at (s : FVec Ideal S16x8x4096x4096 .f32) : expo s (ix4 b g y x) = Ideal.exp (s (ix4 b g y x) - top s (ix3 b g y)) := by
  pointwise [expo, perQuery]

theorem total_at (e : FVec Ideal S16x8x4096x4096 .f32) : total e (ix3 b g y) = ∑ x : Fin 4096, e (ix4 b g y x) := by
  pointwise [total]

theorem mixed_at (e : FVec Ideal S16x8x4096x4096 .f32) (v : FVec Ideal S16x8x4096x128 .f32) :
    mixed e v (ix4 b g y d) = ∑ x : Fin 4096, Ideal.div (e (ix4 b g y x)) (total e (ix3 b g y)) * v (ix4 b g x d) := by
  pointwise [mixed, perQuery]

theorem merged_at (o : FVec Ideal S16x8x4096x128 .f32) :
    merged o (ix2 ⟨4096 * b.val + y.val, by omega⟩ ⟨128 * g.val + d.val, by omega⟩) = o (ix4 b g y d) := by
  pointwise [merged]

end Cert.ReferenceIdeal.Fox

end
-- ==== Proof.Math.lean ====
/- The mathematics: running softmax over the extended reals. -/
module

public import Idealize.ShloMosaic.Lib.Pointwise

@[expose] public section

noncomputable section

namespace Cert.KernelIdeal.Fox

open Idealize.ShloMosaic

theorem coe_sum {ι : Type*} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- A largest element, when one of them is real and none is above the reals. -/
theorem fold_max_real {N : Nat} (g : Fin N → EReal) (x0 : Fin N) (h0 : ∃ r : ℝ, g x0 = r) (h : ∀ x, g x = ⊥ ∨ ∃ r : ℝ, g x = r) :
    ∃ r : ℝ, Finset.univ.fold max ⊥ g = (r : EReal) := by
  have e : Finset.univ.fold max ⊥ g = Finset.univ.sup g := rfl
  rw [e]
  obtain ⟨x, -, hx⟩ := Finset.exists_mem_eq_sup Finset.univ ⟨x0, Finset.mem_univ x0⟩ g
  obtain ⟨r0, hr0⟩ := h0
  rcases h x with hb | ⟨r, hr⟩
  · have : g x0 ≤ Finset.univ.sup g := Finset.le_sup (Finset.mem_univ x0)
    rw [hx, hb, hr0] at this
    exact absurd (le_bot_iff.mp this) (EReal.coe_ne_bot r0)
  · exact ⟨r, hx.trans hr⟩

theorem exp2_sub (a b : ℝ) : Ideal.exp2 ((a : EReal) - (b : EReal)) = (((2 : ℝ) ^ (a - b) : ℝ) : EReal) := by
  rw [← EReal.coe_sub, Ideal.exp2_coe]; rfl

theorem exp2_bot_sub (b : ℝ) : Ideal.exp2 ((⊥ : EReal) - (b : EReal)) = 0 := by
  rw [EReal.bot_sub, Ideal.exp2_bot]

/-- What a query's running maximum and accumulators are after `n` keys: nothing yet, or sums of the weights relative to
    some real number. -/
def RunAt (s : ℕ → ℝ) (w : ℕ → ℕ → ℝ) (n : ℕ) (m : EReal) (a : Fin 144 → EReal) : Prop :=
  (n = 0 ∧ m = ⊥ ∧ ∀ r, a r = 0) ∨
    ∃ μ : ℝ, m = (μ : EReal) ∧ ∀ r : Fin 144, a r = ((∑ x ∈ Finset.range n, (2 : ℝ) ^ (s x - μ) * w x r.val : ℝ) : EReal)

/-- The next tile, of which the first `N` keys count. -/
theorem RunAt.step {s : ℕ → ℝ} {w : ℕ → ℕ → ℝ} {n : ℕ} {m : EReal} {a : Fin 144 → EReal} (h : RunAt s w n m a)
    (N : ℕ) (hN : 0 < N) (hN' : N ≤ 512) (g : Fin 512 → EReal) (hg : ∀ x : Fin 512, g x = if x.val < N then ((s (n + x.val) : ℝ) : EReal) else ⊥)
    (v : Fin 144 → Fin 512 → EReal) (hv : ∀ r x, v r x = ((w (n + x.val) r.val : ℝ) : EReal)) :
    RunAt s w (n + N) (max m (Finset.univ.fold max ⊥ g)) (fun r =>
      Ideal.exp2 (m - max m (Finset.univ.fold max ⊥ g)) * a r
        + ∑ x : Fin 512, v r x * Ideal.exp2 (g x - max m (Finset.univ.fold max ⊥ g))) := by
  obtain ⟨t, ht⟩ := fold_max_real g ⟨0, by omega⟩ ⟨_, by rw [hg, if_pos hN]⟩ (fun x => by
    rw [hg]; split
    · exact .inr ⟨_, rfl⟩
    · exact .inl rfl)
  have hm : ∃ μ : ℝ, max m (Finset.univ.fold max ⊥ g) = (μ : EReal) := by
    rw [ht]
    rcases h with ⟨-, hm, -⟩ | ⟨μ, hm, -⟩
    · exact ⟨t, by rw [hm]; exact max_eq_right bot_le⟩
    · exact ⟨max μ t, by rw [hm]; exact (EReal.coe_strictMono.monotone.map_max).symm⟩
  obtain ⟨μ', hμ'⟩ := hm
  rw [hμ']
  refine .inr ⟨μ', rfl, fun r => ?_⟩
  have h2 : ∑ x : Fin 512, v r x * Ideal.exp2 (g x - (μ' : EReal))
      = ((∑ x ∈ Finset.range N, (2 : ℝ) ^ (s (n + x) - μ') * w (n + x) r.val : ℝ) : EReal) := by
    have : ∀ x : Fin 512, v r x * Ideal.exp2 (g x - (μ' : EReal))
        = (((if x.val < N then (2 : ℝ) ^ (s (n + x.val) - μ') * w (n + x.val) r.val else 0) : ℝ) : EReal) := by
      intro x
      rw [hv, hg]
      split
      · rw [exp2_sub, ← EReal.coe_mul, mul_comm]
      · rw [exp2_bot_sub, mul_zero, EReal.coe_zero]
    rw [Finset.sum_congr rfl fun x _ => this x, coe_sum,
      Fin.sum_univ_eq_sum_range (fun x => if x < N then (2 : ℝ) ^ (s (n + x) - μ') * w (n + x) r.val else 0) 512,
      ← Finset.sum_filter]
    congr 2
    ext x
    simp only [Finset.mem_filter, Finset.mem_range]
    omega
  have h1 : Ideal.exp2 (m - (μ' : EReal)) * a r = ((∑ x ∈ Finset.range n, (2 : ℝ) ^ (s x - μ') * w x r.val : ℝ) : EReal) := by
    rcases h with ⟨hn, hm, ha⟩ | ⟨μ, hm, ha⟩
    · rw [ha, mul_zero, hn, Finset.range_zero, Finset.sum_empty, EReal.coe_zero]
    · rw [hm, ha, exp2_sub, ← EReal.coe_mul, Finset.mul_sum]
      congr 1
      refine Finset.sum_congr rfl fun x _ => ?_
      rw [← mul_assoc, ← Real.rpow_add (by norm_num : (0 : ℝ) < 2)]
      congr 2; ring
  dsimp only
  rw [h1, h2, ← EReal.coe_add, Finset.sum_range_add]

/-- The quotient of an accumulator by the sum of the weights does not depend on what they are relative to. -/
theorem RunAt.out {s : ℕ → ℝ} {w : ℕ → ℕ → ℝ} {n : ℕ} {m : EReal} {a : Fin 144 → EReal} (h : RunAt s w n m a) (hn : 0 < n)
    (l : Fin 144) (hl : ∀ x, w x l.val = 1) (r : Fin 144) :
    Ideal.div (a r) (a l) = (((∑ x ∈ Finset.range n, (2 : ℝ) ^ s x * w x r.val) / (∑ x ∈ Finset.range n, (2 : ℝ) ^ s x) : ℝ) : EReal) := by
  rcases h with ⟨h0, -, -⟩ | ⟨μ, -, ha⟩
  · omega
  have e : ∀ f : ℕ → ℝ, ∑ x ∈ Finset.range n, (2 : ℝ) ^ (s x - μ) * f x = (2 : ℝ) ^ (-μ) * ∑ x ∈ Finset.range n, (2 : ℝ) ^ s x * f x := by
    intro f
    rw [Finset.mul_sum]
    refine Finset.sum_congr rfl fun x _ => ?_
    rw [← mul_assoc, ← Real.rpow_add (by norm_num : (0 : ℝ) < 2)]
    congr 2; ring
  have hp : 0 < ∑ x ∈ Finset.range n, (2 : ℝ) ^ s x :=
    Finset.sum_pos (fun x _ => Real.rpow_pos_of_pos (by norm_num) _) ⟨0, Finset.mem_range.mpr hn⟩
  have hμ : (0 : ℝ) < (2 : ℝ) ^ (-μ) := Real.rpow_pos_of_pos (by norm_num) _
  rw [ha, ha, e, e]
  simp only [hl, mul_one]
  rw [Ideal.div_coe (mul_pos hμ hp).ne', ← EReal.coe_mul]
  congr 1
  field_simp

end Cert.KernelIdeal.Fox

end
-- ==== Proof.Soft.lean ====
/- The softmax of a row of scores that ends at its query, and the mean it takes of the values. -/
module

public import proofs.«01_k».proof.Proof.Math

@[expose] public section

noncomputable section

namespace Cert.ReferenceIdeal.Fox

open Idealize.ShloMosaic
open Cert.KernelIdeal.Fox (coe_sum fold_max_real)

/-- A sum over all keys of what is zero after the query. -/
theorem sum_upto {N : ℕ} (y : Fin N) (f : ℕ → ℝ) : ∑ x : Fin N, (if x.val ≤ y.val then f x.val else 0) = ∑ x ∈ Finset.range (y.val + 1), f x := by
  rw [← Finset.sum_range (fun x => if x ≤ y.val then f x else 0), ← Finset.sum_filter]
  congr 1
  ext x
  have := y.isLt
  simp only [Finset.mem_filter, Finset.mem_range]
  omega

theorem softmax {N : ℕ} (y : Fin N) (t v : ℕ → ℝ) (g : Fin N → EReal) (hg : ∀ x, g x = if x.val ≤ y.val then ((t x.val : ℝ) : EReal) else ⊥) :
    ∑ x : Fin N, Ideal.div (Ideal.exp (g x - Finset.univ.fold max ⊥ g)) (∑ x : Fin N, Ideal.exp (g x - Finset.univ.fold max ⊥ g)) * ((v x.val : ℝ) : EReal)
      = (((∑ x ∈ Finset.range (y.val + 1), Real.exp (t x) * v x) / ∑ x ∈ Finset.range (y.val + 1), Real.exp (t x) : ℝ) : EReal) := by
  obtain ⟨M, hM⟩ := fold_max_real g y ⟨t y.val, by rw [hg, if_pos le_rfl]⟩ (fun x => by
    rw [hg]; split
    · exact .inr ⟨_, rfl⟩
    · exact .inl rfl)
  rw [hM]
  have he (x : Fin N) : Ideal.exp (g x - (M : EReal)) = ((if x.val ≤ y.val then Real.exp (t x.val - M) else 0 : ℝ) : EReal) := by
    rw [hg]
    by_cases h : x.val ≤ y.val
    · rw [if_pos h, if_pos h, ← EReal.coe_sub, Ideal.exp_coe]
    · rw [if_neg h, if_neg h, EReal.bot_sub, Ideal.exp_bot, EReal.coe_zero]
  have hpos : 0 < ∑ x ∈ Finset.range (y.val + 1), Real.exp (t x) := Finset.sum_pos (fun _ _ => Real.exp_pos _) ⟨0, by simp⟩
  have hT : ∑ x : Fin N, Ideal.exp (g x - (M : EReal)) = ((Real.exp (-M) * ∑ x ∈ Finset.range (y.val + 1), Real.exp (t x) : ℝ) : EReal) := by
    rw [Finset.sum_congr rfl fun x _ => he x, coe_sum, sum_upto y fun x => Real.exp (t x - M), Finset.mul_sum]
    congr 1
    exact Finset.sum_congr rfl fun x _ => by rw [← Real.exp_add, neg_add_eq_sub]
  have hne := (mul_pos (Real.exp_pos (-M)) hpos).ne'
  rw [hT, Finset.sum_congr rfl fun x _ => (show _ = (((if x.val ≤ y.val then Real.exp (t x.val - M)
      * (1 / (Real.exp (-M) * ∑ x ∈ Finset.range (y.val + 1), Real.exp (t x))) * v x.val else 0 : ℝ)) : EReal) by
    rw [he, Ideal.div_coe hne, ← EReal.coe_mul, ← EReal.coe_mul]
    congr 1
    split <;> simp), coe_sum,
    sum_upto y fun x => Real.exp (t x - M) * (1 / (Real.exp (-M) * ∑ x ∈ Finset.range (y.val + 1), Real.exp (t x))) * v x, Finset.sum_div]
  congr 1
  refine Finset.sum_congr rfl fun x _ => ?_
  rw [sub_eq_add_neg, Real.exp_add]
  field_simp

end Cert.ReferenceIdeal.Fox

end
-- ==== Proof.Mem.lean ====
/- What the kernel's buffers hold, as plain functions of an index, and the rule for running a load, a store and a
   counted loop over them. A state is one function per buffer; a program is run by rewriting the state. -/
module

public import proofs.«01_k».proof.Proof.Gen.KernelIdeal.Frame.Runs
public import proofs.«01_k».proof.Proof.Gen.KernelIdeal.Skeleton

@[expose] public section

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The kernel's ten buffers: the queries, keys, values and log-forget sums of a batch row, the output, and the five
    scratch buffers (extended keys, transposed values, running maxima, accumulators, scores). -/
structure Mems where
  q : Memref sig .tc .vmem S1x4096x256 .bf16
  k : Memref sig .tc .vmem S1x4096x256 .bf16
  v : Memref sig .tc .vmem S1x4096x256 .bf16
  c : Memref sig .tc .vmem S1x4096x128 .f32
  o : Memref sig .tc .vmem S1x4096x256 .bf16
  kx : Memref sig .tc .vmem S2x4096x256 .bf16
  vt : Memref sig .tc .vmem S2x8x144x512 .bf16
  mx : Memref sig .tc .vmem S2x2x1x512 .f32
  ac : Memref sig .tc .vmem S2x2x144x512 .f32
  sc : Memref sig .tc .vmem S2x2x512x512 .f32
  ho : o.IsWhole
  hkx : kx.IsWhole
  hvt : vt.IsWhole

/-- What the ten buffers hold. -/
structure St (F : FTy → Type) where
  q : Vec F S1x4096x256 .bf16
  k : Vec F S1x4096x256 .bf16
  v : Vec F S1x4096x256 .bf16
  c : Vec F S1x4096x128 .f32
  o : Vec F S1x4096x256 .bf16
  kx : Vec F S2x4096x256 .bf16
  vt : Vec F S2x8x144x512 .bf16
  mx : Vec F S2x2x1x512 .f32
  ac : Vec F S2x2x144x512 .f32
  sc : Vec F S2x2x512x512 .f32

/-- The core owns the ten buffers at the state's contents. -/
def Own (c : Dev nD) (M : Mems) (st : St F) : sProp 𝕄 :=
  iprop(owns (c : Thread nD τ) M.q fullShare st.q ∗ owns (c : Thread nD τ) M.k fullShare st.k
    ∗ owns (c : Thread nD τ) M.v fullShare st.v ∗ owns (c : Thread nD τ) M.c fullShare st.c
    ∗ owns (c : Thread nD τ) M.o fullShare st.o ∗ owns (c : Thread nD τ) M.kx fullShare st.kx
    ∗ owns (c : Thread nD τ) M.vt fullShare st.vt ∗ owns (c : Thread nD τ) M.mx fullShare st.mx
    ∗ owns (c : Thread nD τ) M.ac fullShare st.ac ∗ owns (c : Thread nD τ) M.sc fullShare st.sc)

/-- The programs of the kernel's core. -/
abbrev PG (F : FTy → Type) [FloatOps F] [Named F] (α : Type) := Prog (TpuEff nD τ sig (Elt F) Λ₀ .tc) α

/-- From state `st` the program runs without fault to a state of which `Q` holds. -/
def T (c : Dev nD) (M : Mems) (st : St F) (p : PG F Unit) (Q : St F → Prop) : Prop :=
  (Own c M st : sProp 𝕄) ⊢ wp frame (wpE (defs₀ (F := F)) Variants.none c none) Set.univ p
    (fun _ => iprop(∃ st', ⌜Q st'⌝ ∗ Own c M st'))

theorem T.mono {c : Dev nD} {M : Mems} {st : St F} {p : PG F Unit} {Q Q' : St F → Prop}
    (h : T c M st p Q) (hQ : ∀ s, Q s → Q' s) : T c M st p Q' := by
  unfold T at h ⊢
  iintro H
  iapply (wp_wand_r frame (wpE (defs₀ (F := F)) Variants.none c none) Set.univ)
  isplitl [H]
  · iapply h; iexact H
  · iintro %a ⟨%s, %hs, H⟩
    iexists s; isplitr
    · ipureintro; exact hQ s hs
    · iexact H

theorem T.ret {c : Dev nD} {M : Mems} {st : St F} {Q : St F → Prop} (h : Q st) :
    T c M st (.ret ⟨⟩) Q := by
  unfold T
  iintro H
  sl_step
  iexists st; isplitr
  · ipureintro; exact h
  · iexact H

/-- Reading a rectangle of an owned buffer. -/
theorem owns_load {c : Dev nD} {sh : Shape} {e : EltTy} {m : Memref sig .tc .vmem sh e} {X : Vec F sh e}
    {r : Rect sh} {hl : m.view.LoadsAt r.toLoadRect} {α : Type} {k : (r.shape.Idx → Elt F e) → PG F α} {Q : α → sProp 𝕄} :
    (owns (c : Thread nD τ) m fullShare X : sProp 𝕄)
      ⊢ iprop((owns (c : Thread nD τ) m fullShare X
          -∗ wp frame (wpE (defs₀ (F := F)) Variants.none c none) Set.univ (k (fun y => X (r.emb y))) Q)
        -∗ wp frame (wpE (defs₀ (F := F)) Variants.none c none) Set.univ (.op (.load m r.toLoadRect hl) k) Q) := by
  unfold owns
  iintro ⟨%f, %hf, H⟩ HK
  subst hf
  iapply (wp_load_rect (defs := defs₀ (F := F)) (m := m) (r := r) (hl := hl) (k := k) (Q := Q) (c := (c : Thread nD τ)) Variants.none none Set.univ (S := m.view.set) (q := fullShare) (f := f) ?_) $$ H
  · exact View.set_slice_subset _ _
  · iintro H
    iapply HK
    iexists f; isplitr
    · ipureintro; rfl
    · iexact H

/-- Writing a rectangle of an owned buffer. -/
theorem owns_store {c : Dev nD} {sh : Shape} {e : EltTy} {m : Memref sig .tc .vmem sh e} {X : Vec F sh e}
    {r : Rect sh} {w : r.shape.Idx → Elt F e} {hx : (m.access r).Stores Finset.univ} {hm}
    {α : Type} {k : PUnit → PG F α} {Q : α → sProp 𝕄} :
    (owns (c : Thread nD τ) m fullShare X : sProp 𝕄)
      ⊢ iprop((owns (c : Thread nD τ) m fullShare (r.overlay X w)
          -∗ wp frame (wpE (defs₀ (F := F)) Variants.none c none) Set.univ (k ⟨⟩) Q)
        -∗ wp frame (wpE (defs₀ (F := F)) Variants.none c none) Set.univ (.op (.store m r w Finset.univ hx hm) k) Q) := by
  unfold owns
  iintro ⟨%f, %hf, H⟩ HK
  subst hf
  iapply (wp_store (defs := defs₀ (F := F)) (m := m) (r := r) (w := w) (hx := hx) (hm := hm) (k := k) (Q := Q) (c := (c : Thread nD τ)) Variants.none none Set.univ (S := m.view.set) (f := f) ?_) $$ H
  · exact View.set_slice_subset _ _
  · iintro H
    iapply HK
    iexists ((m.access r).write (Elt F) f w Finset.univ); isplitr
    · ipureintro
      funext y
      by_cases hy : y ∈ Finset.univ.map r.emb
      · obtain ⟨x, -, rfl⟩ := Finset.mem_map.mp hy
        rw [Rect.overlay_emb]
        exact View.read_slice_write_emb (v := m.view) (Val := Elt F) r f w (Finset.mem_univ x)
      · rw [Rect.overlay_of_not_mem _ _ _ (by rwa [Rect.map_emb_univ] at hy)]
        exact View.read_slice_write_of_not_mem (v := m.view) (Val := Elt F) r f w Finset.univ hy
    · iexact H

/-- One of the ten buffers, as a part of the state. -/
structure Cell (M : Mems) (sh : Shape) (e : EltTy) where
  m : Memref sig .tc .vmem sh e
  get : St F → Vec F sh e
  set : St F → Vec F sh e → St F
  set_get : ∀ st, set st (get st) = st
  acc : ∀ (c : Dev nD) (st : St F), (Own c M st : sProp 𝕄)
    ⊢ iprop(owns (c : Thread nD τ) m fullShare (get st) ∗ (∀ X, owns (c : Thread nD τ) m fullShare X -∗ Own c M (set st X)))

theorem Cell.load {c : Dev nD} {M : Mems} {sh : Shape} {e : EltTy} (cl : Cell (F := F) M sh e) {st : St F}
    {r : Rect sh} {hl : cl.m.view.LoadsAt r.toLoadRect} {k : (r.shape.Idx → Elt F e) → PG F Unit} {Q : St F → Prop}
    (h : T c M st (k (fun y => cl.get st (r.emb y))) Q) : T c M st (.op (.load cl.m r.toLoadRect hl) k) Q := by
  unfold T at h ⊢
  iintro H
  ihave HH := (cl.acc c st) $$ H
  icases HH with ⟨H, HR⟩
  iapply owns_load $$ H
  iintro H
  iapply h
  ihave HR := HR $$ %(cl.get st) H
  rw [cl.set_get]
  iexact HR

theorem Cell.store {c : Dev nD} {M : Mems} {sh : Shape} {e : EltTy} (cl : Cell (F := F) M sh e) {st : St F}
    {r : Rect sh} {w : r.shape.Idx → Elt F e} {hx : (cl.m.access r).Stores Finset.univ} {hm} {k : PUnit → PG F Unit} {Q : St F → Prop}
    (h : T c M (cl.set st (r.overlay (cl.get st) w)) (k ⟨⟩) Q) : T c M st (.op (.store cl.m r w Finset.univ hx hm) k) Q := by
  unfold T at h ⊢
  iintro H
  ihave HH := (cl.acc c st) $$ H
  icases HH with ⟨H, HR⟩
  iapply owns_store $$ H
  iintro H
  iapply h
  iapply HR
  iexact H

/-- A counted loop, by a property of the state at each trip. -/
theorem T.loop {c : Dev nD} {M : Mems} {st : St F} {w : Nat} (l : Scf.Loop w) (hok : l.OK)
    {body : Fin l.trips → Unit → PG F Unit} {k : Unit → PG F Unit} {Q : St F → Prop} (I : Nat → St F → Prop)
    (h0 : I 0 st) (hb : ∀ (j : Fin l.trips) (s : St F), I j.val s → T c M s (body j ⟨⟩) (I (j.val + 1)))
    (hk : ∀ s, I l.trips s → T c M s (k ⟨⟩) Q) :
    T c M st (Prog.bind (Scf.Loop.for l hok ⟨⟩ body) k) Q := by
  unfold T
  iintro H
  iapply (Scf.wp_for_bind frame (wpE (defs₀ (F := F)) Variants.none c none) Set.univ l.lb l.ub l.st hok ⟨⟩ body
    (fun j _ => (iprop(∃ s, ⌜I j s⌝ ∗ Own c M s) : sProp 𝕄)) ?_) $$ [H]
  · intro j a
    iintro ⟨%s, %hs, H⟩
    have hb := hb j s hs
    unfold T at hb
    iapply hb
    iexact H
  · iexists st; isplitr
    · ipureintro; exact h0
    · iexact H
  · iintro %a ⟨%s, %hs, H⟩
    have hk := hk s hs
    unfold T at hk
    iapply hk
    iexact H

/-! ## The ten buffers -/

def cellQ (M : Mems) : Cell (F := F) M S1x4096x256 .bf16 where
  m := M.q; get := St.q; set st X := { st with q := X }; set_get _ := rfl
  acc c st := by
    unfold Own
    iintro ⟨H0, H1, H2, H3, H4, H5, H6, H7, H8, H9⟩
    isplitl [H0]; · iexact H0
    iintro %X H0
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

def cellK (M : Mems) : Cell (F := F) M S1x4096x256 .bf16 where
  m := M.k; get := St.k; set st X := { st with k := X }; set_get _ := rfl
  acc c st := by
    unfold Own
    iintro ⟨H0, H1, H2, H3, H4, H5, H6, H7, H8, H9⟩
    isplitl [H1]; · iexact H1
    iintro %X H1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

def cellV (M : Mems) : Cell (F := F) M S1x4096x256 .bf16 where
  m := M.v; get := St.v; set st X := { st with v := X }; set_get _ := rfl
  acc c st := by
    unfold Own
    iintro ⟨H0, H1, H2, H3, H4, H5, H6, H7, H8, H9⟩
    isplitl [H2]; · iexact H2
    iintro %X H2
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

def cellC (M : Mems) : Cell (F := F) M S1x4096x128 .f32 where
  m := M.c; get := St.c; set st X := { st with c := X }; set_get _ := rfl
  acc c st := by
    unfold Own
    iintro ⟨H0, H1, H2, H3, H4, H5, H6, H7, H8, H9⟩
    isplitl [H3]; · iexact H3
    iintro %X H3
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

def cellO (M : Mems) : Cell (F := F) M S1x4096x256 .bf16 where
  m := M.o; get := St.o; set st X := { st with o := X }; set_get _ := rfl
  acc c st := by
    unfold Own
    iintro ⟨H0, H1, H2, H3, H4, H5, H6, H7, H8, H9⟩
    isplitl [H4]; · iexact H4
    iintro %X H4
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

def cellKx (M : Mems) : Cell (F := F) M S2x4096x256 .bf16 where
  m := M.kx; get := St.kx; set st X := { st with kx := X }; set_get _ := rfl
  acc c st := by
    unfold Own
    iintro ⟨H0, H1, H2, H3, H4, H5, H6, H7, H8, H9⟩
    isplitl [H5]; · iexact H5
    iintro %X H5
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

def cellVt (M : Mems) : Cell (F := F) M S2x8x144x512 .bf16 where
  m := M.vt; get := St.vt; set st X := { st with vt := X }; set_get _ := rfl
  acc c st := by
    unfold Own
    iintro ⟨H0, H1, H2, H3, H4, H5, H6, H7, H8, H9⟩
    isplitl [H6]; · iexact H6
    iintro %X H6
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

def cellMx (M : Mems) : Cell (F := F) M S2x2x1x512 .f32 where
  m := M.mx; get := St.mx; set st X := { st with mx := X }; set_get _ := rfl
  acc c st := by
    unfold Own
    iintro ⟨H0, H1, H2, H3, H4, H5, H6, H7, H8, H9⟩
    isplitl [H7]; · iexact H7
    iintro %X H7
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

def cellAc (M : Mems) : Cell (F := F) M S2x2x144x512 .f32 where
  m := M.ac; get := St.ac; set st X := { st with ac := X }; set_get _ := rfl
  acc c st := by
    unfold Own
    iintro ⟨H0, H1, H2, H3, H4, H5, H6, H7, H8, H9⟩
    isplitl [H8]; · iexact H8
    iintro %X H8
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

def cellSc (M : Mems) : Cell (F := F) M S2x2x512x512 .f32 where
  m := M.sc; get := St.sc; set st X := { st with sc := X }; set_get _ := rfl
  acc c st := by
    unfold Own
    iintro ⟨H0, H1, H2, H3, H4, H5, H6, H7, H8, H9⟩
    isplitl [H9]; · iexact H9
    iintro %X H9
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.KernelIdeal.Fox

end
-- ==== Proof.Prog.lean ====
/- The kernel's body, written as the few blocks it repeats: preparing the extended keys and transposed values of a
   row, starting a query tile, scoring a key tile, folding a scored tile into the running softmax, and finishing a
   query tile. The printed body is these blocks in a row. -/
module

public import proofs.«01_k».proof.Proof.Mem

@[expose] public section

noncomputable section

namespace Cert.KernelIdeal.Fox

open Cert.KernelIdeal Cert.KernelIdeal.Gen
open Idealize.ShloMosaic Idealize.ShloMosaic.TcCoe
open Idealize.SL.Sem

variable {F : FTy → Type} [FloatOps F] [Named F] {α : Type}

/-! ## What is computed -/

/-- Rows of ones for the first row, zeros after: the row that sums the weights. -/
def pOnes : FVec F S16x512 .bf16 :=
  truncf .bf16 (sitofp .f32 (extui 32 (cmpi .eq (iota .tc S16x512 32 [0] iota_S16x512_d0_w32) (broadcast S16x512 0#32)) natLt_1_32)) bitsLt_bf16_f32

/-- A value tile transposed, with the row of ones below. -/
def pVt (v : Vec F S1x512x128 .bf16) : FVec F S1x1x144x512 .bf16 :=
  shapeCast S1x1x144x512 (concatenate S144x512 0 [⟨S128x512, truncf .bf16 (transpose S128x512 [1, 0]
    (extf .f32 (shapeCast S512x128 v shapeCasts_S1x512x128_S512x128) bitsLt_bf16_f32) transposes_S512x128_p1_0_S128x512) bitsLt_bf16_f32⟩,
    ⟨S16x512, pOnes⟩] concatenates_S128x512_S16x512_S144x512_d0) shapeCasts_S144x512_S1x1x144x512

/-- The keys of one head. -/
def pK (k : Vec F S1x4096x128 .bf16) : FVec F S1x4096x128 .bf16 :=
  shapeCast S1x4096x128 (shapeCast S4096x128 k shapeCasts_S1x4096x128_S4096x128) shapeCasts_S4096x128_S1x4096x128

/-- The log-forget sums, and what each narrower part leaves over. -/
def pC (c : Vec F S1x4096x128 .f32) : FVec F S4096x128 .f32 :=
  shapeCast S4096x128 c shapeCasts_S1x4096x128_S4096x128
def pHi (c : Vec F S1x4096x128 .f32) : FVec F S4096x128 .bf16 := truncf .bf16 (pC c) bitsLt_bf16_f32
def pRest (c : Vec F S1x4096x128 .f32) : FVec F S4096x128 .f32 :=
  subf (pC c) (extf .f32 (pHi c) bitsLt_bf16_f32)
def pMid (c : Vec F S1x4096x128 .f32) : FVec F S4096x128 .bf16 := truncf .bf16 (pRest c) bitsLt_bf16_f32
def pLo (c : Vec F S1x4096x128 .f32) : FVec F S4096x128 .bf16 :=
  truncf .bf16 (subf (pRest c) (extf .f32 (pMid c) bitsLt_bf16_f32)) bitsLt_bf16_f32

/-- The matrix that takes one lane to one column. -/
def pPick (lane col : BitVec 32) : FVec F S128x128 .bf16 :=
  truncf .bf16 (sitofp .f32 (extui 32 (andi
    (cmpi .eq (iota .tc S128x128 32 [0] iota_S128x128_d0_w32) (broadcast S128x128 lane))
    (cmpi .eq (iota .tc S128x128 32 [1] iota_S128x128_d1_w32) (broadcast S128x128 col))) natLt_1_32)) bitsLt_bf16_f32

/-- The lane of head `hh` of the grid point's pair. -/
def laneOf (i : grid0.Coords) (hh : BitVec 32) : BitVec 32 :=
  Scalar.addi (Scalar.addi 8#32 (Scalar.muli (BitVec.ofNat 32 (i 1).val) 2#32)) hh

def pMul (a : FVec F S4096x128 .bf16) (b : FVec F S128x128 .bf16) : FVec F S4096x128 .f32 :=
  matmul dot_S4096x128_S128x128_S4096x128_1_0_0_1_n_n none a b (constant S4096x128 .f32 0x00000000#32)

/-- The three parts of one head's log-forget sums, in the first three columns. -/
def pCx (i : grid0.Coords) (hh : BitVec 32) (c : Vec F S1x4096x128 .f32) : FVec F S1x4096x128 .bf16 :=
  shapeCast S1x4096x128 (truncf .bf16 (addf (addf (pMul (pHi c) (pPick (laneOf i hh) 0#32))
    (pMul (pMid c) (pPick (laneOf i hh) 1#32))) (pMul (pLo c) (pPick (laneOf i hh) 2#32))) bitsLt_bf16_f32)
    shapeCasts_S4096x128_S1x4096x128

/-- Ones in the three rows that meet those columns. -/
def pThree : FVec F S128x512 .bf16 :=
  truncf .bf16 (sitofp .f32 (extui 32 (cmpi .slt (iota .tc S128x512 32 [0] iota_S128x512_d0_w32) (broadcast S128x512 3#32)) natLt_1_32)) bitsLt_bf16_f32

/-- A query tile scaled and transposed, with those rows below. -/
def pQx (q : Vec F S1x512x128 .bf16) : FVec F S256x512 .bf16 :=
  concatenate S256x512 0 [⟨S128x512, truncf .bf16 (transpose S128x512 [1, 0]
    (mulf (extf .f32 (shapeCast S512x128 q shapeCasts_S1x512x128_S512x128) bitsLt_bf16_f32)
      (broadcast S512x128 (Named.named κ "q_scale" 0x3E0293EE#32))) transposes_S512x128_p1_0_S128x512) bitsLt_bf16_f32⟩,
    ⟨S128x512, pThree⟩] concatenates_S128x512_S128x512_S256x512_d0

def pMinf : FVec F S1x2x1x512 .f32 :=
  shapeCast S1x2x1x512 (broadcast S2x1x512 (Scalar.ofBits .f32 0xFF800000#32)) shapeCasts_S2x1x512_S1x2x1x512
def pZero : FVec F S1x2x144x512 .f32 :=
  shapeCast S1x2x144x512 (broadcast S2x144x512 (Scalar.ofBits .f32 0x00000000#32)) shapeCasts_S2x144x512_S1x2x144x512

/-- The scores of a key tile. -/
def pScore (kx : Vec F S1x512x256 .bf16) (qx : FVec F S256x512 .bf16) : FVec F S1x1x512x512 .f32 :=
  shapeCast S1x1x512x512 (matmul dot_S512x256_S256x512_S512x512_1_0_0_1_n_n none
    (shapeCast S512x256 kx shapeCasts_S1x512x256_S512x256) qx (constant S512x512 .f32 0x00000000#32)) shapeCasts_S512x512_S1x1x512x512

/-- The scores as they are, and with the keys after the query masked. -/
def pRaw (s : Vec F S1x1x512x512 .f32) : FVec F S512x512 .f32 := shapeCast S512x512 s shapeCasts_S1x1x512x512_S512x512
def pMask (s : Vec F S1x1x512x512 .f32) : FVec F S512x512 .f32 :=
  select (cmpi .sge (iota .tc S512x512 32 [1] iota_S512x512_d1_w32) (iota .tc S512x512 32 [0] iota_S512x512_d0_w32))
    (shapeCast S512x512 s shapeCasts_S1x1x512x512_S512x512) (broadcast S512x512 (Scalar.ofBits .f32 0xFF800000#32))

def pOld (m : Vec F S1x1x1x512 .f32) : FVec F S1x512 .f32 := shapeCast S1x512 m shapeCasts_S1x1x1x512_S1x512

/-- The new running maxima. -/
def pMax (g : FVec F S512x512 .f32) (m : Vec F S1x1x1x512 .f32) : FVec F S1x512 .f32 :=
  maximumf (pOld m) (shapeCast S1x512
    (multiReduction .maximumf [0] S512 g 0xFF800000#32 reduces_S512x512_S512 (.inl rfl) rfl) shapeCasts_S512_S1x512)

/-- The new accumulators. -/
def pAcc (g : FVec F S512x512 .f32) (m : Vec F S1x1x1x512 .f32) (a : Vec F S1x1x144x512 .f32) (vt : Vec F S1x1x144x512 .bf16) :
    FVec F S1x1x144x512 .f32 :=
  shapeCast S1x1x144x512 (addf
    (mulf (broadcastTo S144x512 (exp2 (subf (pOld m) (pMax g m))) broadcasts_S1x512_S144x512)
      (shapeCast S144x512 a shapeCasts_S1x1x144x512_S144x512))
    (matmul dot_S144x512_S512x512_S144x512_1_0_0_1_n_n none (shapeCast S144x512 vt shapeCasts_S1x1x144x512_S144x512)
      (truncf .bf16 (exp2 (subf g (broadcastTo S512x512 (pMax g m) broadcasts_S1x512_S512x512))) bitsLt_bf16_f32)
      (constant S144x512 .f32 0x00000000#32))) shapeCasts_S144x512_S1x1x144x512

def pNew (g : FVec F S512x512 .f32) (m : Vec F S1x1x1x512 .f32) : FVec F S1x1x1x512 .f32 :=
  shapeCast S1x1x1x512 (pMax g m) shapeCasts_S1x512_S1x1x1x512

/-- A finished query tile: the accumulators over the sum of the weights. -/
def pOut (a : Vec F S1x1x144x512 .f32) : FVec F S1x512x128 .bf16 :=
  shapeCast S1x512x128 (truncf .bf16 (transpose S512x128 [1, 0]
    (divf (extractStridedSlice S128x512 ![0, 0] (shapeCast S144x512 a shapeCasts_S1x1x144x512_S144x512) slices_S144x512_o0_0_S128x512)
      (broadcastTo S128x512 (extractStridedSlice S1x512 ![128, 0] (shapeCast S144x512 a shapeCasts_S1x1x144x512_S144x512)
        slices_S144x512_o128_0_S1x512) broadcasts_S1x512_S128x512)) transposes_S128x512_p1_0_S512x128) bitsLt_bf16_f32) shapeCasts_S512x128_S1x512x128

/-! ## Where it is read and written -/

theorem inb3 {n0 n1 n2 o0 o1 o2 s0 s1 s2 : Nat} (h0 : o0 + s0 ≤ n0) (h1 : o1 + s1 ≤ n1) (h2 : o2 + s2 ≤ n2) :
    ∀ a : Fin 3, (![o0, o1, o2] : Fin 3 → Nat) a + (![s0, s1, s2] : Fin 3 → Nat) a ≤ (![n0, n1, n2] : Fin 3 → Nat) a := by
  intro a; fin_cases a <;> assumption

theorem inb4 {n0 n1 n2 n3 o0 o1 o2 o3 s0 s1 s2 s3 : Nat} (h0 : o0 + s0 ≤ n0) (h1 : o1 + s1 ≤ n1) (h2 : o2 + s2 ≤ n2) (h3 : o3 + s3 ≤ n3) :
    ∀ a : Fin 4, (![o0, o1, o2, o3] : Fin 4 → Nat) a + (![s0, s1, s2, s3] : Fin 4 → Nat) a ≤ (![n0, n1, n2, n3] : Fin 4 → Nat) a := by
  intro a; fin_cases a <;> assumption

/-- A tile of one head's queries, keys, values or output: rows from `512 j`, lanes of head `hh`. -/
def rTile (j : Fin 8) (hh : Fin 2) : Rect S1x4096x256 :=
  Rect.unit (s := S1x4096x256) ![0, 512 * j.val, 128 * hh.val] S1x512x128.size (inb3 (by omega) (by omega) (by omega))
/-- All rows of one head. -/
def rHead (hh : Fin 2) : Rect S1x4096x256 :=
  Rect.unit (s := S1x4096x256) ![0, 0, 128 * hh.val] S1x4096x128.size (inb3 (by omega) (by omega) (by omega))
def rC : Rect S1x4096x128 := Rect.unit (s := S1x4096x128) ![0, 0, 0] S1x4096x128.size inb_S1x4096x128_S1x4096x128_0_0_0
/-- Half of the extended keys of one head: the keys, or the columns beside them. -/
def rKxHalf (hh p : Fin 2) : Rect S2x4096x256 :=
  Rect.unit (s := S2x4096x256) ![hh.val, 0, 128 * p.val] S1x4096x128.size (inb3 (by omega) (by omega) (by omega))
def rVt (hh : Fin 2) (j : Fin 8) : Rect S2x8x144x512 :=
  Rect.unit (s := S2x8x144x512) ![hh.val, j.val, 0, 0] S1x1x144x512.size (inb4 (by omega) (by omega) (by omega) (by omega))
def rMx2 (par : Fin 2) : Rect S2x2x1x512 :=
  Rect.unit (s := S2x2x1x512) ![par.val, 0, 0, 0] S1x2x1x512.size (inb4 (by omega) (by omega) (by omega) (by omega))
def rAc2 (par : Fin 2) : Rect S2x2x144x512 :=
  Rect.unit (s := S2x2x144x512) ![par.val, 0, 0, 0] S1x2x144x512.size (inb4 (by omega) (by omega) (by omega) (by omega))
def rMx (par hh : Fin 2) : Rect S2x2x1x512 :=
  Rect.unit (s := S2x2x1x512) ![par.val, hh.val, 0, 0] S1x1x1x512.size (inb4 (by omega) (by omega) (by omega) (by omega))
def rAc (par hh : Fin 2) : Rect S2x2x144x512 :=
  Rect.unit (s := S2x2x144x512) ![par.val, hh.val, 0, 0] S1x1x144x512.size (inb4 (by omega) (by omega) (by omega) (by omega))
def rSc (slot hh : Fin 2) : Rect S2x2x512x512 :=
  Rect.unit (s := S2x2x512x512) ![slot.val, hh.val, 0, 0] S1x1x512x512.size (inb4 (by omega) (by omega) (by omega) (by omega))

/-! ## The blocks -/

/-- A load at the head of a program. -/
abbrev ld {sh : Shape} {e : EltTy} (m : Memref sig .tc .vmem sh e) (r : Rect sh) (hl : m.view.LoadsAt r.toLoadRect)
    (k : (r.shape.Idx → Elt F e) → PG F α) : PG F α := .op (.load m r.toLoadRect hl) k
/-- A store at the head of a program; the kernel reads the rectangle first and drops what it read. -/
abbrev stw {sh : Shape} {e : EltTy} (m : Memref sig .tc .vmem sh e) (r : Rect sh) (hl : m.view.LoadsAt r.toLoadRect)
    (hx : (m.access r).Stores Finset.univ) (w : r.shape.Idx → Elt F e)
    (k : PG F α) : PG F α := .op (.load m r.toLoadRect hl) fun _ => .op (.store m r w Finset.univ hx (.inl rfl)) fun _ => k

theorem packed_tile : ∀ (j : Fin 8) (hh : Fin 2), (rTile j hh).PackedRows (EltTy.packing .bf16) := by decide
theorem packed_kx : ∀ (hh p : Fin 2), (rKxHalf hh p).PackedRows (EltTy.packing .bf16) := by decide
theorem packed_vt : ∀ (hh : Fin 2) (j : Fin 8), (rVt hh j).PackedRows (EltTy.packing .bf16) := by decide

variable (M : Mems)

/-- One value tile, transposed into the scratch. -/
def vtile (hh : Fin 2) (j : Fin 8) (k : PG F α) : PG F α :=
  ld M.v (rTile j hh) (View.loadsAt_vmem h_S1x512x128) fun v =>
    stw M.vt (rVt hh j) (View.loadsAt_vmem h_S1x1x144x512)
      (View.stores_vmem h_S1x1x144x512 (M.hvt.storeExact_slice rfl _ (packed_vt hh j)) (fun _ => rfl)) (pVt v) k

/-- One head's extended keys and transposed values. -/
def prep (i : grid0.Coords) (hh : Fin 2) (lane : BitVec 32) (c : Vec F S1x4096x128 .f32) (k : PG F α) : PG F α :=
  ld M.k (rHead hh) (View.loadsAt_vmem h_S1x4096x128) fun kk =>
  stw M.kx (rKxHalf hh 0) (View.loadsAt_vmem h_S1x4096x128)
    (View.stores_vmem h_S1x4096x128 (M.hkx.storeExact_slice rfl _ (packed_kx hh 0)) (fun _ => rfl)) (pK kk) <|
  stw M.kx (rKxHalf hh 1) (View.loadsAt_vmem h_S1x4096x128)
    (View.stores_vmem h_S1x4096x128 (M.hkx.storeExact_slice rfl _ (packed_kx hh 1)) (fun _ => rfl)) (pCx i lane c) <|
  vtile M hh 0 <| vtile M hh 1 <| vtile M hh 2 <| vtile M hh 3 <| vtile M hh 4 <| vtile M hh 5 <| vtile M hh 6 <| vtile M hh 7 k

/-- Both heads'. -/
def prologue (i : grid0.Coords) (k : PG F α) : PG F α :=
  ld M.c rC (View.loadsAt_vmem h_S1x4096x128) fun c => prep M i 0 0#32 c <| prep M i 1 1#32 c k

/-- The start of query tile `i`: both heads' queries read, the running maxima and accumulators reset. -/
def start (i : Fin 8) (par : Fin 2) (k : FVec F S256x512 .bf16 → FVec F S256x512 .bf16 → PG F α) : PG F α :=
  ld M.q (rTile i 0) (View.loadsAt_vmem h_S1x512x128) fun q0 =>
  ld M.q (rTile i 1) (View.loadsAt_vmem h_S1x512x128) fun q1 =>
  stw M.mx (rMx2 par) (View.loadsAt_vmem h_S1x2x1x512) (View.stores_vmem_bits_univ h_S1x2x1x512 rfl) pMinf <|
  stw M.ac (rAc2 par) (View.loadsAt_vmem h_S1x2x144x512) (View.stores_vmem_bits_univ h_S1x2x144x512 rfl) pZero <|
  k (pQx q0) (pQx q1)

/-- Where one head's key tile is read, and its value tile. -/
structure KOff where
  off : Fin 3 → Nat
  inb : ∀ a, off a + S1x512x256.size a ≤ S2x4096x256.size a
structure VOff where
  off : Fin 4 → Nat
  inb : ∀ a, off a + S1x1x144x512.size a ≤ S2x8x144x512.size a

def kOff (hh : Fin 2) (j : Fin 8) : KOff := ⟨![hh.val, 512 * j.val, 0], inb3 (by omega) (by omega) (by omega)⟩
def vOff (hh : Fin 2) (j : Fin 8) : VOff := ⟨![hh.val, j.val, 0, 0], inb4 (by omega) (by omega) (by omega) (by omega)⟩

/-- One head's scores of a key tile. -/
def score (slot hh : Fin 2) (ko : KOff) (qx : FVec F S256x512 .bf16) (k : PG F α) : PG F α :=
  ld M.kx (Rect.unit (s := S2x4096x256) ko.off S1x512x256.size ko.inb) (View.loadsAt_vmem h_S1x512x256) fun kx =>
  stw M.sc (rSc slot hh) (View.loadsAt_vmem h_S1x1x512x512) (View.stores_vmem_bits_univ h_S1x1x512x512 rfl) (pScore kx qx) k

def scores (slot : Fin 2) (k0 k1 : KOff) (q0 q1 : FVec F S256x512 .bf16) (k : PG F α) : PG F α :=
  score M slot 0 k0 q0 <| score M slot 1 k1 q1 k

/-- One head's scored tile folded into the running softmax. -/
def fold (g : Vec F S1x1x512x512 .f32 → FVec F S512x512 .f32) (par slot hh : Fin 2) (vo : VOff) (k : PG F α) : PG F α :=
  ld M.sc (rSc slot hh) (View.loadsAt_vmem h_S1x1x512x512) fun s =>
  ld M.mx (rMx par hh) (View.loadsAt_vmem h_S1x1x1x512) fun m =>
  ld M.ac (rAc par hh) (View.loadsAt_vmem h_S1x1x144x512) fun a =>
  ld M.vt (Rect.unit (s := S2x8x144x512) vo.off S1x1x144x512.size vo.inb) (View.loadsAt_vmem h_S1x1x144x512) fun vt =>
  stw M.ac (rAc par hh) (View.loadsAt_vmem h_S1x1x144x512) (View.stores_vmem_bits_univ h_S1x1x144x512 rfl) (pAcc (g s) m a vt) <|
  stw M.mx (rMx par hh) (View.loadsAt_vmem h_S1x1x1x512) (View.stores_vmem_bits_univ h_S1x1x1x512 rfl) (pNew (g s) m) k

def folds (g : Vec F S1x1x512x512 .f32 → FVec F S512x512 .f32) (par slot : Fin 2) (v0 v1 : VOff) (k : PG F α) : PG F α :=
  fold M g par slot 0 v0 <| fold M g par slot 1 v1 k

/-- One head's finished query tile. -/
def emit (i : Fin 8) (par hh : Fin 2) (k : PG F α) : PG F α :=
  ld M.ac (rAc par hh) (View.loadsAt_vmem h_S1x1x144x512) fun a =>
  stw M.o (rTile i hh) (View.loadsAt_vmem h_S1x512x128)
    (View.stores_vmem h_S1x512x128 (M.ho.storeExact_slice rfl _ (packed_tile i hh)) (fun _ => rfl)) (pOut a) k

/-- The diagonal tile folded and the query tile written out. -/
def finish (i : Fin 8) (par slot : Fin 2) (k : PG F α) : PG F α :=
  folds M pMask par slot (vOff 0 i) (vOff 1 i) <| emit M i par 0 <| emit M i par 1 k

/-- Two key tiles: the second is scored while the first is folded. -/
def pair (par sA sB : Fin 2) (ka0 ka1 kb0 kb1 : KOff) (va0 va1 vb0 vb1 : VOff) (q0 q1 : FVec F S256x512 .bf16) (k : PG F α) : PG F α :=
  scores M sB ka0 ka1 q0 q1 <| folds M pRaw par sA va0 va1 <|
  scores M sA kb0 kb1 q0 q1 <| folds M pRaw par sB vb0 vb1 k

/-- The opening of query tile `i`, overlapped with the end of the tile before it. -/
def opening (i p : Fin 8) (par par' sN sP : Fin 2) (k : FVec F S256x512 .bf16 → FVec F S256x512 .bf16 → PG F α) : PG F α :=
  start M i par fun q0 q1 => scores M sN (kOff 0 0) (kOff 1 0) q0 q1 <| finish M p par' sP <| k q0 q1

/-- The last, odd key tile before the diagonal. -/
def odd (j jp : Fin 8) (sN sP : Fin 2) (q0 q1 : FVec F S256x512 .bf16) (k : PG F α) : PG F α :=
  scores M sN (kOff 0 j) (kOff 1 j) q0 q1 <| folds M pRaw 1 sP (vOff 0 jp) (vOff 1 jp) k

def body1 (q0 q1 : FVec F S256x512 .bf16) (t : Fin k0_t1_loop.trips) (_ : Unit) : PG F Unit :=
  pair M 0 0 1 ⟨k0_off7 t 1#32, k0_off7_inb t 0⟩ ⟨k0_off8 t 1#32, k0_off8_inb t 0⟩ ⟨k0_off7 t 2#32, k0_off7_inb t 1⟩ ⟨k0_off8 t 2#32, k0_off8_inb t 1⟩
    ⟨k0_off9 t, k0_off9_inb t⟩ ⟨k0_off10 t, k0_off10_inb t⟩ ⟨k0_off11 t, k0_off11_inb t⟩ ⟨k0_off12 t, k0_off12_inb t⟩ q0 q1 (.ret ⟨⟩)
def body2 (q0 q1 : FVec F S256x512 .bf16) (t : Fin k0_t2_loop.trips) (_ : Unit) : PG F Unit :=
  pair M 1 1 0 ⟨k0_off13 t 1#32, k0_off13_inb t 0⟩ ⟨k0_off14 t 1#32, k0_off14_inb t 0⟩ ⟨k0_off13 t 2#32, k0_off13_inb t 1⟩ ⟨k0_off14 t 2#32, k0_off14_inb t 1⟩
    ⟨k0_off15 t, k0_off15_inb t⟩ ⟨k0_off16 t, k0_off16_inb t⟩ ⟨k0_off17 t, k0_off17_inb t⟩ ⟨k0_off18 t, k0_off18_inb t⟩ q0 q1 (.ret ⟨⟩)
def body3 (q0 q1 : FVec F S256x512 .bf16) (t : Fin k0_t3_loop.trips) (_ : Unit) : PG F Unit :=
  pair M 0 1 0 ⟨k0_off19 t 1#32, k0_off19_inb t 0⟩ ⟨k0_off20 t 1#32, k0_off20_inb t 0⟩ ⟨k0_off19 t 2#32, k0_off19_inb t 1⟩ ⟨k0_off20 t 2#32, k0_off20_inb t 1⟩
    ⟨k0_off21 t, k0_off21_inb t⟩ ⟨k0_off22 t, k0_off22_inb t⟩ ⟨k0_off23 t, k0_off23_inb t⟩ ⟨k0_off24 t, k0_off24_inb t⟩ q0 q1 (.ret ⟨⟩)
def body4 (q0 q1 : FVec F S256x512 .bf16) (t : Fin k0_t4_loop.trips) (_ : Unit) : PG F Unit :=
  pair M 1 0 1 ⟨k0_off25 t 1#32, k0_off25_inb t 0⟩ ⟨k0_off26 t 1#32, k0_off26_inb t 0⟩ ⟨k0_off25 t 2#32, k0_off25_inb t 1⟩ ⟨k0_off26 t 2#32, k0_off26_inb t 1⟩
    ⟨k0_off27 t, k0_off27_inb t⟩ ⟨k0_off28 t, k0_off28_inb t⟩ ⟨k0_off29 t, k0_off29_inb t⟩ ⟨k0_off30 t, k0_off30_inb t⟩ q0 q1 (.ret ⟨⟩)

/-- The eight query tiles of a row, from the prepared scratch. -/
def tiles : PG F Unit :=
  start M 0 0 fun q0 q1 => scores M 0 (kOff 0 0) (kOff 1 0) q0 q1 <|
  opening M 1 0 1 0 1 0 fun q0 q1 => odd M 1 0 0 1 q0 q1 <|
  opening M 2 1 0 1 1 0 fun q0 q1 => pair M 0 1 0 (kOff 0 1) (kOff 1 1) (kOff 0 2) (kOff 1 2) (vOff 0 0) (vOff 1 0) (vOff 0 1) (vOff 1 1) q0 q1 <|
  opening M 3 2 1 0 0 1 fun q0 q1 => pair M 1 0 1 (kOff 0 1) (kOff 1 1) (kOff 0 2) (kOff 1 2) (vOff 0 0) (vOff 1 0) (vOff 0 1) (vOff 1 1) q0 q1 <|
    odd M 3 2 1 0 q0 q1 <|
  opening M 4 3 0 1 0 1 fun q0 q1 => Prog.bind (Scf.Loop.for k0_t1_loop k0_t1_ok ⟨⟩ (body1 M q0 q1)) fun _ =>
  opening M 5 4 1 0 1 0 fun q0 q1 => Prog.bind (Scf.Loop.for k0_t2_loop k0_t2_ok ⟨⟩ (body2 M q0 q1)) fun _ =>
    odd M 5 4 0 1 q0 q1 <|
  opening M 6 5 0 1 1 0 fun q0 q1 => Prog.bind (Scf.Loop.for k0_t3_loop k0_t3_ok ⟨⟩ (body3 M q0 q1)) fun _ =>
  opening M 7 6 1 0 0 1 fun q0 q1 => Prog.bind (Scf.Loop.for k0_t4_loop k0_t4_ok ⟨⟩ (body4 M q0 q1)) fun _ =>
    odd M 7 6 1 0 q0 q1 <|
  finish M 7 1 1 <| .ret ⟨⟩

/-- The whole body. -/
def attn (i : grid0.Coords) : PG F Unit := prologue M i (tiles M)

end Cert.KernelIdeal.Fox

end
-- ==== Proof.Steps.lean ====
/- What each block does to the state, exactly, at any reading of the floats. -/
module

public import proofs.«01_k».proof.Proof.Prog

@[expose] public section

noncomputable section

namespace Cert.KernelIdeal.Fox

open Cert.KernelIdeal Cert.KernelIdeal.Gen
open Idealize.ShloMosaic Idealize.ShloMosaic.TcCoe
open Idealize.SL.Sem

variable {F : FTy → Type} [FloatOps F] [Named F] {c : Dev nD} {M : Mems} {st : St F} {Q : St F → Prop}

theorem T.vtile {hh : Fin 2} {j : Fin 8} {k : PG F Unit}
    (h : T c M { st with vt := (rVt hh j).overlay st.vt (pVt fun y => st.v ((rTile j hh).emb y)) } k Q) :
    T c M st (Fox.vtile M hh j k) Q :=
  (cellV M).load <| (cellVt M).load <| (cellVt M).store h

/-- The key half and the column half of one head's extended keys. -/
def kxSet (kx : Vec F S2x4096x256 .bf16) (kk : Vec F S1x4096x256 .bf16) (hh : Fin 2) (i : grid0.Coords) (ln : BitVec 32)
    (cc : Vec F S1x4096x128 .f32) : Vec F S2x4096x256 .bf16 :=
  (rKxHalf hh 1).overlay ((rKxHalf hh 0).overlay kx (pK fun y => kk ((rHead hh).emb y))) (pCx i ln cc)

/-- The first `n` transposed value tiles of one head. -/
def vtSet (v : Vec F S1x4096x256 .bf16) (hh : Fin 2) : (n : Nat) → n ≤ 8 → Vec F S2x8x144x512 .bf16 → Vec F S2x8x144x512 .bf16
  | 0, _, vt => vt
  | n + 1, h, vt => (rVt hh ⟨n, h⟩).overlay (vtSet v hh n (Nat.le_of_succ_le h) vt) (pVt fun y => v ((rTile ⟨n, h⟩ hh).emb y))

theorem T.prep {i : grid0.Coords} {hh : Fin 2} {ln : BitVec 32} {cc : Vec F S1x4096x128 .f32} {k : PG F Unit}
    (h : T c M { st with kx := kxSet st.kx st.k hh i ln cc, vt := vtSet st.v hh 8 (Nat.le_refl _) st.vt } k Q) :
    T c M st (Fox.prep M i hh ln cc k) Q :=
  by
  refine (cellK M).load ?_
  refine (cellKx M).load ?_
  refine (cellKx M).store ?_
  refine (cellKx M).load ?_
  refine (cellKx M).store ?_
  refine T.vtile ?_
  refine T.vtile ?_
  refine T.vtile ?_
  refine T.vtile ?_
  refine T.vtile ?_
  refine T.vtile ?_
  refine T.vtile ?_
  refine T.vtile ?_
  dsimp only [cellQ, cellK, cellV, cellC, cellKx, cellVt, cellMx, cellAc, cellSc] at h ⊢
  exact h

theorem T.prologue {i : grid0.Coords} {k : PG F Unit}
    (h : T c M { st with
      kx := kxSet (kxSet st.kx st.k 0 i 0#32 fun y => st.c (rC.emb y)) st.k 1 i 1#32 fun y => st.c (rC.emb y)
      vt := vtSet st.v 1 8 (Nat.le_refl _) (vtSet st.v 0 8 (Nat.le_refl _) st.vt) } k Q) :
    T c M st (Fox.prologue M i k) Q :=
  (cellC M).load <| T.prep <| T.prep h

theorem T.start {i : Fin 8} {par : Fin 2} {k : FVec F S256x512 .bf16 → FVec F S256x512 .bf16 → PG F Unit}
    (h : T c M { st with mx := (rMx2 par).overlay st.mx pMinf, ac := (rAc2 par).overlay st.ac pZero }
      (k (pQx fun y => st.q ((rTile i 0).emb y)) (pQx fun y => st.q ((rTile i 1).emb y))) Q) :
    T c M st (Fox.start M i par k) Q :=
  by
  refine (cellQ M).load ?_
  refine (cellQ M).load ?_
  refine (cellMx M).load ?_
  refine (cellMx M).store ?_
  refine (cellAc M).load ?_
  refine (cellAc M).store ?_
  dsimp only [cellQ, cellK, cellV, cellC, cellKx, cellVt, cellMx, cellAc, cellSc] at h ⊢
  exact h

/-- The rectangle of a key tile, and of a value tile. -/
def KOff.r (ko : KOff) : Rect S2x4096x256 := Rect.unit (s := S2x4096x256) ko.off S1x512x256.size ko.inb
def VOff.r (vo : VOff) : Rect S2x8x144x512 := Rect.unit (s := S2x8x144x512) vo.off S1x1x144x512.size vo.inb

theorem T.score {slot hh : Fin 2} {ko : KOff} {qx : FVec F S256x512 .bf16} {k : PG F Unit}
    (h : T c M { st with sc := (rSc slot hh).overlay st.sc (pScore (fun y => st.kx (ko.r.emb y)) qx) } k Q) :
    T c M st (Fox.score M slot hh ko qx k) Q :=
  (cellKx M).load <| (cellSc M).load <| (cellSc M).store h

theorem T.fold {g : Vec F S1x1x512x512 .f32 → FVec F S512x512 .f32} {par slot hh : Fin 2} {vo : VOff} {k : PG F Unit}
    (h : T c M { st with
      ac := (rAc par hh).overlay st.ac (pAcc (g fun y => st.sc ((rSc slot hh).emb y)) (fun y => st.mx ((rMx par hh).emb y))
        (fun y => st.ac ((rAc par hh).emb y)) (fun y => st.vt (vo.r.emb y)))
      mx := (rMx par hh).overlay st.mx (pNew (g fun y => st.sc ((rSc slot hh).emb y)) (fun y => st.mx ((rMx par hh).emb y))) } k Q) :
    T c M st (Fox.fold M g par slot hh vo k) Q :=
  by
  refine (cellSc M).load ?_
  refine (cellMx M).load ?_
  refine (cellAc M).load ?_
  refine (cellVt M).load ?_
  refine (cellAc M).load ?_
  refine (cellAc M).store ?_
  refine (cellMx M).load ?_
  refine (cellMx M).store ?_
  dsimp only [cellQ, cellK, cellV, cellC, cellKx, cellVt, cellMx, cellAc, cellSc] at h ⊢
  exact h

theorem T.emit {i : Fin 8} {par hh : Fin 2} {k : PG F Unit}
    (h : T c M { st with o := (rTile i hh).overlay st.o (pOut fun y => st.ac ((rAc par hh).emb y)) } k Q) :
    T c M st (Fox.emit M i par hh k) Q :=
  (cellAc M).load <| (cellO M).load <| (cellO M).store h

end Cert.KernelIdeal.Fox

end
-- ==== Proof.Pure.lean ====
/- What the kernel's blocks compute, read at an index over the extended reals. -/
module

public import proofs.«01_k».proof.Proof.Prog
public import Idealize.ShloMosaic.Lib.Pointwise

@[expose] public section

set_option maxRecDepth 16384

noncomputable section

namespace Cert.KernelIdeal.Fox

open Cert.KernelIdeal Cert.KernelIdeal.Gen
open Idealize.ShloMosaic Idealize.ShloMosaic.TcCoe
open Idealize.SL.Sem

/-- The scale of the scores: one over the root of the head's width, in units of the logarithm to base two. -/
def kap : ℝ := (Real.sqrt 128)⁻¹ * (Real.log 2)⁻¹

/-- A comparison's word, as a number. -/
theorem flag01 (b : Bool) : FloatOps.sitofp (F := Ideal) .f32 (BitVec.setWidth 32 (BitVec.ofBool b)) = if b then (1 : EReal) else 0 := by
  change ((((BitVec.setWidth 32 (BitVec.ofBool b)).toInt : ℤ) : ℝ) : EReal) = _
  cases b
  · rw [show (BitVec.setWidth 32 (BitVec.ofBool false)).toInt = 0 from rfl]; simp
  · rw [show (BitVec.setWidth 32 (BitVec.ofBool true)).toInt = 1 from rfl]; simp

theorem cmp_eq {a b : Nat} (ha : a < 2 ^ 32) (hb : b < 2 ^ 32) :
    IntOp.cmpi .eq (BitVec.ofNat 32 a) (BitVec.ofNat 32 b) = BitVec.ofBool (decide (a = b)) := by
  have h : (BitVec.ofNat 32 a = BitVec.ofNat 32 b) ↔ a = b := by
    rw [← BitVec.toNat_inj, BitVec.toNat_ofNat, BitVec.toNat_ofNat, Nat.mod_eq_of_lt ha, Nat.mod_eq_of_lt hb]
  change BitVec.ofBool (BitVec.ofNat 32 a == BitVec.ofNat 32 b) = _
  rw [beq_eq_decide, decide_eq_decide.mpr h]

theorem toInt_ofNat {a : Nat} (ha : a < 2 ^ 31) : (BitVec.ofNat 32 a).toInt = a := by
  rw [BitVec.toInt_eq_toNat_of_lt (by rw [BitVec.toNat_ofNat]; omega), BitVec.toNat_ofNat]; omega

theorem cmp_slt {a b : Nat} (ha : a < 2 ^ 31) (hb : b < 2 ^ 31) :
    IntOp.cmpi .slt (BitVec.ofNat 32 a) (BitVec.ofNat 32 b) = BitVec.ofBool (decide (a < b)) := by
  unfold IntOp.cmpi BitVec.slt
  simp only [toInt_ofNat ha, toInt_ofNat hb, Nat.cast_lt]

theorem cmp_sge {a b : Nat} (ha : a < 2 ^ 31) (hb : b < 2 ^ 31) :
    IntOp.cmpi .sge (BitVec.ofNat 32 a) (BitVec.ofNat 32 b) = BitVec.ofBool (decide (b ≤ a)) := by
  unfold IntOp.cmpi BitVec.sle
  simp only [toInt_ofNat ha, toInt_ofNat hb, Nat.cast_le]

theorem and_flag (a b : Bool) : IntOp.andi (BitVec.ofBool a) (BitVec.ofBool b) = BitVec.ofBool (a && b) := by
  cases a <;> cases b <;> rfl

theorem minf_bits : Ideal.ofBits .f32 0xFF800000#32 = (⊥ : EReal) := by
  simp [Ideal.ofBits, Ideal.ieee]

theorem named_kap : Named.named (F := Ideal) κ "q_scale" (φ := .f32) 0x3E0293EE#32 = ((kap : ℝ) : EReal) :=
  IdealRules.named_const.ideal_named_scalar _ _ _ _ rfl

/-- The lane of a head, as a number. -/
def lane (i : grid0.Coords) (hh : Fin 2) : Fin 128 := ⟨8 + 2 * (i 1).val + hh.val, by have := (i 1).isLt; change _ < 4 at this; omega⟩

theorem laneOf_eq (i : grid0.Coords) (hh : Fin 2) : laneOf i (BitVec.ofNat 32 hh.val) = BitVec.ofNat 32 (lane i hh).val := by
  have key : ∀ (a : Fin 4) (hh : Fin 2), Scalar.addi (Scalar.addi 8#32 (Scalar.muli (BitVec.ofNat 32 a.val) 2#32)) (BitVec.ofNat 32 hh.val)
      = BitVec.ofNat 32 (8 + 2 * a.val + hh.val) := by decide
  exact key (i 1) hh

theorem pK_at (k : FVec Ideal S1x4096x128 .bf16) (x : Fin 4096) (d : Fin 128) : pK (F := Ideal) k (ix3 0 x d) = k (ix3 0 x d) := by
  pointwise [pK]

theorem pVt_at (v : FVec Ideal S1x512x128 .bf16) (r : Fin 144) (y : Fin 512) :
    pVt (F := Ideal) v (ix4 0 0 r y) = if h : r.val < 128 then v (ix3 0 y ⟨r.val, h⟩) else if r.val = 128 then 1 else 0 := by
  pointwise [pVt, pOnes]
  by_cases h : r.val < 128
  · rw [dif_pos h, dif_pos h]
  · rw [dif_neg h, dif_neg h, cmp_eq (by omega) (by omega), flag01]
    by_cases h2 : r.val = 128
    · rw [if_pos h2, if_pos (by simp; omega)]
    · rw [if_neg h2, if_neg (by simp; omega)]

theorem pQx_at (q : FVec Ideal S1x512x128 .bf16) (d : Fin 256) (y : Fin 512) :
    pQx (F := Ideal) q (ix2 d y) = if h : d.val < 128 then q (ix3 0 y ⟨d.val, h⟩) * (kap : EReal) else if d.val < 131 then 1 else 0 := by
  pointwise [pQx, pThree]
  by_cases h : d.val < 128
  · rw [dif_pos h, dif_pos h, named_kap]
  · rw [dif_neg h, dif_neg h, cmp_slt (by omega) (by omega), flag01]
    by_cases h2 : d.val < 131
    · rw [if_pos h2, if_pos (by simp; omega)]
    · rw [if_neg h2, if_neg (by simp; omega)]

theorem pScore_at (kx : FVec Ideal S1x512x256 .bf16) (qx : FVec Ideal S256x512 .bf16) (x y : Fin 512) :
    pScore (F := Ideal) kx qx (ix4 0 0 x y) = ∑ d : Fin 256, kx (ix3 0 x d) * qx (ix2 d y) := by
  pointwise [pScore]

theorem pCx_at (i : grid0.Coords) (hh : Fin 2) (c : FVec Ideal S1x4096x128 .f32) (x : Fin 4096) (d : Fin 128) (cr : Fin 128 → ℝ)
    (hc : ∀ l, c (ix3 0 x l) = ((cr l : ℝ) : EReal)) :
    pCx (F := Ideal) i (BitVec.ofNat 32 hh.val) c (ix3 0 x d) = if d.val = 0 then ((cr (lane i hh) : ℝ) : EReal) else 0 := by
  pointwise [pCx, pMul, pHi, pMid, pLo, pRest, pC, pPick]
  have h0 : ∀ l, c (ix3 0 x l) - c (ix3 0 x l) = 0 := fun l => by rw [hc, ← EReal.coe_sub, sub_self, EReal.coe_zero]
  simp only [h0, zero_mul, sub_zero, Finset.sum_const_zero, add_zero]
  rw [Finset.sum_eq_single (lane i hh)]
  · rw [laneOf_eq, cmp_eq (by omega) (by omega), cmp_eq (by omega) (by omega), and_flag, flag01, hc]
    by_cases h : d.val = 0 <;> simp [h]
  · intro l _ hl
    rw [laneOf_eq, cmp_eq (by omega) (by omega), cmp_eq (by omega) (by omega), and_flag, flag01, if_neg, mul_zero]
    simp [Fin.val_ne_of_ne hl]
  · exact fun h => absurd (Finset.mem_univ _) h

theorem pRaw_at (s : FVec Ideal S1x1x512x512 .f32) (x y : Fin 512) :
    pRaw (F := Ideal) s (ix2 x y) = s (ix4 0 0 x y) := by
  pointwise [pRaw]
theorem pMask_at (s : FVec Ideal S1x1x512x512 .f32) (x y : Fin 512) :
    pMask (F := Ideal) s (ix2 x y) = if x.val ≤ y.val then s (ix4 0 0 x y) else ⊥ := by
  pointwise [pMask]
  rw [cmp_sge (by omega) (by omega), minf_bits]
  by_cases h : x.val ≤ y.val <;> simp [h, Scalar.select]

theorem pMax_at (g : FVec Ideal S512x512 .f32) (m : FVec Ideal S1x1x1x512 .f32) (y : Fin 512) :
    pMax (F := Ideal) g m (ix2 0 y) = max (m (ix4 0 0 0 y)) (Finset.univ.fold max ⊥ fun x => g (ix2 x y)) := by
  pointwise [pMax, pOld]
  rw [minf_bits]

theorem pAcc_at (g : FVec Ideal S512x512 .f32) (m : FVec Ideal S1x1x1x512 .f32) (a : FVec Ideal S1x1x144x512 .f32)
    (vt : FVec Ideal S1x1x144x512 .bf16) (r : Fin 144) (y : Fin 512) :
    pAcc (F := Ideal) g m a vt (ix4 0 0 r y)
      = Ideal.exp2 (m (ix4 0 0 0 y) - pMax (F := Ideal) g m (ix2 0 y)) * a (ix4 0 0 r y)
        + ∑ x : Fin 512, vt (ix4 0 0 r x) * Ideal.exp2 (g (ix2 x y) - pMax (F := Ideal) g m (ix2 0 y)) := by
  pointwise [pAcc, pOld]
  rfl

theorem pNew_at (g : FVec Ideal S512x512 .f32) (m : FVec Ideal S1x1x1x512 .f32) (y : Fin 512) :
    pNew (F := Ideal) g m (ix4 0 0 0 y) = pMax (F := Ideal) g m (ix2 0 y) := by
  pointwise [pNew]

theorem pOut_at (a : FVec Ideal S1x1x144x512 .f32) (y : Fin 512) (d : Fin 128) :
    pOut (F := Ideal) a (ix3 0 y d) = Ideal.div (a (ix4 0 0 ⟨d.val, by omega⟩ y)) (a (ix4 0 0 ⟨128, by omega⟩ y)) := by
  pointwise [pOut]

theorem pMinf_at (hh : Fin 2) (y : Fin 512) : pMinf (F := Ideal) (ix4 0 hh 0 y) = ⊥ := by
  pointwise [pMinf]
  rw [minf_bits]
theorem pZero_at (hh : Fin 2) (r : Fin 144) (y : Fin 512) : pZero (F := Ideal) (ix4 0 hh r y) = 0 := by
  pointwise [pZero]

end Cert.KernelIdeal.Fox

end
-- ==== Proof.Cells.lean ====
/- What each block leaves in a buffer, when its inputs are what they should be: the extended keys, the transposed
   values, a tile of scores, a query tile's running softmax, and the finished rows. -/
module

public import proofs.«01_k».proof.Proof.Steps
public import proofs.«01_k».proof.Proof.Pure
public import proofs.«01_k».proof.Proof.Math

@[expose] public section

noncomputable section

namespace Cert.KernelIdeal.Fox

open Cert.KernelIdeal Cert.KernelIdeal.Gen
open Idealize.ShloMosaic Idealize.ShloMosaic.TcCoe
open Idealize.SL.Sem

/-! ## Rectangles at an index -/

theorem overlay_ne {sh : Shape} {α : Type} (r : Rect sh) (X : sh.Idx → α) (G : r.shape.Idx → α) {y : sh.Idx} (a : Fin sh.rank)
    (h1 : r.stride a = 1) (h : (y a).val < r.off a ∨ r.off a + r.size a ≤ (y a).val) : r.overlay X G y = X y := by
  refine Rect.overlay_of_not_mem _ _ _ fun hm => ?_
  rw [← Rect.map_emb_univ] at hm
  obtain ⟨j, -, rfl⟩ := Finset.mem_map.mp hm
  have hj : (j a).val < r.size a := (j a).isLt
  rw [Rect.emb_apply, h1] at h
  omega

theorem overlay_at {sh : Shape} {α : Type} (r : Rect sh) (X : sh.Idx → α) (G : r.shape.Idx → α) {i : r.shape.Idx} {y : sh.Idx}
    (h : r.emb i = y) : r.overlay X G y = G i := h ▸ Rect.overlay_emb r X G i

theorem emb_tile (j : Fin 8) (hh : Fin 2) (y : Fin 512) (d : Fin 128) :
    (rTile j hh).emb (ix3 (0 : Fin 1) y d : S1x512x128.Idx) = ix3 0 ⟨512 * j.val + y.val, by omega⟩ ⟨128 * hh.val + d.val, by omega⟩ := by
  funext a; apply Fin.ext; fin_cases a <;> (refine (Rect.emb_apply _ _ _).trans ?_; simp [rTile, Rect.unit, ix3])

theorem emb_head (hh : Fin 2) (y : Fin 4096) (d : Fin 128) :
    (rHead hh).emb (ix3 (0 : Fin 1) y d : S1x4096x128.Idx) = ix3 0 y ⟨128 * hh.val + d.val, by omega⟩ := by
  funext a; apply Fin.ext; fin_cases a <;> (refine (Rect.emb_apply _ _ _).trans ?_; simp [rHead, Rect.unit, ix3])

theorem emb_c (y : Fin 4096) (d : Fin 128) : rC.emb (ix3 (0 : Fin 1) y d : S1x4096x128.Idx) = ix3 0 y d := by
  funext a; apply Fin.ext; fin_cases a <;> (refine (Rect.emb_apply _ _ _).trans ?_; simp [rC, Rect.unit, ix3])

theorem emb_kxHalf (hh p : Fin 2) (y : Fin 4096) (d : Fin 128) :
    (rKxHalf hh p).emb (ix3 (0 : Fin 1) y d : S1x4096x128.Idx) = ix3 hh y ⟨128 * p.val + d.val, by omega⟩ := by
  funext a; apply Fin.ext; fin_cases a <;> (refine (Rect.emb_apply _ _ _).trans ?_; simp [rKxHalf, Rect.unit, ix3])

theorem emb_vt (hh : Fin 2) (j : Fin 8) (r : Fin 144) (y : Fin 512) :
    (rVt hh j).emb (ix4 (0 : Fin 1) (0 : Fin 1) r y : S1x1x144x512.Idx) = ix4 hh j r y := by
  funext a; apply Fin.ext; fin_cases a <;> (refine (Rect.emb_apply _ _ _).trans ?_; simp [rVt, Rect.unit, ix4])

theorem emb_mx2 (par hh : Fin 2) (y : Fin 512) :
    (rMx2 par).emb (ix4 (0 : Fin 1) hh (0 : Fin 1) y : S1x2x1x512.Idx) = ix4 par hh 0 y := by
  funext a; apply Fin.ext; fin_cases a <;> (refine (Rect.emb_apply _ _ _).trans ?_; simp [rMx2, Rect.unit, ix4])

theorem emb_ac2 (par hh : Fin 2) (r : Fin 144) (y : Fin 512) :
    (rAc2 par).emb (ix4 (0 : Fin 1) hh r y : S1x2x144x512.Idx) = ix4 par hh r y := by
  funext a; apply Fin.ext; fin_cases a <;> (refine (Rect.emb_apply _ _ _).trans ?_; simp [rAc2, Rect.unit, ix4])

theorem emb_mx (par hh : Fin 2) (y : Fin 512) :
    (rMx par hh).emb (ix4 (0 : Fin 1) (0 : Fin 1) (0 : Fin 1) y : S1x1x1x512.Idx) = ix4 par hh 0 y := by
  funext a; apply Fin.ext; fin_cases a <;> (refine (Rect.emb_apply _ _ _).trans ?_; simp [rMx, Rect.unit, ix4])

theorem emb_ac (par hh : Fin 2) (r : Fin 144) (y : Fin 512) :
    (rAc par hh).emb (ix4 (0 : Fin 1) (0 : Fin 1) r y : S1x1x144x512.Idx) = ix4 par hh r y := by
  funext a; apply Fin.ext; fin_cases a <;> (refine (Rect.emb_apply _ _ _).trans ?_; simp [rAc, Rect.unit, ix4])

theorem emb_sc (slot hh : Fin 2) (x y : Fin 512) :
    (rSc slot hh).emb (ix4 (0 : Fin 1) (0 : Fin 1) x y : S1x1x512x512.Idx) = ix4 slot hh x y := by
  funext a; apply Fin.ext; fin_cases a <;> (refine (Rect.emb_apply _ _ _).trans ?_; simp [rSc, Rect.unit, ix4])

theorem emb_kOff (hh : Fin 2) (j : Fin 8) (x : Fin 512) (d : Fin 256) :
    (kOff hh j).r.emb (ix3 (0 : Fin 1) x d : S1x512x256.Idx) = ix3 hh ⟨512 * j.val + x.val, by omega⟩ d := by
  funext a; apply Fin.ext; fin_cases a <;> (refine (Rect.emb_apply _ _ _).trans ?_; simp [KOff.r, kOff, Rect.unit, ix3])

theorem emb_vOff (hh : Fin 2) (j : Fin 8) (r : Fin 144) (y : Fin 512) :
    (vOff hh j).r.emb (ix4 (0 : Fin 1) (0 : Fin 1) r y : S1x1x144x512.Idx) = ix4 hh j r y := by
  funext a; apply Fin.ext; fin_cases a <;> (refine (Rect.emb_apply _ _ _).trans ?_; simp [VOff.r, vOff, Rect.unit, ix4])

end Cert.KernelIdeal.Fox

end
-- ==== Proof.Holds.lean ====
/- What the buffers should hold, and that each block leaves them holding it. -/
module

public import proofs.«01_k».proof.Proof.Cells

@[expose] public section

noncomputable section

namespace Cert.KernelIdeal.Fox

open Cert.KernelIdeal Cert.KernelIdeal.Gen
open Idealize.ShloMosaic Idealize.ShloMosaic.TcCoe
open Idealize.SL.Sem

/-- The inputs of a grid point as real numbers: a pair of heads' queries, keys and values by row and lane, the negated
    log-forget sums of all heads by row and lane, and the lane of the pair's first head. -/
structure In where
  q : ℕ → ℕ → ℝ
  k : ℕ → ℕ → ℝ
  v : ℕ → ℕ → ℝ
  c : ℕ → ℕ → ℝ
  ln : ℕ

namespace In

/-- The score of key `x` for query `y` on head `hh`, to base two. -/
def s (I : In) (hh y x : ℕ) : ℝ :=
  (∑ d ∈ Finset.range 128, I.k x (128 * hh + d) * (I.q y (128 * hh + d) * kap)) + I.c x (I.ln + hh)
/-- What row `r` of the accumulators sums: a lane of the values, or ones. -/
def w (I : In) (hh x r : ℕ) : ℝ := if r < 128 then I.v x (128 * hh + r) else if r = 128 then 1 else 0
def kx (I : In) (hh x d : ℕ) : ℝ := if d < 128 then I.k x (128 * hh + d) else if d = 128 then I.c x (I.ln + hh) else 0
def qx (I : In) (hh y d : ℕ) : ℝ := if d < 128 then I.q y (128 * hh + d) * kap else if d < 131 then 1 else 0
/-- The attention: the values of the keys up to the query, weighted. -/
def out (I : In) (hh y d : ℕ) : ℝ :=
  (∑ x ∈ Finset.range (y + 1), (2 : ℝ) ^ I.s hh y x * I.w hh x d) / ∑ x ∈ Finset.range (y + 1), (2 : ℝ) ^ I.s hh y x

end In

variable (I : In)

def KxOK (kx : Vec Ideal S2x4096x256 .bf16) (hh : Fin 2) : Prop := ∀ x d, kx (ix3 hh x d) = ((I.kx hh.val x.val d.val : ℝ) : EReal)
def VtOK (vt : Vec Ideal S2x8x144x512 .bf16) (hh : Fin 2) : Prop :=
  ∀ j r y, vt (ix4 hh j r y) = ((I.w hh.val (512 * j.val + y.val) r.val : ℝ) : EReal)
def QxOK (hh : Fin 2) (i : ℕ) (qx : FVec Ideal S256x512 .bf16) : Prop :=
  ∀ d y, qx (ix2 d y) = ((I.qx hh.val (512 * i + y.val) d.val : ℝ) : EReal)
def ScAt (sc : Vec Ideal S2x2x512x512 .f32) (slot hh : Fin 2) (i j : ℕ) : Prop :=
  ∀ x y, sc (ix4 slot hh x y) = ((I.s hh.val (512 * i + y.val) (512 * j + x.val) : ℝ) : EReal)
/-- Query tile `i` has met the first `n y` keys at its query `y`. -/
def RunTo (mx : Vec Ideal S2x2x1x512 .f32) (ac : Vec Ideal S2x2x144x512 .f32) (par hh : Fin 2) (i : ℕ) (n : ℕ → ℕ) : Prop :=
  ∀ y : Fin 512, RunAt (I.s hh.val (512 * i + y.val)) (I.w hh.val) (n y.val) (mx (ix4 par hh 0 y)) (fun r => ac (ix4 par hh r y))
/-- The first `n` rows of the output are finished. -/
def OutTo (o : Vec Ideal S1x4096x256 .bf16) (n : ℕ) : Prop :=
  ∀ (y : Fin 4096) (hh : Fin 2) (d : Fin 128), y.val < n → o (ix3 0 y ⟨128 * hh.val + d.val, by omega⟩) = ((I.out hh.val y.val d.val : ℝ) : EReal)

/-- What the input blocks hold. -/
structure Reads (s0 : St Ideal) : Prop where
  q : ∀ y e, s0.q (ix3 0 y e) = ((I.q y.val e.val : ℝ) : EReal)
  k : ∀ y e, s0.k (ix3 0 y e) = ((I.k y.val e.val : ℝ) : EReal)
  v : ∀ y e, s0.v (ix3 0 y e) = ((I.v y.val e.val : ℝ) : EReal)
  c : ∀ y e, s0.c (ix3 0 y e) = ((I.c y.val e.val : ℝ) : EReal)

variable {I} {s0 : St Ideal}

/-! ## The extended keys and transposed values -/

theorem kxSet_ok (hr : Reads I s0) (i : grid0.Coords) (hl : I.ln = 8 + 2 * (i 1).val) (hh : Fin 2) (kx : Vec Ideal S2x4096x256 .bf16) :
    KxOK I (kxSet kx s0.k hh i (BitVec.ofNat 32 hh.val) fun y => s0.c (rC.emb y)) hh := by
  intro x d
  unfold kxSet In.kx
  by_cases h : d.val < 128
  · have e := emb_kxHalf hh 0 x ⟨d.val, h⟩
    have e' : (ix3 hh x d : S2x4096x256.Idx) = ix3 hh x ⟨128 * (0 : Fin 2).val + d.val, by simp⟩ := by
      congr 1; apply Fin.ext; simp
    rw [if_pos h]
    refine (overlay_ne _ _ _ 2 rfl (.inl (by change d.val < 128 * 1; omega))).trans ((overlay_at _ _ _ (e.trans e'.symm)).trans ?_)
    refine (pK_at _ _ _).trans ?_
    rw [emb_head, hr.k]
  · have e := emb_kxHalf hh 1 x ⟨d.val - 128, by omega⟩
    have e' : (ix3 hh x d : S2x4096x256.Idx) = ix3 hh x ⟨128 * (1 : Fin 2).val + (d.val - 128), by simp; omega⟩ := by
      congr 1; apply Fin.ext; simp; omega
    rw [if_neg h]
    refine (overlay_at _ _ _ (e.trans e'.symm)).trans ?_
    refine (pCx_at i hh _ x _ (fun l => I.c x.val l.val) (fun l => by rw [emb_c, hr.c])).trans ?_
    by_cases h2 : d.val = 128
    · rw [if_pos (by simp [h2]), if_pos h2, hl]; rfl
    · rw [if_neg (by simp; omega), if_neg h2, EReal.coe_zero]

theorem kxSet_ne (i : grid0.Coords) {hh hh' : Fin 2} (hne : hh' ≠ hh) {kx : Vec Ideal S2x4096x256 .bf16} (kk : Vec Ideal S1x4096x256 .bf16) (ln : BitVec 32)
    (cc : Vec Ideal S1x4096x128 .f32) (h : KxOK I kx hh') : KxOK I (kxSet kx kk hh i ln cc) hh' := by
  intro x d
  have hv : hh'.val < hh.val ∨ hh.val + 1 ≤ hh'.val := by have := Fin.val_ne_of_ne hne; omega
  unfold kxSet
  exact (overlay_ne _ _ _ 0 rfl hv).trans ((overlay_ne _ _ _ 0 rfl hv).trans (h x d))

theorem vtSet_ok (hr : Reads I s0) (hh : Fin 2) (vt : Vec Ideal S2x8x144x512 .bf16) : ∀ (n : ℕ) (hn : n ≤ 8) (j : Fin 8), j.val < n → ∀ r y,
    vtSet s0.v hh n hn vt (ix4 hh j r y) = ((I.w hh.val (512 * j.val + y.val) r.val : ℝ) : EReal)
  | 0, _, _, hj, _, _ => absurd hj (by omega)
  | n + 1, hn, j, hj, r, y => by
    unfold vtSet
    by_cases h : j.val = n
    · obtain rfl : j = ⟨n, hn⟩ := Fin.ext h
      refine (overlay_at _ _ _ (emb_vt _ _ r y)).trans ?_
      refine (pVt_at _ _ _).trans ?_
      unfold In.w
      by_cases h1 : r.val < 128
      · rw [dif_pos h1, if_pos h1, emb_tile, hr.v]
      · rw [dif_neg h1, if_neg h1]
        by_cases h2 : r.val = 128
        · rw [if_pos h2, if_pos h2, EReal.coe_one]
        · rw [if_neg h2, if_neg h2, EReal.coe_zero]
    · exact (overlay_ne _ _ _ 1 rfl (.inl (show j.val < n by omega))).trans (vtSet_ok hr hh vt n _ j (by omega) r y)

theorem vtSet_ne {hh hh' : Fin 2} (hne : hh' ≠ hh) (v : Vec Ideal S1x4096x256 .bf16) {vt : Vec Ideal S2x8x144x512 .bf16} (h : VtOK I vt hh') :
    ∀ (n : ℕ) (hn : n ≤ 8), VtOK I (vtSet v hh n hn vt) hh'
  | 0, _ => h
  | n + 1, hn => fun j r y => by
    have hv : hh'.val < hh.val ∨ hh.val + 1 ≤ hh'.val := by have := Fin.val_ne_of_ne hne; omega
    unfold vtSet
    exact (overlay_ne _ _ _ 0 rfl hv).trans (vtSet_ne hne v h n _ j r y)

/-! ## A query tile -/

theorem qx_ok (hr : Reads I s0) (i : Fin 8) (hh : Fin 2) : QxOK I hh i.val (pQx fun y => s0.q ((rTile i hh).emb y)) := by
  intro d y
  refine (pQx_at _ _ _).trans ?_
  unfold In.qx
  by_cases h : d.val < 128
  · rw [dif_pos h, if_pos h, emb_tile, hr.q, EReal.coe_mul]
  · rw [dif_neg h, if_neg h]
    by_cases h2 : d.val < 131
    · rw [if_pos h2, if_pos h2, EReal.coe_one]
    · rw [if_neg h2, if_neg h2, EReal.coe_zero]

theorem start_ok (mx : Vec Ideal S2x2x1x512 .f32) (ac : Vec Ideal S2x2x144x512 .f32) (par hh : Fin 2) (i : ℕ) :
    RunTo I ((rMx2 par).overlay mx (pMinf (F := Ideal))) ((rAc2 par).overlay ac (pZero (F := Ideal))) par hh i (fun _ => 0) := by
  intro y
  refine .inl ⟨rfl, ?_, fun r => ?_⟩
  · exact (overlay_at _ _ _ (emb_mx2 par hh y)).trans (pMinf_at hh y)
  · exact (overlay_at _ _ _ (emb_ac2 par hh r y)).trans (pZero_at hh r y)

theorem start_ne {mx : Vec Ideal S2x2x1x512 .f32} {ac : Vec Ideal S2x2x144x512 .f32} {par par' : Fin 2} (hne : par' ≠ par) {hh : Fin 2} {i : ℕ}
    {n : ℕ → ℕ} (h : RunTo I mx ac par' hh i n) :
    RunTo I ((rMx2 par).overlay mx (pMinf (F := Ideal))) ((rAc2 par).overlay ac (pZero (F := Ideal))) par' hh i n := by
  have hv : par'.val < par.val ∨ par.val + 1 ≤ par'.val := by have := Fin.val_ne_of_ne hne; omega
  intro y
  have e : ∀ r, (rAc2 par).overlay ac (pZero (F := Ideal)) (ix4 par' hh r y) = ac (ix4 par' hh r y) := fun r => overlay_ne _ _ _ 0 rfl hv
  have e1 : (rMx2 par).overlay mx (pMinf (F := Ideal)) (ix4 par' hh 0 y) = mx (ix4 par' hh 0 y) := overlay_ne _ _ _ 0 rfl hv
  simp only [e]
  rw [e1]
  exact h y

/-! ## Scores -/

theorem In.dot (hh y x : ℕ) : ∑ d ∈ Finset.range 256, I.kx hh x d * I.qx hh y d = I.s hh y x := by
  have h1 : ∑ d ∈ Finset.range 128, I.kx hh x d * I.qx hh y d = ∑ d ∈ Finset.range 128, I.k x (128 * hh + d) * (I.q y (128 * hh + d) * kap) := by
    refine Finset.sum_congr rfl fun d hd => ?_
    have hd := Finset.mem_range.mp hd
    rw [In.kx, In.qx, if_pos hd, if_pos hd]
  have h2 : ∑ d ∈ Finset.range 128, I.kx hh x (128 + d) * I.qx hh y (128 + d) = I.c x (I.ln + hh) := by
    rw [Finset.sum_eq_single 0]
    · simp [In.kx, In.qx]
    · intro d _ hd
      rw [In.kx, if_neg (by omega), if_neg (by omega), zero_mul]
    · intro h; exact absurd (Finset.mem_range.mpr (by norm_num)) h
  rw [show Finset.range 256 = Finset.range (128 + 128) from rfl, Finset.sum_range_add, h1, h2, In.s]

theorem score_ok {kx : Vec Ideal S2x4096x256 .bf16} {hh : Fin 2} (hk : KxOK I kx hh) {i : ℕ} {qx : FVec Ideal S256x512 .bf16} (hq : QxOK I hh i qx)
    (sc : Vec Ideal S2x2x512x512 .f32) (slot : Fin 2) (j : Fin 8) :
    ScAt I ((rSc slot hh).overlay sc (pScore (fun y => kx ((kOff hh j).r.emb y)) qx)) slot hh i j.val := by
  intro x y
  refine (overlay_at _ _ _ (emb_sc slot hh x y)).trans ?_
  refine (pScore_at _ _ _ _).trans ?_
  rw [← In.dot, ← Fin.sum_univ_eq_sum_range (fun d => I.kx hh.val (512 * j.val + x.val) d * I.qx hh.val (512 * i + y.val) d), ← coe_sum]
  refine Finset.sum_congr rfl fun d _ => ?_
  rw [emb_kOff, hk, hq, EReal.coe_mul]

theorem score_ne {sc : Vec Ideal S2x2x512x512 .f32} {slot hh slot' hh' : Fin 2} (hne : slot' ≠ slot ∨ hh' ≠ hh) {i j : ℕ} (h : ScAt I sc slot' hh' i j)
    (G : Vec Ideal S1x1x512x512 .f32) : ScAt I ((rSc slot hh).overlay sc G) slot' hh' i j := by
  intro x y
  rw [← h x y]
  rcases hne with hne | hne
  · exact overlay_ne _ _ _ 0 rfl (by have := Fin.val_ne_of_ne hne; change slot'.val < slot.val ∨ slot.val + 1 ≤ slot'.val; omega)
  · exact overlay_ne _ _ _ 1 rfl (by have := Fin.val_ne_of_ne hne; change hh'.val < hh.val ∨ hh.val + 1 ≤ hh'.val; omega)

/-! ## Folding -/

/-- The fold of key tile `j`, of which the first `N y` keys count at query `y`. -/
theorem fold_ok {g : Vec Ideal S1x1x512x512 .f32 → FVec Ideal S512x512 .f32} {sc : Vec Ideal S2x2x512x512 .f32} {slot hh par : Fin 2} {i : ℕ} (j : Fin 8)
    (N : ℕ → ℕ) (hN : ∀ y < 512, 0 < N y ∧ N y ≤ 512)
    (hg : ∀ x y : Fin 512, g (fun z => sc ((rSc slot hh).emb z)) (ix2 x y)
      = if x.val < N y.val then ((I.s hh.val (512 * i + y.val) (512 * j.val + x.val) : ℝ) : EReal) else ⊥)
    {mx : Vec Ideal S2x2x1x512 .f32} {ac : Vec Ideal S2x2x144x512 .f32} (hrun : RunTo I mx ac par hh i (fun _ => 512 * j.val))
    {vt : Vec Ideal S2x8x144x512 .bf16} (hv : VtOK I vt hh) :
    RunTo I
      ((rMx par hh).overlay mx (pNew (g fun z => sc ((rSc slot hh).emb z)) (fun z => mx ((rMx par hh).emb z))))
      ((rAc par hh).overlay ac (pAcc (g fun z => sc ((rSc slot hh).emb z)) (fun z => mx ((rMx par hh).emb z))
        (fun z => ac ((rAc par hh).emb z)) (fun z => vt ((vOff hh j).r.emb z)))) par hh i (fun y => 512 * j.val + N y) := by
  intro y
  have hm : pMax (F := Ideal) (g fun z => sc ((rSc slot hh).emb z)) (fun z => mx ((rMx par hh).emb z)) (ix2 0 y)
      = max (mx (ix4 par hh 0 y)) (Finset.univ.fold max ⊥ fun x => g (fun z => sc ((rSc slot hh).emb z)) (ix2 x y)) := by
    rw [pMax_at, emb_mx]
  have h1 : ((rMx par hh).overlay mx (pNew (F := Ideal) (g fun z => sc ((rSc slot hh).emb z)) (fun z => mx ((rMx par hh).emb z)))) (ix4 par hh 0 y)
      = max (mx (ix4 par hh 0 y)) (Finset.univ.fold max ⊥ fun x => g (fun z => sc ((rSc slot hh).emb z)) (ix2 x y)) := by
    exact (overlay_at _ _ _ (emb_mx par hh y)).trans ((pNew_at _ _ _).trans hm)
  have h2 : ∀ r, ((rAc par hh).overlay ac (pAcc (F := Ideal) (g fun z => sc ((rSc slot hh).emb z)) (fun z => mx ((rMx par hh).emb z))
        (fun z => ac ((rAc par hh).emb z)) (fun z => vt ((vOff hh j).r.emb z)))) (ix4 par hh r y)
      = Ideal.exp2 (mx (ix4 par hh 0 y) - max (mx (ix4 par hh 0 y)) (Finset.univ.fold max ⊥ fun x => g (fun z => sc ((rSc slot hh).emb z)) (ix2 x y)))
          * ac (ix4 par hh r y)
        + ∑ x : Fin 512, vt (ix4 hh j r x) * Ideal.exp2 (g (fun z => sc ((rSc slot hh).emb z)) (ix2 x y)
            - max (mx (ix4 par hh 0 y)) (Finset.univ.fold max ⊥ fun x => g (fun z => sc ((rSc slot hh).emb z)) (ix2 x y))) := by
    intro r
    refine (overlay_at _ _ _ (emb_ac par hh r y)).trans ?_
    refine (pAcc_at _ _ _ _ _ _).trans ?_
    rw [hm, emb_mx, emb_ac]
    simp only [emb_vOff]
  simp only [h2]
  rw [h1]
  exact RunAt.step (hrun y) (N y.val) (hN y.val y.isLt).1 (hN y.val y.isLt).2 (fun x => g (fun z => sc ((rSc slot hh).emb z)) (ix2 x y))
    (fun x => hg x y) (fun r x => vt (ix4 hh j r x)) (fun r x => hv j r x)

theorem raw_ok {sc : Vec Ideal S2x2x512x512 .f32} {slot hh : Fin 2} {i j : ℕ} (h : ScAt I sc slot hh i j) (x y : Fin 512) :
    pRaw (F := Ideal) (fun z => sc ((rSc slot hh).emb z)) (ix2 x y)
      = if x.val < 512 then ((I.s hh.val (512 * i + y.val) (512 * j + x.val) : ℝ) : EReal) else ⊥ := by
  rw [pRaw_at, emb_sc, h, if_pos x.isLt]

theorem mask_ok {sc : Vec Ideal S2x2x512x512 .f32} {slot hh : Fin 2} {i j : ℕ} (h : ScAt I sc slot hh i j) (x y : Fin 512) :
    pMask (F := Ideal) (fun z => sc ((rSc slot hh).emb z)) (ix2 x y)
      = if x.val < y.val + 1 then ((I.s hh.val (512 * i + y.val) (512 * j + x.val) : ℝ) : EReal) else ⊥ := by
  rw [pMask_at, emb_sc, h]
  simp only [Nat.lt_succ_iff]

theorem fold_ne {mx : Vec Ideal S2x2x1x512 .f32} {ac : Vec Ideal S2x2x144x512 .f32} {par hh par' hh' : Fin 2} (hne : par' ≠ par ∨ hh' ≠ hh) {i : ℕ}
    {n : ℕ → ℕ} (h : RunTo I mx ac par' hh' i n) (G : Vec Ideal S1x1x1x512 .f32) (H : Vec Ideal S1x1x144x512 .f32) :
    RunTo I ((rMx par hh).overlay mx G) ((rAc par hh).overlay ac H) par' hh' i n := by
  intro y
  have e1 : (rMx par hh).overlay mx G (ix4 par' hh' 0 y) = mx (ix4 par' hh' 0 y) := by
    rcases hne with hne | hne
    · exact overlay_ne _ _ _ 0 rfl (by have := Fin.val_ne_of_ne hne; change par'.val < par.val ∨ par.val + 1 ≤ par'.val; omega)
    · exact overlay_ne _ _ _ 1 rfl (by have := Fin.val_ne_of_ne hne; change hh'.val < hh.val ∨ hh.val + 1 ≤ hh'.val; omega)
  have e2 : ∀ r, (rAc par hh).overlay ac H (ix4 par' hh' r y) = ac (ix4 par' hh' r y) := by
    intro r
    rcases hne with hne | hne
    · exact overlay_ne _ _ _ 0 rfl (by have := Fin.val_ne_of_ne hne; change par'.val < par.val ∨ par.val + 1 ≤ par'.val; omega)
    · exact overlay_ne _ _ _ 1 rfl (by have := Fin.val_ne_of_ne hne; change hh'.val < hh.val ∨ hh.val + 1 ≤ hh'.val; omega)
  simp only [e2]
  rw [e1]
  exact h y

/-! ## The output -/

theorem emit_ok {mx : Vec Ideal S2x2x1x512 .f32} {ac : Vec Ideal S2x2x144x512 .f32} {par : Fin 2} {i : Fin 8}
    (h : ∀ hh, RunTo I mx ac par hh i.val (fun y => 512 * i.val + (y + 1)))
    {o : Vec Ideal S1x4096x256 .bf16} (ho : OutTo I o (512 * i.val)) :
    OutTo I ((rTile i 1).overlay ((rTile i 0).overlay o (pOut fun y => ac ((rAc par 0).emb y))) (pOut fun y => ac ((rAc par 1).emb y)))
      (512 * (i.val + 1)) := by
  have key : ∀ (hh : Fin 2) (y : Fin 512) (d : Fin 128), pOut (F := Ideal) (fun y => ac ((rAc par hh).emb y)) (ix3 0 y d)
      = ((I.out hh.val (512 * i.val + y.val) d.val : ℝ) : EReal) := by
    intro hh y d
    refine (pOut_at _ _ _).trans ?_
    rw [emb_ac, emb_ac]
    exact RunAt.out (h hh y) (Nat.succ_pos _) ⟨128, by omega⟩ (fun x => by simp [In.w]) ⟨d.val, by omega⟩
  intro y hh d hy
  by_cases hlt : y.val < 512 * i.val
  · exact (overlay_ne _ _ _ 1 rfl (.inl hlt)).trans ((overlay_ne _ _ _ 1 rfl (.inl hlt)).trans (ho y hh d hlt))
  · have e : (rTile i hh).emb (ix3 (0 : Fin 1) ⟨y.val - 512 * i.val, by omega⟩ d : S1x512x128.Idx) = (ix3 0 y ⟨128 * hh.val + d.val, by omega⟩ : S1x4096x256.Idx) := by
      rw [emb_tile]; congr 1; apply Fin.ext; change 512 * i.val + (y.val - 512 * i.val) = y.val; omega
    have ky := key hh ⟨y.val - 512 * i.val, by omega⟩ d
    rw [show 512 * i.val + (y.val - 512 * i.val) = y.val by omega] at ky
    rcases (show hh = 0 ∨ hh = 1 by omega) with rfl | rfl
    · exact (overlay_ne _ _ _ 2 rfl (.inl (by change 128 * 0 + d.val < 128 * 1; omega))).trans ((overlay_at _ _ _ e).trans ky)
    · exact (overlay_at _ _ _ e).trans ky

end Cert.KernelIdeal.Fox

end
-- ==== Proof.Walk.lean ====
/- The whole body walked block by block: it leaves its inputs alone, and over finite inputs it writes the attention. -/
module

public import proofs.«01_k».proof.Proof.Holds

@[expose] public section

noncomputable section

namespace Cert.KernelIdeal.Fox

open Cert.KernelIdeal Cert.KernelIdeal.Gen
open Idealize.ShloMosaic Idealize.ShloMosaic.TcCoe
open Idealize.SL.Sem

attribute [local irreducible] pScore pAcc pNew pMax pOut pRaw pMask pQx pMinf pZero pK pCx pVt Rect.overlay

variable {c : Dev nD} {M : Mems} {st : St Ideal} {Q : St Ideal → Prop} {I : In} {s0 : St Ideal}

/-- The inputs are as they were. -/
def Keep (s0 st : St Ideal) : Prop := st.q = s0.q ∧ st.k = s0.k ∧ st.v = s0.v ∧ st.c = s0.c

/-- Which tile each score slot holds (its query and key tile), and how far each running softmax is. -/
abbrev Slots := Fin 2 → Option (ℕ × ℕ)
abbrev Runs := Fin 2 → Option (ℕ × (ℕ → ℕ))

/-- The buffers hold what these say, and the first `n` rows of the output are finished. -/
structure Holds (I : In) (S : Slots) (R : Runs) (n : ℕ) (st : St Ideal) : Prop where
  kx : ∀ hh, KxOK I st.kx hh
  vt : ∀ hh, VtOK I st.vt hh
  sc : ∀ slot i j, S slot = some (i, j) → ∀ hh, ScAt I st.sc slot hh i j
  run : ∀ par i m, R par = some (i, m) → ∀ hh, RunTo I st.mx st.ac par hh i m
  out : OutTo I st.o n

/-- The inputs are as they were, and where they are finite the buffers hold what they should. -/
def Sat (I : In) (s0 : St Ideal) (S : Slots) (R : Runs) (n : ℕ) (st : St Ideal) : Prop := Keep s0 st ∧ (Reads I s0 → Holds I S R n st)

variable {S : Slots} {R : Runs} {n : ℕ}

theorem T.scores (h : Sat I s0 S R n st) {i : ℕ} {q0 q1 : FVec Ideal S256x512 .bf16} (hq : Reads I s0 → QxOK I 0 i q0 ∧ QxOK I 1 i q1)
    {slot : Fin 2} (j : Fin 8) {k : PG Ideal Unit}
    (hk : ∀ st', Sat I s0 (Function.update S slot (some (i, j.val))) R n st' → T c M st' k Q) :
    T c M st (Fox.scores M slot (kOff 0 j) (kOff 1 j) q0 q1 k) Q := by
  refine T.score ?_
  refine T.score ?_
  refine hk _ ⟨⟨h.1.1, h.1.2.1, h.1.2.2.1, h.1.2.2.2⟩, fun hr => ?_⟩
  have hs := h.2 hr
  dsimp only
  refine ⟨hs.kx, hs.vt, fun slot' i' j' he hh => ?_, hs.run, hs.out⟩
  by_cases hne : slot' = slot
  · subst hne
    rw [Function.update_self] at he
    obtain ⟨rfl, rfl⟩ := Prod.mk.inj (Option.some.inj he)
    dsimp only
    rcases (show hh = 0 ∨ hh = 1 by omega) with rfl | rfl
    · exact score_ne (.inr (by decide)) (score_ok (hs.kx 0) (hq hr).1 _ _ _) _
    · exact score_ok (hs.kx 1) (hq hr).2 _ _ _
  · rw [Function.update_of_ne hne] at he
    exact score_ne (.inl hne) (score_ne (.inl hne) (hs.sc _ _ _ he hh) _) _

theorem T.folds {g : Vec Ideal S1x1x512x512 .f32 → FVec Ideal S512x512 .f32} (N : ℕ → ℕ) (hN : ∀ y < 512, 0 < N y ∧ N y ≤ 512)
    (hg : ∀ (sc : Vec Ideal S2x2x512x512 .f32) (slot hh : Fin 2) (i j : ℕ), ScAt I sc slot hh i j → ∀ x y : Fin 512,
      g (fun z => sc ((rSc slot hh).emb z)) (ix2 x y)
        = if x.val < N y.val then ((I.s hh.val (512 * i + y.val) (512 * j + x.val) : ℝ) : EReal) else ⊥)
    (h : Sat I s0 S R n st) {slot par : Fin 2} {i : ℕ} (j : Fin 8) (hS : S slot = some (i, j.val)) (hR : R par = some (i, fun _ => 512 * j.val))
    {k : PG Ideal Unit}
    (hk : ∀ st', Sat I s0 S (Function.update R par (some (i, fun y => 512 * j.val + N y))) n st' → T c M st' k Q) :
    T c M st (Fox.folds M g par slot (vOff 0 j) (vOff 1 j) k) Q := by
  refine T.fold ?_
  refine T.fold ?_
  refine hk _ ⟨⟨h.1.1, h.1.2.1, h.1.2.2.1, h.1.2.2.2⟩, fun hr => ?_⟩
  have hs := h.2 hr
  dsimp only
  refine ⟨hs.kx, hs.vt, hs.sc, fun par' i' m' he hh => ?_, hs.out⟩
  by_cases hne : par' = par
  · subst hne
    rw [Function.update_self] at he
    obtain ⟨rfl, rfl⟩ := Prod.mk.inj (Option.some.inj he)
    have h0 := fun hh => hs.run _ _ _ hR hh
    dsimp only
    rcases (show hh = 0 ∨ hh = 1 by omega) with rfl | rfl
    · exact fold_ne (.inr (by decide)) (fold_ok j N hN (hg _ _ _ _ _ (hs.sc _ _ _ hS 0)) (h0 0) (hs.vt 0)) _ _
    · exact fold_ok j N hN (hg _ _ _ _ _ (hs.sc _ _ _ hS 1)) (fold_ne (.inr (by decide)) (h0 1) _ _) (hs.vt 1)
  · rw [Function.update_of_ne hne] at he
    exact fold_ne (.inl hne) (fold_ne (.inl hne) (hs.run _ _ _ he hh) _ _) _ _

theorem T.foldsRaw (h : Sat I s0 S R n st) {slot par : Fin 2} {i : ℕ} (j : Fin 8) (hS : S slot = some (i, j.val)) (hR : R par = some (i, fun _ => 512 * j.val))
    {k : PG Ideal Unit}
    (hk : ∀ st', Sat I s0 S (Function.update R par (some (i, fun _ => 512 * (j.val + 1)))) n st' → T c M st' k Q) :
    T c M st (Fox.folds M pRaw par slot (vOff 0 j) (vOff 1 j) k) Q :=
  T.folds (fun _ => 512) (fun _ _ => ⟨by norm_num, by norm_num⟩) (fun _ _ _ _ _ hs x y => raw_ok hs x y) h j hS hR hk

theorem T.finish (i : Fin 8) {slot par : Fin 2} (h : Sat I s0 S R (512 * i.val) st) (hS : S slot = some (i.val, i.val))
    (hR : R par = some (i.val, fun _ => 512 * i.val)) {k : PG Ideal Unit}
    (hk : ∀ st', Sat I s0 S (Function.update R par none) (512 * (i.val + 1)) st' → T c M st' k Q) :
    T c M st (Fox.finish M i par slot k) Q := by
  refine T.folds (fun y => y + 1) (fun _ h => ⟨Nat.succ_pos _, h⟩) (fun _ _ _ _ _ hs x y => mask_ok hs x y) h i hS hR fun st' h' => ?_
  refine T.emit ?_
  refine T.emit ?_
  refine hk _ ⟨⟨h'.1.1, h'.1.2.1, h'.1.2.2.1, h'.1.2.2.2⟩, fun hr => ?_⟩
  have hs := h'.2 hr
  dsimp only
  refine ⟨hs.kx, hs.vt, hs.sc, fun par' i' m' he hh => ?_, emit_ok (fun hh => hs.run par _ _ (Function.update_self ..) hh) hs.out⟩
  by_cases hne : par' = par
  · subst hne
    rw [Function.update_self] at he
    exact absurd he (by simp)
  · rw [Function.update_of_ne hne] at he
    exact hs.run par' _ _ (by rw [Function.update_of_ne hne]; exact he) hh

theorem T.startTile (i : Fin 8) {par : Fin 2} (h : Sat I s0 S R n st) {k : FVec Ideal S256x512 .bf16 → FVec Ideal S256x512 .bf16 → PG Ideal Unit}
    (hk : ∀ st' q0 q1, (Reads I s0 → QxOK I 0 i.val q0 ∧ QxOK I 1 i.val q1) →
      Sat I s0 S (Function.update R par (some (i.val, fun _ => 0))) n st' → T c M st' (k q0 q1) Q) :
    T c M st (Fox.start M i par k) Q := by
  refine T.start ?_
  refine hk _ _ _ (fun hr => ?_) ⟨⟨h.1.1, h.1.2.1, h.1.2.2.1, h.1.2.2.2⟩, fun hr => ?_⟩
  · rw [h.1.1]; exact ⟨qx_ok hr i 0, qx_ok hr i 1⟩
  have hs := h.2 hr
  refine ⟨hs.kx, hs.vt, hs.sc, fun par' i' m' he hh => ?_, hs.out⟩
  by_cases hne : par' = par
  · subst hne
    rw [Function.update_self] at he
    obtain ⟨rfl, rfl⟩ := Prod.mk.inj (Option.some.inj he)
    exact start_ok _ _ _ _ _
  · rw [Function.update_of_ne hne] at he
    exact start_ne hne (hs.run _ _ _ he hh)

/-- Query tile `i` is under way: its score tile `j` is in `slot`, the tiles before folded, and the query tiles before `i` written. -/
def Live (I : In) (s0 : St Ideal) (slot par : Fin 2) (i j : ℕ) (st : St Ideal) : Prop :=
  ∃ S R, S slot = some (i, j) ∧ R par = some (i, fun _ => 512 * j) ∧ Sat I s0 S R (512 * i) st

theorem T.opening (i p : Fin 8) (hi : i.val = p.val + 1) {par par' sN sP : Fin 2} (hpar : par' ≠ par) (hs : sP ≠ sN) (h : Live I s0 sP par' p.val p.val st)
    {k : FVec Ideal S256x512 .bf16 → FVec Ideal S256x512 .bf16 → PG Ideal Unit}
    (hk : ∀ st' q0 q1, (Reads I s0 → QxOK I 0 i.val q0 ∧ QxOK I 1 i.val q1) → Live I s0 sN par i.val 0 st' → T c M st' (k q0 q1) Q) :
    T c M st (Fox.opening M i p par par' sN sP k) Q := by
  obtain ⟨S, R, hS, hR, h⟩ := h
  refine T.startTile i h fun st1 q0 q1 hq h1 => ?_
  refine T.scores h1 hq 0 fun st2 h2 => ?_
  refine T.finish p h2 (by rw [Function.update_of_ne hs, hS]) (by rw [Function.update_of_ne hpar, hR]) fun st3 h3 => ?_
  rw [← hi] at h3
  refine hk st3 q0 q1 hq ⟨_, _, Function.update_self .., ?_, h3⟩
  rw [Function.update_of_ne hpar.symm, Function.update_self]

theorem T.odd (i : ℕ) (j jp : Fin 8) (hj : j.val = jp.val + 1) {sN sP : Fin 2} (hs : sP ≠ sN) (h : Live I s0 sP 1 i jp.val st)
    {q0 q1 : FVec Ideal S256x512 .bf16} (hq : Reads I s0 → QxOK I 0 i q0 ∧ QxOK I 1 i q1) {k : PG Ideal Unit}
    (hk : ∀ st', Live I s0 sN 1 i j.val st' → T c M st' k Q) : T c M st (Fox.odd M j jp sN sP q0 q1 k) Q := by
  obtain ⟨S, R, hS, hR, h⟩ := h
  refine T.scores h hq j fun st1 h1 => ?_
  refine T.foldsRaw h1 jp (by rw [Function.update_of_ne hs, hS]) hR fun st2 h2 => ?_
  exact hk st2 ⟨_, _, Function.update_self .., by rw [Function.update_self, hj], h2⟩

theorem T.pair (i : ℕ) (j0 j1 j2 : Fin 8) (h01 : j1.val = j0.val + 1) (h12 : j2.val = j0.val + 2) {par sA sB : Fin 2} (hs : sA ≠ sB)
    (h : Live I s0 sA par i j0.val st)
    {q0 q1 : FVec Ideal S256x512 .bf16} (hq : Reads I s0 → QxOK I 0 i q0 ∧ QxOK I 1 i q1) {k : PG Ideal Unit}
    (hk : ∀ st', Live I s0 sA par i (j0.val + 2) st' → T c M st' k Q) :
    T c M st (Fox.pair M par sA sB (kOff 0 j1) (kOff 1 j1) (kOff 0 j2) (kOff 1 j2) (vOff 0 j0) (vOff 1 j0) (vOff 0 j1) (vOff 1 j1) q0 q1 k) Q := by
  obtain ⟨S, R, hS, hR, h⟩ := h
  refine T.scores h hq j1 fun st1 h1 => ?_
  refine T.foldsRaw h1 j0 (by rw [Function.update_of_ne hs, hS]) hR fun st2 h2 => ?_
  refine T.scores h2 hq j2 fun st3 h3 => ?_
  refine T.foldsRaw h3 j1 (by rw [Function.update_of_ne hs.symm, Function.update_self]) (by rw [Function.update_self, h01]) fun st4 h4 => ?_
  exact hk st4 ⟨_, _, by rw [Function.update_self, h12], by rw [Function.update_self, h01], h4⟩

/-! ## The counted loops over pairs of key tiles -/

theorem kOff_of (hh : Fin 2) (j : Fin 8) {o : Fin 3 → Nat} {h} (e : o = ![hh.val, 512 * j.val, 0]) : (⟨o, h⟩ : KOff) = kOff hh j := by
  subst e; rfl
theorem vOff_of (hh : Fin 2) (j : Fin 8) {o : Fin 4 → Nat} {h} (e : o = ![hh.val, j.val, 0, 0]) : (⟨o, h⟩ : VOff) = vOff hh j := by
  subst e; rfl

theorem off1 : ∀ t : Fin k0_t1_loop.trips,
    k0_off7 t 1#32 = ![0, 512 * (2 * t.val + 1), 0] ∧ k0_off8 t 1#32 = ![1, 512 * (2 * t.val + 1), 0]
    ∧ k0_off7 t 2#32 = ![0, 512 * (2 * t.val + 2), 0] ∧ k0_off8 t 2#32 = ![1, 512 * (2 * t.val + 2), 0]
    ∧ k0_off9 t = ![0, 2 * t.val, 0, 0] ∧ k0_off10 t = ![1, 2 * t.val, 0, 0]
    ∧ k0_off11 t = ![0, 2 * t.val + 1, 0, 0] ∧ k0_off12 t = ![1, 2 * t.val + 1, 0, 0] := by
  decide +kernel
theorem off2 : ∀ t : Fin k0_t2_loop.trips,
    k0_off13 t 1#32 = ![0, 512 * (2 * t.val + 1), 0] ∧ k0_off14 t 1#32 = ![1, 512 * (2 * t.val + 1), 0]
    ∧ k0_off13 t 2#32 = ![0, 512 * (2 * t.val + 2), 0] ∧ k0_off14 t 2#32 = ![1, 512 * (2 * t.val + 2), 0]
    ∧ k0_off15 t = ![0, 2 * t.val, 0, 0] ∧ k0_off16 t = ![1, 2 * t.val, 0, 0]
    ∧ k0_off17 t = ![0, 2 * t.val + 1, 0, 0] ∧ k0_off18 t = ![1, 2 * t.val + 1, 0, 0] := by
  decide +kernel
theorem off3 : ∀ t : Fin k0_t3_loop.trips,
    k0_off19 t 1#32 = ![0, 512 * (2 * t.val + 1), 0] ∧ k0_off20 t 1#32 = ![1, 512 * (2 * t.val + 1), 0]
    ∧ k0_off19 t 2#32 = ![0, 512 * (2 * t.val + 2), 0] ∧ k0_off20 t 2#32 = ![1, 512 * (2 * t.val + 2), 0]
    ∧ k0_off21 t = ![0, 2 * t.val, 0, 0] ∧ k0_off22 t = ![1, 2 * t.val, 0, 0]
    ∧ k0_off23 t = ![0, 2 * t.val + 1, 0, 0] ∧ k0_off24 t = ![1, 2 * t.val + 1, 0, 0] := by
  decide +kernel
theorem off4 : ∀ t : Fin k0_t4_loop.trips,
    k0_off25 t 1#32 = ![0, 512 * (2 * t.val + 1), 0] ∧ k0_off26 t 1#32 = ![1, 512 * (2 * t.val + 1), 0]
    ∧ k0_off25 t 2#32 = ![0, 512 * (2 * t.val + 2), 0] ∧ k0_off26 t 2#32 = ![1, 512 * (2 * t.val + 2), 0]
    ∧ k0_off27 t = ![0, 2 * t.val, 0, 0] ∧ k0_off28 t = ![1, 2 * t.val, 0, 0]
    ∧ k0_off29 t = ![0, 2 * t.val + 1, 0, 0] ∧ k0_off30 t = ![1, 2 * t.val + 1, 0, 0] := by
  decide +kernel

theorem T.loop1 (i : ℕ) (h : Live I s0 0 0 i 0 st) {q0 q1 : FVec Ideal S256x512 .bf16} (hq : Reads I s0 → QxOK I 0 i q0 ∧ QxOK I 1 i q1)
    {k : Unit → PG Ideal Unit} (hk : ∀ st', Live I s0 0 0 i 4 st' → T c M st' (k ⟨⟩) Q) :
    T c M st (Prog.bind (Scf.Loop.for k0_t1_loop k0_t1_ok ⟨⟩ (body1 M q0 q1)) k) Q := by
  refine T.loop k0_t1_loop k0_t1_ok (fun n s => Live I s0 0 0 i (2 * n) s) h (fun t s hs => ?_) hk
  have ht : t.val < 2 := t.isLt
  obtain ⟨e1, e2, e3, e4, e5, e6, e7, e8⟩ := off1 t
  rw [body1, kOff_of 0 ⟨2 * t.val + 1, by omega⟩ e1, kOff_of 1 ⟨2 * t.val + 1, by omega⟩ e2, kOff_of 0 ⟨2 * t.val + 2, by omega⟩ e3,
    kOff_of 1 ⟨2 * t.val + 2, by omega⟩ e4, vOff_of 0 ⟨2 * t.val, by omega⟩ e5, vOff_of 1 ⟨2 * t.val, by omega⟩ e6,
    vOff_of 0 ⟨2 * t.val + 1, by omega⟩ e7, vOff_of 1 ⟨2 * t.val + 1, by omega⟩ e8]
  exact T.pair i ⟨2 * t.val, _⟩ ⟨2 * t.val + 1, _⟩ ⟨2 * t.val + 2, _⟩ rfl rfl (by decide) hs hq fun st' h' => T.ret h'

theorem T.loop2 (i : ℕ) (h : Live I s0 1 1 i 0 st) {q0 q1 : FVec Ideal S256x512 .bf16} (hq : Reads I s0 → QxOK I 0 i q0 ∧ QxOK I 1 i q1)
    {k : Unit → PG Ideal Unit} (hk : ∀ st', Live I s0 1 1 i 4 st' → T c M st' (k ⟨⟩) Q) :
    T c M st (Prog.bind (Scf.Loop.for k0_t2_loop k0_t2_ok ⟨⟩ (body2 M q0 q1)) k) Q := by
  refine T.loop k0_t2_loop k0_t2_ok (fun n s => Live I s0 1 1 i (2 * n) s) h (fun t s hs => ?_) hk
  have ht : t.val < 2 := t.isLt
  obtain ⟨e1, e2, e3, e4, e5, e6, e7, e8⟩ := off2 t
  rw [body2, kOff_of 0 ⟨2 * t.val + 1, by omega⟩ e1, kOff_of 1 ⟨2 * t.val + 1, by omega⟩ e2, kOff_of 0 ⟨2 * t.val + 2, by omega⟩ e3,
    kOff_of 1 ⟨2 * t.val + 2, by omega⟩ e4, vOff_of 0 ⟨2 * t.val, by omega⟩ e5, vOff_of 1 ⟨2 * t.val, by omega⟩ e6,
    vOff_of 0 ⟨2 * t.val + 1, by omega⟩ e7, vOff_of 1 ⟨2 * t.val + 1, by omega⟩ e8]
  exact T.pair i ⟨2 * t.val, _⟩ ⟨2 * t.val + 1, _⟩ ⟨2 * t.val + 2, _⟩ rfl rfl (by decide) hs hq fun st' h' => T.ret h'

theorem T.loop3 (i : ℕ) (h : Live I s0 1 0 i 0 st) {q0 q1 : FVec Ideal S256x512 .bf16} (hq : Reads I s0 → QxOK I 0 i q0 ∧ QxOK I 1 i q1)
    {k : Unit → PG Ideal Unit} (hk : ∀ st', Live I s0 1 0 i 6 st' → T c M st' (k ⟨⟩) Q) :
    T c M st (Prog.bind (Scf.Loop.for k0_t3_loop k0_t3_ok ⟨⟩ (body3 M q0 q1)) k) Q := by
  refine T.loop k0_t3_loop k0_t3_ok (fun n s => Live I s0 1 0 i (2 * n) s) h (fun t s hs => ?_) hk
  have ht : t.val < 3 := t.isLt
  obtain ⟨e1, e2, e3, e4, e5, e6, e7, e8⟩ := off3 t
  rw [body3, kOff_of 0 ⟨2 * t.val + 1, by omega⟩ e1, kOff_of 1 ⟨2 * t.val + 1, by omega⟩ e2, kOff_of 0 ⟨2 * t.val + 2, by omega⟩ e3,
    kOff_of 1 ⟨2 * t.val + 2, by omega⟩ e4, vOff_of 0 ⟨2 * t.val, by omega⟩ e5, vOff_of 1 ⟨2 * t.val, by omega⟩ e6,
    vOff_of 0 ⟨2 * t.val + 1, by omega⟩ e7, vOff_of 1 ⟨2 * t.val + 1, by omega⟩ e8]
  exact T.pair i ⟨2 * t.val, _⟩ ⟨2 * t.val + 1, _⟩ ⟨2 * t.val + 2, _⟩ rfl rfl (by decide) hs hq fun st' h' => T.ret h'

theorem T.loop4 (i : ℕ) (h : Live I s0 0 1 i 0 st) {q0 q1 : FVec Ideal S256x512 .bf16} (hq : Reads I s0 → QxOK I 0 i q0 ∧ QxOK I 1 i q1)
    {k : Unit → PG Ideal Unit} (hk : ∀ st', Live I s0 0 1 i 6 st' → T c M st' (k ⟨⟩) Q) :
    T c M st (Prog.bind (Scf.Loop.for k0_t4_loop k0_t4_ok ⟨⟩ (body4 M q0 q1)) k) Q := by
  refine T.loop k0_t4_loop k0_t4_ok (fun n s => Live I s0 0 1 i (2 * n) s) h (fun t s hs => ?_) hk
  have ht : t.val < 3 := t.isLt
  obtain ⟨e1, e2, e3, e4, e5, e6, e7, e8⟩ := off4 t
  rw [body4, kOff_of 0 ⟨2 * t.val + 1, by omega⟩ e1, kOff_of 1 ⟨2 * t.val + 1, by omega⟩ e2, kOff_of 0 ⟨2 * t.val + 2, by omega⟩ e3,
    kOff_of 1 ⟨2 * t.val + 2, by omega⟩ e4, vOff_of 0 ⟨2 * t.val, by omega⟩ e5, vOff_of 1 ⟨2 * t.val, by omega⟩ e6,
    vOff_of 0 ⟨2 * t.val + 1, by omega⟩ e7, vOff_of 1 ⟨2 * t.val + 1, by omega⟩ e8]
  exact T.pair i ⟨2 * t.val, _⟩ ⟨2 * t.val + 1, _⟩ ⟨2 * t.val + 2, _⟩ rfl rfl (by decide) hs hq fun st' h' => T.ret h'

/-! ## The whole body -/

theorem T.tiles (h : Sat I s0 (fun _ => none) (fun _ => none) 0 st) :
    T c M st (Fox.tiles M) (fun st' => Keep s0 st' ∧ (Reads I s0 → OutTo I st'.o 4096)) := by
  unfold Fox.tiles
  refine T.startTile 0 h fun st q0 q1 hq h => ?_
  refine T.scores h hq 0 fun st h => ?_
  have h : Live I s0 0 0 0 0 st := ⟨_, _, Function.update_self .., Function.update_self .., h⟩
  refine T.opening 1 0 rfl (by decide) (by decide) h fun st q0 q1 hq h => ?_
  refine T.odd 1 1 0 rfl (by decide) h hq fun st h => ?_
  refine T.opening 2 1 rfl (by decide) (by decide) h fun st q0 q1 hq h => ?_
  refine T.pair 2 0 1 2 rfl rfl (by decide) h hq fun st h => ?_
  refine T.opening 3 2 rfl (by decide) (by decide) h fun st q0 q1 hq h => ?_
  refine T.pair 3 0 1 2 rfl rfl (by decide) h hq fun st h => ?_
  refine T.odd 3 3 2 rfl (by decide) h hq fun st h => ?_
  refine T.opening 4 3 rfl (by decide) (by decide) h fun st q0 q1 hq h => ?_
  refine T.loop1 4 h hq fun st h => ?_
  refine T.opening 5 4 rfl (by decide) (by decide) h fun st q0 q1 hq h => ?_
  refine T.loop2 5 h hq fun st h => ?_
  refine T.odd 5 5 4 rfl (by decide) h hq fun st h => ?_
  refine T.opening 6 5 rfl (by decide) (by decide) h fun st q0 q1 hq h => ?_
  refine T.loop3 6 h hq fun st h => ?_
  refine T.opening 7 6 rfl (by decide) (by decide) h fun st q0 q1 hq h => ?_
  refine T.loop4 7 h hq fun st h => ?_
  refine T.odd 7 7 6 rfl (by decide) h hq fun st h => ?_
  obtain ⟨S, R, hS, hR, h⟩ := h
  refine T.finish 7 h hS hR fun st h => ?_
  exact T.ret ⟨h.1, fun hr => (h.2 hr).out⟩

theorem T.attn (i : grid0.Coords) (hl : I.ln = 8 + 2 * (i 1).val) :
    T c M st (Fox.attn M i) (fun st' => Keep st st' ∧ (Reads I st → OutTo I st'.o 4096)) := by
  unfold Fox.attn
  refine T.prologue ?_
  refine T.tiles ⟨⟨rfl, rfl, rfl, rfl⟩, fun hr => ⟨fun hh => ?_, fun hh => ?_, fun _ _ _ h => (nomatch h), fun _ _ _ h => (nomatch h), fun y _ _ hy => absurd hy (Nat.not_lt_zero _)⟩⟩
  · rcases (show hh = 0 ∨ hh = 1 by omega) with rfl | rfl
    · exact kxSet_ne i (by decide) _ _ _ (kxSet_ok hr i hl 0 _)
    · exact kxSet_ok hr i hl 1 _
  · rcases (show hh = 0 ∨ hh = 1 by omega) with rfl | rfl
    · exact vtSet_ne (by decide) _ (fun j r y => vtSet_ok hr 0 _ 8 _ j j.isLt r y) 8 _
    · exact fun j r y => vtSet_ok hr 1 _ 8 _ j j.isLt r y

end Cert.KernelIdeal.Fox

end
-- ==== Proof.Same.lean ====
/- The printed body is the blocks of `Prog` in a row. -/
module

public import proofs.«01_k».proof.Proof.Prog

@[expose] public section

noncomputable section

namespace Cert.KernelIdeal.Fox

open Cert.KernelIdeal Cert.KernelIdeal.Gen
open Idealize.ShloMosaic Idealize.ShloMosaic.TcCoe
open Idealize.SL.Sem

variable {F : FTy → Type} [FloatOps F] [Named F]

section
variable (i : grid0.Coords) (M : Mems) (hq : M.q.IsWhole) (hk : M.k.IsWhole) (hv : M.v.IsWhole) (hc : M.c.IsWhole)
  (hmx : M.mx.IsWhole) (hac : M.ac.IsWhole) (hsc : M.sc.IsWhole)

set_option maxRecDepth 65536 in
theorem body1_eq (x : FVec F S128x512 .bf16) (q0 q1 : FVec F S256x512 .bf16) :
    k0_t1_body i M.q hq M.k hk M.v hv M.c hc M.o M.ho M.kx M.hkx M.vt M.hvt M.mx hmx M.ac hac M.sc hsc x q0 q1
      = body1 M q0 q1 := by
  funext t u
  sl_kernel_rfl

set_option maxRecDepth 65536 in
theorem body2_eq (q0 q1 : FVec F S256x512 .bf16) :
    k0_t2_body i M.q hq M.k hk M.v hv M.c hc M.o M.ho M.kx M.hkx M.vt M.hvt M.mx hmx M.ac hac M.sc hsc q0 q1
      = body2 M q0 q1 := by
  funext t u
  sl_kernel_rfl

set_option maxRecDepth 65536 in
theorem body3_eq (x : FVec F S128x512 .bf16) (q0 q1 : FVec F S256x512 .bf16) :
    k0_t3_body i M.q hq M.k hk M.v hv M.c hc M.o M.ho M.kx M.hkx M.vt M.hvt M.mx hmx M.ac hac M.sc hsc x q0 q1 0#32 3#32
      = body3 M q0 q1 := by
  funext t u
  sl_kernel_rfl

set_option maxRecDepth 65536 in
theorem body4_eq (q0 q1 : FVec F S256x512 .bf16) :
    k0_t4_body i M.q hq M.k hk M.v hv M.c hc M.o M.ho M.kx M.hkx M.vt M.hvt M.mx hmx M.ac hac M.sc hsc q0 q1 0#32 3#32
      = body4 M q0 q1 := by
  funext t u
  sl_kernel_rfl

/-- The new accumulators from the weights and the factor of the old ones. -/
def accOf (p : FVec F S512x512 .bf16) (e : FVec F S1x512 .f32) (a : Vec F S1x1x144x512 .f32) (vt : Vec F S1x1x144x512 .bf16) :
    FVec F S1x1x144x512 .f32 :=
  shapeCast S1x1x144x512 (addf (mulf (broadcastTo S144x512 e broadcasts_S1x512_S144x512)
      (shapeCast S144x512 a shapeCasts_S1x1x144x512_S144x512))
    (matmul dot_S144x512_S512x512_S144x512_1_0_0_1_n_n none (shapeCast S144x512 vt shapeCasts_S1x1x144x512_S144x512) p
      (constant S144x512 .f32 0x00000000#32))) shapeCasts_S144x512_S1x1x144x512

/-- A finished query tile, before its last reshape. -/
def outOf (a : Vec F S1x1x144x512 .f32) : FVec F S512x128 .bf16 :=
  truncf .bf16 (transpose S512x128 [1, 0]
    (divf (extractStridedSlice S128x512 ![0, 0] (shapeCast S144x512 a shapeCasts_S1x1x144x512_S144x512) slices_S144x512_o0_0_S128x512)
      (broadcastTo S128x512 (extractStridedSlice S1x512 ![128, 0] (shapeCast S144x512 a shapeCasts_S1x1x144x512_S144x512)
        slices_S144x512_o128_0_S1x512) broadcasts_S1x512_S128x512)) transposes_S128x512_p1_0_S512x128) bitsLt_bf16_f32

/-! The same blocks cut where the printed body is cut: after each loop a few operations, then the rest, then the last store. -/

def h4 (v : FVec F S512x128 .bf16) : PG F Unit :=
  .op (.store M.o (rTile 7 1) (shapeCast S1x512x128 v shapeCasts_S512x128_S1x512x128) Finset.univ
    (View.stores_vmem h_S1x512x128 (M.ho.storeExact_slice rfl _ (packed_tile 7 1)) (fun _ => rfl)) (.inl rfl)) .ret

def f4 (q0 q1 : FVec F S256x512 .bf16) : PG F (Σ' (_ : FVec F S1x512 .f32) (_ : FVec F S512x512 .bf16), FVec F S1x512 .f32) :=
  scores M 1 (kOff 0 7) (kOff 1 7) q0 q1 <|
  ld M.sc (rSc 0 0) (View.loadsAt_vmem h_S1x1x512x512) fun s =>
  ld M.mx (rMx 1 0) (View.loadsAt_vmem h_S1x1x1x512) fun m =>
  .ret ⟨pMax (pRaw s) m, truncf .bf16 (exp2 (subf (pRaw s) (broadcastTo S512x512 (pMax (pRaw s) m) broadcasts_S1x512_S512x512))) bitsLt_bf16_f32,
    exp2 (subf (pOld m) (pMax (pRaw s) m))⟩

def g4 : (Σ' (_ : FVec F S1x512 .f32) (_ : FVec F S512x512 .bf16), FVec F S1x512 .f32) → PG F (FVec F S512x128 .bf16)
  | ⟨x, p, e⟩ =>
    ld M.ac (rAc 1 0) (View.loadsAt_vmem h_S1x1x144x512) fun a =>
    ld M.vt (Rect.unit (s := S2x8x144x512) (vOff 0 6).off S1x1x144x512.size (vOff 0 6).inb) (View.loadsAt_vmem h_S1x1x144x512) fun vt =>
    stw M.ac (rAc 1 0) (View.loadsAt_vmem h_S1x1x144x512) (View.stores_vmem_bits_univ h_S1x1x144x512 rfl) (accOf p e a vt) <|
    stw M.mx (rMx 1 0) (View.loadsAt_vmem h_S1x1x1x512) (View.stores_vmem_bits_univ h_S1x1x1x512 rfl) (shapeCast S1x1x1x512 x shapeCasts_S1x512_S1x1x1x512) <|
    fold M pRaw 1 0 1 (vOff 1 6) <| folds M pMask 1 1 (vOff 0 7) (vOff 1 7) <| emit M 7 1 0 <|
    ld M.ac (rAc 1 1) (View.loadsAt_vmem h_S1x1x144x512) fun a =>
    ld M.o (rTile 7 1) (View.loadsAt_vmem h_S1x512x128) fun _ => .ret (outOf a)

def f3 : PG F (Σ' (_ : FVec F S256x512 .bf16) (_ : FVec F S256x512 .bf16) (_ : FVec F S512x512 .f32), Vec F S1x1x512x512 .f32) :=
  start M 7 1 fun q0 q1 =>
  ld M.kx (Rect.unit (s := S2x4096x256) (kOff 0 0).off S1x512x256.size (kOff 0 0).inb) (View.loadsAt_vmem h_S1x512x256) fun kx =>
  ld M.sc (rSc 0 0) (View.loadsAt_vmem h_S1x1x512x512) fun s =>
  .ret ⟨q0, q1, matmul dot_S512x256_S256x512_S512x512_1_0_0_1_n_n none
    (shapeCast S512x256 kx shapeCasts_S1x512x256_S512x256) q0 (constant S512x512 .f32 0x00000000#32), s⟩

def g3 : (Σ' (_ : FVec F S256x512 .bf16) (_ : FVec F S256x512 .bf16) (_ : FVec F S512x512 .f32), Vec F S1x1x512x512 .f32) → PG F (FVec F S512x128 .bf16)
  | ⟨q0, q1, x, _⟩ =>
    .op (.store M.sc (rSc 0 0) (shapeCast S1x1x512x512 x shapeCasts_S512x512_S1x1x512x512) Finset.univ (View.stores_vmem_bits_univ h_S1x1x512x512 rfl) (.inl rfl)) fun _ =>
    score M 0 1 (kOff 1 0) q1 <| finish M 6 0 1 <|
    Prog.bind (Prog.bind (Scf.Loop.for k0_t4_loop k0_t4_ok ⟨⟩ (body4 M q0 q1)) fun _ => f4 M q0 q1) (g4 M)

def f2 (q0 q1 : FVec F S256x512 .bf16) : PG F PUnit := score M 0 0 (kOff 0 5) q0 (.ret ⟨⟩)

def g2 (q0 q1 : FVec F S256x512 .bf16) : PG F (FVec F S512x128 .bf16) :=
  score M 0 1 (kOff 1 5) q1 <| folds M pRaw 1 1 (vOff 0 4) (vOff 1 4) <|
  opening M 6 5 0 1 1 0 fun q0 q1 =>
    Prog.bind (Prog.bind (Scf.Loop.for k0_t3_loop k0_t3_ok ⟨⟩ (body3 M q0 q1)) fun _ => f3 M) (g3 M)

def f1 : PG F (Σ' (_ : FVec F S256x512 .bf16), Vec F S1x512x128 .bf16) :=
  ld M.q (rTile 5 0) (View.loadsAt_vmem h_S1x512x128) fun q0 =>
  ld M.q (rTile 5 1) (View.loadsAt_vmem h_S1x512x128) fun q1 => .ret ⟨pQx q0, q1⟩

def g1 : (Σ' (_ : FVec F S256x512 .bf16), Vec F S1x512x128 .bf16) → PG F (FVec F S512x128 .bf16)
  | ⟨q0, q1⟩ =>
    stw M.mx (rMx2 1) (View.loadsAt_vmem h_S1x2x1x512) (View.stores_vmem_bits_univ h_S1x2x1x512 rfl) pMinf <|
    stw M.ac (rAc2 1) (View.loadsAt_vmem h_S1x2x144x512) (View.stores_vmem_bits_univ h_S1x2x144x512 rfl) pZero <|
    scores M 1 (kOff 0 0) (kOff 1 0) q0 (pQx q1) <| finish M 4 0 0 <|
    Prog.bind (Prog.bind (Scf.Loop.for k0_t2_loop k0_t2_ok ⟨⟩ (body2 M q0 (pQx q1))) fun _ => f2 M q0 (pQx q1))
      fun _ => g2 M q0 (pQx q1)

/-- The whole body, cut where the printed one is. -/
def attnCut (i : grid0.Coords) : PG F Unit :=
  Prog.bind (prologue M i <|
    start M 0 0 fun q0 q1 => scores M 0 (kOff 0 0) (kOff 1 0) q0 q1 <|
    opening M 1 0 1 0 1 0 fun q0 q1 => odd M 1 0 0 1 q0 q1 <|
    opening M 2 1 0 1 1 0 fun q0 q1 => pair M 0 1 0 (kOff 0 1) (kOff 1 1) (kOff 0 2) (kOff 1 2) (vOff 0 0) (vOff 1 0) (vOff 0 1) (vOff 1 1) q0 q1 <|
    opening M 3 2 1 0 0 1 fun q0 q1 => pair M 1 0 1 (kOff 0 1) (kOff 1 1) (kOff 0 2) (kOff 1 2) (vOff 0 0) (vOff 1 0) (vOff 0 1) (vOff 1 1) q0 q1 <|
      odd M 3 2 1 0 q0 q1 <|
    opening M 4 3 0 1 0 1 fun q0 q1 =>
      Prog.bind (Prog.bind (Scf.Loop.for k0_t1_loop k0_t1_ok ⟨⟩ (body1 M q0 q1)) fun _ => f1 M) (g1 M)) (h4 M)

theorem bind3.{v} {E : Type → Type v} {α β γ δ : Type} (p : Prog E α) (f : α → Prog E β) (g : β → Prog E γ) (h : γ → Prog E δ) :
    Prog.bind (Prog.bind (Prog.bind p f) g) h = Prog.bind p fun a => Prog.bind (Prog.bind (f a) g) h := by
  exact (congrArg (Prog.bind · h) (Prog.bind_assoc p f g)).trans (Prog.bind_assoc p _ h)

set_option maxRecDepth 65536 in
/-- The printed body, cut as it is printed. -/
theorem attn_cut :
    cc0_fox_attn (F := F) i M.q hq M.k hk M.v hv M.c hc M.o M.ho M.kx M.hkx M.vt M.hvt M.mx hmx M.ac hac M.sc hsc
      = attnCut M i := by
  sl_kernel_rfl

/-! Putting the cuts together again, from the last loop to the first. -/

def cut4 (q0 q1 : FVec F S256x512 .bf16) : PG F Unit :=
  Prog.bind (Prog.bind (Prog.bind (Scf.Loop.for k0_t4_loop k0_t4_ok ⟨⟩ (body4 M q0 q1)) fun _ => f4 M q0 q1) (g4 M)) (h4 M)
def tail4 (q0 q1 : FVec F S256x512 .bf16) : PG F Unit :=
  Prog.bind (Scf.Loop.for k0_t4_loop k0_t4_ok ⟨⟩ (body4 M q0 q1)) fun _ => odd M 7 6 1 0 q0 q1 <| finish M 7 1 1 <| .ret ⟨⟩
theorem cut4_eq : cut4 (F := F) M = tail4 M := by
  funext q0 q1
  unfold cut4 tail4
  refine (bind3 _ _ _ _).trans (congrArg (Prog.bind _) (funext fun _ => ?_))
  sl_kernel_rfl

def cut3 (q0 q1 : FVec F S256x512 .bf16) : PG F Unit :=
  Prog.bind (Prog.bind (Prog.bind (Scf.Loop.for k0_t3_loop k0_t3_ok ⟨⟩ (body3 M q0 q1)) fun _ => f3 M) (g3 M)) (h4 M)
def tail3 (q0 q1 : FVec F S256x512 .bf16) : PG F Unit :=
  Prog.bind (Scf.Loop.for k0_t3_loop k0_t3_ok ⟨⟩ (body3 M q0 q1)) fun _ => opening M 7 6 1 0 0 1 (tail4 M)
theorem cut3_eq : cut3 (F := F) M = tail3 M := by
  funext q0 q1
  unfold cut3 tail3
  refine (bind3 _ _ _ _).trans (congrArg (Prog.bind _) (funext fun _ => ?_))
  refine Eq.trans ?_ (congrArg (opening M 7 6 1 0 0 1) (cut4_eq M))
  sl_kernel_rfl

def cut2 (q0 q1 : FVec F S256x512 .bf16) : PG F Unit :=
  Prog.bind (Prog.bind (Prog.bind (Scf.Loop.for k0_t2_loop k0_t2_ok ⟨⟩ (body2 M q0 q1)) fun _ => f2 M q0 q1) fun _ => g2 M q0 q1) (h4 M)
def tail2 (q0 q1 : FVec F S256x512 .bf16) : PG F Unit :=
  Prog.bind (Scf.Loop.for k0_t2_loop k0_t2_ok ⟨⟩ (body2 M q0 q1)) fun _ => odd M 5 4 0 1 q0 q1 <| opening M 6 5 0 1 1 0 (tail3 M)
theorem cut2_eq : cut2 (F := F) M = tail2 M := by
  funext q0 q1
  unfold cut2 tail2
  refine (bind3 _ _ _ _).trans (congrArg (Prog.bind _) (funext fun _ => ?_))
  refine Eq.trans ?_ (congrArg (fun k => odd M 5 4 0 1 q0 q1 <| opening M 6 5 0 1 1 0 k) (cut3_eq M))
  sl_kernel_rfl

def cut1 (q0 q1 : FVec F S256x512 .bf16) : PG F Unit :=
  Prog.bind (Prog.bind (Prog.bind (Scf.Loop.for k0_t1_loop k0_t1_ok ⟨⟩ (body1 M q0 q1)) fun _ => f1 M) (g1 M)) (h4 M)
def tail1 (q0 q1 : FVec F S256x512 .bf16) : PG F Unit :=
  Prog.bind (Scf.Loop.for k0_t1_loop k0_t1_ok ⟨⟩ (body1 M q0 q1)) fun _ => opening M 5 4 1 0 1 0 (tail2 M)
theorem cut1_eq : cut1 (F := F) M = tail1 M := by
  funext q0 q1
  unfold cut1 tail1
  refine (bind3 _ _ _ _).trans (congrArg (Prog.bind _) (funext fun _ => ?_))
  refine Eq.trans ?_ (congrArg (opening M 5 4 1 0 1 0) (cut2_eq M))
  sl_kernel_rfl

/-- The first four query tiles, then `k`. -/
def head (k : FVec F S256x512 .bf16 → FVec F S256x512 .bf16 → PG F Unit) : PG F Unit :=
  prologue M i <|
    start M 0 0 fun q0 q1 => scores M 0 (kOff 0 0) (kOff 1 0) q0 q1 <|
    opening M 1 0 1 0 1 0 fun q0 q1 => odd M 1 0 0 1 q0 q1 <|
    opening M 2 1 0 1 1 0 fun q0 q1 => pair M 0 1 0 (kOff 0 1) (kOff 1 1) (kOff 0 2) (kOff 1 2) (vOff 0 0) (vOff 1 0) (vOff 0 1) (vOff 1 1) q0 q1 <|
    opening M 3 2 1 0 0 1 fun q0 q1 => pair M 1 0 1 (kOff 0 1) (kOff 1 1) (kOff 0 2) (kOff 1 2) (vOff 0 0) (vOff 1 0) (vOff 0 1) (vOff 1 1) q0 q1 <|
      odd M 3 2 1 0 q0 q1 <|
    opening M 4 3 0 1 0 1 k

/-- The printed body is the blocks in a row. -/
theorem attn_eq :
    cc0_fox_attn (F := F) i M.q hq M.k hk M.v hv M.c hc M.o M.ho M.kx M.hkx M.vt M.hvt M.mx hmx M.ac hac M.sc hsc
      = attn M i := by
  refine (attn_cut i M hq hk hv hc hmx hac hsc).trans ?_
  have h1 : attnCut (F := F) M i = head i M (cut1 M) := by sl_kernel_rfl
  have h2 : attn (F := F) M i = head i M (tail1 M) := by sl_kernel_rfl
  rw [h1, h2, cut1_eq]

end

end Cert.KernelIdeal.Fox

end
-- ==== Proof.Body.lean ====
/- The body at a grid point of the pipeline, and the run that leaves the arguments alone. -/
module

public import proofs.«01_k».proof.Proof.Walk
public import proofs.«01_k».proof.Proof.Same
public import proofs.«01_k».proof.Proof.Gen.KernelIdeal.Frame.Runs
public import Idealize.ShloMosaic.Lib.Claim

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The buffers of grid point `t`. -/
def memsAt (t : Fin cfg0.N) : Mems where
  q := ms0_0 t
  k := ms0_1 t
  v := ms0_2 t
  c := ms0_3 t
  o := ms0_4 t
  kx := scM0_0
  vt := scM0_1
  mx := scM0_2
  ac := scM0_3
  sc := scM0_4
  ho := hs0_4 t
  hkx := Memref.isWhole_whole _
  hvt := Memref.isWhole_whole _

/-- The body at point `t` leaves its inputs alone, and where those are finite it writes the attention. -/
theorem body_at (I : In) (c : Dev nD) (t : Fin cfg0.N) (hl : I.ln = 8 + 2 * (grid0.coords t 1).val) (st : St Ideal) :
    T c (memsAt t) st (bodyAt0 t) (fun st' => Keep st st' ∧ (Reads I st → OutTo I st'.o 4096)) := by
  have h := T.attn (c := c) (M := memsAt t) (st := st) (I := I) (grid0.coords t) hl
  rw [← attn_eq (grid0.coords t) (memsAt t) (hs0_0 t) (hs0_1 t) (hs0_2 t) (hs0_3 t) (Memref.isWhole_whole _) (Memref.isWhole_whole _) (Memref.isWhole_whole _)] at h
  exact h

/-- The same, of the pipeline's staging buffers one by one. -/
theorem stage_at (I : In) (c : Dev nD) (t : Fin cfg0.N) (hl : I.ln = 8 + 2 * (grid0.coords t 1).val)
    (q k v : Vec Ideal S1x4096x256 .bf16) (f : Vec Ideal S1x4096x128 .f32) (G : sProp 𝕄) :
    iprop((Pipeline.ΦA spec0 c : sProp 𝕄) ∗ G
      ∗ owns (c : Thread nD τ) (ms0_0 t) fullShare q ∗ owns (c : Thread nD τ) (ms0_1 t) fullShare k
      ∗ owns (c : Thread nD τ) (ms0_2 t) fullShare v ∗ owns (c : Thread nD τ) (ms0_3 t) fullShare f
      ∗ (∃ d, owns (c : Thread nD τ) (ms0_4 t) fullShare d))
    ⊢ wp frame (wpE (defs₀ (F := Ideal)) Variants.none c none) Set.univ (bodyAt0 t) (fun _ =>
      iprop((Pipeline.ΦA spec0 c : sProp 𝕄) ∗ G
        ∗ owns (c : Thread nD τ) (ms0_0 t) fullShare q ∗ owns (c : Thread nD τ) (ms0_1 t) fullShare k
        ∗ owns (c : Thread nD τ) (ms0_2 t) fullShare v ∗ owns (c : Thread nD τ) (ms0_3 t) fullShare f
        ∗ (∃ d : Vec Ideal S1x4096x256 .bf16,
            ⌜(∀ st : St Ideal, st.q = q → st.k = k → st.v = v → st.c = f → Reads I st) → OutTo I d 4096⌝
            ∗ owns (c : Thread nD τ) (ms0_4 t) fullShare d))) := by
  rw [PhiA0_eq]
  iintro ⟨⟨⟨⟨%s0, HS0⟩, ⟨%s1, HS1⟩, ⟨%s2, HS2⟩, ⟨%s3, HS3⟩, ⟨%s4, HS4⟩⟩, Hg⟩, HG, H0, H1, H2, H3, ⟨%d, H4⟩⟩
  have h := body_at I c t hl ⟨q, k, v, f, d, s0, s1, s2, s3, s4⟩
  unfold T Own at h
  iapply (wp_wand_r frame (wpE (defs₀ (F := Ideal)) Variants.none c none) Set.univ)
  isplitl [H0 H1 H2 H3 H4 HS0 HS1 HS2 HS3 HS4]
  · iapply h
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iexact HS4
  · iintro %a ⟨%s', %hs, H0, H1, H2, H3, H4, HS0, HS1, HS2, HS3, HS4⟩
    obtain ⟨⟨h0, h1, h2, h3⟩, ho⟩ := hs
    dsimp only at h0 h1 h2 h3
    rw [h0, h1, h2, h3]
    isplitl [HS0 HS1 HS2 HS3 HS4 Hg]
    · isplitl [HS0 HS1 HS2 HS3 HS4]
      · isplitl [HS0]
        · iexists _; iexact HS0
        isplitl [HS1]
        · iexists _; iexact HS1
        isplitl [HS2]
        · iexists _; iexact HS2
        isplitl [HS3]
        · iexists _; iexact HS3
        iexists _; iexact HS4
      iexact Hg
    isplitl [HG]; · iexact HG
    isplitl [H0]; · iexact H0
    isplitl [H1]; · iexact H1
    isplitl [H2]; · iexact H2
    isplitl [H3]; · iexact H3
    iexists _
    isplitr
    · ipureintro; exact fun hr => ho (hr _ rfl rfl rfl rfl)
    · iexact H4

/-- The body table's row at point `t`'s slots is the body. -/
theorem row_at (t : Fin cfg0.N) :
    defs₀ (F := Ideal) .tc cfg0.body (cfg0.bodyArgs t (cfg0.slots t)) = bodyAt0 t := by
  unfold defs₀; rw [Defs.onTc_tc]

end Cert.KernelIdeal.Fox

end
-- ==== Proof.Blocks.lean ====
/- The kernel's arguments as real numbers, and the blocks a grid point reads of them. -/
module

public import proofs.«01_k».proof.Proof.Walk
public import proofs.«01_k».proof.Proof.Gen.KernelIdeal.Frame.Runs
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Fox

open Cert.KernelIdeal Cert.KernelIdeal.Gen
open Idealize.ShloMosaic Idealize.ShloMosaic.TcCoe
open Idealize.SL.Sem

/-- An array's entry at a row and column as a real number. -/
def num {a b : ℕ} (X : (⟨2, ![a, b]⟩ : Shape).Idx → EReal) (r e : ℕ) : ℝ :=
  if h : r < a ∧ e < b then (X (ix2 ⟨r, h.1⟩ ⟨e, h.2⟩)).toReal else 0

theorem num_eq {a b : ℕ} (X : (⟨2, ![a, b]⟩ : Shape).Idx → EReal) (r : Fin a) (e : Fin b) (h : X (ix2 r e) ≠ ⊤ ∧ X (ix2 r e) ≠ ⊥) :
    X (ix2 r e) = ((num X r.val e.val : ℝ) : EReal) := by
  unfold num
  rw [dif_pos ⟨r.isLt, e.isLt⟩, EReal.coe_toReal h.1 h.2]

/-- What grid point `(b, p)` reads of the projected rows and the log-forget sums. -/
def inAt (X : FVec Ideal S65536x10240 .bf16) (Y : FVec Ideal S65536x128 .f32) (b p : ℕ) : In where
  q y e := num X (4096 * b + y) (3072 + 256 * p + e)
  k y e := num X (4096 * b + y) (4096 + 256 * p + e)
  v y e := num X (4096 * b + y) (5120 + 256 * p + e)
  c y l := num Y (4096 * b + y) l
  ln := 8 + 2 * p

variable (m : (ℓ : Loc nD τ sig) → Buf (Elt Ideal) ℓ)

abbrev argX (c : Dev nD) : FVec Ideal S65536x10240 .bf16 := m ((c : Thread nD τ).loc main_arg0)
abbrev argY (c : Dev nD) : FVec Ideal S65536x128 .f32 := m ((c : Thread nD τ).loc main_arg1)

theorem idx : ∀ t : Fin cfg0.N, win0_0.index t = ![(grid0.coords t 0).val, 0, 12 + (grid0.coords t 1).val]
    ∧ win0_1.index t = ![(grid0.coords t 0).val, 0, 16 + (grid0.coords t 1).val]
    ∧ win0_2.index t = ![(grid0.coords t 0).val, 0, 20 + (grid0.coords t 1).val]
    ∧ win0_3.index t = ![(grid0.coords t 0).val, 0, 0]
    ∧ win0_4.index t = ![(grid0.coords t 0).val, 0, (grid0.coords t 1).val]
    ∧ (grid0.coords t 0).val < 16 ∧ (grid0.coords t 1).val < 4 :=
  (by decide +kernel : ∀ t : Fin grid0.N, _)

/-- The projected rows regrouped by batch row. -/
theorem rows_at (x : FVec Ideal S65536x10240 .bf16) (h) (b : Fin 16) (y : Fin 4096) (e : Fin 10240) :
    shapeCast S16x4096x10240 x h (ix3 b y e) = x (ix2 ⟨4096 * b.val + y.val, by omega⟩ e) := by
  pointwise
  blk_point []

theorem sums_at (x : FVec Ideal S65536x128 .f32) (h) (b : Fin 16) (y : Fin 4096) (e : Fin 128) :
    shapeCast S16x4096x128 x h (ix3 b y e) = x (ix2 ⟨4096 * b.val + y.val, by omega⟩ e) := by
  pointwise
  blk_point []

theorem V_rows (c : Dev nD) : V m c main_v0 = shapeCast S16x4096x10240 (argX m c) shapeCasts_S65536x10240_S16x4096x10240 := by
  entry_read
  rfl

theorem V_sums (c : Dev nD) : V m c main_v1 = shapeCast S16x4096x128 (argY m c) shapeCasts_S65536x128_S16x4096x128 := by
  entry_read
  rfl

theorem q_at (c : Dev nD) (t : Fin cfg0.N) (y : Fin 4096) (e : Fin 256) (h0) (h1) :
    iblk m c 0 t (ix3 0 y e) = argX m c (ix2 ⟨4096 * (grid0.coords t 0).val + y.val, h0⟩ ⟨3072 + 256 * (grid0.coords t 1).val + e.val, h1⟩) := by
  have hb := (idx t).2.2.2.2.2
  refine Eq.trans (?_ : _ = V m c main_v0 (ix3 ⟨(grid0.coords t 0).val, hb.1⟩ y ⟨3072 + 256 * (grid0.coords t 1).val + e.val, h1⟩)) ?_
  · blk_ext [iblk, idx t]
  · rw [V_rows]; exact rows_at _ _ _ _ _

theorem k_at (c : Dev nD) (t : Fin cfg0.N) (y : Fin 4096) (e : Fin 256) (h0) (h1) :
    iblk m c 1 t (ix3 0 y e) = argX m c (ix2 ⟨4096 * (grid0.coords t 0).val + y.val, h0⟩ ⟨4096 + 256 * (grid0.coords t 1).val + e.val, h1⟩) := by
  have hb := (idx t).2.2.2.2.2
  refine Eq.trans (?_ : _ = V m c main_v0 (ix3 ⟨(grid0.coords t 0).val, hb.1⟩ y ⟨4096 + 256 * (grid0.coords t 1).val + e.val, h1⟩)) ?_
  · blk_ext [iblk, idx t]
  · rw [V_rows]; exact rows_at _ _ _ _ _

theorem v_at (c : Dev nD) (t : Fin cfg0.N) (y : Fin 4096) (e : Fin 256) (h0) (h1) :
    iblk m c 2 t (ix3 0 y e) = argX m c (ix2 ⟨4096 * (grid0.coords t 0).val + y.val, h0⟩ ⟨5120 + 256 * (grid0.coords t 1).val + e.val, h1⟩) := by
  have hb := (idx t).2.2.2.2.2
  refine Eq.trans (?_ : _ = V m c main_v0 (ix3 ⟨(grid0.coords t 0).val, hb.1⟩ y ⟨5120 + 256 * (grid0.coords t 1).val + e.val, h1⟩)) ?_
  · blk_ext [iblk, idx t]
  · rw [V_rows]; exact rows_at _ _ _ _ _

theorem c_at (c : Dev nD) (t : Fin cfg0.N) (y : Fin 4096) (e : Fin 128) (h0) :
    iblk m c 3 t (ix3 0 y e) = argY m c (ix2 ⟨4096 * (grid0.coords t 0).val + y.val, h0⟩ e) := by
  have hb := (idx t).2.2.2.2.2
  refine Eq.trans (?_ : _ = V m c main_v1 (ix3 ⟨(grid0.coords t 0).val, hb.1⟩ y e)) ?_
  · blk_ext [iblk, idx t]
  · rw [V_sums]; exact sums_at _ _ _ _ _

/-- The queries, keys, values and log-forget sums are finite. -/
structure Finite (X : FVec Ideal S65536x10240 .bf16) (Y : FVec Ideal S65536x128 .f32) : Prop where
  x : ∀ (r : Fin 65536) (e : Fin 10240), 3072 ≤ e.val → e.val < 6144 → X (ix2 r e) ≠ ⊤ ∧ X (ix2 r e) ≠ ⊥
  y : ∀ (r : Fin 65536) (l : Fin 128), Y (ix2 r l) ≠ ⊤ ∧ Y (ix2 r l) ≠ ⊥

variable {m} in
/-- Finite arguments give every grid point blocks of real numbers. -/
theorem reads_at {c : Dev nD} (hf : Finite (argX m c) (argY m c)) (t : Fin cfg0.N) (st : St Ideal)
    (hq : st.q = iblk m c 0 t) (hk : st.k = iblk m c 1 t) (hv : st.v = iblk m c 2 t) (hc : st.c = iblk m c 3 t) :
    Reads (inAt (argX m c) (argY m c) (grid0.coords t 0).val (grid0.coords t 1).val) st := by
  have hb := (idx t).2.2.2.2.2
  refine ⟨fun y e => ?_, fun y e => ?_, fun y e => ?_, fun y e => ?_⟩
  · rw [hq]; exact (q_at m c t y e (by omega) (by omega)).trans (num_eq _ _ _ (hf.x _ _ (by simp; omega) (by simp; omega)))
  · rw [hk]; exact (k_at m c t y e (by omega) (by omega)).trans (num_eq _ _ _ (hf.x _ _ (by simp; omega) (by simp; omega)))
  · rw [hv]; exact (v_at m c t y e (by omega) (by omega)).trans (num_eq _ _ _ (hf.x _ _ (by simp; omega) (by simp; omega)))
  · rw [hc]; exact (c_at m c t y e (by omega)).trans (num_eq _ _ _ (hf.y _ _))

end Cert.KernelIdeal.Fox

end
-- ==== Proof.Run.lean ====
/- The whole program's runs: one that says only what it leaves alone, and, over finite arguments, one that says what it computes. -/
module

public import proofs.«01_k».proof.Proof.Body
public import proofs.«01_k».proof.Proof.Blocks

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## Proof data: the inputs' blocks stay, the output's block is `O` -/

/-- A block for the output at every point. -/
abbrev Outs := Dev nD → Fin cfg0.N → Vec Ideal S1x4096x256 .bf16

variable (O : Outs)

def data (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => O c t
  Φ _ := Pipeline.ΦA spec0 c
  q w := Pipeline.shareOf spec0 w
  owed _ := 0

theorem data_A (c : Dev nD) (w : Fin cfg0.W) : (data m O 0 c).A w = V m c (Pipeline.arrRef spec0 w) := by
  dsimp only [data]

variable (c : Dev nD) (t : Fin cfg0.N)

theorem after_0 : (data m O 0 c).after 0 t = iblk m c 0 t := by dsimp only [data]
theorem after_1 : (data m O 0 c).after 1 t = iblk m c 1 t := by dsimp only [data]
theorem after_2 : (data m O 0 c).after 2 t = iblk m c 2 t := by dsimp only [data]
theorem after_3 : (data m O 0 c).after 3 t = iblk m c 3 t := by dsimp only [data]
theorem after_4 : (data m O 0 c).after 4 t = O c t := by dsimp only [data]

theorem before_0 (d) : (data m O 0 c).before 0 t d = iblk m c 0 t := before0_0_of m (data m O 0 c) (data_A m O c 0) (after_0 m O c) t d
theorem before_1 (d) : (data m O 0 c).before 1 t d = iblk m c 1 t := before0_1_of m (data m O 0 c) (data_A m O c 1) (after_1 m O c) t d
theorem before_2 (d) : (data m O 0 c).before 2 t d = iblk m c 2 t := before0_2_of m (data m O 0 c) (data_A m O c 2) (after_2 m O c) t d
theorem before_3 (d) : (data m O 0 c).before 3 t d = iblk m c 3 t := before0_3_of m (data m O 0 c) (data_A m O c 3) (after_3 m O c) t d

/-- The inputs as the body finds and leaves them. -/
def inputs : sProp 𝕄 :=
  iprop(owns (c : Thread nD τ) (ms0_0 t) fullShare (iblk m c 0 t) ∗ owns (c : Thread nD τ) (ms0_1 t) fullShare (iblk m c 1 t)
    ∗ owns (c : Thread nD τ) (ms0_2 t) fullShare (iblk m c 2 t) ∗ owns (c : Thread nD τ) (ms0_3 t) fullShare (iblk m c 3 t))

/-- What the body is called with, the output's buffer at anything, -/
def pre : sProp 𝕄 :=
  iprop((data m O 0 c).Φ t.castSucc ∗ (data m O 0 c).owesAt () t.castSucc
    ∗ (∃ d, owns (c : Thread nD τ) (ms0_0 t) fullShare ((data m O 0 c).before 0 t d))
    ∗ (∃ d, owns (c : Thread nD τ) (ms0_1 t) fullShare ((data m O 0 c).before 1 t d))
    ∗ (∃ d, owns (c : Thread nD τ) (ms0_2 t) fullShare ((data m O 0 c).before 2 t d))
    ∗ (∃ d, owns (c : Thread nD τ) (ms0_3 t) fullShare ((data m O 0 c).before 3 t d))
    ∗ (∃ d, owns (c : Thread nD τ) (ms0_4 t) fullShare d))

/-- and what it returns, the output's buffer as `R` says. -/
def post (R : Vec Ideal S1x4096x256 .bf16 → Prop) : sProp 𝕄 :=
  iprop((data m O 0 c).Φ t.succ ∗ (data m O 0 c).owesAt () t.succ
    ∗ owns (c : Thread nD τ) (ms0_0 t) fullShare ((data m O 0 c).after 0 t)
    ∗ owns (c : Thread nD τ) (ms0_1 t) fullShare ((data m O 0 c).after 1 t)
    ∗ owns (c : Thread nD τ) (ms0_2 t) fullShare ((data m O 0 c).after 2 t)
    ∗ owns (c : Thread nD τ) (ms0_3 t) fullShare ((data m O 0 c).after 3 t)
    ∗ (∃ d : Vec Ideal S1x4096x256 .bf16, ⌜R d⌝ ∗ owns (c : Thread nD τ) (ms0_4 t) fullShare d))

/-- The attention over the arguments' real parts. -/
abbrev argIn (t : Fin cfg0.N) : In := inAt (argX m c) (argY m c) (grid0.coords t 0).val (grid0.coords t 1).val

theorem body_sound : pre m O c t ⊢ wp frame (wpE (defs₀ (F := Ideal)) Variants.none c none) Set.univ (bodyAt0 t)
    (fun _ => post m O c t fun d => Finite (argX m c) (argY m c) → OutTo (argIn m c t) d 4096) := by
  have h := stage_at (argIn m c t) c t rfl (iblk m c 0 t) (iblk m c 1 t) (iblk m c 2 t) (iblk m c 3 t) ((data m O 0 c).owesAt () t.castSucc)
  unfold pre post
  simp only [before_0, before_1, before_2, before_3]
  rw [show (data m O 0 c).Φ t.succ = Pipeline.ΦA spec0 c from rfl, show (data m O 0 c).Φ t.castSucc = Pipeline.ΦA spec0 c from rfl,
    show (data m O 0 c).owesAt () t.succ = (data m O 0 c).owesAt () t.castSucc from rfl, after_0, after_1, after_2, after_3]
  iintro ⟨HΦ, Ho, ⟨%d0, H0⟩, ⟨%d1, H1⟩, ⟨%d2, H2⟩, ⟨%d3, H3⟩, H4⟩
  iapply (wp_wand_r frame (wpE (defs₀ (F := Ideal)) Variants.none c none) Set.univ)
  isplitl [HΦ Ho H0 H1 H2 H3 H4]
  · iapply h
    isplitl [HΦ]; · iexact HΦ
    isplitl [Ho]; · iexact Ho
    isplitl [H0]; · iexact H0
    isplitl [H1]; · iexact H1
    isplitl [H2]; · iexact H2
    isplitl [H3]; · iexact H3
    iexact H4
  · iintro %a ⟨HΦ, Ho, H0, H1, H2, H3, ⟨%d, %hd, H4⟩⟩
    isplitl [HΦ]; · iexact HΦ
    isplitl [Ho]; · iexact Ho
    isplitl [H0]; · iexact H0
    isplitl [H1]; · iexact H1
    isplitl [H2]; · iexact H2
    isplitl [H3]; · iexact H3
    iexists d
    isplitr
    · ipureintro; exact fun hf => hd fun st hq hk hv hc => reads_at hf t st hq hk hv hc
    · iexact H4

/-! ## The run that says what is left alone -/

def forget : Fin 5 → Bool := fun w => w.val == 4

def written : Finset (Ref sig .tc) := {main_v3}

theorem written_all : ∀ ops ∈ ([hostOps1] : List (List (HloOp τ sig (Elt Ideal)))), ∀ op ∈ ops,
    ∀ b : Ref sig .tc, Proc.devRef .tc b ∈ op.writes → b ∈ written := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  cases Proc.devRef_injective _ hb
  decide

theorem forget_sound : pre m O c t ⊢ wp frame (wpE (defs₀ (F := Ideal)) Variants.none c none) Set.univ (bodyAt0 t)
    (fun _ => iprop((data m O 0 c).Φ t.succ ∗ (data m O 0 c).owesAt () t.succ
    ∗ owns (c : Thread nD τ) (ms0_0 t) fullShare ((data m O 0 c).after 0 t)
    ∗ owns (c : Thread nD τ) (ms0_1 t) fullShare ((data m O 0 c).after 1 t)
    ∗ owns (c : Thread nD τ) (ms0_2 t) fullShare ((data m O 0 c).after 2 t)
    ∗ owns (c : Thread nD τ) (ms0_3 t) fullShare ((data m O 0 c).after 3 t)
    ∗ (∃ d, owns (c : Thread nD τ) (ms0_4 t) fullShare d))) := by
  iintro H
  iapply (wp_wand_r frame (wpE (defs₀ (F := Ideal)) Variants.none c none) Set.univ)
  isplitl [H]
  · iapply (body_sound m O c t); iexact H
  · unfold post
    iintro %a ⟨HΦ, Ho, H0, H1, H2, H3, ⟨%d, %hd, H4⟩⟩
    isplitl [HΦ]; · iexact HΦ
    isplitl [Ho]; · iexact Ho
    isplitl [H0]; · iexact H0
    isplitl [H1]; · iexact H1
    isplitl [H2]; · iexact H2
    isplitl [H3]; · iexact H3
    iexists d; iexact H4

theorem forget_body : BodyObligation (data m O 0 c) (defs₀ (F := Ideal)) Variants.none () Set.univ forget := fun t => by
  rw [bigSep_W0, bigSep_W0, row_at]
  exact triple_restated (forget_sound m O c t) rfl .rfl fun _ => .rfl

/-- No block of the output is named. -/
def anyOuts : Outs := fun _ _ _ => 0

set_option backward.isDefEq.respectTransparency.types false in
set_option maxHeartbeats 800000 in
theorem run_forget : θ_run defs (onTc (τ := τ) (main (F := Ideal))) (s₀ m ρ)
    (fun r => (Pipeline.RDat.FramePostR (cfgs 0) (fun c => (data m anyOuts 0 c).toRForget forget) written (V m)) r ∧ r.2.sem = fun _ => 0) :=
  Pipeline.θ_run_frame_around_T_forget_shared (Q' := _) cfgs (data m anyOuts) (0 : Fin 1) launch₀0 defs₀ Variants.none forget written m ρ main
    (hbody := fun c => (forget_body m anyOuts c).loose) (hq := fun _ _ _ => rfl)
    (howed := fun _ _ => rfl) (V₀ := V0 m) (opss := [hostOps1]) (hsub := sfx_sub) (hfresh := sfx_fresh) (hkeep := sfx_keeps) (hT := written_all)
    (hmain := hmain m Variants.none) (hA := data_A m anyOuts) (hΦ := fun _ _ => rfl)

/-- The program leaves its arguments as they were and every semaphore at zero. -/
theorem quiet : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c)⟩, h.2⟩)
    (run_forget m ρ)

/-! ## The run that says what is computed -/

/-- The attention's block at every point. -/
def attOuts : Outs := fun c t j => (((argIn m c t).out ((j 2).val / 128) (j 1).val ((j 2).val % 128) : ℝ) : EReal)

theorem eq_attOuts {c : Dev nD} {t : Fin cfg0.N} {d : Vec Ideal S1x4096x256 .bf16} (h : OutTo (argIn m c t) d 4096) : d = attOuts m c t := by
  funext j
  have e : j = ix3 (0 : Fin 1) (j 1) (⟨128 * (⟨(j 2).val / 128, by have := (j 2).isLt; change (j 2).val < 256 at this; omega⟩ : Fin 2).val
      + (⟨(j 2).val % 128, by omega⟩ : Fin 128).val, by have := (j 2).isLt; change (j 2).val < 256 at this; simp only; omega⟩ : Fin 256) := by
    funext a
    apply Fin.ext
    match a with
    | ⟨0, _⟩ => have := (j 0).isLt; change (j 0).val < 1 at this; change (j 0).val = 0; omega
    | ⟨1, _⟩ => rfl
    | ⟨2, _⟩ => change (j 2).val = 128 * ((j 2).val / 128) + (j 2).val % 128; omega
  exact (congrArg d e).trans (h (j 1) _ _ (j 1).isLt)

theorem value_sound (hf : Finite (argX m c) (argY m c)) : iprop((data m (attOuts m) 0 c).Φ t.castSucc ∗ (data m (attOuts m) 0 c).owesAt () t.castSucc
    ∗ (∃ d, owns (c : Thread nD τ) (ms0_0 t) fullShare ((data m (attOuts m) 0 c).before 0 t d))
    ∗ (∃ d, owns (c : Thread nD τ) (ms0_1 t) fullShare ((data m (attOuts m) 0 c).before 1 t d))
    ∗ (∃ d, owns (c : Thread nD τ) (ms0_2 t) fullShare ((data m (attOuts m) 0 c).before 2 t d))
    ∗ (∃ d, owns (c : Thread nD τ) (ms0_3 t) fullShare ((data m (attOuts m) 0 c).before 3 t d))
    ∗ (∃ d, owns (c : Thread nD τ) (ms0_4 t) fullShare ((data m (attOuts m) 0 c).before 4 t d))) ⊢ wp frame (wpE (defs₀ (F := Ideal)) Variants.none c none) Set.univ (bodyAt0 t)
    (fun _ => iprop((data m (attOuts m) 0 c).Φ t.succ ∗ (data m (attOuts m) 0 c).owesAt () t.succ
    ∗ owns (c : Thread nD τ) (ms0_0 t) fullShare ((data m (attOuts m) 0 c).after 0 t)
    ∗ owns (c : Thread nD τ) (ms0_1 t) fullShare ((data m (attOuts m) 0 c).after 1 t)
    ∗ owns (c : Thread nD τ) (ms0_2 t) fullShare ((data m (attOuts m) 0 c).after 2 t)
    ∗ owns (c : Thread nD τ) (ms0_3 t) fullShare ((data m (attOuts m) 0 c).after 3 t)
    ∗ owns (c : Thread nD τ) (ms0_4 t) fullShare ((data m (attOuts m) 0 c).after 4 t))) := by
  iintro ⟨HΦ, Ho, H0, H1, H2, H3, ⟨%d4, H4⟩⟩
  iapply (wp_wand_r frame (wpE (defs₀ (F := Ideal)) Variants.none c none) Set.univ)
  isplitl [HΦ Ho H0 H1 H2 H3 H4]
  · iapply (body_sound m (attOuts m) c t)
    unfold pre
    isplitl [HΦ]; · iexact HΦ
    isplitl [Ho]; · iexact Ho
    isplitl [H0]; · iexact H0
    isplitl [H1]; · iexact H1
    isplitl [H2]; · iexact H2
    isplitl [H3]; · iexact H3
    iexists _; iexact H4
  · unfold post
    iintro %a ⟨HΦ, Ho, H0, H1, H2, H3, ⟨%d, %hd, H4⟩⟩
    rw [after_4, ← eq_attOuts m (hd hf)]
    isplitl [HΦ]; · iexact HΦ
    isplitl [Ho]; · iexact Ho
    isplitl [H0]; · iexact H0
    isplitl [H1]; · iexact H1
    isplitl [H2]; · iexact H2
    isplitl [H3]; · iexact H3
    iexact H4

theorem value_body (hf : Finite (argX m c) (argY m c)) : BodyObligation (data m (attOuts m) 0 c) (defs₀ (F := Ideal)) Variants.none () Set.univ := fun t => by
  rw [bigSep_W0, bigSep_W0, row_at]
  exact triple_restated (value_sound m c t hf) rfl .rfl fun _ => .rfl

set_option backward.isDefEq.respectTransparency.types false in
set_option maxHeartbeats 800000 in
theorem run_value (hf : ∀ c, Finite (argX m c) (argY m c)) : θ_run defs (onTc (τ := τ) (main (F := Ideal))) (s₀ m ρ)
    (fun r => (Pipeline.FramePost cfgs (data m (attOuts m)) 0 (Pipeline.afterTail₀ cfgs (data m (attOuts m)) 0 (V0 m) [hostOps1])) r ∧ r.2.sem = fun _ => 0) :=
  Pipeline.θ_run_frame_around_shared (Q' := _) cfgs (data m (attOuts m)) (0 : Fin 1) launch₀0 defs₀ Variants.none m ρ main
    (hbody := fun c => (value_body m c (hf c)).loose) (hq := fun _ _ _ => rfl)
    (howed := fun _ _ => rfl) (V₀ := V0 m) (opss := [hostOps1]) (hsub := sfx_sub) (hfresh := sfx_fresh) (hkeep := sfx_keeps)
    (hmain := hmain m Variants.none) (hA := data_A m (attOuts m)) (hΦ := fun _ _ => rfl)

/-! ## The result -/

/-- The attention laid out as the kernel writes it. -/
def attArr (c : Dev nD) : FVec Ideal S16x4096x1024 .bf16 := fun i =>
  (((inAt (argX m c) (argY m c) (i 0).val ((i 2).val / 256)).out ((i 2).val % 256 / 128) (i 1).val ((i 2).val % 128) : ℝ) : EReal)

theorem arr_final (c : Dev nD) : (data m (attOuts m) 0 c).arrAt 4 (cfgs 0).N = attArr m c := by
  refine (data m (attOuts m) 0 c).arrAt_eq_of_covers 4 _ (by decide +kernel) fun t _ y => ?_
  blk_simp
  rw [after_4]
  unfold attOuts attArr
  have hi := idx t
  have e0 : ((win0_4.blk t).view.emb y 0 : ℕ) = (grid0.coords t 0).val := by blk_simp [idx t]; all_goals (have := (y 0).isLt; change (y 0).val < 1 at this; omega)
  have e1 : ((win0_4.blk t).view.emb y 1 : ℕ) = (y 1).val := by blk_simp [idx t]
  have e2 : ((win0_4.blk t).view.emb y 2 : ℕ) = 256 * (grid0.coords t 1).val + (y 2).val := by blk_simp [idx t]; all_goals omega
  have h2 : (y 2).val < 256 := (y 2).isLt
  rw [e0, e1, e2, show (256 * (grid0.coords t 1).val + (y 2).val) / 256 = (grid0.coords t 1).val by omega,
    show (256 * (grid0.coords t 1).val + (y 2).val) % 256 = (y 2).val by omega,
    show (256 * (grid0.coords t 1).val + (y 2).val) % 128 = (y 2).val % 128 by omega]

/-- The attention row by row, and the program's run to it. -/
def attRows (c : Dev nD) : FVec Ideal S65536x1024 .bf16 := shapeCast S65536x1024 (attArr m c) shapeCasts_S16x4096x1024_S65536x1024

theorem value (hf : ∀ c, Finite (argX m c) (argY m c)) : θ_run defs (onTc (τ := τ) (main (F := Ideal))) ⟨m, fun _ => 0, ρ⟩ (fun r => ∀ c : Dev nD,
      r.2.mem ((c.tc : Thread nD τ).loc main_v3) = attRows m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have h := (θ_run defs _ _).mono (fun _ h => h.1) (run_value m ρ hf)
  refine (θ_run defs _ _).mono (fun r h c => ?_) h
  refine ⟨((h c).2 main_v3 (Pipeline.mem_restRefs_of main_v3 (by decide) (by decide))).trans ?_,
    ((h c).2 main_arg0 (Pipeline.mem_restRefs_of main_arg0 (by decide) (by decide))).trans (W_main_arg0 m _ c),
    ((h c).2 main_arg1 (Pipeline.mem_restRefs_of main_arg1 (by decide) (by decide))).trans (W_main_arg1 m _ c)⟩
  unfold Pipeline.afterTail₀ attRows
  rw [← arr_final]
  simp only [hostOps1, List.flatten_cons, List.flatten_nil, List.append_nil]
  have e := Pipeline.withArrays_arr_shared (cfgs 0).spec c (V0 m c) (fun w => (data m (attOuts m) 0 c).arrAt w (cfgs 0).N)
    (Pipeline.Dat.arrAt_sharedIn _ sharedIn0 (V0 m c) (data_A m (attOuts m) c) _) 4
  after_region_results
  exact congrArg (fun x => shapeCast S65536x1024 x shapeCasts_S16x4096x1024_S65536x1024) e

end Cert.KernelIdeal.Fox

end
-- ==== Proof.Value.lean ====
/- The reference's result is the array the kernel writes. -/
module

public import proofs.«01_k».proof.Proof.RefAt
public import proofs.«01_k».proof.Proof.Soft
public import proofs.«01_k».proof.Proof.Run

@[expose] public section

set_option maxRecDepth 16384

noncomputable section

namespace Cert.ReferenceIdeal.Fox

open Cert.ReferenceIdeal Cert.ReferenceIdeal.Gen
open Idealize.ShloMosaic Idealize.ShloMosaic.TcCoe
open Cert.KernelIdeal.Fox (num num_eq inAt Finite In kap coe_sum)

variable {X : FVec Ideal S65536x10240 .bf16} {Y : FVec Ideal S65536x128 .f32}
variable (b : Fin 16) (g : Fin 8) (y x : Fin 4096) (d : Fin 128)

/-- The score of key `x` for query `y` on head `g`, as the reference writes it. -/
def score (X : FVec Ideal S65536x10240 .bf16) (Y : FVec Ideal S65536x128 .f32) (b g y x : ℕ) : ℝ :=
  (∑ d ∈ Finset.range 128, num X (4096 * b + y) (3072 + (128 * g + d)) * num X (4096 * b + x) (4096 + (128 * g + d))) * (Real.sqrt 128)⁻¹
    + num Y (4096 * b + y) (8 + g) * -Real.log 2 - num Y (4096 * b + x) (8 + g) * -Real.log 2

theorem heads_num (hf : Finite X Y) (off : ℕ) (h) (h3 : 3072 ≤ off) (h5 : off ≤ 5120) :
    heads X ![0, off] h (ix4 b g y d) = ((num X (4096 * b.val + y.val) (off + (128 * g.val + d.val)) : ℝ) : EReal) := by
  rw [heads_at X b g y d off h (by omega) (by omega)]
  exact num_eq X _ _ (hf.x _ _ (by dsimp only; omega) (by dsimp only; omega))

theorem sums_num (hf : Finite X Y) : sums Y (ix3 b g y) = ((num Y (4096 * b.val + y.val) (8 + g.val) * -Real.log 2 : ℝ) : EReal) := by
  rw [sums_at, num_eq Y _ _ (hf.y _ _), EReal.coe_mul]

theorem scores_num (hf : Finite X Y) (h) (h') : scores (heads X ![0, 3072] h) (heads X ![0, 4096] h') (sums Y) (ix4 b g y x)
    = ((score X Y b.val g.val y.val x.val : ℝ) : EReal) := by
  rw [scores_at, sums_num b g y hf, sums_num b g x hf, Finset.sum_congr rfl fun d _ => (show _ = ((num X (4096 * b.val + y.val) (3072 + (128 * g.val + d.val))
      * num X (4096 * b.val + x.val) (4096 + (128 * g.val + d.val)) : ℝ) : EReal) by
    rw [heads_num b g y d hf 3072 h (by omega) (by omega), heads_num b g x d hf 4096 h' (by omega) (by omega), EReal.coe_mul]), coe_sum]
  unfold score
  rw [← EReal.coe_mul, ← EReal.coe_add, ← EReal.coe_sub, Finset.sum_range]

/-- Both ways to write a key's weight differ by a factor of its query. -/
theorem weight (b g y x : ℕ) : Real.exp (score X Y b g y x)
    = Real.exp (num Y (4096 * b + y) (8 + g) * -Real.log 2) * (2 : ℝ) ^ (inAt X Y b (g / 2)).s (g % 2) y x := by
  have hl : Real.log 2 ≠ 0 := (Real.log_pos one_lt_two).ne'
  rw [Real.rpow_def_of_pos two_pos, ← Real.exp_add]
  congr 1
  have hs : (∑ d ∈ Finset.range 128, (inAt X Y b (g / 2)).k x (128 * (g % 2) + d) * ((inAt X Y b (g / 2)).q y (128 * (g % 2) + d) * kap))
      = (∑ d ∈ Finset.range 128, num X (4096 * b + y) (3072 + (128 * g + d)) * num X (4096 * b + x) (4096 + (128 * g + d))) * kap := by
    rw [Finset.sum_mul]
    refine Finset.sum_congr rfl fun d _ => ?_
    unfold inAt
    dsimp only
    rw [show 4096 + 256 * (g / 2) + (128 * (g % 2) + d) = 4096 + (128 * g + d) by omega,
      show 3072 + 256 * (g / 2) + (128 * (g % 2) + d) = 3072 + (128 * g + d) by omega]
    ring
  unfold In.s score
  rw [hs]
  unfold inAt kap
  dsimp only
  rw [show 8 + 2 * (g / 2) + g % 2 = 8 + g by omega]
  field_simp
  ring

/-- The softmax's mean of the values is the kernel's. -/
theorem mean (b g y d : ℕ) (hd : d < 128) :
    (∑ x ∈ Finset.range (y + 1), Real.exp (score X Y b g y x) * num X (4096 * b + x) (5120 + (128 * g + d))) / ∑ x ∈ Finset.range (y + 1), Real.exp (score X Y b g y x)
      = (inAt X Y b (g / 2)).out (g % 2) y d := by
  unfold In.out
  simp only [weight, mul_assoc, ← Finset.mul_sum]
  rw [mul_div_mul_left _ _ (Real.exp_pos _).ne']
  congr 1
  refine Finset.sum_congr rfl fun x _ => ?_
  congr 1
  unfold In.w inAt
  dsimp only
  rw [if_pos hd, show 5120 + 256 * (g / 2) + (128 * (g % 2) + d) = 5120 + (128 * g + d) by omega]

theorem ref_at (hf : Finite X Y) : ref X Y (ix2 ⟨4096 * b.val + y.val, by omega⟩ ⟨128 * g.val + d.val, by omega⟩)
    = (((inAt X Y b.val (g.val / 2)).out (g.val % 2) y.val d.val : ℝ) : EReal) := by
  unfold ref
  rw [merged_at, mixed_at, total_at]
  simp only [expo_at, top_at]
  rw [Finset.sum_congr rfl fun x _ => by rw [heads_num b g x d hf 5120 _ (by omega) (by omega)]]
  refine (softmax y (score X Y b.val g.val y.val) (fun x => num X (4096 * b.val + x) (5120 + (128 * g.val + d.val)))
    (fun x => masked _ (ix4 b g y x)) fun x => ?_).trans ?_
  · rw [masked_at, scores_num b g y x hf]
  · rw [mean b.val g.val y.val d.val d.isLt]

end Cert.ReferenceIdeal.Fox

namespace Cert.KernelIdeal.Fox

open Cert.KernelIdeal Cert.KernelIdeal.Gen
open Idealize.ShloMosaic Idealize.ShloMosaic.TcCoe
open Idealize.SL.Sem

theorem regroup_at (x : FVec Ideal S16x4096x1024 .bf16) (h) (b : Fin 16) (y : Fin 4096) (e : Fin 1024) :
    shapeCast S65536x1024 x h (ix2 ⟨4096 * b.val + y.val, by omega⟩ e) = x (ix3 b y e) := by
  pointwise

variable (m : (ℓ : Loc nD τ sig) → Buf (Elt Ideal) ℓ)

theorem ref_eq (c : Dev nD) (hf : Finite (argX m c) (argY m c)) : Cert.ReferenceIdeal.Fox.ref (argX m c) (argY m c) = attRows m c := by
  funext i
  obtain ⟨r, e, rfl⟩ : ∃ (r : Fin 65536) (e : Fin 1024), i = ix2 r e := ⟨i 0, i 1, (ix2_eta i).symm⟩
  obtain ⟨b, y, rfl⟩ : ∃ (b : Fin 16) (y : Fin 4096), r = ⟨4096 * b.val + y.val, by omega⟩ :=
    ⟨⟨r.val / 4096, by omega⟩, ⟨r.val % 4096, by omega⟩, Fin.ext (by dsimp only; omega)⟩
  obtain ⟨g, d, rfl⟩ : ∃ (g : Fin 8) (d : Fin 128), e = ⟨128 * g.val + d.val, by omega⟩ :=
    ⟨⟨e.val / 128, by omega⟩, ⟨e.val % 128, by omega⟩, Fin.ext (by dsimp only; omega)⟩
  refine (Cert.ReferenceIdeal.Fox.ref_at b g y d hf).trans (Eq.trans ?_ (regroup_at _ _ b y _).symm)
  change _ = (((inAt (argX m c) (argY m c) b.val ((128 * g.val + d.val) / 256)).out ((128 * g.val + d.val) % 256 / 128) y.val ((128 * g.val + d.val) % 128) : ℝ) : EReal)
  rw [show (128 * g.val + d.val) / 256 = g.val / 2 by omega, show (128 * g.val + d.val) % 256 / 128 = g.val % 2 by omega,
    show (128 * g.val + d.val) % 128 = d.val by omega]

end Cert.KernelIdeal.Fox

end
-- ==== Proof.ExpBody.lean ====
/- The experts' kernel at one grid point: which buffers it fills, with what. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Tactic

@[expose] public section

set_option maxRecDepth 16384

noncomputable section

namespace Cert.ExpertsIdeal.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The programs of the kernel's core. -/
abbrev PG (F : FTy → Type) [FloatOps F] (α : Type) := Prog (TpuEff nD τ sig (Elt F) Λ₀ .tc) α

/-- Running a program of the core to `Q`. -/
abbrev Wp (c : Dev nD) {α : Type} (p : PG F α) (Q : α → sProp 𝕄) : sProp 𝕄 :=
  wp frame (wpE (defs₀ (F := F)) Variants.none c none) Set.univ p Q

/-- Reading a rectangle of an owned buffer. -/
theorem owns_read {c : Dev nD} {q : PosShare TreeShare} {sh : Shape} {e : EltTy} {m : Memref sig .tc .vmem sh e}
    {X : Vec F sh e} {r : Rect sh} {hl : m.view.LoadsAt r.toLoadRect} {α : Type} {k : (r.shape.Idx → Elt F e) → PG F α}
    {Q : α → sProp 𝕄} :
    (owns (c : Thread nD τ) m q X : sProp 𝕄)
      ⊢ iprop((owns (c : Thread nD τ) m q X -∗ Wp c (k (fun y => X (r.emb y))) Q) -∗ Wp c (.op (.load m r.toLoadRect hl) k) Q) := by
  unfold owns
  iintro ⟨%f, %hf, H⟩ HK
  subst hf
  iapply (wp_load_rect (defs := defs₀ (F := F)) (m := m) (r := r) (hl := hl) (k := k) (Q := Q) (c := (c : Thread nD τ)) Variants.none none Set.univ (S := m.view.set) (q := q) (f := f) ?_) $$ H
  · exact View.set_slice_subset _ _
  · iintro H
    iapply HK
    iexists f; isplitr
    · ipureintro; rfl
    · iexact H

/-- Reading a rectangle of an owned table. -/
theorem owns_word {c : Dev nD} {q : PosShare TreeShare} {sh : Shape} {e : EltTy} {m : Memref sig .tc .smem sh e}
    {X : Vec F sh e} {r : Rect sh} {hl : m.view.LoadsAt r.toLoadRect} {α : Type} {k : (r.shape.Idx → Elt F e) → PG F α}
    {Q : α → sProp 𝕄} :
    (owns (c : Thread nD τ) m q X : sProp 𝕄)
      ⊢ iprop((owns (c : Thread nD τ) m q X -∗ Wp c (k (fun y => X (r.emb y))) Q) -∗ Wp c (.op (.load m r.toLoadRect hl) k) Q) := by
  unfold owns
  iintro ⟨%f, %hf, H⟩ HK
  subst hf
  iapply (wp_load_rect (defs := defs₀ (F := F)) (m := m) (r := r) (hl := hl) (k := k) (Q := Q) (c := (c : Thread nD τ)) Variants.none none Set.univ (S := m.view.set) (q := q) (f := f) ?_) $$ H
  · exact View.set_slice_subset _ _
  · iintro H
    iapply HK
    iexists f; isplitr
    · ipureintro; rfl
    · iexact H

/-- Writing a rectangle of an owned buffer. -/
theorem owns_write {c : Dev nD} {sh : Shape} {e : EltTy} {m : Memref sig .tc .vmem sh e} {X : Vec F sh e}
    {r : Rect sh} {w : r.shape.Idx → Elt F e} {hx : (m.access r).Stores Finset.univ} {hm}
    {α : Type} {k : PUnit → PG F α} {Q : α → sProp 𝕄} :
    (owns (c : Thread nD τ) m fullShare X : sProp 𝕄)
      ⊢ iprop((owns (c : Thread nD τ) m fullShare (r.overlay X w) -∗ Wp c (k ⟨⟩) Q)
        -∗ Wp c (.op (.store m r w Finset.univ hx hm) k) Q) := by
  unfold owns
  iintro ⟨%f, %hf, H⟩ HK
  subst hf
  iapply (wp_store (defs := defs₀ (F := F)) (m := m) (r := r) (w := w) (hx := hx) (hm := hm) (k := k) (Q := Q) (c := (c : Thread nD τ)) Variants.none none Set.univ (S := m.view.set) (f := f) ?_) $$ H
  · exact View.set_slice_subset _ _
  · iintro H
    iapply HK
    iexists ((m.access r).write (Elt F) f w Finset.univ); isplitr
    · ipureintro
      funext y
      by_cases hy : y ∈ Finset.univ.map r.emb
      · obtain ⟨x, -, rfl⟩ := Finset.mem_map.mp hy
        rw [Rect.overlay_emb]
        exact View.read_slice_write_emb (v := m.view) (Val := Elt F) r f w (Finset.mem_univ x)
      · rw [Rect.overlay_of_not_mem _ _ _ (by rwa [Rect.map_emb_univ] at hy)]
        exact View.read_slice_write_of_not_mem (v := m.view) (Val := Elt F) r f w Finset.univ hy
    · iexact H

/-- The whole of a buffer as a rectangle of it: reading gives the contents, -/
theorem emb_whole {n : Nat} {sz : Fin n → Nat} {off : Fin n → Nat} (h0 : ∀ a, off a = 0)
    (h : ∀ a, off a + sz a ≤ sz a) (y : (Rect.unit (s := ⟨n, sz⟩) off sz h).shape.Idx) :
    (Rect.unit (s := ⟨n, sz⟩) off sz h).emb y = y := by
  funext a; apply Fin.ext
  rw [Rect.emb_apply]
  show off a + 1 * (y a).val = (y a).val
  rw [h0 a]; omega

/-- and writing replaces them. -/
theorem overlay_whole {n : Nat} {sz : Fin n → Nat} {off : Fin n → Nat} (h0 : ∀ a, off a = 0) {e : EltTy}
    (h : ∀ a, off a + sz a ≤ sz a) (X w : Vec F ⟨n, sz⟩ e) :
    (Rect.unit (s := ⟨n, sz⟩) off sz h).overlay X w = w := by
  funext y
  have e := Rect.overlay_emb (Rect.unit (s := ⟨n, sz⟩) off sz h) X w y
  rwa [emb_whole h0] at e

/-! ## What the kernel reads of the tables -/

/-- The expert of grid point `i`, the expert of the point before (of the first, its own), the number of tiles. -/
def wordAt (T : Vec F S288 .i32) (i : grid0.Coords) : BitVec 32 :=
  T ((Rect.unit (s := S288) (k0_off1 i) S1.size (k0_off1_inb i)).emb (Shape.Idx.first (numel1_S1.symm ▸ Nat.one_pos)))
def wordBefore (T : Vec F S288 .i32) (i : grid0.Coords) : BitVec 32 :=
  T ((Rect.unit (s := S288) (k0_off2 i) S1.size (k0_off2_inb i)).emb (Shape.Idx.first (numel1_S1.symm ▸ Nat.one_pos)))
def wordTiles (N : Vec F S1 .i32) : BitVec 32 :=
  N ((Rect.unit (s := S1) ![0] S1.size inb_S1_S1_0).emb (Shape.Idx.first (numel1_S1.symm ▸ Nat.one_pos)))

/-- The weights are loaded anew: at the first point, and where the expert changes. -/
def Anew (T : Vec F S288 .i32) (i : grid0.Coords) : Prop :=
  Scalar.cmpi .ne (Scalar.extui (Scalar.ori (Scalar.cmpi .eq (BitVec.ofNat 32 (i 0).val) 0#32)
    (Scalar.cmpi .ne (wordAt T i) (wordBefore T i)))) 0#32 = 1#1
/-- The tile is one of those counted. -/
def Live (N : Vec F S1 .i32) (i : grid0.Coords) : Prop := k0_cond2 i (wordTiles N) = 1#1

/-! ## What it computes -/

/-- The rows of a tile through one expert, its first layer's weights `w` and biases `b`, its second layer's `w'` and `b'`. -/
def tile (x : Vec F S512x512 .i32) (w : Vec F S1024x2048 .bf16) (b : Vec F S1x1x2048 .f32)
    (w' : Vec F S1024x1024 .bf16) (b' : Vec F S1x1x1024 .f32) : Vec F S512x1024 .bf16 :=
  k0_pay3 (k0_pay5 b')
    (k0_pay6 x (fun y => w ((Rect.unit (s := S1024x2048) ![0, 0] S1024x1024.size inb_S1024x2048_S1024x1024_0_0).emb y))
      (fun y => b ((Rect.unit (s := S1x1x2048) ![0, 0, 0] S1x1x1024.size inb_S1x1x2048_S1x1x1024_0_0_0).emb y)))
    (k0_pay7 x (fun y => w ((Rect.unit (s := S1024x2048) ![0, 1024] S1024x1024.size inb_S1024x2048_S1024x1024_0_1024).emb y))
      (fun y => b ((Rect.unit (s := S1x1x2048) ![0, 0, 1024] S1x1x1024.size inb_S1x1x2048_S1x1x1024_0_0_1024).emb y)))
    (k0_pay8 x (fun y => w ((Rect.unit (s := S1024x2048) ![0, 0] S1024x1024.size inb_S1024x2048_S1024x1024_0_0).emb y))
      (fun y => b ((Rect.unit (s := S1x1x2048) ![0, 0, 0] S1x1x1024.size inb_S1x1x2048_S1x1x1024_0_0_0).emb y)))
    w'

open Classical in
/-- The kernel's body at a point: the scratch weights where they are loaded anew, then the tile where it is counted. -/
theorem body_run (c : Dev nD) (i : grid0.Coords) (q : PosShare TreeShare)
    (arg1 : Memref sig .tc .smem S288 .i32) (harg1 : arg1.IsWhole) (arg2 : Memref sig .tc .smem S1 .i32) (harg2 : arg2.IsWhole)
    (arg3 : Memref sig .tc .vmem S512x512 .i32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole)
    (arg7 : Memref sig .tc .vmem S1x1x1024 .f32) (harg7 : arg7.IsWhole) (arg8 : Memref sig .tc .vmem S512x1024 .bf16) (harg8 : arg8.IsWhole)
    (arg9 : Memref sig .tc .vmem S1024x2048 .bf16) (harg9 : arg9.IsWhole) (arg10 : Memref sig .tc .vmem S1024x1024 .bf16) (harg10 : arg10.IsWhole)
    (T : Vec F S288 .i32) (N : Vec F S1 .i32) (x : Vec F S512x512 .i32) (w : Vec F S1x1024x2048 .f32) (b : Vec F S1x1x2048 .f32)
    (w' : Vec F S1x1024x1024 .f32) (b' : Vec F S1x1x1024 .f32) (o : Vec F S512x1024 .bf16) (s : Vec F S1024x2048 .bf16) (s' : Vec F S1024x1024 .bf16) :
    iprop(owns (c : Thread nD τ) arg1 q T ∗ owns (c : Thread nD τ) arg2 q N ∗ owns (c : Thread nD τ) arg3 fullShare x
      ∗ owns (c : Thread nD τ) arg4 fullShare w ∗ owns (c : Thread nD τ) arg5 fullShare b ∗ owns (c : Thread nD τ) arg6 fullShare w'
      ∗ owns (c : Thread nD τ) arg7 fullShare b' ∗ owns (c : Thread nD τ) arg8 fullShare o ∗ owns (c : Thread nD τ) arg9 fullShare s
      ∗ (owns (c : Thread nD τ) arg10 fullShare s' : sProp 𝕄))
    ⊢ Wp c (cc0_experts i arg1 harg1 arg2 harg2 arg3 harg3 arg4 harg4 arg5 harg5 arg6 harg6 arg7 harg7 arg8 harg8 arg9 harg9 arg10 harg10)
      (fun _ => iprop(owns (c : Thread nD τ) arg1 q T ∗ owns (c : Thread nD τ) arg2 q N ∗ owns (c : Thread nD τ) arg3 fullShare x
      ∗ owns (c : Thread nD τ) arg4 fullShare w ∗ owns (c : Thread nD τ) arg5 fullShare b ∗ owns (c : Thread nD τ) arg6 fullShare w'
      ∗ owns (c : Thread nD τ) arg7 fullShare b'
      ∗ owns (c : Thread nD τ) arg8 fullShare (if Live N i then tile x (if Anew T i then k0_pay1 w else s) b (if Anew T i then k0_pay2 w' else s') b' else o)
      ∗ owns (c : Thread nD τ) arg9 fullShare (if Anew T i then k0_pay1 w else s)
      ∗ owns (c : Thread nD τ) arg10 fullShare (if Anew T i then k0_pay2 w' else s'))) := by
  rw [cc0_experts_eq_skeleton]; unfold cc0_experts_skel
  simp only [k0_part1_eq_skeleton]; unfold k0_part1_skel smemLoad smemLoadElt
  iintro ⟨H1, H2, H3, H4, H5, H6, H7, H8, H9, H10⟩
  simp only [Prog.bind_op, Prog.bind_ret, Prog.bind_lift, Prog.pure_eq_ret]
  have r3 : ∀ v : Vec F S512x512 .i32, (fun y => v ((Rect.unit (s := S512x512) ![0, 0] S512x512.size inb_S512x512_S512x512_0_0).emb y)) = v :=
    fun v => funext fun y => congrArg v (emb_whole (by decide) _ y)
  have r4 : ∀ v : Vec F S1x1024x2048 .f32, (fun y => v ((Rect.unit (s := S1x1024x2048) ![0, 0, 0] S1x1024x2048.size inb_S1x1024x2048_S1x1024x2048_0_0_0).emb y)) = v :=
    fun v => funext fun y => congrArg v (emb_whole (by decide) _ y)
  have r6 : ∀ v : Vec F S1x1024x1024 .f32, (fun y => v ((Rect.unit (s := S1x1024x1024) ![0, 0, 0] S1x1024x1024.size inb_S1x1024x1024_S1x1024x1024_0_0_0).emb y)) = v :=
    fun v => funext fun y => congrArg v (emb_whole (by decide) _ y)
  have r7 : ∀ v : Vec F S1x1x1024 .f32, (fun y => v ((Rect.unit (s := S1x1x1024) ![0, 0, 0] S1x1x1024.size inb_S1x1x1024_S1x1x1024_0_0_0).emb y)) = v :=
    fun v => funext fun y => congrArg v (emb_whole (by decide) _ y)
  have r10 : ∀ v : Vec F S1024x1024 .bf16, (fun y => v ((Rect.unit (s := S1024x1024) ![0, 0] S1024x1024.size inb_S1024x1024_S1024x1024_0_0).emb y)) = v :=
    fun v => funext fun y => congrArg v (emb_whole (by decide) _ y)
  have o8 : ∀ X v : Vec F S512x1024 .bf16, (Rect.unit (s := S512x1024) ![0, 0] S512x1024.size inb_S512x1024_S512x1024_0_0).overlay X v = v :=
    fun X v => overlay_whole (by decide) _ X v
  have o9 : ∀ X v : Vec F S1024x2048 .bf16, (Rect.unit (s := S1024x2048) ![0, 0] S1024x2048.size inb_S1024x2048_S1024x2048_0_0).overlay X v = v :=
    fun X v => overlay_whole (by decide) _ X v
  have o10 : ∀ X v : Vec F S1024x1024 .bf16, (Rect.unit (s := S1024x1024) ![0, 0] S1024x1024.size inb_S1024x1024_S1024x1024_0_0).overlay X v = v :=
    fun X v => overlay_whole (by decide) _ X v
  iapply owns_word $$ H1
  iintro H1
  iapply owns_word $$ H1
  iintro H1
  by_cases h1 : Anew T i
  · have h1' := h1
    unfold Anew wordAt wordBefore at h1'
    simp only [if_pos h1']
    simp only [if_pos h1]
    iapply owns_read $$ H4
    iintro H4
    iapply owns_read $$ H9
    iintro H9
    iapply owns_write $$ H9
    iintro H9
    iapply owns_read $$ H6
    iintro H6
    iapply owns_read $$ H10
    iintro H10
    iapply owns_write $$ H10
    iintro H10
    simp only [r4, r6, o9, o10]
    iapply owns_word $$ H2
    iintro H2
    by_cases h2 : Live N i
    · have h2' := h2
      unfold Live wordTiles at h2'
      simp only [dif_pos h2', if_pos h2]
      iapply owns_read $$ H3
      iintro H3
      iapply owns_read $$ H7
      iintro H7
      iapply owns_read $$ H9
      iintro H9
      iapply owns_read $$ H5
      iintro H5
      iapply owns_read $$ H9
      iintro H9
      iapply owns_read $$ H5
      iintro H5
      iapply owns_read $$ H10
      iintro H10
      iapply owns_read $$ H8
      iintro H8
      iapply owns_write $$ H8
      iintro H8
      simp only [r3, r7, r10, o8]
      unfold Wp; sl_step
      unfold tile
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have h2' := h2
      unfold Live wordTiles at h2'
      simp only [dif_neg h2', if_neg h2]
      unfold Wp; sl_step
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
  · have h1' := h1
    unfold Anew wordAt wordBefore at h1'
    simp only [if_neg h1']
    simp only [if_neg h1]
    iapply owns_word $$ H2
    iintro H2
    by_cases h2 : Live N i
    · have h2' := h2
      unfold Live wordTiles at h2'
      simp only [dif_pos h2', if_pos h2]
      iapply owns_read $$ H3
      iintro H3
      iapply owns_read $$ H7
      iintro H7
      iapply owns_read $$ H9
      iintro H9
      iapply owns_read $$ H5
      iintro H5
      iapply owns_read $$ H9
      iintro H9
      iapply owns_read $$ H5
      iintro H5
      iapply owns_read $$ H10
      iintro H10
      iapply owns_read $$ H8
      iintro H8
      iapply owns_write $$ H8
      iintro H8
      simp only [r3, r7, r10, o8]
      unfold Wp; sl_step
      unfold tile
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have h2' := h2
      unfold Live wordTiles at h2'
      simp only [dif_neg h2', if_neg h2]
      unfold Wp; sl_step
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

end Cert.ExpertsIdeal.Moe
-- ==== Proof.ExpTab.lean ====
/- The experts' tables: what a point reads of them, and what that makes of the blocks. -/
module

public import proofs.«01_k».proof.Proof.ExpBody
public import Idealize.ShloMosaic.Lib.Pipeline.ValueKit.Geometry
public import Idealize.ShloMosaic.Lib.Pointwise

@[expose] public section

set_option maxRecDepth 16384

noncomputable section

namespace Cert.ExpertsIdeal.Moe

open Cert.ExpertsIdeal Cert.ExpertsIdeal.Gen
open Idealize.ShloMosaic Idealize.ShloMosaic.TcCoe

variable {F : FTy → Type} [FloatOps F]

/-- The number of a point. -/
abbrev num (i : grid0.Coords) : Fin 288 := i 0

theorem ofNat_toNat (k : Fin 288) : (BitVec.ofNat 32 k.val).toNat = k.val := by
  have := k.isLt; rw [BitVec.toNat_ofNat]; omega

theorem ofNat_toInt (k : Fin 288) : (BitVec.ofNat 32 k.val).toInt = k.val := by
  have := k.isLt
  rw [BitVec.toInt_eq_toNat_cond, ofNat_toNat, if_pos (by omega)]

theorem wordAt_eq (T : Vec F S288 .i32) (i : grid0.Coords) : wordAt T i = T (ix1 (num i)) := by
  unfold wordAt
  refine congrArg T (funext fun a => Fin.ext ?_)
  obtain rfl : a = 0 := Subsingleton.elim _ _
  rw [Rect.emb_apply]
  have h : ((Shape.Idx.first (s := (Rect.unit (s := S288) (k0_off1 i) S1.size (k0_off1_inb i)).shape) (numel1_S1.symm ▸ Nat.one_pos)) 0).val < 1 := Fin.isLt _
  show (BitVec.ofNat 32 (num i).val).toNat + 1 * _ = (num i).val
  rw [ofNat_toNat]; omega

theorem off2_val (i : grid0.Coords) : (Scalar.maxsi (Scalar.subi (BitVec.ofNat 32 (num i).val) 1#32) 0#32).toNat = (num i).val - 1 := by
  have h : ∀ k : Fin 288, (Scalar.maxsi (Scalar.subi (BitVec.ofNat 32 k.val) 1#32) 0#32).toNat = k.val - 1 := by decide +kernel
  exact h _

theorem wordBefore_eq (T : Vec F S288 .i32) (i : grid0.Coords) : wordBefore T i = T (ix1 ⟨(num i).val - 1, by omega⟩) := by
  unfold wordBefore
  refine congrArg T (funext fun a => Fin.ext ?_)
  obtain rfl : a = 0 := Subsingleton.elim _ _
  rw [Rect.emb_apply]
  have h : ((Shape.Idx.first (s := (Rect.unit (s := S288) (k0_off2 i) S1.size (k0_off2_inb i)).shape) (numel1_S1.symm ▸ Nat.one_pos)) 0).val < 1 := Fin.isLt _
  show (Scalar.maxsi (Scalar.subi (BitVec.ofNat 32 (num i).val) 1#32) 0#32).toNat + 1 * _ = (num i).val - 1
  rw [off2_val]; omega

/-- Where the weights stay, the point is not the first and its expert is the expert before. -/
theorem same_of_not_anew {T : Vec F S288 .i32} {i : grid0.Coords} (h : ¬ Anew T i) :
    0 < (num i).val ∧ T (ix1 (num i)) = T (ix1 ⟨(num i).val - 1, by omega⟩) := by
  unfold Anew at h
  rw [wordAt_eq, wordBefore_eq] at h
  constructor
  · by_contra h0
    apply h
    have e : (i 0).val = 0 := by change ¬ 0 < (i 0).val at h0; omega
    have hz : ∀ z : BitVec 1, Scalar.cmpi .ne (Scalar.extui (Scalar.ori (Scalar.cmpi .eq (BitVec.ofNat 32 (i 0).val) 0#32) z)) 0#32 = 1#1 := by
      rw [e]; decide
    exact hz _
  · by_contra h1
    apply h
    rw [show Scalar.cmpi .ne (T (ix1 (num i))) (T (ix1 ⟨(num i).val - 1, by omega⟩)) = 1#1 from by
      simp only [Scalar.cmpi, IntOp.cmpi]
      rw [show (T (ix1 (num i)) != T (ix1 ⟨(num i).val - 1, by omega⟩)) = true from bne_iff_ne.mpr h1]; rfl]
    generalize Scalar.cmpi .eq (BitVec.ofNat 32 (i 0).val) 0#32 = z
    revert z; decide

/-- The tables the program admits: every tile names an expert, and there are from one to all of the tiles. -/
structure Tiles (T : Vec F S288 .i32) (N : Vec F S1 .i32) : Prop where
  expert : ∀ k : Fin 288, BitVec.toNat (T (ix1 k)) < 32
  one : 1 ≤ BitVec.toNat (wordTiles N)
  most : BitVec.toNat (wordTiles N) ≤ 288

/-- The number of tiles. -/
abbrev count (N : Vec F S1 .i32) : Nat := BitVec.toNat (wordTiles N)

variable {T : Vec F S288 .i32} {N : Vec F S1 .i32}

theorem slt_iff (k : Fin 288) (x : BitVec 32) (h1 : 1 ≤ x.toNat) (h2 : x.toNat ≤ 288) : (BitVec.ofNat 32 k.val).slt x = decide (k.val < x.toNat) := by
  rw [BitVec.slt, ofNat_toInt, BitVec.toInt_eq_toNat_cond, if_pos (by omega)]
  exact decide_eq_decide.mpr (by omega)

theorem live_iff (h : Tiles T N) (i : grid0.Coords) : Live N i ↔ (num i).val < count N := by
  unfold Live k0_cond2
  have e : Scalar.cmpi .slt (BitVec.ofNat 32 (num i).val) (wordTiles N) = BitVec.ofBool (decide ((num i).val < count N)) := by
    show BitVec.ofBool ((BitVec.ofNat 32 (num i).val).slt (wordTiles N)) = _
    rw [slt_iff _ _ h.one h.most]
  show Scalar.cmpi .ne (Scalar.extui (Scalar.cmpi .slt (BitVec.ofNat 32 (num i).val) (wordTiles N))) 0#32 = 1#1 ↔ _
  rw [e]
  by_cases hk : (num i).val < count N
  · simp only [hk, decide_true, iff_true]; decide
  · simp only [hk, decide_false, iff_false]; decide

theorem sub_one (x : BitVec 32) (h1 : 1 ≤ x.toNat) : (x - 1#32).toNat = x.toNat - 1 := by
  have := x.isLt
  rw [BitVec.toNat_sub]
  show (4294967296 - 1 + x.toNat) % 4294967296 = _
  omega

theorem row_val (h : Tiles T N) (k : Fin 288) : (Scalar.minsi (BitVec.ofNat 32 k.val) (Scalar.subi (wordTiles N) 1#32)).toNat = min k.val (count N - 1) := by
  have h1 := h.one; have h2 := h.most
  have e := sub_one (wordTiles N) h.one
  show (if (BitVec.ofNat 32 k.val).slt (wordTiles N - 1#32) then BitVec.ofNat 32 k.val else wordTiles N - 1#32).toNat = _
  have hs : (BitVec.ofNat 32 k.val).slt (wordTiles N - 1#32) = decide (k.val < count N - 1) := by
    rw [BitVec.slt, ofNat_toInt, BitVec.toInt_eq_toNat_cond, if_pos (by omega), e]
    exact decide_eq_decide.mpr (by show _ ↔ k.val < BitVec.toNat (wordTiles N) - 1; omega)
  rw [hs]
  by_cases hk : k.val < count N - 1
  · rw [if_pos (decide_eq_true hk), ofNat_toNat]; omega
  · rw [if_neg (by simpa using hk), e]; change count N - 1 = _; omega

/-! ## The blocks' places -/

variable (pf : pre0.Contents (Elt F))

theorem place_rows (h : Tiles (F := F) (pf 0) (pf 1)) (i : grid0.Coords) :
    cc0_transform_0 inb_S1_S1_0 numel1_S1 pf i = ![min (num i).val (count (F := F) (pf 1) - 1), 0] := by
  rw [← row_val h]; rfl

theorem place_out (h : Tiles (F := F) (pf 0) (pf 1)) (i : grid0.Coords) :
    cc0_transform_5 inb_S1_S1_0 numel1_S1 pf i = ![min (num i).val (count (F := F) (pf 1) - 1), 0] := by
  rw [← row_val h]; rfl

/-- The expert of a tile. -/
abbrev expertOf (k : Fin 288) : Nat := BitVec.toNat (w := 32) (pf 0 (ix1 k))

theorem place_w1 (i : grid0.Coords) : cc0_transform_1 k0_off1_inb numel1_S1 pf i = ![expertOf pf (num i), 0, 0] := by
  rw [expertOf, ← wordAt_eq (F := F) (pf 0) i]; rfl
theorem place_b1 (i : grid0.Coords) : cc0_transform_2 k0_off1_inb numel1_S1 pf i = ![expertOf pf (num i), 0, 0] := by
  rw [expertOf, ← wordAt_eq (F := F) (pf 0) i]; rfl
theorem place_w2 (i : grid0.Coords) : cc0_transform_3 k0_off1_inb numel1_S1 pf i = ![expertOf pf (num i), 0, 0] := by
  rw [expertOf, ← wordAt_eq (F := F) (pf 0) i]; rfl
theorem place_b2 (i : grid0.Coords) : cc0_transform_4 k0_off1_inb numel1_S1 pf i = ![expertOf pf (num i), 0, 0] := by
  rw [expertOf, ← wordAt_eq (F := F) (pf 0) i]; rfl

theorem rows_packed {ix : Fin 2 → Nat} (hx : ∀ a, (ix a + 1) * S512x1024.size a ≤ S147456x1024.size a) :
    (Rect.block (s := S147456x1024) S512x1024.size ix hx).WholeWords (EltTy.packing .bf16) :=
  Or.inl (Or.inr ⟨(Nat.le_refl 2 : 2 ≤ S147456x1024.rank), rfl, Or.inl ⟨(Dvd.dvd.mul_left (by decide : 2 ∣ 512) (ix 0) : 2 ∣ ix 0 * 512), (by decide : 2 ∣ 512)⟩⟩)

/-- Admitted tables meet what the launch asks of them. -/
theorem ok_of_tiles (h : Tiles (F := F) (pf 0) (pf 1)) : ok0 pf := by
  have hb : ∀ k : Fin 288, min k.val (count (F := F) (pf 1) - 1) < 288 := fun k => by have := k.isLt; omega
  unfold ok0
  refine ⟨fun i => ?_, fun i => ⟨?_, .inl rfl⟩, fun i => ⟨?_, .inl rfl⟩, fun i => ⟨?_, .inl rfl⟩, fun i => ⟨?_, .inl rfl⟩, fun i => ?_⟩
  · refine ⟨?_, .inl rfl⟩
    rw [place_rows pf h]
    have := hb (num i)
    intro a; match a with
    | ⟨0, _⟩ => show (min _ _ + 1) * 512 ≤ 147456; omega
    | ⟨1, _⟩ => show (0 + 1) * 512 ≤ 512; omega
  · rw [place_w1]
    have : expertOf pf (num i) < 32 := h.expert (num i)
    intro a; match a with
    | ⟨0, _⟩ => show (expertOf pf (num i) + 1) * 1 ≤ 32; omega
    | ⟨1, _⟩ => show (0 + 1) * 1024 ≤ 1024; omega
    | ⟨2, _⟩ => show (0 + 1) * 2048 ≤ 2048; omega
  · rw [place_b1]
    have : expertOf pf (num i) < 32 := h.expert (num i)
    intro a; match a with
    | ⟨0, _⟩ => show (expertOf pf (num i) + 1) * 1 ≤ 32; omega
    | ⟨1, _⟩ => show (0 + 1) * 1 ≤ 1; omega
    | ⟨2, _⟩ => show (0 + 1) * 2048 ≤ 2048; omega
  · rw [place_w2]
    have : expertOf pf (num i) < 32 := h.expert (num i)
    intro a; match a with
    | ⟨0, _⟩ => show (expertOf pf (num i) + 1) * 1 ≤ 32; omega
    | ⟨1, _⟩ => show (0 + 1) * 1024 ≤ 1024; omega
    | ⟨2, _⟩ => show (0 + 1) * 1024 ≤ 1024; omega
  · rw [place_b2]
    have : expertOf pf (num i) < 32 := h.expert (num i)
    intro a; match a with
    | ⟨0, _⟩ => show (expertOf pf (num i) + 1) * 1 ≤ 32; omega
    | ⟨1, _⟩ => show (0 + 1) * 1 ≤ 1; omega
    | ⟨2, _⟩ => show (0 + 1) * 1024 ≤ 1024; omega
  · refine ⟨?_, .inr (rows_packed _)⟩
    rw [place_out pf h]
    have := hb (num i)
    intro a; match a with
    | ⟨0, _⟩ => show (min _ _ + 1) * 512 ≤ 147456; omega
    | ⟨1, _⟩ => show (0 + 1) * 1024 ≤ 1024; omega

/-- Whether the body leaves the output's buffer alone. -/
theorem idle_eq (h : Tiles (F := F) (pf 0) (pf 1)) (i : grid0.Coords) :
    (!(k0_cond2 i (pf.atD 1 ![0]) == 1#1)) = !decide ((num i).val < count (F := F) (pf 1)) := by
  have e : pf.atD 1 ![0] = wordTiles (F := F) (pf 1) := by
    unfold Pipeline.Prefetch.Contents.atD
    rw [dif_pos (by decide)]
    have h1 : ∀ x y : S1.Idx, x = y := fun x y => funext fun a => Fin.ext (by
      obtain rfl : a = 0 := Subsingleton.elim _ _
      have hx : (x 0).val < 1 := (x 0).isLt
      have hy : (y 0).val < 1 := (y 0).isLt
      omega)
    exact congrArg (pf 1) (h1 _ _)
  rw [e]
  by_cases hk : (num i).val < count (F := F) (pf 1)
  · have := (live_iff h i).mpr hk
    unfold Live at this
    rw [this, decide_eq_true hk]; rfl
  · have := mt (live_iff h i).mp hk
    unfold Live at this
    rw [beq_eq_false_iff_ne.mpr this, decide_eq_false hk]

/-- The points in order. -/
theorem num_coords (t : Fin grid0.N) : (num (grid0.coords t)).val = t.val := by
  have h : ∀ t : Fin grid0.N, (grid0.coords t 0).val = t.val := by decide +kernel
  exact h t

end Cert.ExpertsIdeal.Moe

end
-- ==== Proof.ExpRun.lean ====
/- The experts' run: what the program leaves alone, and the blocks it writes. -/
module

public import proofs.«01_k».proof.Proof.ExpTab
public import proofs.«01_k».proof.Proof.Gen.ExpertsIdeal.Launch
public import Idealize.ShloMosaic.Lib.Pipeline.TableIdle

@[expose] public section

set_option maxRecDepth 16384

noncomputable section

namespace Cert.ExpertsIdeal.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

abbrev V (c : Dev nD) (b : Ref sig .tc) : Buf (Elt F) ((c : Thread nD τ).loc b) :=
  StableHlo.after hostOps0 (fun b => m (c, b)) (Proc.devRef .tc b)

theorem ops_fresh : (hostOps0 : List (HloOp τ sig (Elt F))).Forall fun op => op.fresh = ∅ := by
  simp only [List.Forall]; repeat' constructor

/-- The two reshapes write their own results only. -/
theorem V_kept (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- The tables as the region finds them. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

theorem tbl_0 : tbl m 0 = m (((0 : Dev nD) : Thread nD τ).loc main_arg0) := V_kept m 0 main_arg0 (by decide) (by decide)
theorem tbl_1 : tbl m 1 = m (((0 : Dev nD) : Thread nD τ).loc main_arg1) := V_kept m 0 main_arg1 (by decide) (by decide)

/-- The launch's tables are tables of tiles. -/
abbrev Good : Prop := Tiles (F := F) (tbl m 0) (tbl m 1)

variable (hT : Good m)

def adm : (pcfg0 (F := F)).Adm := ⟨tbl m, ok_of_tiles _ hT⟩

/-- The pipeline at those tables. -/
abbrev cfgM : Cfg sig Λ₀ := cfg0 (adm m hT)

theorem points : (cfgM m hT).N = 288 := N_0

/-- The number of live tiles. -/
abbrev live : ℕ := count (F := F) (tbl m 1)

include hT in
theorem live_pos : 0 < live m := hT.one
include hT in
theorem live_le : live m ≤ 288 := hT.most

/-! ## Blocks -/

def iblk (c : Dev nD) (w : Fin 6) (t : Fin (cfgM m hT).N) : (((cfgM m hT).win w).xblock ((cfgM m hT).grid.coords t)).Idx → Elt F ((cfgM m hT).win w).elt :=
  (((cfgM m hT).win w).blk t).view.read (Elt F) (V m c (Pipeline.arrRef spec0 w))

def rows (c : Dev nD) (t : Fin (cfgM m hT).N) : Vec F S512x512 .i32 := iblk m hT c 0 t
def wIn (c : Dev nD) (t : Fin (cfgM m hT).N) : Vec F S1x1024x2048 .f32 := iblk m hT c 1 t
def bIn (c : Dev nD) (t : Fin (cfgM m hT).N) : Vec F S1x1x2048 .f32 := iblk m hT c 2 t
def wOut (c : Dev nD) (t : Fin (cfgM m hT).N) : Vec F S1x1024x1024 .f32 := iblk m hT c 3 t
def bOut (c : Dev nD) (t : Fin (cfgM m hT).N) : Vec F S1x1x1024 .f32 := iblk m hT c 4 t

/-- What a live point writes. -/
def made (c : Dev nD) (t : Fin (cfgM m hT).N) : Vec F S512x1024 .bf16 :=
  tile (rows m hT c t) (k0_pay1 (wIn m hT c t)) (bIn m hT c t) (k0_pay2 (wOut m hT c t)) (bOut m hT c t)

/-- The last live point not after `t`. -/
def upto (t : Fin (cfgM m hT).N) : Fin (cfgM m hT).N := ⟨min t.val (live m - 1), lt_of_le_of_lt (Nat.min_le_left _ _) t.isLt⟩

/-! ## Proof data -/

/-- Between points: the scratch holds the weights of the point before, rounded. -/
def between (c : Dev nD) (t : Fin ((cfgM m hT).N + 1)) : sProp 𝕄 :=
  iprop(∃ (s : Vec F S1024x2048 .bf16) (s' : Vec F S1024x1024 .bf16),
    ⌜∀ u : Fin (cfgM m hT).N, u.val + 1 = t.val → s = k0_pay1 (wIn m hT c u) ∧ s' = k0_pay2 (wOut m hT c u)⌝
    ∗ owns (c : Thread nD τ) (Memref.whole cc0_scratch0) fullShare s ∗ owns (c : Thread nD τ) (Memref.whole cc0_scratch1) fullShare s'
    ∗ (∃ r, prngReg c r)
    ∗ owns (c : Thread nD τ) (Memref.whole main_arg0) fullShare.right (tbl m 0)
    ∗ owns (c : Thread nD τ) (Memref.whole main_arg1) fullShare.right (tbl m 1))

def data (c : Dev nD) : Dat τ (Elt F) Unit ℕ (UR sig nD τ) ℕ (cfgM m hT) c where
  A w := V m c (Pipeline.arrRef spec0 w)
  after w t := match w with
    | ⟨0, _⟩ => iblk m hT c 0 t
    | ⟨1, _⟩ => iblk m hT c 1 t
    | ⟨2, _⟩ => iblk m hT c 2 t
    | ⟨3, _⟩ => iblk m hT c 3 t
    | ⟨4, _⟩ => iblk m hT c 4 t
    | ⟨5, _⟩ => made m hT c (upto m hT t)
  Φ t := between m hT c t
  q _ := fullShare
  owed _ := 0

theorem data_A (c : Dev nD) (w : Fin (cfgM m hT).W) : (data m hT c).A w = V m c (Pipeline.arrRef spec0 w) := by
  dsimp only [data]

variable (c : Dev nD) (t : Fin (cfgM m hT).N)

theorem after_0 : (data m hT c).after 0 t = iblk m hT c 0 t := rfl
theorem after_1 : (data m hT c).after 1 t = iblk m hT c 1 t := rfl
theorem after_2 : (data m hT c).after 2 t = iblk m hT c 2 t := rfl
theorem after_3 : (data m hT c).after 3 t = iblk m hT c 3 t := rfl
theorem after_4 : (data m hT c).after 4 t = iblk m hT c 4 t := rfl
theorem after_5 : (data m hT c).after 5 t = made m hT c (upto m hT t) := rfl

theorem before_0 (d) : (data m hT c).before 0 t d = rows m hT c t :=
  ((data m hT c).before_in_eq_fetched 0 rfl (fun _ => rfl) (fun _ _ _ => rfl)
    (fun t => by rw [after_0]; unfold Dat.blockOf iblk; rw [data_A]; try rfl) t d).trans
    (by unfold Dat.fetched Dat.blockOf rows iblk; rw [data_A]; try rfl)
theorem before_1 (d) : (data m hT c).before 1 t d = wIn m hT c t :=
  ((data m hT c).before_in_eq_fetched 1 rfl (fun _ => rfl) (fun _ _ _ => rfl)
    (fun t => by rw [after_1]; unfold Dat.blockOf iblk; rw [data_A]; try rfl) t d).trans
    (by unfold Dat.fetched Dat.blockOf wIn iblk; rw [data_A]; try rfl)
theorem before_2 (d) : (data m hT c).before 2 t d = bIn m hT c t :=
  ((data m hT c).before_in_eq_fetched 2 rfl (fun _ => rfl) (fun _ _ _ => rfl)
    (fun t => by rw [after_2]; unfold Dat.blockOf iblk; rw [data_A]; try rfl) t d).trans
    (by unfold Dat.fetched Dat.blockOf bIn iblk; rw [data_A]; try rfl)
theorem before_3 (d) : (data m hT c).before 3 t d = wOut m hT c t :=
  ((data m hT c).before_in_eq_fetched 3 rfl (fun _ => rfl) (fun _ _ _ => rfl)
    (fun t => by rw [after_3]; unfold Dat.blockOf iblk; rw [data_A]; try rfl) t d).trans
    (by unfold Dat.fetched Dat.blockOf wOut iblk; rw [data_A]; try rfl)
theorem before_4 (d) : (data m hT c).before 4 t d = bOut m hT c t :=
  ((data m hT c).before_in_eq_fetched 4 rfl (fun _ => rfl) (fun _ _ _ => rfl)
    (fun t => by rw [after_4]; unfold Dat.blockOf iblk; rw [data_A]; try rfl) t d).trans
    (by unfold Dat.fetched Dat.blockOf bOut iblk; rw [data_A]; try rfl)

/-! ## Where the blocks lie -/

theorem index_0 : ((cfgM m hT).win 0).index t = ![min t.val (live m - 1), 0] := by
  have h := place_rows (F := F) (tbl m) hT (grid0.coords t)
  rw [num_coords] at h
  exact h
theorem index_5 : ((cfgM m hT).win 5).index t = ![min t.val (live m - 1), 0] := by
  have h := place_out (F := F) (tbl m) hT (grid0.coords t)
  rw [num_coords] at h
  exact h

/-- The expert of a point. -/
abbrev expert : ℕ := expertOf (F := F) (tbl m) (num (grid0.coords t))

theorem index_1 : ((cfgM m hT).win 1).index t = ![expert m hT t, 0, 0] := place_w1 (F := F) (tbl m) (grid0.coords t)
theorem index_2 : ((cfgM m hT).win 2).index t = ![expert m hT t, 0, 0] := place_b1 (F := F) (tbl m) (grid0.coords t)
theorem index_3 : ((cfgM m hT).win 3).index t = ![expert m hT t, 0, 0] := place_w2 (F := F) (tbl m) (grid0.coords t)
theorem index_4 : ((cfgM m hT).win 4).index t = ![expert m hT t, 0, 0] := place_b2 (F := F) (tbl m) (grid0.coords t)

theorem idle_at (a : (pcfg0 (F := F)).Adm) : (cfg0 a).idle = idle0 a.1 := rfl

theorem idle_last (pf : pre0.Contents (Elt F)) (i : grid0.Coords) : idle0 pf (5 : Fin 6) i = !(k0_cond2 i (pf.atD 1 ![0]) == 1#1) := by
  with_reducible rfl

theorem idle_5 : (cfgM m hT).idle (5 : Fin 6) ((cfgM m hT).grid.coords t) = !decide (t.val < live m) := by
  have e : ((num (grid0.coords t)).val < live m) = (t.val < live m) := congrArg (· < live m) (num_coords t)
  have e' : (!decide ((num (grid0.coords t)).val < live m)) = !decide (t.val < live m) := by simp only [e]
  have h : (!(k0_cond2 (grid0.coords t) ((tbl m).atD 1 ![0]) == 1#1)) = !decide ((num (grid0.coords t)).val < live m) := idle_eq (F := F) (tbl m) hT (grid0.coords t)
  exact (congrFun (congrFun (idle_at (adm m hT)) (5 : Fin 6)) (grid0.coords t)).trans ((idle_last (tbl m) (grid0.coords t)).trans (h.trans e'))

/-! ## The output's buffer past the last live point -/

theorem flush_of_same {G : Pipeline.Grid} (w : Window sig G) (u : Fin G.N) (h : u.val + 1 < G.N) (e : w.index ⟨u.val + 1, h⟩ = w.index u) : w.flush u = false := by
  unfold Window.flush
  have hd : ¬ ∃ h : u.val + 1 < G.N, w.index ⟨u.val + 1, h⟩ ≠ w.index u := fun ⟨_, hne⟩ => hne e
  have hn : ¬ u.val + 1 = G.N := by omega
  rw [decide_eq_false hd, decide_eq_false hn, Bool.or_self, Bool.and_false]

theorem flush_5 (h1 : t.val + 1 < 288) (h : live m ≤ t.val + 1) : ((cfgM m hT).win 5).flush t = false := by
  have hp := live_pos m hT
  have hN : t.val + 1 < (cfgM m hT).N := lt_of_lt_of_eq h1 (points m hT).symm
  have e : min (t.val + 1) (live m - 1) = min t.val (live m - 1) := by omega
  exact flush_of_same _ t hN ((index_5 m hT ⟨t.val + 1, hN⟩).trans ((congrArg (fun k => ![k, 0]) e).trans (index_5 m hT t).symm))

include hT in
theorem fresh_5 : ∀ n : ℕ, live m ≤ n → n < 288 → (cfgM m hT).fresh 5 n = false := by
  have hp := live_pos m hT
  intro n
  induction n with
  | zero => intro h; omega
  | succ n ih =>
    intro h h1
    have hN : n < (cfgM m hT).N := by rw [points]; omega
    rw [Cfg.fresh_succ _ _ _ hN, flush_5 m hT ⟨n, hN⟩ h1 h, idle_5, Bool.false_or]
    by_cases hn : live m ≤ n
    · rw [ih hn (by omega), Bool.and_false]
    · rw [decide_eq_true (show (⟨n, hN⟩ : Fin (cfgM m hT).N).val < live m by simp only; omega)]; rfl

theorem upto_live (h : t.val < live m) : upto m hT t = t := Fin.ext (by show min t.val (live m - 1) = t.val; omega)

theorem upto_prev (h0 : t.val ≠ 0) (h : live m ≤ t.val) : upto m hT t = upto m hT ⟨t.val - 1, by omega⟩ :=
  Fin.ext (by show min t.val (live m - 1) = min (t.val - 1) (live m - 1); omega)

theorem before_5 (h : live m ≤ t.val) (d) : (data m hT c).before 5 t d = made m hT c (upto m hT t) := by
  have hp := live_pos m hT
  have ht : t.val < 288 := lt_of_lt_of_eq t.isLt (points m hT)
  rw [(data m hT c).before_out_traj 5 rfl (fun _ _ => rfl) (fun t h0 hi _ => by
    rw [idle_5] at hi
    have hl : ¬ t.val < live m := fun hl => by rw [decide_eq_true hl] at hi; exact Bool.false_ne_true hi
    rw [after_5, after_5, upto_prev m hT t h0 (by omega)]) t.val t rfl d, fresh_5 m hT t.val h ht, if_neg Bool.false_ne_true, after_5,
    upto_prev m hT t (by omega) h]

/-! ## A point -/

theorem wIn_congr (u : Fin (cfgM m hT).N) (h : expert m hT u = expert m hT t) : wIn m hT c u = wIn m hT c t := by
  have e : ∀ t d, (data m hT c).fetched 1 t d = wIn m hT c t := fun t d => by unfold Dat.fetched Dat.blockOf wIn iblk; rw [data_A]; try rfl
  rw [← e u (wIn m hT c t), ← e t (wIn m hT c t)]
  exact (data m hT c).fetched_congr 1 ((index_1 m hT u).trans ((congrArg (fun k => ![k, 0, 0]) h).trans (index_1 m hT t).symm)) rfl _

theorem wOut_congr (u : Fin (cfgM m hT).N) (h : expert m hT u = expert m hT t) : wOut m hT c u = wOut m hT c t := by
  have e : ∀ t d, (data m hT c).fetched 3 t d = wOut m hT c t := fun t d => by unfold Dat.fetched Dat.blockOf wOut iblk; rw [data_A]; try rfl
  rw [← e u (wOut m hT c t), ← e t (wOut m hT c t)]
  exact (data m hT c).fetched_congr 3 ((index_3 m hT u).trans ((congrArg (fun k => ![k, 0, 0]) h).trans (index_3 m hT t).symm)) rfl _

open Classical in
theorem scratch_now {s : Vec F S1024x2048 .bf16} {s' : Vec F S1024x1024 .bf16}
    (hs : ∀ u : Fin (cfgM m hT).N, u.val + 1 = t.val → s = k0_pay1 (wIn m hT c u) ∧ s' = k0_pay2 (wOut m hT c u)) :
    (if Anew (F := F) (tbl m 0) (grid0.coords t) then k0_pay1 (wIn m hT c t) else s) = k0_pay1 (wIn m hT c t)
    ∧ (if Anew (F := F) (tbl m 0) (grid0.coords t) then k0_pay2 (wOut m hT c t) else s') = k0_pay2 (wOut m hT c t) := by
  by_cases ha : Anew (F := F) (tbl m 0) (grid0.coords t)
  · rw [if_pos ha, if_pos ha]; exact ⟨rfl, rfl⟩
  · rw [if_neg ha, if_neg ha]
    obtain ⟨h0, he⟩ := same_of_not_anew ha
    rw [num_coords] at h0
    have hu : t.val - 1 < (cfgM m hT).N := by have := t.isLt; omega
    obtain ⟨e1, e2⟩ := hs ⟨t.val - 1, hu⟩ (by simp only; omega)
    have hx : expert m hT ⟨t.val - 1, hu⟩ = expert m hT t := by
      unfold expert expertOf
      rw [he]
      refine congrArg (fun k => BitVec.toNat (w := 32) (tbl m 0 (ix1 k))) (Fin.ext ?_)
      show (num (grid0.coords ⟨t.val - 1, hu⟩)).val = (num (grid0.coords t)).val - 1
      rw [num_coords, num_coords]
    rw [e1, e2, wIn_congr m hT c t _ hx, wOut_congr m hT c t _ hx]
    exact ⟨rfl, rfl⟩

abbrev ms_0 : Memref sig .tc .vmem S512x512 .i32 := ((cfgM m hT).win 0).stage ((cfgM m hT).slots t 0)
abbrev ms_1 : Memref sig .tc .vmem S1x1024x2048 .f32 := ((cfgM m hT).win 1).stage ((cfgM m hT).slots t 1)
abbrev ms_2 : Memref sig .tc .vmem S1x1x2048 .f32 := ((cfgM m hT).win 2).stage ((cfgM m hT).slots t 2)
abbrev ms_3 : Memref sig .tc .vmem S1x1024x1024 .f32 := ((cfgM m hT).win 3).stage ((cfgM m hT).slots t 3)
abbrev ms_4 : Memref sig .tc .vmem S1x1x1024 .f32 := ((cfgM m hT).win 4).stage ((cfgM m hT).slots t 4)
abbrev ms_5 : Memref sig .tc .vmem S512x1024 .bf16 := ((cfgM m hT).win 5).stage ((cfgM m hT).slots t 5)

/-- The body at a point. -/
def bodyAt : PG F PUnit := cc0_experts (grid0.coords t) (Memref.whole main_arg0) (Memref.isWhole_whole _) (Memref.whole main_arg1) (Memref.isWhole_whole _)
  (ms_0 m hT t) (hstage0_0 (((cfgM m hT).slots t 0).cast nbuf0_0)) (ms_1 m hT t) (hstage0_1 (((cfgM m hT).slots t 1).cast nbuf0_1))
  (ms_2 m hT t) (hstage0_2 (((cfgM m hT).slots t 2).cast nbuf0_2)) (ms_3 m hT t) (hstage0_3 (((cfgM m hT).slots t 3).cast nbuf0_3))
  (ms_4 m hT t) (hstage0_4 (((cfgM m hT).slots t 4).cast nbuf0_4)) (ms_5 m hT t) (hstage0_5 (((cfgM m hT).slots t 5).cast nbuf0_5))
  (Memref.whole cc0_scratch0) (Memref.isWhole_whole _) (Memref.whole cc0_scratch1) (Memref.isWhole_whole _)

theorem row_at : defs₀ (F := F) .tc (cfgM m hT).body ((cfgM m hT).bodyArgs t ((cfgM m hT).slots t)) = bodyAt m hT t := by
  unfold defs₀ bodyAt; rw [Defs.onTc_tc]; rfl

/-- A point's inputs. -/
def ins : sProp 𝕄 :=
  iprop(owns (c : Thread nD τ) (ms_0 m hT t) fullShare (rows m hT c t) ∗ owns (c : Thread nD τ) (ms_1 m hT t) fullShare (wIn m hT c t)
    ∗ owns (c : Thread nD τ) (ms_2 m hT t) fullShare (bIn m hT c t) ∗ owns (c : Thread nD τ) (ms_3 m hT t) fullShare (wOut m hT c t)
    ∗ owns (c : Thread nD τ) (ms_4 m hT t) fullShare (bOut m hT c t))

open Classical in
theorem point (o : Vec F S512x1024 .bf16) :
    iprop(between m hT c t.castSucc ∗ ins m hT c t ∗ owns (c : Thread nD τ) (ms_5 m hT t) fullShare o)
    ⊢ Wp c (bodyAt m hT t) (fun _ => iprop(between m hT c t.succ ∗ ins m hT c t
      ∗ owns (c : Thread nD τ) (ms_5 m hT t) fullShare (if t.val < live m then made m hT c t else o))) := by
  unfold between ins
  iintro ⟨⟨%s, %s', %hs, HS, HS', Hg, HT, HN⟩, ⟨H0, H1, H2, H3, H4⟩, H5⟩
  obtain ⟨e1, e2⟩ := scratch_now m hT c t (s := s) (s' := s') (fun u hu => hs u hu)
  have h := body_run c (grid0.coords t) fullShare.right (Memref.whole main_arg0) (Memref.isWhole_whole _) (Memref.whole main_arg1) (Memref.isWhole_whole _)
    (ms_0 m hT t) (hstage0_0 (((cfgM m hT).slots t 0).cast nbuf0_0)) (ms_1 m hT t) (hstage0_1 (((cfgM m hT).slots t 1).cast nbuf0_1))
    (ms_2 m hT t) (hstage0_2 (((cfgM m hT).slots t 2).cast nbuf0_2)) (ms_3 m hT t) (hstage0_3 (((cfgM m hT).slots t 3).cast nbuf0_3))
    (ms_4 m hT t) (hstage0_4 (((cfgM m hT).slots t 4).cast nbuf0_4)) (ms_5 m hT t) (hstage0_5 (((cfgM m hT).slots t 5).cast nbuf0_5))
    (Memref.whole cc0_scratch0) (Memref.isWhole_whole _) (Memref.whole cc0_scratch1) (Memref.isWhole_whole _)
    (tbl m 0) (tbl m 1) (rows m hT c t) (wIn m hT c t) (bIn m hT c t) (wOut m hT c t) (bOut m hT c t) o s s'
  rw [e1, e2, if_congr ((live_iff hT (grid0.coords t)).trans (by rw [num_coords])) rfl rfl] at h
  iapply (wp_wand_r frame (wpE (defs₀ (F := F)) Variants.none c none) Set.univ)
  isplitl [H0 H1 H2 H3 H4 H5 HS HS' HT HN]
  · iapply h
    isplitl [HT]; · iexact HT
    isplitl [HN]; · iexact HN
    isplitl [H0]; · iexact H0
    isplitl [H1]; · iexact H1
    isplitl [H2]; · iexact H2
    isplitl [H3]; · iexact H3
    isplitl [H4]; · iexact H4
    isplitl [H5]; · iexact H5
    isplitl [HS]; · iexact HS
    iexact HS'
  · iintro %a ⟨HT, HN, H0, H1, H2, H3, H4, H5, HS, HS'⟩
    isplitl [HT HN HS HS' Hg]
    · iexists _, _
      isplitr
      rotate_left
      · isplitl [HS]; · iexact HS
        isplitl [HS']; · iexact HS'
        isplitl [Hg]; · iexact Hg
        isplitl [HT]; · iexact HT
        iexact HN
      · ipureintro
        intro u hu
        obtain rfl : u = t := Fin.ext (by simpa using hu)
        exact ⟨rfl, rfl⟩
    isplitl [H0 H1 H2 H3 H4]
    · isplitl [H0]; · iexact H0
      isplitl [H1]; · iexact H1
      isplitl [H2]; · iexact H2
      isplitl [H3]; · iexact H3
      iexact H4
    · iexact H5

/-- What the output's buffer holds after the body. -/
theorem out_after (o : Vec F S512x1024 .bf16) (ho : live m ≤ t.val → o = made m hT c (upto m hT t)) :
    (open Classical in if t.val < live m then made m hT c t else o) = made m hT c (upto m hT t) := by
  by_cases h : t.val < live m
  · rw [if_pos h, upto_live m hT t h]
  · rw [if_neg h, ho (by omega)]

/-- A point, of the pipeline's own words. -/
theorem point_sound :
    iprop((data m hT c).Φ t.castSucc ∗ (data m hT c).owesAt () t.castSucc
      ∗ (∃ d, owns (c : Thread nD τ) (ms_0 m hT t) fullShare ((data m hT c).before 0 t d))
      ∗ (∃ d, owns (c : Thread nD τ) (ms_1 m hT t) fullShare ((data m hT c).before 1 t d))
      ∗ (∃ d, owns (c : Thread nD τ) (ms_2 m hT t) fullShare ((data m hT c).before 2 t d))
      ∗ (∃ d, owns (c : Thread nD τ) (ms_3 m hT t) fullShare ((data m hT c).before 3 t d))
      ∗ (∃ d, owns (c : Thread nD τ) (ms_4 m hT t) fullShare ((data m hT c).before 4 t d))
      ∗ (∃ d, owns (c : Thread nD τ) (ms_5 m hT t) fullShare ((data m hT c).before 5 t d)))
    ⊢ Wp c (bodyAt m hT t) (fun _ => iprop((data m hT c).Φ t.succ ∗ (data m hT c).owesAt () t.succ
      ∗ owns (c : Thread nD τ) (ms_0 m hT t) fullShare ((data m hT c).after 0 t)
      ∗ owns (c : Thread nD τ) (ms_1 m hT t) fullShare ((data m hT c).after 1 t)
      ∗ owns (c : Thread nD τ) (ms_2 m hT t) fullShare ((data m hT c).after 2 t)
      ∗ owns (c : Thread nD τ) (ms_3 m hT t) fullShare ((data m hT c).after 3 t)
      ∗ owns (c : Thread nD τ) (ms_4 m hT t) fullShare ((data m hT c).after 4 t)
      ∗ owns (c : Thread nD τ) (ms_5 m hT t) fullShare ((data m hT c).after 5 t))) := by
  simp only [before_0, before_1, before_2, before_3, before_4]
  rw [after_0, after_1, after_2, after_3, after_4, after_5, show (data m hT c).Φ t.castSucc = between m hT c t.castSucc from rfl,
    show (data m hT c).Φ t.succ = between m hT c t.succ from rfl, show (data m hT c).owesAt () t.succ = (data m hT c).owesAt () t.castSucc from rfl]
  iintro ⟨HΦ, Ho, ⟨%d0, H0⟩, ⟨%d1, H1⟩, ⟨%d2, H2⟩, ⟨%d3, H3⟩, ⟨%d4, H4⟩, ⟨%d5, H5⟩⟩
  have h := point m hT c t ((data m hT c).before 5 t d5)
  rw [out_after m hT c t _ fun hl => before_5 m hT c t hl d5] at h
  unfold ins at h
  iapply (wp_wand_r frame (wpE (defs₀ (F := F)) Variants.none c none) Set.univ)
  isplitl [HΦ H0 H1 H2 H3 H4 H5]
  · iapply h
    isplitl [HΦ]; · iexact HΦ
    isplitl [H0 H1 H2 H3 H4]
    · isplitl [H0]; · iexact H0
      isplitl [H1]; · iexact H1
      isplitl [H2]; · iexact H2
      isplitl [H3]; · iexact H3
      iexact H4
    · iexact H5
  · iintro %a ⟨HΦ, ⟨H0, H1, H2, H3, H4⟩, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The output's buffer left as the pipeline's own words ask, idle or not. -/
theorem out_left : (owns (c : Thread nD τ) (ms_5 m hT t) fullShare ((data m hT c).after 5 t) : sProp 𝕄)
    ⊢ (match (cfgM m hT).idle (5 : Fin 6) ((cfgM m hT).grid.coords t) with
      | true =>
        match ((cfgM m hT).win (5 : Fin 6)).flush t with
        | false => iprop(∃ d, owns (c : Thread nD τ) (ms_5 m hT t) fullShare ((data m hT c).before 5 t d))
        | true => owns (c : Thread nD τ) (ms_5 m hT t) fullShare ((data m hT c).after 5 t)
      | false => owns (c : Thread nD τ) (ms_5 m hT t) fullShare ((data m hT c).after 5 t)) := by
  rw [idle_5]
  by_cases h : t.val < live m
  · rw [decide_eq_true h]; exact .rfl
  · rw [decide_eq_false h]
    cases ((cfgM m hT).win (5 : Fin 6)).flush t with
    | true => exact .rfl
    | false =>
      show (owns (c : Thread nD τ) (ms_5 m hT t) fullShare ((data m hT c).after 5 t) : sProp 𝕄)
        ⊢ iprop(∃ d, owns (c : Thread nD τ) (ms_5 m hT t) fullShare ((data m hT c).before 5 t d))
      iintro H
      iexists (data m hT c).after 5 t
      rw [before_5 m hT c t (by omega), after_5]
      iexact H

theorem body_sound : BodyObligation (data m hT c) (defs₀ (F := F)) Variants.none () Set.univ := fun t => by
  rw [bigSep_W0, bigSep_W0, row_at]
  exact triple_restated (point_sound m hT c t) rfl .rfl fun _ =>
    sep_mono .rfl (sep_mono .rfl (sep_mono .rfl (sep_mono .rfl (sep_mono .rfl (sep_mono .rfl (sep_mono .rfl (out_left m hT c t)))))))

/-! ## The run -/

theorem pre_held : (Pipeline.ΦT pre0 (tbl m) c : sProp 𝕄)
    = iprop(((c : Thread nD τ).loc main_arg0 ↦{fullShare.right} tbl m 0) ∗ ((c : Thread nD τ).loc main_arg1 ↦{fullShare.right} tbl m 1)) := by
  unfold Pipeline.ΦT Pipeline.prefHeld
  rw [show (Finset.univ : Finset (Fin 2)) = insert (0 : Fin 2) {(1 : Fin 2)} from by decide, bigSep_insert (by decide), bigSep_singleton]
  rfl

/-- A whole buffer, owned as a memref. -/
theorem whole_in (b : Ref sig .tc) (q : PosShare TreeShare) (f : Buf (Elt F) ((c : Thread nD τ).loc b)) :
    (((c : Thread nD τ).loc b ↦{q} f) : sProp 𝕄) ⊢ owns (c : Thread nD τ) (Memref.whole b) q f := by
  rw [owns_whole]

theorem whole_out (b : Ref sig .tc) (q : PosShare TreeShare) (f : Buf (Elt F) ((c : Thread nD τ).loc b)) :
    (owns (c : Thread nD τ) (Memref.whole b) q f : sProp 𝕄) ⊢ ((c : Thread nD τ).loc b ↦{q} f) := by
  rw [owns_whole]

theorem enters : iprop((Pipeline.ΦA spec0 c : sProp 𝕄) ∗ Pipeline.ΦT pre0 (tbl m) c) ⊢ between m hT c 0 := by
  unfold between Pipeline.ΦA
  rw [pre_held, scopedRest0_eq]
  iintro ⟨⟨⟨⟨%s, HS⟩, ⟨%s', HS'⟩⟩, Hg⟩, HT, HN⟩
  iexists s, s'
  isplitr
  · ipureintro
    intro u hu
    exact absurd hu (by simp)
  · isplitl [HS]; · iapply (whole_in c cc0_scratch0 fullShare s); iexact HS
    isplitl [HS']; · iapply (whole_in c cc0_scratch1 fullShare s'); iexact HS'
    isplitl [Hg]; · iexact Hg
    isplitl [HT]; · iapply (whole_in c main_arg0 fullShare.right (tbl m 0)); iexact HT
    iapply (whole_in c main_arg1 fullShare.right (tbl m 1)); iexact HN

theorem leaves (n : Fin ((cfgM m hT).N + 1)) : between m hT c n ⊢ (Pipeline.ΦA spec0 c : sProp 𝕄) := by
  unfold between Pipeline.ΦA
  rw [scopedRest0_eq]
  iintro ⟨%s, %s', %hs, HS, HS', Hg, HT, HN⟩
  isplitl [HS HS']
  · isplitl [HS]
    · iexists s; iapply (whole_out c cc0_scratch0 fullShare s); iexact HS
    · iexists s'; iapply (whole_out c cc0_scratch1 fullShare s'); iexact HS'
  · iexact Hg

theorem main_run : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub ops_fresh main_chain

set_option backward.isDefEq.respectTransparency.types false in
set_option maxHeartbeats 800000 in
theorem run : θ_run defs (onTc (τ := τ) (main (F := F))) (s₀ m ρ)
    (fun r => Pipeline.FramePost (Pipeline.pin pcfgs fun _ => adm m hT) (fun _ c => data m hT c) 0 (V m) r ∧ r.2.sem = fun _ => 0) :=
  Pipeline.θ_run_frameP_track (Q' := _) pcfgs (fun _ => adm m hT) (fun _ c => data m hT c) (0 : Fin 1) launch0 defs₀ Variants.none m ρ main
    (hbody := fun c => (body_sound m hT c).loose) (hshare := fun _ _ => by unfold Dat.share; split <;> rfl) (howed := fun _ _ => rfl) (V := V m)
    (hmain := main_run m) (hA := data_A m hT) (hpf := fun c k => V_pre m c k) (hin := enters m hT) (hout := fun c => leaves m hT c _)

theorem rest_0 : main_arg0 ∈ Pipeline.restRefs sig spec0 := Pipeline.mem_restRefs_of main_arg0 (by decide) (by decide)
theorem rest_1 : main_arg1 ∈ Pipeline.restRefs sig spec0 := Pipeline.mem_restRefs_of main_arg1 (by decide) (by decide)
theorem rest_4 : main_arg4 ∈ Pipeline.restRefs sig spec0 := Pipeline.mem_restRefs_of main_arg4 (by decide) (by decide)
theorem rest_6 : main_arg6 ∈ Pipeline.restRefs sig spec0 := Pipeline.mem_restRefs_of main_arg6 (by decide) (by decide)

/-- What a run leaves: the output's blocks, the arguments, the semaphores. -/
theorem run_main : θ_run defs (onTc (τ := τ) (main (F := F))) ⟨m, fun _ => 0, ρ⟩ (fun r => (∀ c : Dev nD,
      r.2.mem ((c.tc : Thread nD τ).loc main_v2) = (data m hT c).arrAt 5 (cfgM m hT).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1 c).1 5,
      ((h.1 c).2 main_arg0 rest_0).trans (V_kept m c main_arg0 (by decide) (by decide)),
      ((h.1 c).2 main_arg1 rest_1).trans (V_kept m c main_arg1 (by decide) (by decide)),
      (((h.1 c).1 0).trans ((data m hT c).arrAt_in 0 rfl _)).trans (V_kept m c main_arg2 (by decide) (by decide)),
      (((h.1 c).1 1).trans ((data m hT c).arrAt_in 1 rfl _)).trans (V_kept m c main_arg3 (by decide) (by decide)),
      ((h.1 c).2 main_arg4 rest_4).trans (V_kept m c main_arg4 (by decide) (by decide)),
      (((h.1 c).1 3).trans ((data m hT c).arrAt_in 3 rfl _)).trans (V_kept m c main_arg5 (by decide) (by decide)),
      ((h.1 c).2 main_arg6 rest_6).trans (V_kept m c main_arg6 (by decide) (by decide))⟩, h.2⟩)
    (run m ρ hT)

end Cert.ExpertsIdeal.Moe

end
-- ==== Proof.ExpSame.lean ====
/- The experts at the ideal instance and as they run are one text. -/
module

public import proofs.«01_k».proof.Proof.ExpRun
public import proofs.«01_k».proof.Proof.Gen.Experts.Launch

@[expose] public section

set_option maxRecDepth 16384

noncomputable section

namespace Cert.ExpertsIdeal.Moe

open Idealize.ShloMosaic Idealize.ShloMosaic.TcCoe
open Idealize.SL.Sem

attribute [local instance] Cert.Experts.Gen.facts Cert.ExpertsIdeal.Gen.facts

variable {F : FTy → Type} [FloatOps F]

theorem body_same : @Cert.Experts.cc0_experts F _ _ = @Cert.ExpertsIdeal.cc0_experts F _ _ := rfl

theorem bodies_same : Cert.Experts.defs₀ (F := F) = Cert.ExpertsIdeal.defs₀ := by
  unfold Cert.Experts.defs₀ Cert.ExpertsIdeal.defs₀
  refine congrArg (Defs.onTc (nD := 1) (τ := Cert.ExpertsIdeal.τ) (sig := Cert.ExpertsIdeal.sig) (Val := Elt F) (Λ := Cert.ExpertsIdeal.Λ₀)) (funext fun (l : Fin 1) => funext fun a => ?_)
  obtain rfl : l = 0 := Subsingleton.elim _ _
  obtain ⟨t, s⟩ := a
  rfl

theorem call_same : @Cert.Experts.pcfg0 F _ _ = @Cert.ExpertsIdeal.pcfg0 F _ _ := rfl

theorem defs_same : Cert.Experts.defs (F := F) = Cert.ExpertsIdeal.defs := congrArg (Pipeline.defs (Cert.ExpertsIdeal.pcfgs (F := F))) bodies_same

theorem main_same : Cert.Experts.main (F := F) = Cert.ExpertsIdeal.main := rfl

variable (m : (ℓ : Loc Cert.ExpertsIdeal.nD Cert.ExpertsIdeal.τ Cert.ExpertsIdeal.sig) → Buf (Elt F) ℓ) (ρ : Dev Cert.ExpertsIdeal.nD → PrngReg)

theorem run_same : θ_run (Cert.Experts.defs (F := F)) (onTc (τ := Cert.Experts.τ) (Cert.Experts.main (F := F))) ⟨m, fun _ => 0, ρ⟩
    = θ_run (Cert.ExpertsIdeal.defs (F := F)) (onTc (τ := Cert.ExpertsIdeal.τ) (Cert.ExpertsIdeal.main (F := F))) ⟨m, fun _ => 0, ρ⟩ :=
  congrArg (fun D : Defs Cert.ExpertsIdeal.nD Cert.ExpertsIdeal.τ Cert.ExpertsIdeal.sig (Elt F) (Pipeline.Sig Cert.ExpertsIdeal.Λ₀ (Fin 1) fun p => (Cert.ExpertsIdeal.pcfgs (F := F) p).Adm) =>
    θ_run D (onTc (τ := Cert.ExpertsIdeal.τ) (Cert.ExpertsIdeal.main (F := F))) ⟨m, fun _ => 0, ρ⟩) defs_same

end Cert.ExpertsIdeal.Moe

end
-- ==== Proof.ExpTile.lean ====
/- A tile over the extended reals. -/
module

public import proofs.«01_k».proof.Proof.ExpBody
public import Idealize.ShloMosaic.Lib.Pointwise
public import Idealize.ShloMosaic.Lib.Pipeline.ValueKit

@[expose] public section

set_option maxRecDepth 16384

noncomputable section

namespace Cert.ExpertsIdeal.Moe

open Cert.ExpertsIdeal Cert.ExpertsIdeal.Gen
open Idealize.ShloMosaic Idealize.ShloMosaic.TcCoe

/-- The clamped gated activation of a gate `u` and a linear part `v`. -/
def glu (u v : EReal) : EReal :=
  min u (Ideal.ofBits .f32 0x40E00000#32) * Ideal.logistic (Ideal.ofBits .f32 0x3FD9DB23#32 * min u (Ideal.ofBits .f32 0x40E00000#32))
    * (min (Ideal.ofBits .f32 0x40E00000#32) (max (Ideal.ofBits .f32 0xC0E00000#32) v) + 1)

/-- The entries of a packed row: a word's lower half is an entry of the first 512 columns, its upper half one of the others. -/
def entry (x : Fin 512 → BitVec 32) (k : Fin 1024) : EReal :=
  if h : k.val < 512 then Ideal.ofBits .f32 (IntOp.shli .vector (x ⟨k.val, h⟩) 16#32)
  else Ideal.ofBits .f32 (IntOp.andi (x ⟨k.val - 512, by omega⟩) 4294901760#32)

variable (j : Fin 512) (d e : Fin 1024) (k : Fin 1024)

theorem pay1_at (w : Vec Ideal S1x1024x2048 .f32) (e : Fin 2048) : k0_pay1 w (ix2 k e) = w (ix3 (0 : Fin 1) k e) := by
  pointwise [k0_pay1]

theorem pay2_at (w : Vec Ideal S1x1024x1024 .f32) : k0_pay2 w (ix2 k e) = w (ix3 (0 : Fin 1) k e) := by
  pointwise [k0_pay2]

theorem pay4_at (x : Vec Ideal S512x512 .i32) : k0_pay4 x (ix2 j k) = entry (fun a => x (ix2 j a)) k := by
  unfold entry
  pointwise [k0_pay4]

theorem pay5_at (b : Vec Ideal S1x1x1024 .f32) : k0_pay5 b (ix2 j d) = b (ix3 (0 : Fin 1) (0 : Fin 1) d) := by
  pointwise [k0_pay5]

theorem pay6_at (x : Vec Ideal S512x512 .i32) (w : Vec Ideal S1024x1024 .bf16) (b : Vec Ideal S1x1x1024 .f32) : k0_pay6 x w b (ix2 j e)
    = min ((∑ k : Fin 1024, entry (fun a => x (ix2 j a)) k * w (ix2 k e)) + b (ix3 (0 : Fin 1) (0 : Fin 1) e)) (Ideal.ofBits .f32 0x40E00000#32) := by
  simp only [← pay4_at]
  pointwise [k0_pay6]

theorem pay7_at (x : Vec Ideal S512x512 .i32) (w : Vec Ideal S1024x1024 .bf16) (b : Vec Ideal S1x1x1024 .f32) : k0_pay7 x w b (ix2 j e)
    = min (Ideal.ofBits .f32 0x40E00000#32) (max (Ideal.ofBits .f32 0xC0E00000#32)
        ((∑ k : Fin 1024, entry (fun a => x (ix2 j a)) k * w (ix2 k e)) + b (ix3 (0 : Fin 1) (0 : Fin 1) e))) := by
  simp only [← pay4_at]
  pointwise [k0_pay7]

theorem pay8_at (x : Vec Ideal S512x512 .i32) (w : Vec Ideal S1024x1024 .bf16) (b : Vec Ideal S1x1x1024 .f32) : k0_pay8 x w b (ix2 j e)
    = Ideal.logistic (Ideal.ofBits .f32 0x3FD9DB23#32 * k0_pay6 x w b (ix2 j e)) := by
  pointwise [k0_pay8]

theorem pay3_at (p g l s : FVec Ideal S512x1024 .f32) (w' : Vec Ideal S1024x1024 .bf16) : k0_pay3 p g l s w' (ix2 j d)
    = p (ix2 j d) + ∑ e : Fin 1024, g (ix2 j e) * s (ix2 j e) * (l (ix2 j e) + 1) * w' (ix2 e d) := by
  pointwise [k0_pay3]

/-- A tile at a row and a column. -/
theorem tile_at (x : Vec Ideal S512x512 .i32) (w : Vec Ideal S1x1024x2048 .f32) (b : Vec Ideal S1x1x2048 .f32)
    (w' : Vec Ideal S1x1024x1024 .f32) (b' : Vec Ideal S1x1x1024 .f32) : tile x (k0_pay1 w) b (k0_pay2 w') b' (ix2 j d)
    = b' (ix3 (0 : Fin 1) (0 : Fin 1) d) + ∑ e : Fin 1024,
        glu ((∑ k : Fin 1024, entry (fun a => x (ix2 j a)) k * w (ix3 (0 : Fin 1) k (⟨e.val, by omega⟩ : Fin 2048))) + b (ix3 (0 : Fin 1) (0 : Fin 1) (⟨e.val, by omega⟩ : Fin 2048)))
          ((∑ k : Fin 1024, entry (fun a => x (ix2 j a)) k * w (ix3 (0 : Fin 1) k (⟨1024 + e.val, by omega⟩ : Fin 2048))) + b (ix3 (0 : Fin 1) (0 : Fin 1) (⟨1024 + e.val, by omega⟩ : Fin 2048)))
          * w' (ix3 (0 : Fin 1) e d) := by
  have el (k e : Fin 1024) : (Rect.unit (s := S1024x2048) ![0, 0] S1024x1024.size inb_S1024x2048_S1024x1024_0_0).emb (ix2 k e)
      = ix2 k (⟨e.val, by omega⟩ : Fin 2048) := by
    funext a; apply Fin.ext; rw [Rect.emb_apply]
    match a with
    | ⟨0, _⟩ => show 0 + 1 * k.val = k.val; omega
    | ⟨1, _⟩ => show 0 + 1 * e.val = e.val; omega
  have er (k e : Fin 1024) : (Rect.unit (s := S1024x2048) ![0, 1024] S1024x1024.size inb_S1024x2048_S1024x1024_0_1024).emb (ix2 k e)
      = ix2 k (⟨1024 + e.val, by omega⟩ : Fin 2048) := by
    funext a; apply Fin.ext; rw [Rect.emb_apply]
    match a with
    | ⟨0, _⟩ => show 0 + 1 * k.val = k.val; omega
    | ⟨1, _⟩ => show 1024 + 1 * e.val = 1024 + e.val; omega
  have bl (e : Fin 1024) : (Rect.unit (s := S1x1x2048) ![0, 0, 0] S1x1x1024.size inb_S1x1x2048_S1x1x1024_0_0_0).emb (ix3 (0 : Fin 1) (0 : Fin 1) e)
      = ix3 (0 : Fin 1) (0 : Fin 1) (⟨e.val, by omega⟩ : Fin 2048) := by
    funext a; apply Fin.ext; rw [Rect.emb_apply]
    match a with
    | ⟨0, _⟩ => rfl
    | ⟨1, _⟩ => rfl
    | ⟨2, _⟩ => show 0 + 1 * e.val = e.val; omega
  have br (e : Fin 1024) : (Rect.unit (s := S1x1x2048) ![0, 0, 1024] S1x1x1024.size inb_S1x1x2048_S1x1x1024_0_0_1024).emb (ix3 (0 : Fin 1) (0 : Fin 1) e)
      = ix3 (0 : Fin 1) (0 : Fin 1) (⟨1024 + e.val, by omega⟩ : Fin 2048) := by
    funext a; apply Fin.ext; rw [Rect.emb_apply]
    match a with
    | ⟨0, _⟩ => rfl
    | ⟨1, _⟩ => rfl
    | ⟨2, _⟩ => show 1024 + 1 * e.val = 1024 + e.val; omega
  unfold tile
  rw [pay3_at, pay5_at]
  simp only [pay8_at, pay6_at, pay7_at, el, er, bl, br, pay1_at, pay2_at]
  rfl

end Cert.ExpertsIdeal.Moe

end
-- ==== Proof.ExpValue.lean ====
/- The experts' blocks at an index, and the rows the program leaves. -/
module

public import proofs.«01_k».proof.Proof.ExpRun
public import proofs.«01_k».proof.Proof.ExpTile
public import Idealize.ShloMosaic.Lib.Pipeline.ValueKit
public import Idealize.ShloMosaic.Lib.Pointwise
public import Idealize.ShloMosaic.Lib.Claim

@[expose] public section

set_option maxRecDepth 16384

noncomputable section

namespace Cert.ExpertsIdeal.Moe

open Cert.ExpertsIdeal Cert.ExpertsIdeal.Gen
open Idealize.ShloMosaic Idealize.ShloMosaic.TcCoe
open Idealize.SL.Sem

variable (m : (ℓ : Loc nD τ sig) → Buf (Elt Ideal) ℓ) (hT : Good m) (c : Dev nD) (t : Fin (cfgM m hT).N)

abbrev argX : IVec S147456x512 32 := m ((c : Thread nD τ).loc main_arg2)
abbrev argW : FVec Ideal S32x1024x2048 .f32 := m ((c : Thread nD τ).loc main_arg3)
abbrev argB : FVec Ideal S32x2048 .f32 := m ((c : Thread nD τ).loc main_arg4)
abbrev argW' : FVec Ideal S32x1024x1024 .f32 := m ((c : Thread nD τ).loc main_arg5)
abbrev argB' : FVec Ideal S32x1024 .f32 := m ((c : Thread nD τ).loc main_arg6)

theorem expert_lt : expert m hT t < 32 := hT.expert _

/-! ## Blocks at an index -/

theorem rows_at (j : Fin 512) (k : Fin 512) (r : Fin 147456) (hr : r.val = 512 * min t.val (live m - 1) + j.val) : rows m hT c t (ix2 j k) = argX m c (ix2 r k) := by
  refine Eq.trans (congrArg (V m c main_arg2) (funext fun a => Fin.ext ?_)) (congrFun (V_kept m c main_arg2 (by decide) (by decide)) _)
  refine (((cfgM m hT).win 0).rect_emb_val t (ix2 j k) a rfl).trans ?_
  rw [index_0]
  match a with
  | ⟨0, _⟩ => exact (congrArg (· + j.val) (Nat.mul_comm _ _)).trans hr.symm
  | ⟨1, _⟩ => show 0 * 512 + k.val = k.val; omega

theorem wIn_at (k : Fin 1024) (f : Fin 2048) : wIn m hT c t (ix3 (0 : Fin 1) k f) = argW m c (ix3 (⟨expert m hT t, expert_lt m hT t⟩ : Fin 32) k f) := by
  refine Eq.trans (congrArg (V m c main_arg3) (funext fun a => Fin.ext ?_)) (congrFun (V_kept m c main_arg3 (by decide) (by decide)) _)
  refine (((cfgM m hT).win 1).rect_emb_val t (ix3 (0 : Fin 1) k f) a rfl).trans ?_
  rw [index_1]
  match a with
  | ⟨0, _⟩ => show expert m hT t * 1 + 0 = expert m hT t; omega
  | ⟨1, _⟩ => show 0 * 1024 + k.val = k.val; omega
  | ⟨2, _⟩ => show 0 * 2048 + f.val = f.val; omega

theorem wOut_at (k d : Fin 1024) : wOut m hT c t (ix3 (0 : Fin 1) k d) = argW' m c (ix3 (⟨expert m hT t, expert_lt m hT t⟩ : Fin 32) k d) := by
  refine Eq.trans (congrArg (V m c main_arg5) (funext fun a => Fin.ext ?_)) (congrFun (V_kept m c main_arg5 (by decide) (by decide)) _)
  refine (((cfgM m hT).win 3).rect_emb_val t (ix3 (0 : Fin 1) k d) a rfl).trans ?_
  rw [index_3]
  match a with
  | ⟨0, _⟩ => show expert m hT t * 1 + 0 = expert m hT t; omega
  | ⟨1, _⟩ => show 0 * 1024 + k.val = k.val; omega
  | ⟨2, _⟩ => show 0 * 1024 + d.val = d.val; omega

theorem V_bIn : V m c main_v0 = shapeCast S32x1x2048 (argB m c) shapeCasts_S32x2048_S32x1x2048 := by
  entry_read
  rfl

theorem V_bOut : V m c main_v1 = shapeCast S32x1x1024 (argB' m c) shapeCasts_S32x1024_S32x1x1024 := by
  entry_read
  rfl

theorem spread_in (x : FVec Ideal S32x2048 .f32) (h) (e : Fin 32) (f : Fin 2048) : shapeCast S32x1x2048 x h (ix3 e (0 : Fin 1) f) = x (ix2 e f) := by
  pointwise

theorem spread_out (x : FVec Ideal S32x1024 .f32) (h) (e : Fin 32) (d : Fin 1024) : shapeCast S32x1x1024 x h (ix3 e (0 : Fin 1) d) = x (ix2 e d) := by
  pointwise

theorem bIn_at (f : Fin 2048) : bIn m hT c t (ix3 (0 : Fin 1) (0 : Fin 1) f) = argB m c (ix2 (⟨expert m hT t, expert_lt m hT t⟩ : Fin 32) f) := by
  refine Eq.trans (congrArg (V m c main_v0) (funext fun a => Fin.ext ?_)) ((congrFun (V_bIn m c) _).trans (spread_in _ _ _ f))
  refine (((cfgM m hT).win 2).rect_emb_val t (ix3 (0 : Fin 1) (0 : Fin 1) f) a rfl).trans ?_
  rw [index_2]
  match a with
  | ⟨0, _⟩ => show expert m hT t * 1 + 0 = expert m hT t; omega
  | ⟨1, _⟩ => rfl
  | ⟨2, _⟩ => show 0 * 2048 + f.val = f.val; omega

theorem bOut_at (d : Fin 1024) : bOut m hT c t (ix3 (0 : Fin 1) (0 : Fin 1) d) = argB' m c (ix2 (⟨expert m hT t, expert_lt m hT t⟩ : Fin 32) d) := by
  refine Eq.trans (congrArg (V m c main_v1) (funext fun a => Fin.ext ?_)) ((congrFun (V_bOut m c) _).trans (spread_out _ _ _ d))
  refine (((cfgM m hT).win 4).rect_emb_val t (ix3 (0 : Fin 1) (0 : Fin 1) d) a rfl).trans ?_
  rw [index_4]
  match a with
  | ⟨0, _⟩ => show expert m hT t * 1 + 0 = expert m hT t; omega
  | ⟨1, _⟩ => rfl
  | ⟨2, _⟩ => show 0 * 1024 + d.val = d.val; omega

/-- What a live point writes, at an index. -/
theorem made_at (j : Fin 512) (d : Fin 1024) (r : Fin 147456) (hr : r.val = 512 * min t.val (live m - 1) + j.val) (e : Fin 32) (he : e.val = expert m hT t) :
    made m hT c t (ix2 j d) = argB' m c (ix2 e d) + ∑ f : Fin 1024,
      glu ((∑ k : Fin 1024, entry (fun a => argX m c (ix2 r a)) k * argW m c (ix3 e k (⟨f.val, by omega⟩ : Fin 2048))) + argB m c (ix2 e (⟨f.val, by omega⟩ : Fin 2048)))
        ((∑ k : Fin 1024, entry (fun a => argX m c (ix2 r a)) k * argW m c (ix3 e k (⟨1024 + f.val, by omega⟩ : Fin 2048))) + argB m c (ix2 e (⟨1024 + f.val, by omega⟩ : Fin 2048)))
      * argW' m c (ix3 e f d) := by
  have e' : (⟨expert m hT t, expert_lt m hT t⟩ : Fin 32) = e := Fin.ext he.symm
  unfold made
  rw [tile_at]
  simp only [rows_at m hT c t j _ r hr, wIn_at, wOut_at, bIn_at, bOut_at, e']

/-! ## The output's rows -/

theorem row_lt (r : Fin 147456) : min (r.val / 512) (live m - 1) < (cfgM m hT).N := by
  rw [points]; omega

/-- The output, row by row: each live tile's. -/
def outArr : FVec Ideal S147456x1024 .bf16 := fun i =>
  made m hT c ⟨min ((i 0).val / 512) (live m - 1), row_lt m hT (i 0)⟩ (ix2 (⟨(i 0).val % 512, Nat.mod_lt _ (by decide)⟩ : Fin 512) (i 1))

/-- Where an element of the output's block lies. -/
def place (y : S512x1024.Idx) : S147456x1024.Idx := (((cfgM m hT).win 5).rect t).emb y

theorem place_val (y : S512x1024.Idx) : (place m hT t y 0).val = 512 * min t.val (live m - 1) + (y 0).val ∧ (place m hT t y 1).val = (y 1).val := by
  have h0 := ((cfgM m hT).win 5).rect_emb_val t y (0 : Fin 2) rfl
  have h1 := ((cfgM m hT).win 5).rect_emb_val t y (1 : Fin 2) rfl
  rw [index_5] at h0 h1
  refine ⟨h0.trans (congrArg (· + (y 0).val) (Nat.mul_comm _ _)), h1.trans ?_⟩
  show 0 * 1024 + (y 1).val = (y 1).val; omega

theorem made_congr (u v : Fin (cfgM m hT).N) (h : u.val = v.val) (a b : S512x1024.Idx) (h0 : (a 0).val = (b 0).val) (h1 : (a 1).val = (b 1).val) :
    made m hT c u a = made m hT c v b := by
  obtain rfl : u = v := Fin.ext h
  refine congrArg (made m hT c u) (funext fun x => Fin.ext ?_)
  match x with
  | ⟨0, _⟩ => exact h0
  | ⟨1, _⟩ => exact h1

theorem left_at : (data m hT c).flushed 5 t = (((cfgM m hT).win 5).blk t).view.read (Elt Ideal) (outArr m hT c) := by
  refine funext fun (y : S512x1024.Idx) => ?_
  obtain ⟨e0, e1⟩ := place_val m hT t y
  have hy : (y 0).val < 512 := (y 0).isLt
  show made m hT c (upto m hT t) y = outArr m hT c (place m hT t y)
  refine made_congr m hT c _ _ ?_ _ _ ?_ ?_
  · show min t.val (live m - 1) = min ((place m hT t y 0).val / 512) (live m - 1)
    rw [e0]; omega
  · show (y 0).val = (place m hT t y 0).val % 512
    rw [e0]; omega
  · exact e1.symm

theorem flush_of_next {G : Pipeline.Grid} (w : Pipeline.Window sig G) (ho : w.isOut = true) (u : Fin G.N)
    (h : u.val + 1 = G.N ∨ ∃ h : u.val + 1 < G.N, w.index ⟨u.val + 1, h⟩ ≠ w.index u) : w.flush u = true := by
  unfold Pipeline.Window.flush
  rw [ho, Bool.true_and, Bool.or_eq_true, decide_eq_true_iff, decide_eq_true_iff]
  exact h

theorem flush_at (h : t.val + 1 < live m ∨ t.val + 1 = 288) : ((cfgM m hT).win 5).flush t = true := by
  refine flush_of_next _ rfl t ?_
  rcases h with h | h
  · have hl := live_le m hT
    have hN : t.val + 1 < (cfgM m hT).N := lt_of_lt_of_eq (show t.val + 1 < 288 by omega) (points m hT).symm
    refine Or.inr ⟨hN, fun e => ?_⟩
    have e' := congrFun ((index_5 m hT ⟨t.val + 1, hN⟩).symm.trans (e.trans (index_5 m hT t))) 0
    change min (t.val + 1) (live m - 1) = min t.val (live m - 1) at e'
    omega
  · exact Or.inl (h.trans (points m hT).symm)

/-- The point that leaves a live tile's rows. -/
theorem left_by (k : ℕ) (h : k < live m) : ∃ u : Fin (cfgM m hT).N, ((cfgM m hT).win 5).flush u = true ∧ min u.val (live m - 1) = k := by
  have hl := live_le m hT
  have hN := points m hT
  by_cases hk : k + 1 < live m
  · exact ⟨⟨k, by omega⟩, flush_at m hT _ (Or.inl hk), by simp only; omega⟩
  · exact ⟨⟨287, by omega⟩, flush_at m hT _ (Or.inr rfl), by simp only; omega⟩

theorem mem_block (y : S512x1024.Idx) : place m hT t y ∈ (((cfgM m hT).win 5).blk t).view.set :=
  Finset.mem_map.mpr ⟨y, Finset.mem_univ _, rfl⟩

/-- A live tile's rows are the tile's. -/
theorem arr_at (r : Fin 147456) (d : Fin 1024) (h : r.val < 512 * live m) : (data m hT c).arrAt 5 (cfgM m hT).N (ix2 r d) = outArr m hT c (ix2 r d) := by
  obtain ⟨u, hf, hu⟩ := left_by m hT (r.val / 512) (by omega)
  have e : place m hT u (ix2 (⟨r.val % 512, Nat.mod_lt _ (by decide)⟩ : Fin 512) d) = ix2 r d := by
    obtain ⟨e0, e1⟩ := place_val m hT u (ix2 (⟨r.val % 512, Nat.mod_lt _ (by decide)⟩ : Fin 512) d)
    refine funext fun a => Fin.ext ?_
    match a with
    | ⟨0, _⟩ =>
      refine e0.trans ?_
      show 512 * min u.val (live m - 1) + r.val % 512 = r.val
      rw [hu]; omega
    | ⟨1, _⟩ => exact e1
  have hm := mem_block m hT u (ix2 (⟨r.val % 512, Nat.mod_lt _ (by decide)⟩ : Fin 512) d)
  rw [e] at hm
  exact (data m hT c).arrAt_apply_of_mem 5 (outArr m hT c) (fun t _ => left_at m hT c t) _ u (ix2 r d) u.isLt hf hm

/-- A live tile's row, at an index. -/
theorem out_at (r : Fin 147456) (d : Fin 1024) (h : r.val < 512 * live m) (e : Fin 32) (he : e.val = BitVec.toNat (w := 32) (tbl m 0 (ix1 (⟨r.val / 512, by omega⟩ : Fin 288)))) :
    (data m hT c).arrAt 5 (cfgM m hT).N (ix2 r d) = argB' m c (ix2 e d) + ∑ f : Fin 1024,
      glu ((∑ k : Fin 1024, entry (fun a => argX m c (ix2 r a)) k * argW m c (ix3 e k (⟨f.val, by omega⟩ : Fin 2048))) + argB m c (ix2 e (⟨f.val, by omega⟩ : Fin 2048)))
        ((∑ k : Fin 1024, entry (fun a => argX m c (ix2 r a)) k * argW m c (ix3 e k (⟨1024 + f.val, by omega⟩ : Fin 2048))) + argB m c (ix2 e (⟨1024 + f.val, by omega⟩ : Fin 2048)))
      * argW' m c (ix3 e f d) := by
  refine (arr_at m hT c r d h).trans ?_
  refine made_at m hT c _ _ d r ?_ e ?_
  · show r.val = 512 * min (min (r.val / 512) (live m - 1)) (live m - 1) + r.val % 512
    omega
  · refine he.trans (congrArg (fun k => BitVec.toNat (w := 32) (tbl m 0 (ix1 k))) (Fin.ext ?_))
    refine Eq.trans ?_ (num_coords _).symm
    show r.val / 512 = min (r.val / 512) (live m - 1)
    omega

end Cert.ExpertsIdeal.Moe

end
-- ==== Proof.ExpRef.lean ====
/- The experts' reference: its run, and its values at an index. -/
module

public import proofs.«01_k».proof.Defs
public import proofs.«01_k».proof.Proof.ExpTile
public import proofs.«01_k».proof.Proof.Gen.ExpertsReferenceIdeal.Run

@[expose] public section

set_option maxRecDepth 16384

noncomputable section

namespace Cert.ExpertsReferenceIdeal.Moe

open Cert.ExpertsReferenceIdeal Cert.ExpertsReferenceIdeal.Gen
open Cert.ExpertsIdeal.Moe (glu entry)
open Idealize.ShloMosaic Idealize.ShloMosaic.TcCoe
open Idealize.SL.Sem

/-! ## The reference's values -/

/-- The rows, unpacked. -/
def unpack (X : IVec S147456x512 32) : FVec Ideal S147456x1024 .f32 :=
  concatenate S147456x1024 1 [⟨S147456x512, bitcastToFloat (F := Ideal) .f32 (Host.shli X (broadcastInDim S147456x512 ![] bcast_S_S147456x512 (constantI S_ 32 16#32)))⟩,
    ⟨S147456x512, bitcastToFloat (F := Ideal) .f32 (andi X (broadcastInDim S147456x512 ![] bcast_S_S147456x512 (constantI S_ 32 4294901760#32)))⟩]
    concatenates_S147456x512_S147456x512_S147456x1024_d1

/-- Every expert's first product of every row, biased. -/
def up (X : FVec Ideal S147456x1024 .f32) (W : FVec Ideal S32x1024x2048 .f32) (B : FVec Ideal S32x2048 .f32) : FVec Ideal S147456x32x2048 .f32 :=
  addf (Host.dotGeneral dot_S147456x1024_S32x1024x2048_S147456x32x2048_1_1_0_02_n_n none X W)
    (broadcastInDim S147456x32x2048 ![0, 1, 2] bcast_S1x32x2048_S147456x32x2048_0_1_2 (broadcastInDim S1x32x2048 ![1, 2] bcast_S32x2048_S1x32x2048_1_2 B))

def seven : FVec Ideal S147456x32x1024 .f32 := broadcastInDim S147456x32x1024 ![] bcast_S_S147456x32x1024 (constant S_ .f32 0x40E00000#32)
def ones : FVec Ideal S147456x32x1024 .f32 := broadcastInDim S147456x32x1024 ![] bcast_S_S147456x32x1024 (constant S_ .f32 0x3F800000#32)

/-- The clamped gates, -/
def gate (U : FVec Ideal S147456x32x2048 .f32) : FVec Ideal S147456x32x1024 .f32 :=
  minimumf (extractStridedSlice S147456x32x1024 ![0, 0, 0] U slices_S147456x32x2048_S147456x32x1024_0_0_0) seven

/-- the clamped linear parts, -/
def linear (U : FVec Ideal S147456x32x2048 .f32) : FVec Ideal S147456x32x1024 .f32 :=
  minimumf seven (maximumf (broadcastInDim S147456x32x1024 ![] bcast_S_S147456x32x1024 (constant S_ .f32 0xC0E00000#32))
    (extractStridedSlice S147456x32x1024 ![0, 0, 1024] U slices_S147456x32x2048_S147456x32x1024_0_0_1024))

/-- and the activations. -/
def act (U : FVec Ideal S147456x32x2048 .f32) : FVec Ideal S147456x32x1024 .f32 :=
  mulf (mulf (gate U) (Host.divf ones (addf ones (Host.exp (Host.negf (mulf (broadcastInDim S147456x32x1024 ![] bcast_S_S147456x32x1024 (constant S_ .f32 0x3FD9DB23#32)) (gate U)))))))
    (addf (linear U) ones)

/-- Every expert's second product, biased. -/
def down (A : FVec Ideal S147456x32x1024 .f32) (W : FVec Ideal S32x1024x1024 .f32) (B : FVec Ideal S32x1024 .f32) : FVec Ideal S147456x32x1024 .f32 :=
  addf (transpose S147456x32x1024 [2, 0, 1] (Host.dotGeneral dot_S32x1024x1024_S147456x32x1024_S32x1024x147456_1_2_2_0_0_1 none W A) transposes_S32x1024x147456_S147456x32x1024_2_0_1)
    (broadcastInDim S147456x32x1024 ![0, 1, 2] bcast_S1x32x1024_S147456x32x1024_0_1_2 (broadcastInDim S1x32x1024 ![1, 2] bcast_S32x1024_S1x32x1024_1_2 B))

/-- One at a row's own expert, zero at the others. -/
def hot (T : IVec S288 32) : FVec Ideal S147456x32 .f32 :=
  uitofp .f32 (cmpi .eq (broadcastInDim S147456x32 ![0, 1] bcast_S147456x1_S147456x32_0_1 (broadcastInDim S147456x1 ![0] bcast_S147456_S147456x1_0
      (shapeCast S147456 (broadcastInDim S288x512 ![0] bcast_S288_S288x512_0 T) shapeCasts_S288x512_S147456)))
    (broadcastInDim S147456x32 ![0, 1] bcast_S1x32_S147456x32_0_1 (iotaInDim S1x32 32 1)))

/-- A row's own expert's result. -/
def picked (H : FVec Ideal S147456x32 .f32) (D : FVec Ideal S147456x32x1024 .f32) : FVec Ideal S147456x1024 .bf16 :=
  truncf .bf16 (Host.reduceAdd (mulf (broadcastInDim S147456x32x1024 ![0, 1, 2] bcast_S147456x32x1_S147456x32x1024_0_1_2 (broadcastInDim S147456x32x1 ![0, 1] bcast_S147456x32_S147456x32x1_0_1 H)) D)
    (constant S_ .f32 0x00000000#32) reducesTo_S147456x32x1024_S147456x1024_d1 h_S_) bitsLt_bf16_f32

/-- The reference. -/
def ref (T : IVec S288 32) (X : IVec S147456x512 32) (W : FVec Ideal S32x1024x2048 .f32) (B : FVec Ideal S32x2048 .f32)
    (W' : FVec Ideal S32x1024x1024 .f32) (B' : FVec Ideal S32x1024 .f32) : FVec Ideal S147456x1024 .bf16 :=
  picked (hot T) (down (act (up (unpack X) W B)) W' B')

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v40) = ref (m ((c.tc : Thread nD τ).loc main_arg0)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1, (h c).2⟩) (Value.run m ρ)

/-! ## At an index -/

variable (r : Fin 147456) (e : Fin 32) (f d : Fin 1024)

theorem unpack_at (X : IVec S147456x512 32) : unpack X (ix2 r f) = entry (fun a => X (ix2 r a)) f := by
  unfold entry
  pointwise [unpack]
  rfl

theorem up_at (X : FVec Ideal S147456x1024 .f32) (W : FVec Ideal S32x1024x2048 .f32) (B : FVec Ideal S32x2048 .f32) (g : Fin 2048) :
    up X W B (ix3 r e g) = (∑ k : Fin 1024, X (ix2 r k) * W (ix3 e k g)) + B (ix2 e g) := by
  pointwise [up]

theorem gate_at (U : FVec Ideal S147456x32x2048 .f32) : gate U (ix3 r e f) = min (U (ix3 r e (⟨f.val, by omega⟩ : Fin 2048))) (Ideal.ofBits .f32 0x40E00000#32) := by
  pointwise [gate, seven]

theorem linear_at (U : FVec Ideal S147456x32x2048 .f32) : linear U (ix3 r e f)
    = min (Ideal.ofBits .f32 0x40E00000#32) (max (Ideal.ofBits .f32 0xC0E00000#32) (U (ix3 r e (⟨1024 + f.val, by omega⟩ : Fin 2048)))) := by
  pointwise [linear, seven]

theorem act_at (U : FVec Ideal S147456x32x2048 .f32) : act U (ix3 r e f)
    = glu (U (ix3 r e (⟨f.val, by omega⟩ : Fin 2048))) (U (ix3 r e (⟨1024 + f.val, by omega⟩ : Fin 2048))) := by
  unfold glu Ideal.logistic
  rw [← gate_at, ← linear_at]
  pointwise [act, ones]

theorem down_at (A : FVec Ideal S147456x32x1024 .f32) (W : FVec Ideal S32x1024x1024 .f32) (B : FVec Ideal S32x1024 .f32) :
    down A W B (ix3 r e d) = (∑ f : Fin 1024, W (ix3 e f d) * A (ix3 r e f)) + B (ix2 e d) := by
  pointwise [down]

theorem hot_at (T : IVec S288 32) : hot T (ix2 r e)
    = if T (ix1 (⟨r.val / 512, by omega⟩ : Fin 288)) = BitVec.ofNat 32 e.val then 1 else 0 := by
  pointwise [hot]
  by_cases h : T (ix1 (⟨r.val / 512, by omega⟩ : Fin 288)) = BitVec.ofNat 32 e.val
  · rw [if_pos h, h]
    simp [IntOp.cmpi, FloatOps.uitofp]
  · rw [if_neg h]
    simp [IntOp.cmpi, FloatOps.uitofp, h]

theorem picked_at (H : FVec Ideal S147456x32 .f32) (D : FVec Ideal S147456x32x1024 .f32) :
    picked H D (ix2 r d) = ∑ e : Fin 32, H (ix2 r e) * D (ix3 r e d) := by
  pointwise [picked]

/-- A row's result is its own expert's. -/
theorem ref_at (T : IVec S288 32) (X : IVec S147456x512 32) (W : FVec Ideal S32x1024x2048 .f32) (B : FVec Ideal S32x2048 .f32)
    (W' : FVec Ideal S32x1024x1024 .f32) (B' : FVec Ideal S32x1024 .f32) (he : T (ix1 (⟨r.val / 512, by omega⟩ : Fin 288)) = BitVec.ofNat 32 e.val) :
    ref T X W B W' B' (ix2 r d) = (∑ f : Fin 1024, W' (ix3 e f d) * glu ((∑ k : Fin 1024, entry (fun a => X (ix2 r a)) k * W (ix3 e k (⟨f.val, by omega⟩ : Fin 2048))) + B (ix2 e (⟨f.val, by omega⟩ : Fin 2048)))
        ((∑ k : Fin 1024, entry (fun a => X (ix2 r a)) k * W (ix3 e k (⟨1024 + f.val, by omega⟩ : Fin 2048))) + B (ix2 e (⟨1024 + f.val, by omega⟩ : Fin 2048)))) + B' (ix2 e d) := by
  unfold ref
  rw [picked_at, Finset.sum_eq_single e, hot_at, if_pos he, one_mul, down_at]
  · simp only [act_at, up_at, unpack_at]
  · intro e' _ hne
    rw [hot_at, if_neg, zero_mul]
    intro h
    refine hne (Fin.ext ?_)
    have := congrArg BitVec.toNat (h.symm.trans he)
    rw [BitVec.toNat_ofNat, BitVec.toNat_ofNat] at this
    omega
  · intro h
    exact absurd (Finset.mem_univ e) h

end Cert.ExpertsReferenceIdeal.Moe

end
-- ==== Proof.ExpEq.lean ====
/- The experts' equation: what the preconditions say, and the kernel's rows as the reference's. -/
module

public import proofs.«01_k».proof.Defs
public import proofs.«01_k».proof.Proof.ExpValue
public import proofs.«01_k».proof.Proof.ExpRef
public import proofs.«01_k».proof.Proof.Gen.Pre_tiles
public import proofs.«01_k».proof.Proof.Gen.On_rows_held

@[expose] public section

set_option maxRecDepth 16384

noncomputable section

namespace Cert.ExpertsIdeal.Moe

open Idealize.ShloMosaic Idealize.ShloMosaic.TcCoe
open Idealize.SL.Sem

/-! ## Words -/

theorem expert_word {x : BitVec 32} (h : IntOp.andi (IntOp.cmpi .sge x 0#32) (IntOp.cmpi .slt x 32#32) = 1#1) : x.toNat < 32 := by
  simp only [IntOp.andi, IntOp.cmpi] at h
  have h' : (0#32).sle x = true ∧ x.slt 32#32 = true := by
    revert h
    cases (0#32).sle x <;> cases x.slt 32#32 <;> decide
  obtain ⟨h0, h1⟩ := h'
  rw [BitVec.sle_iff_toInt_le] at h0
  rw [BitVec.slt_iff_toInt_lt] at h1
  rw [show (0#32).toInt = 0 from by decide, BitVec.toInt_eq_toNat_cond] at h0
  rw [show (32#32).toInt = 32 from by decide, BitVec.toInt_eq_toNat_cond] at h1
  split at h0 <;> split at h1 <;> omega

theorem tiles_word {x : BitVec 32} (h : IntOp.andi (IntOp.cmpi .sge x 1#32) (IntOp.cmpi .sle x 288#32) = 1#1) : 1 ≤ x.toNat ∧ x.toNat ≤ 288 := by
  simp only [IntOp.andi, IntOp.cmpi] at h
  have h' : (1#32).sle x = true ∧ x.sle 288#32 = true := by
    revert h
    cases (1#32).sle x <;> cases x.sle 288#32 <;> decide
  obtain ⟨h0, h1⟩ := h'
  rw [BitVec.sle_iff_toInt_le] at h0
  rw [BitVec.sle_iff_toInt_le] at h1
  rw [show (1#32).toInt = 1 from by decide, BitVec.toInt_eq_toNat_cond] at h0
  rw [show (288#32).toInt = 288 from by decide, BitVec.toInt_eq_toNat_cond] at h1
  split at h0 <;> split at h1 <;> omega

theorem row_word {x : BitVec 32} (hx : x.toNat ≤ 288) (r : ℕ) (hr : r < 147456) (h : IntOp.cmpi .slt (BitVec.ofNat 32 r) (IntOp.muli x 512#32) = 1#1) : r < 512 * x.toNat := by
  simp only [IntOp.cmpi] at h
  have h1 : (BitVec.ofNat 32 r).slt (IntOp.muli x 512#32) = true := by
    revert h
    cases (BitVec.ofNat 32 r).slt (IntOp.muli x 512#32) <;> decide
  rw [BitVec.slt_iff_toInt_lt, BitVec.toInt_eq_toNat_cond, BitVec.toInt_eq_toNat_cond] at h1
  have e : (IntOp.muli x 512#32).toNat = 512 * x.toNat := by
    show (x * 512#32).toNat = _
    rw [BitVec.toNat_mul, show (512#32).toNat = 512 from by decide]; omega
  have e' : (BitVec.ofNat 32 r).toNat = r := by rw [BitVec.toNat_ofNat]; omega
  rw [e, e'] at h1
  split at h1 <;> split at h1 <;> omega

theorem word_eq (x : BitVec 32) : x = BitVec.ofNat 32 x.toNat := by simp

/-! ## The preconditions -/

attribute [local instance] Cert.Pre_tiles.Gen.facts Cert.On_rows_held.Gen.facts

theorem wordTiles_eq {F : FTy → Type} [FloatOps F] (N : Vec F Cert.ExpertsIdeal.S1 .i32) : wordTiles N = N (ix1 (0 : Fin 1)) := by
  unfold wordTiles
  refine congrArg N (funext fun a => ?_)
  obtain rfl : a = 0 := Subsingleton.elim _ _
  exact Subsingleton.elim (α := Fin 1) _ _

section
variable {F : FTy → Type} [FloatOps F] (T : IVec Cert.Pre_tiles.S288 32) (N : IVec Cert.Pre_tiles.S1 32) (X : IVec Cert.Pre_tiles.S147456x512 32)
  (W : FVec F Cert.Pre_tiles.S32x1024x2048 .f32) (B : FVec F Cert.Pre_tiles.S32x2048 .f32) (W' : FVec F Cert.Pre_tiles.S32x1024x1024 .f32) (B' : FVec F Cert.Pre_tiles.S32x1024 .f32)

theorem tiles_of_pre (h0 : (Cert.Pre_tiles.fn (F := F) T N X W B W' B').1 = fun _ => 1#1) (h1 : (Cert.Pre_tiles.fn (F := F) T N X W B W' B').2 = fun _ => 1#1) :
    Tiles (F := F) T N := by
  have hn : 1 ≤ (N (ix1 (0 : Fin 1))).toNat ∧ (N (ix1 (0 : Fin 1))).toNat ≤ 288 := by
    have h := congrFun h1 (ix1 (0 : Fin 1))
    pointwise [Cert.Pre_tiles.fn] at h
    exact tiles_word h
  refine ⟨fun k => ?_, (wordTiles_eq (F := F) N).symm ▸ hn.1, (wordTiles_eq (F := F) N).symm ▸ hn.2⟩
  have h := congrFun h0 (ix1 k)
  pointwise [Cert.Pre_tiles.fn] at h
  exact expert_word h

theorem row_of_on (hN : (N (ix1 (0 : Fin 1))).toNat ≤ 288) (r : Fin 147456) (d : Fin 1024) (h : Cert.On_rows_held.fn (F := F) T N X W B W' B' (ix2 r d) = 1#1) :
    r.val < 512 * (N (ix1 (0 : Fin 1))).toNat := by
  pointwise [Cert.On_rows_held.fn] at h
  exact row_word hN r.val r.isLt h
end

open Cert.ExpertsIdeal

theorem good_of_pre {F : FTy → Type} [FloatOps F] (m : (ℓ : Loc nD τ sig) → Buf (Elt F) ℓ)
    (h : Tiles (F := F) (m (((0 : Dev nD) : Thread nD τ).loc main_arg0)) (m (((0 : Dev nD) : Thread nD τ).loc main_arg1))) : Good m := by
  unfold Good
  rw [tbl_0, tbl_1]
  exact h

variable (m : (ℓ : Loc nD τ sig) → Buf (Elt Ideal) ℓ) (hT : Good m) (c : Dev nD)

/-- On the rows held the kernel's output is the reference. -/
theorem rows_eq (r : Fin 147456) (d : Fin 1024) (h : r.val < 512 * live m) :
    (data m hT c).arrAt 5 (cfgM m hT).N (ix2 r d)
      = Cert.ExpertsReferenceIdeal.Moe.ref (m ((c : Thread nD τ).loc main_arg0)) (argX m c) (argW m c) (argB m c) (argW' m c) (argB' m c) (ix2 r d) := by
  obtain rfl : c = 0 := Subsingleton.elim _ _
  have ht := hT.expert (⟨r.val / 512, by omega⟩ : Fin 288)
  refine (out_at m hT 0 r d h (⟨_, ht⟩ : Fin 32) rfl).trans ?_
  refine Eq.trans ?_ (Cert.ExpertsReferenceIdeal.Moe.ref_at r (⟨_, ht⟩ : Fin 32) d _ _ _ _ _ _ ?_).symm
  · rw [add_comm]
    refine congrArg (· + _) (Finset.sum_congr rfl fun f _ => mul_comm _ _)
  · exact (congrFun (tbl_0 m) (ix1 (⟨r.val / 512, by omega⟩ : Fin 288))).symm.trans (word_eq _)

end Cert.ExpertsIdeal.Moe

end
-- ==== Proof.InBody.lean ====
/- The input projection's kernel at one grid point: which buffers it fills, with what. -/
module

public import proofs.«01_k».proof.Proof.Gen.InprojIdeal.Launch
public import proofs.«01_k».proof.Proof.Gen.InprojIdeal.Skeleton
public import Idealize.ShloMosaic.Lib.Pipeline.FrameBody
public import Idealize.ShloMosaic.Lib.Tactic

@[expose] public section

set_option maxRecDepth 16384

noncomputable section

namespace Cert.InprojIdeal.Proj

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The programs of the kernel's core. -/
abbrev PG (F : FTy → Type) [FloatOps F] (α : Type) := Prog (TpuEff nD τ sig (Elt F) Λ₀ .tc) α

/-- Running a program of the core to `Q`. -/
abbrev Wp (c : Dev nD) {α : Type} (p : PG F α) (Q : α → sProp 𝕄) : sProp 𝕄 :=
  wp frame (wpE (defs₀ (F := F)) Variants.none c none) Set.univ p Q

/-- Reading a rectangle of an owned buffer. -/
theorem owns_read {c : Dev nD} {q : PosShare TreeShare} {sh : Shape} {e : EltTy} {m : Memref sig .tc .vmem sh e}
    {X : Vec F sh e} {r : Rect sh} {hl : m.view.LoadsAt r.toLoadRect} {α : Type} {k : (r.shape.Idx → Elt F e) → PG F α}
    {Q : α → sProp 𝕄} :
    (owns (c : Thread nD τ) m q X : sProp 𝕄)
      ⊢ iprop((owns (c : Thread nD τ) m q X -∗ Wp c (k (fun y => X (r.emb y))) Q) -∗ Wp c (.op (.load m r.toLoadRect hl) k) Q) := by
  unfold owns
  iintro ⟨%f, %hf, H⟩ HK
  subst hf
  iapply (wp_load_rect (defs := defs₀ (F := F)) (m := m) (r := r) (hl := hl) (k := k) (Q := Q) (c := (c : Thread nD τ)) Variants.none none Set.univ (S := m.view.set) (q := q) (f := f) ?_) $$ H
  · exact View.set_slice_subset _ _
  · iintro H
    iapply HK
    iexists f; isplitr
    · ipureintro; rfl
    · iexact H

/-- Writing a rectangle of an owned buffer. -/
theorem owns_write {c : Dev nD} {sh : Shape} {e : EltTy} {m : Memref sig .tc .vmem sh e} {X : Vec F sh e}
    {r : Rect sh} {w : r.shape.Idx → Elt F e} {hx : (m.access r).Stores Finset.univ} {hm}
    {α : Type} {k : PUnit → PG F α} {Q : α → sProp 𝕄} :
    (owns (c : Thread nD τ) m fullShare X : sProp 𝕄)
      ⊢ iprop((owns (c : Thread nD τ) m fullShare (r.overlay X w) -∗ Wp c (k ⟨⟩) Q)
        -∗ Wp c (.op (.store m r w Finset.univ hx hm) k) Q) := by
  unfold owns
  iintro ⟨%f, %hf, H⟩ HK
  subst hf
  iapply (wp_store (defs := defs₀ (F := F)) (m := m) (r := r) (w := w) (hx := hx) (hm := hm) (k := k) (Q := Q) (c := (c : Thread nD τ)) Variants.none none Set.univ (S := m.view.set) (f := f) ?_) $$ H
  · exact View.set_slice_subset _ _
  · iintro H
    iapply HK
    iexists ((m.access r).write (Elt F) f w Finset.univ); isplitr
    · ipureintro
      funext y
      by_cases hy : y ∈ Finset.univ.map r.emb
      · obtain ⟨x, -, rfl⟩ := Finset.mem_map.mp hy
        rw [Rect.overlay_emb]
        exact View.read_slice_write_emb (v := m.view) (Val := Elt F) r f w (Finset.mem_univ x)
      · rw [Rect.overlay_of_not_mem _ _ _ (by rwa [Rect.map_emb_univ] at hy)]
        exact View.read_slice_write_of_not_mem (v := m.view) (Val := Elt F) r f w Finset.univ hy
    · iexact H

/-- The whole of a buffer as a rectangle of it: reading gives the contents, -/
theorem emb_whole {n : Nat} {sz : Fin n → Nat} {off : Fin n → Nat} (h0 : ∀ a, off a = 0)
    (h : ∀ a, off a + sz a ≤ sz a) (y : (Rect.unit (s := ⟨n, sz⟩) off sz h).shape.Idx) :
    (Rect.unit (s := ⟨n, sz⟩) off sz h).emb y = y := by
  funext a; apply Fin.ext
  rw [Rect.emb_apply]
  show off a + 1 * (y a).val = (y a).val
  rw [h0 a]; omega

/-- and writing replaces them. -/
theorem overlay_whole {n : Nat} {sz : Fin n → Nat} {off : Fin n → Nat} (h0 : ∀ a, off a = 0) {e : EltTy}
    (h : ∀ a, off a + sz a ≤ sz a) (X w : Vec F ⟨n, sz⟩ e) :
    (Rect.unit (s := ⟨n, sz⟩) off sz h).overlay X w = w := by
  funext y
  have e := Rect.overlay_emb (Rect.unit (s := ⟨n, sz⟩) off sz h) X w y
  rwa [emb_whole h0] at e

/-! ## What it computes -/

/-- A block of normalized rows is made at the first column block. -/
abbrev First (i : grid0.Coords) : Prop := k0_cond1 i = 1#1

open Classical in
/-- The kernel's body at a point: the rows normalized and their gates where it is the first column block, then the block's columns. -/
theorem body_run (c : Dev nD) (i : grid0.Coords)
    (arg2 : Memref sig .tc .vmem S1024x1024 .f32) (harg2 : arg2.IsWhole) (arg3 : Memref sig .tc .vmem S1x1024 .f32) (harg3 : arg3.IsWhole)
    (arg4 : Memref sig .tc .vmem S1024x2560 .bf16) (harg4 : arg4.IsWhole) (arg5 : Memref sig .tc .vmem S1024x128 .bf16) (harg5 : arg5.IsWhole)
    (arg6 : Memref sig .tc .vmem S1024x2560 .bf16) (harg6 : arg6.IsWhole) (arg7 : Memref sig .tc .vmem S1024x128 .f32) (harg7 : arg7.IsWhole)
    (arg8 : Memref sig .tc .vmem S1024x1024 .bf16) (harg8 : arg8.IsWhole)
    (x : Vec F S1024x1024 .f32) (g : Vec F S1x1024 .f32) (w : Vec F S1024x2560 .bf16) (w' : Vec F S1024x128 .bf16)
    (o : Vec F S1024x2560 .bf16) (o' : Vec F S1024x128 .f32) (s : Vec F S1024x1024 .bf16) :
    iprop(owns (c : Thread nD τ) arg2 fullShare x ∗ owns (c : Thread nD τ) arg3 fullShare g ∗ owns (c : Thread nD τ) arg4 fullShare w
      ∗ owns (c : Thread nD τ) arg5 fullShare w' ∗ owns (c : Thread nD τ) arg6 fullShare o ∗ owns (c : Thread nD τ) arg7 fullShare o'
      ∗ (owns (c : Thread nD τ) arg8 fullShare s : sProp 𝕄))
    ⊢ Wp c (cc0_inproj i arg2 harg2 arg3 harg3 arg4 harg4 arg5 harg5 arg6 harg6 arg7 harg7 arg8 harg8)
      (fun _ => iprop(owns (c : Thread nD τ) arg2 fullShare x ∗ owns (c : Thread nD τ) arg3 fullShare g ∗ owns (c : Thread nD τ) arg4 fullShare w
      ∗ owns (c : Thread nD τ) arg5 fullShare w'
      ∗ owns (c : Thread nD τ) arg6 fullShare (k0_pay4 (if First i then k0_pay2 x g else s) w)
      ∗ owns (c : Thread nD τ) arg7 fullShare (if First i then k0_pay3 x g w' else o')
      ∗ owns (c : Thread nD τ) arg8 fullShare (if First i then k0_pay2 x g else s))) := by
  rw [cc0_inproj_eq_skeleton]; unfold cc0_inproj_skel
  iintro ⟨H2, H3, H4, H5, H6, H7, H8⟩
  simp only [Prog.bind_op, Prog.bind_ret, Prog.bind_lift, Prog.pure_eq_ret]
  have r2 : ∀ v : Vec F S1024x1024 .f32, (fun y => v ((Rect.unit (s := S1024x1024) ![0, 0] S1024x1024.size inb_S1024x1024_S1024x1024_0_0).emb y)) = v :=
    fun v => funext fun y => congrArg v (emb_whole (by decide) _ y)
  have r3 : ∀ v : Vec F S1x1024 .f32, (fun y => v ((Rect.unit (s := S1x1024) ![0, 0] S1x1024.size inb_S1x1024_S1x1024_0_0).emb y)) = v :=
    fun v => funext fun y => congrArg v (emb_whole (by decide) _ y)
  have r4 : ∀ v : Vec F S1024x2560 .bf16, (fun y => v ((Rect.unit (s := S1024x2560) ![0, 0] S1024x2560.size inb_S1024x2560_S1024x2560_0_0).emb y)) = v :=
    fun v => funext fun y => congrArg v (emb_whole (by decide) _ y)
  have r5 : ∀ v : Vec F S1024x128 .bf16, (fun y => v ((Rect.unit (s := S1024x128) ![0, 0] S1024x128.size inb_S1024x128_S1024x128_0_0).emb y)) = v :=
    fun v => funext fun y => congrArg v (emb_whole (by decide) _ y)
  have r8 : ∀ v : Vec F S1024x1024 .bf16, (fun y => v ((Rect.unit (s := S1024x1024) ![0, 0] S1024x1024.size inb_S1024x1024_S1024x1024_0_0).emb y)) = v :=
    fun v => funext fun y => congrArg v (emb_whole (by decide) _ y)
  have o6 : ∀ X v : Vec F S1024x2560 .bf16, (Rect.unit (s := S1024x2560) ![0, 0] S1024x2560.size inb_S1024x2560_S1024x2560_0_0).overlay X v = v :=
    fun X v => overlay_whole (by decide) _ X v
  have o7 : ∀ X v : Vec F S1024x128 .f32, (Rect.unit (s := S1024x128) ![0, 0] S1024x128.size inb_S1024x128_S1024x128_0_0).overlay X v = v :=
    fun X v => overlay_whole (by decide) _ X v
  have o8 : ∀ X v : Vec F S1024x1024 .bf16, (Rect.unit (s := S1024x1024) ![0, 0] S1024x1024.size inb_S1024x1024_S1024x1024_0_0).overlay X v = v :=
    fun X v => overlay_whole (by decide) _ X v
  by_cases h1 : First i
  · simp only [dif_pos h1, if_pos h1]
    iapply owns_read $$ H2
    iintro H2
    iapply owns_read $$ H3
    iintro H3
    iapply owns_read $$ H8
    iintro H8
    iapply owns_write $$ H8
    iintro H8
    iapply owns_read $$ H5
    iintro H5
    iapply owns_read $$ H7
    iintro H7
    iapply owns_write $$ H7
    iintro H7
    simp only [r2, r3, r5, o7, o8]
    iapply owns_read $$ H8
    iintro H8
    iapply owns_read $$ H4
    iintro H4
    iapply owns_read $$ H6
    iintro H6
    iapply owns_write $$ H6
    iintro H6
    simp only [r4, r8, o6]
    unfold Wp; sl_step
    isplitl [H2]; · iexact H2
    isplitl [H3]; · iexact H3
    isplitl [H4]; · iexact H4
    isplitl [H5]; · iexact H5
    isplitl [H6]; · iexact H6
    isplitl [H7]; · iexact H7
    iexact H8
  · simp only [dif_neg h1, if_neg h1]
    iapply owns_read $$ H8
    iintro H8
    iapply owns_read $$ H4
    iintro H4
    iapply owns_read $$ H6
    iintro H6
    iapply owns_write $$ H6
    iintro H6
    simp only [r4, r8, o6]
    unfold Wp; sl_step
    isplitl [H2]; · iexact H2
    isplitl [H3]; · iexact H3
    isplitl [H4]; · iexact H4
    isplitl [H5]; · iexact H5
    isplitl [H6]; · iexact H6
    isplitl [H7]; · iexact H7
    iexact H8

end Cert.InprojIdeal.Proj
-- ==== Proof.InRun.lean ====
/- The input projection's run: what the program leaves alone, and the blocks it writes. -/
module

public import proofs.«01_k».proof.Proof.InBody
public import Idealize.ShloMosaic.Lib.Pipeline.TableIdle

@[expose] public section

set_option maxRecDepth 16384

noncomputable section

namespace Cert.InprojIdeal.Proj

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

abbrev V (c : Dev nD) (b : Ref sig .tc) : Buf (Elt F) ((c : Thread nD τ).loc b) :=
  StableHlo.after (List.flatten [hostOps0, hostOps0_1, hostOps0_2]) (fun b => m (c, b)) (Proc.devRef .tc b)

theorem ops_fresh : (hostOps0 : List (HloOp τ sig (Elt F))).Forall fun op => op.fresh = ∅ := by
  simp only [List.Forall]; repeat' constructor
theorem ops_fresh_1 : (hostOps0_1 : List (HloOp τ sig (Elt F))).Forall fun op => op.fresh = ∅ := by
  simp only [List.Forall]; repeat' constructor
theorem ops_fresh_2 : (hostOps0_2 : List (HloOp τ sig (Elt F))).Forall fun op => op.fresh = ∅ := by
  simp only [List.Forall]; repeat' constructor

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall,
      StableHlo.TRef.unary, StableHlo.TRef.binary, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall,
      StableHlo.TRef.unary, StableHlo.TRef.binary, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall,
      StableHlo.TRef.unary, StableHlo.TRef.binary, StableHlo.nullary_writes, StableHlo.unary_writes, StableHlo.binary_writes, StableHlo.nary_writes, StableHlo.reshape_writes, Finset.mem_singleton]
    repeat' apply And.intro
    all_goals exact StableHlo.devRef_ne_of_ne (by decide)))

/-! ## Points -/

theorem row_of (t : Fin cfg0.N) : (grid0.coords t 0).val = t.val / 4 := by
  have h := Pipeline.Grid.coords_val t (0 : Fin 2) (S := 4) (B := 64) (by decide) rfl
  have ht : t.val < 256 := lt_of_lt_of_eq t.isLt N_0
  rw [h]; omega

theorem col_of (t : Fin cfg0.N) : (grid0.coords t 1).val = t.val % 4 := by
  have h := Pipeline.Grid.coords_val t (1 : Fin 2) (S := 1) (B := 4) (by decide) rfl
  rw [h]; omega

theorem first_iff (t : Fin cfg0.N) : First (grid0.coords t) ↔ t.val % 4 = 0 := by
  have h : (grid0.coords t 1).val < 4 := (grid0.coords t 1).isLt
  rw [← col_of]
  unfold First k0_cond1
  generalize (grid0.coords t 1).val = n at h
  match n, h with
  | 0, _ => decide
  | 1, _ => decide
  | 2, _ => decide
  | 3, _ => decide

theorem small {n : ℕ} (h : n < 64) : (BitVec.ofNat 32 n).toNat = n := by rw [BitVec.toNat_ofNat]; omega

variable (c : Dev nD) (t : Fin cfg0.N)

theorem row_lt : (grid0.coords t 0).val < 64 := (grid0.coords t 0).isLt
theorem col_lt : (grid0.coords t 1).val < 4 := (grid0.coords t 1).isLt

theorem index_0 : (cfg0.win 0).index t = ![t.val / 4, 0] := by
  show ![(BitVec.ofNat 32 (grid0.coords t 0).val).toNat, 0] = _
  rw [small (row_lt t), row_of]
theorem index_1 : (cfg0.win 1).index t = ![0, 0] := rfl
theorem index_2 : (cfg0.win 2).index t = ![0, t.val % 4] := by
  show ![0, (BitVec.ofNat 32 (grid0.coords t 1).val).toNat] = _
  rw [small (by have := col_lt t; omega), col_of]
theorem index_3 : (cfg0.win 3).index t = ![0, 0] := rfl
theorem index_4 : (cfg0.win 4).index t = ![t.val / 4, t.val % 4] := by
  show ![(BitVec.ofNat 32 (grid0.coords t 0).val).toNat, (BitVec.ofNat 32 (grid0.coords t 1).val).toNat] = _
  rw [small (row_lt t), small (by have := col_lt t; omega), row_of, col_of]
theorem index_5 : (cfg0.win 5).index t = ![t.val / 4, 0] := by
  show ![(BitVec.ofNat 32 (grid0.coords t 0).val).toNat, 0] = _
  rw [small (row_lt t), row_of]

theorem idle_5 : cfg0.idle (5 : Fin 6) (cfg0.grid.coords t) = !decide (t.val % 4 = 0) := by
  show (!(k0_cond1 (grid0.coords t) == 1#1)) = _
  congr 1
  rw [Bool.eq_iff_iff, beq_iff_eq, decide_eq_true_iff]
  exact first_iff t

/-! ## Blocks -/

def iblk (w : Fin 6) : ((cfg0.win w).xblock (cfg0.grid.coords t)).Idx → Elt F (cfg0.win w).elt :=
  ((cfg0.win w).blk t).view.read (Elt F) (V m c (Pipeline.arrRef spec0 w))

def xIn : Vec F S1024x1024 .f32 := iblk m c t 0
def gIn : Vec F S1x1024 .f32 := iblk m c t 1
def wIn : Vec F S1024x2560 .bf16 := iblk m c t 2
def wGate : Vec F S1024x128 .bf16 := iblk m c t 3

/-- A point's normalized rows, -/
def normed : Vec F S1024x1024 .bf16 := k0_pay2 (xIn m c t) (gIn m c t)
/-- their block of columns, -/
def made : Vec F S1024x2560 .bf16 := k0_pay4 (normed m c t) (wIn m c t)
/-- and their gates. -/
def gates : Vec F S1024x128 .f32 := k0_pay3 (xIn m c t) (gIn m c t) (wGate m c t)

/-! ## Proof data -/

/-- Between points: the scratch holds the rows of the point before, normalized. -/
def between (c : Dev nD) (t : Fin (cfg0.N + 1)) : sProp 𝕄 :=
  iprop(∃ (s : Vec F S1024x1024 .bf16), ⌜∀ u : Fin cfg0.N, u.val + 1 = t.val → s = normed m c u⌝
    ∗ owns (c : Thread nD τ) (Memref.whole cc0_scratch0) fullShare s ∗ (∃ r, prngReg c r))

def data (c : Dev nD) : Dat τ (Elt F) Unit ℕ (UR sig nD τ) ℕ cfg0 c where
  A w := V m c (Pipeline.arrRef spec0 w)
  after w t := match w with
    | ⟨0, _⟩ => iblk m c t 0
    | ⟨1, _⟩ => iblk m c t 1
    | ⟨2, _⟩ => iblk m c t 2
    | ⟨3, _⟩ => iblk m c t 3
    | ⟨4, _⟩ => made m c t
    | ⟨5, _⟩ => gates m c t
  Φ t := between m c t
  q _ := fullShare
  owed _ := 0

theorem data_A (w : Fin cfg0.W) : (data m c).A w = V m c (Pipeline.arrRef spec0 w) := by
  dsimp only [data]

theorem after_0 : (data m c).after 0 t = iblk m c t 0 := rfl
theorem after_1 : (data m c).after 1 t = iblk m c t 1 := rfl
theorem after_2 : (data m c).after 2 t = iblk m c t 2 := rfl
theorem after_3 : (data m c).after 3 t = iblk m c t 3 := rfl
theorem after_4 : (data m c).after 4 t = made m c t := rfl
theorem after_5 : (data m c).after 5 t = gates m c t := rfl

theorem before_0 (d) : (data m c).before 0 t d = xIn m c t :=
  ((data m c).before_in_eq_fetched 0 rfl (fun _ => rfl) (fun _ _ _ => rfl)
    (fun t => by rw [after_0]; unfold Dat.blockOf iblk; rw [data_A]; try rfl) t d).trans
    (by unfold Dat.fetched Dat.blockOf xIn iblk; rw [data_A]; try rfl)
theorem before_1 (d) : (data m c).before 1 t d = gIn m c t :=
  ((data m c).before_in_eq_fetched 1 rfl (fun _ => rfl) (fun _ _ _ => rfl)
    (fun t => by rw [after_1]; unfold Dat.blockOf iblk; rw [data_A]; try rfl) t d).trans
    (by unfold Dat.fetched Dat.blockOf gIn iblk; rw [data_A]; try rfl)
theorem before_2 (d) : (data m c).before 2 t d = wIn m c t :=
  ((data m c).before_in_eq_fetched 2 rfl (fun _ => rfl) (fun _ _ _ => rfl)
    (fun t => by rw [after_2]; unfold Dat.blockOf iblk; rw [data_A]; try rfl) t d).trans
    (by unfold Dat.fetched Dat.blockOf wIn iblk; rw [data_A]; try rfl)
theorem before_3 (d) : (data m c).before 3 t d = wGate m c t :=
  ((data m c).before_in_eq_fetched 3 rfl (fun _ => rfl) (fun _ _ _ => rfl)
    (fun t => by rw [after_3]; unfold Dat.blockOf iblk; rw [data_A]; try rfl) t d).trans
    (by unfold Dat.fetched Dat.blockOf wGate iblk; rw [data_A]; try rfl)

theorem xIn_congr (u : Fin cfg0.N) (h : u.val / 4 = t.val / 4) : xIn m c u = xIn m c t := by
  have e : ∀ t d, (data m c).fetched 0 t d = xIn m c t := fun t d => by unfold Dat.fetched Dat.blockOf xIn iblk; rw [data_A]; try rfl
  rw [← e u (xIn m c t), ← e t (xIn m c t)]
  exact (data m c).fetched_congr 0 ((index_0 u).trans ((congrArg (fun k => ![k, 0]) h).trans (index_0 t).symm)) rfl _

theorem gIn_congr (u : Fin cfg0.N) : gIn m c u = gIn m c t := by
  have e : ∀ t d, (data m c).fetched 1 t d = gIn m c t := fun t d => by unfold Dat.fetched Dat.blockOf gIn iblk; rw [data_A]; try rfl
  rw [← e u (gIn m c t), ← e t (gIn m c t)]
  exact (data m c).fetched_congr 1 ((index_1 u).trans (index_1 t).symm) rfl _

theorem wGate_congr (u : Fin cfg0.N) : wGate m c u = wGate m c t := by
  have e : ∀ t d, (data m c).fetched 3 t d = wGate m c t := fun t d => by unfold Dat.fetched Dat.blockOf wGate iblk; rw [data_A]; try rfl
  rw [← e u (wGate m c t), ← e t (wGate m c t)]
  exact (data m c).fetched_congr 3 ((index_3 u).trans (index_3 t).symm) rfl _

theorem normed_congr (u : Fin cfg0.N) (h : u.val / 4 = t.val / 4) : normed m c u = normed m c t := by
  unfold normed; rw [xIn_congr m c t u h, gIn_congr m c t u]

theorem gates_congr (u : Fin cfg0.N) (h : u.val / 4 = t.val / 4) : gates m c u = gates m c t := by
  unfold gates; rw [xIn_congr m c t u h, gIn_congr m c t u, wGate_congr m c t u]

/-! ## The gates' buffer past the first column block -/

theorem flush_of_same {G : Pipeline.Grid} (w : Window sig G) (u : Fin G.N) (h : u.val + 1 < G.N) (e : w.index ⟨u.val + 1, h⟩ = w.index u) : w.flush u = false := by
  unfold Window.flush
  have hd : ¬ ∃ h : u.val + 1 < G.N, w.index ⟨u.val + 1, h⟩ ≠ w.index u := fun ⟨_, hne⟩ => hne e
  have hn : ¬ u.val + 1 = G.N := by omega
  rw [decide_eq_false hd, decide_eq_false hn, Bool.or_self, Bool.and_false]

theorem flush_5 (h1 : t.val + 1 < 256) (h : (t.val + 1) % 4 ≠ 0) : (cfg0.win 5).flush t = false := by
  have hN : t.val + 1 < cfg0.N := lt_of_lt_of_eq h1 N_0.symm
  have e : (t.val + 1) / 4 = t.val / 4 := by omega
  exact flush_of_same _ t hN ((index_5 ⟨t.val + 1, hN⟩).trans ((congrArg (fun k => ![k, 0]) e).trans (index_5 t).symm))

theorem fresh_5 : ∀ n : ℕ, n % 4 ≠ 0 → n < 256 → Cfg.fresh cfg0 5 n = false := by
  intro n
  induction n with
  | zero => intro h; omega
  | succ n ih =>
    intro h h1
    have hN : n < cfg0.N := by rw [show cfg0.N = 256 from N_0]; omega
    rw [Cfg.fresh_succ _ _ _ hN, flush_5 ⟨n, hN⟩ h1 h, idle_5, Bool.false_or]
    by_cases hn : n % 4 = 0
    · rw [decide_eq_true (show (⟨n, hN⟩ : Fin cfg0.N).val % 4 = 0 from hn)]; rfl
    · rw [ih hn (by omega), Bool.and_false]

theorem before_5 (h : t.val % 4 ≠ 0) (d) : (data m c).before 5 t d = gates m c t := by
  have ht : t.val < 256 := lt_of_lt_of_eq t.isLt N_0
  rw [(data m c).before_out_traj 5 rfl (fun _ _ => rfl) (fun t h0 hi _ => by
    rw [idle_5] at hi
    have hl : ¬ t.val % 4 = 0 := fun hl => by rw [decide_eq_true hl] at hi; exact Bool.false_ne_true hi
    rw [after_5, after_5]
    exact (gates_congr m c t _ (by simp only; omega)).symm) t.val t rfl d, fresh_5 t.val h ht, if_neg Bool.false_ne_true, after_5]
  exact gates_congr m c t _ (by simp only; omega)

/-! ## A point -/

open Classical in
theorem scratch_now {s : Vec F S1024x1024 .bf16} (hs : ∀ u : Fin cfg0.N, u.val + 1 = t.val → s = normed m c u) :
    (if First (grid0.coords t) then normed m c t else s) = normed m c t := by
  by_cases h : First (grid0.coords t)
  · rw [if_pos h]
  · rw [if_neg h]
    have h' : ¬ t.val % 4 = 0 := fun e => h ((first_iff t).mpr e)
    have hu : t.val - 1 < cfg0.N := by have := t.isLt; omega
    rw [hs ⟨t.val - 1, hu⟩ (by simp only; omega)]
    exact normed_congr m c t _ (by simp only; omega)

abbrev ms_0 : Memref sig .tc .vmem S1024x1024 .f32 := (cfg0.win 0).stage (cfg0.slots t 0)
abbrev ms_1 : Memref sig .tc .vmem S1x1024 .f32 := (cfg0.win 1).stage (cfg0.slots t 1)
abbrev ms_2 : Memref sig .tc .vmem S1024x2560 .bf16 := (cfg0.win 2).stage (cfg0.slots t 2)
abbrev ms_3 : Memref sig .tc .vmem S1024x128 .bf16 := (cfg0.win 3).stage (cfg0.slots t 3)
abbrev ms_4 : Memref sig .tc .vmem S1024x2560 .bf16 := (cfg0.win 4).stage (cfg0.slots t 4)
abbrev ms_5 : Memref sig .tc .vmem S1024x128 .f32 := (cfg0.win 5).stage (cfg0.slots t 5)

/-- The body at a point. -/
def bodyAt : PG F PUnit := cc0_inproj (grid0.coords t)
  (ms_0 t) (hstage0_0 ((cfg0.slots t 0).cast nbuf0_0)) (ms_1 t) (hstage0_1 ((cfg0.slots t 1).cast nbuf0_1))
  (ms_2 t) (hstage0_2 ((cfg0.slots t 2).cast nbuf0_2)) (ms_3 t) (hstage0_3 ((cfg0.slots t 3).cast nbuf0_3))
  (ms_4 t) (hstage0_4 ((cfg0.slots t 4).cast nbuf0_4)) (ms_5 t) (hstage0_5 ((cfg0.slots t 5).cast nbuf0_5))
  (Memref.whole cc0_scratch0) (Memref.isWhole_whole _)

theorem row_at : defs₀ (F := F) .tc cfg0.body (cfg0.bodyArgs t (cfg0.slots t)) = bodyAt t := by
  unfold defs₀ bodyAt; rw [Defs.onTc_tc]

open Classical in
/-- What the gates' buffer holds after the body. -/
theorem gates_after (o : Vec F S1024x128 .f32) (ho : t.val % 4 ≠ 0 → o = gates m c t) :
    (if First (grid0.coords t) then gates m c t else o) = gates m c t := by
  by_cases h : First (grid0.coords t)
  · rw [if_pos h]
  · rw [if_neg h, ho fun e => h ((first_iff t).mpr e)]

/-- A point, of the pipeline's own words. -/
theorem point_sound :
    iprop((data m c).Φ t.castSucc ∗ (data m c).owesAt () t.castSucc
      ∗ (∃ d, owns (c : Thread nD τ) (ms_0 t) fullShare ((data m c).before 0 t d))
      ∗ (∃ d, owns (c : Thread nD τ) (ms_1 t) fullShare ((data m c).before 1 t d))
      ∗ (∃ d, owns (c : Thread nD τ) (ms_2 t) fullShare ((data m c).before 2 t d))
      ∗ (∃ d, owns (c : Thread nD τ) (ms_3 t) fullShare ((data m c).before 3 t d))
      ∗ (∃ d, owns (c : Thread nD τ) (ms_4 t) fullShare ((data m c).before 4 t d))
      ∗ (∃ d, owns (c : Thread nD τ) (ms_5 t) fullShare ((data m c).before 5 t d)))
    ⊢ Wp c (bodyAt t) (fun _ => iprop((data m c).Φ t.succ ∗ (data m c).owesAt () t.succ
      ∗ owns (c : Thread nD τ) (ms_0 t) fullShare ((data m c).after 0 t)
      ∗ owns (c : Thread nD τ) (ms_1 t) fullShare ((data m c).after 1 t)
      ∗ owns (c : Thread nD τ) (ms_2 t) fullShare ((data m c).after 2 t)
      ∗ owns (c : Thread nD τ) (ms_3 t) fullShare ((data m c).after 3 t)
      ∗ owns (c : Thread nD τ) (ms_4 t) fullShare ((data m c).after 4 t)
      ∗ owns (c : Thread nD τ) (ms_5 t) fullShare ((data m c).after 5 t))) := by
  simp only [before_0, before_1, before_2, before_3]
  rw [after_0, after_1, after_2, after_3, after_4, after_5, show (data m c).Φ t.castSucc = between m c t.castSucc from rfl,
    show (data m c).Φ t.succ = between m c t.succ from rfl, show (data m c).owesAt () t.succ = (data m c).owesAt () t.castSucc from rfl]
  unfold between
  iintro ⟨⟨%s, %hs, HS, Hg⟩, Ho, ⟨%d0, H0⟩, ⟨%d1, H1⟩, ⟨%d2, H2⟩, ⟨%d3, H3⟩, ⟨%d4, H4⟩, ⟨%d5, H5⟩⟩
  have h := body_run c (grid0.coords t) (ms_0 t) (hstage0_0 ((cfg0.slots t 0).cast nbuf0_0)) (ms_1 t) (hstage0_1 ((cfg0.slots t 1).cast nbuf0_1))
    (ms_2 t) (hstage0_2 ((cfg0.slots t 2).cast nbuf0_2)) (ms_3 t) (hstage0_3 ((cfg0.slots t 3).cast nbuf0_3))
    (ms_4 t) (hstage0_4 ((cfg0.slots t 4).cast nbuf0_4)) (ms_5 t) (hstage0_5 ((cfg0.slots t 5).cast nbuf0_5))
    (Memref.whole cc0_scratch0) (Memref.isWhole_whole _)
    (xIn m c t) (gIn m c t) (wIn m c t) (wGate m c t) ((data m c).before 4 t d4) ((data m c).before 5 t d5) s
  rw [show k0_pay2 (xIn m c t) (gIn m c t) = normed m c t from rfl, show k0_pay3 (xIn m c t) (gIn m c t) (wGate m c t) = gates m c t from rfl,
    scratch_now m c t (s := s) (fun u hu => hs u hu), gates_after m c t _ fun hl => before_5 m c t hl d5,
    show k0_pay4 (normed m c t) (wIn m c t) = made m c t from rfl] at h
  iapply (wp_wand_r frame (wpE (defs₀ (F := F)) Variants.none c none) Set.univ)
  isplitl [H0 H1 H2 H3 H4 H5 HS]
  · iapply h
    isplitl [H0]; · iexact H0
    isplitl [H1]; · iexact H1
    isplitl [H2]; · iexact H2
    isplitl [H3]; · iexact H3
    isplitl [H4]; · iexact H4
    isplitl [H5]; · iexact H5
    iexact HS
  · iintro %a ⟨H0, H1, H2, H3, H4, H5, HS⟩
    isplitl [HS Hg]
    · iexists _
      isplitr
      rotate_left
      · isplitl [HS]; · iexact HS
        iexact Hg
      · ipureintro
        intro u hu
        obtain rfl : u = t := Fin.ext (by simpa using hu)
        rfl
    isplitl [Ho]; · iexact Ho
    isplitl [H0]; · iexact H0
    isplitl [H1]; · iexact H1
    isplitl [H2]; · iexact H2
    isplitl [H3]; · iexact H3
    isplitl [H4]; · iexact H4
    iexact H5

/-- The gates' buffer left as the pipeline's own words ask, idle or not. -/
theorem gates_left : (owns (c : Thread nD τ) (ms_5 t) fullShare ((data m c).after 5 t) : sProp 𝕄)
    ⊢ (match cfg0.idle (5 : Fin 6) (cfg0.grid.coords t) with
      | true =>
        match (cfg0.win (5 : Fin 6)).flush t with
        | false => iprop(∃ d, owns (c : Thread nD τ) (ms_5 t) fullShare ((data m c).before 5 t d))
        | true => owns (c : Thread nD τ) (ms_5 t) fullShare ((data m c).after 5 t)
      | false => owns (c : Thread nD τ) (ms_5 t) fullShare ((data m c).after 5 t)) := by
  rw [idle_5]
  by_cases h : t.val % 4 = 0
  · rw [decide_eq_true h]; exact .rfl
  · rw [decide_eq_false h]
    cases (cfg0.win (5 : Fin 6)).flush t with
    | true => exact .rfl
    | false =>
      show (owns (c : Thread nD τ) (ms_5 t) fullShare ((data m c).after 5 t) : sProp 𝕄)
        ⊢ iprop(∃ d, owns (c : Thread nD τ) (ms_5 t) fullShare ((data m c).before 5 t d))
      iintro H
      iexists (data m c).after 5 t
      rw [before_5 m c t h, after_5]
      iexact H

theorem body_sound : BodyObligation (data m c) (defs₀ (F := F)) Variants.none () Set.univ := fun t => by
  rw [bigSep_W0, bigSep_W0, row_at]
  exact triple_restated (point_sound m c t) rfl .rfl fun _ =>
    sep_mono .rfl (sep_mono .rfl (sep_mono .rfl (sep_mono .rfl (sep_mono .rfl (sep_mono .rfl (sep_mono .rfl (gates_left m c t)))))))

/-! ## The run -/

/-- A whole buffer, owned as a memref. -/
theorem whole_in (b : Ref sig .tc) (q : PosShare TreeShare) (f : Buf (Elt F) ((c : Thread nD τ).loc b)) :
    (((c : Thread nD τ).loc b ↦{q} f) : sProp 𝕄) ⊢ owns (c : Thread nD τ) (Memref.whole b) q f := by
  rw [owns_whole]

theorem whole_out (b : Ref sig .tc) (q : PosShare TreeShare) (f : Buf (Elt F) ((c : Thread nD τ).loc b)) :
    (owns (c : Thread nD τ) (Memref.whole b) q f : sProp 𝕄) ⊢ ((c : Thread nD τ).loc b ↦{q} f) := by
  rw [owns_whole]

theorem enters : (Pipeline.ΦA spec0 c : sProp 𝕄) ⊢ between m c 0 := by
  unfold between Pipeline.ΦA
  rw [scopedRest0_eq]
  iintro ⟨⟨%s, HS⟩, Hg⟩
  iexists s
  isplitr
  · ipureintro
    intro u hu
    exact absurd hu (by simp)
  · isplitl [HS]; · iapply (whole_in c cc0_scratch0 fullShare s); iexact HS
    iexact Hg

theorem leaves (n : Fin (cfg0.N + 1)) : between m c n ⊢ (Pipeline.ΦA spec0 c : sProp 𝕄) := by
  unfold between Pipeline.ΦA
  rw [scopedRest0_eq]
  iintro ⟨%s, %hs, HS, Hg⟩
  isplitl [HS]
  · iexists s; iapply (whole_out c cc0_scratch0 fullShare s); iexact HS
  · iexact Hg

theorem main_run : Pipeline.HMain (Ix := Unit) (Name := ℕ) (U := UR sig nD τ) (Lvl := ℕ) cfgs 0 defs₀ Variants.none m (main (F := F)) (V m) :=
  Pipeline.hmain_prefixes cfgs 0 defs₀ Variants.none m main [hostOps0, hostOps0_1, hostOps0_2]
    (by simp only [List.Forall]; exact ⟨hostOps0_sub, hostOps0_1_sub, hostOps0_2_sub⟩)
    (by simp only [List.Forall]; exact ⟨ops_fresh, ops_fresh_1, ops_fresh_2⟩) main_chain

set_option backward.isDefEq.respectTransparency.types false in
set_option maxHeartbeats 800000 in
theorem run : θ_run defs (onTc (τ := τ) (main (F := F))) (s₀ m ρ)
    (fun r => Pipeline.FramePost cfgs (fun _ c => data m c) 0 (V m) r ∧ r.2.sem = fun _ => 0) :=
  Pipeline.θ_run_frame_track (Q' := _) cfgs (fun _ c => data m c) (0 : Fin 1) launch0 defs₀ Variants.none m ρ main
    (hbody := fun c => (body_sound m c).loose) (hshare := fun _ _ => by unfold Dat.share; split <;> rfl) (howed := fun _ _ => rfl) (V := V m)
    (hmain := main_run m) (hA := data_A m) (hin := enters m) (hout := fun c => leaves m c _)

theorem rest_1 : main_arg1 ∈ Pipeline.restRefs sig spec0 := Pipeline.mem_restRefs_of main_arg1 (by decide) (by decide)
theorem rest_2 : main_arg2 ∈ Pipeline.restRefs sig spec0 := Pipeline.mem_restRefs_of main_arg2 (by decide) (by decide)

/-- What a run leaves: the outputs' blocks, the arguments, the semaphores. -/
theorem run_main : θ_run defs (onTc (τ := τ) (main (F := F))) ⟨m, fun _ => 0, ρ⟩ (fun r => (∀ c : Dev nD,
      r.2.mem ((c.tc : Thread nD τ).loc main_v12_0) = (data m c).arrAt 4 cfg0.N
      ∧ r.2.mem ((c.tc : Thread nD τ).loc main_v12_1) = (data m c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c).1 4, (h.1 c).1 5,
      (((h.1 c).1 0).trans ((data m c).arrAt_in 0 rfl _)).trans (V_main_arg0 m c),
      ((h.1 c).2 main_arg1 rest_1).trans (V_main_arg1 m c),
      ((h.1 c).2 main_arg2 rest_2).trans (V_main_arg2 m c)⟩, h.2⟩)
    (run m ρ)

end Cert.InprojIdeal.Proj

end
-- ==== Proof.InSame.lean ====
/- The input projection at the ideal instance and as they run are one text. -/
module

public import proofs.«01_k».proof.Proof.InRun
public import proofs.«01_k».proof.Proof.Gen.Inproj.Launch

@[expose] public section

set_option maxRecDepth 16384

noncomputable section

namespace Cert.InprojIdeal.Proj

open Idealize.ShloMosaic Idealize.ShloMosaic.TcCoe
open Idealize.SL.Sem

attribute [local instance] Cert.Inproj.Gen.facts Cert.InprojIdeal.Gen.facts

variable {F : FTy → Type} [FloatOps F]

theorem body_same : @Cert.Inproj.cc0_inproj F _ _ = @Cert.InprojIdeal.cc0_inproj F _ _ := rfl

theorem bodies_same : Cert.Inproj.defs₀ (F := F) = Cert.InprojIdeal.defs₀ := by
  unfold Cert.Inproj.defs₀ Cert.InprojIdeal.defs₀
  refine congrArg (Defs.onTc (nD := 1) (τ := Cert.InprojIdeal.τ) (sig := Cert.InprojIdeal.sig) (Val := Elt F) (Λ := Cert.InprojIdeal.Λ₀)) (funext fun (l : Fin 1) => funext fun a => ?_)
  obtain rfl : l = 0 := Subsingleton.elim _ _
  obtain ⟨t, s⟩ := a
  rfl

theorem defs_same : Cert.Inproj.defs (F := F) = Cert.InprojIdeal.defs := congrArg (Pipeline.defs (Cert.InprojIdeal.pcfgs (F := F))) bodies_same

theorem main_same : Cert.Inproj.main (F := F) = Cert.InprojIdeal.main := rfl

variable (m : (ℓ : Loc Cert.InprojIdeal.nD Cert.InprojIdeal.τ Cert.InprojIdeal.sig) → Buf (Elt F) ℓ) (ρ : Dev Cert.InprojIdeal.nD → PrngReg)

theorem run_same : θ_run (Cert.Inproj.defs (F := F)) (onTc (τ := Cert.Inproj.τ) (Cert.Inproj.main (F := F))) ⟨m, fun _ => 0, ρ⟩
    = θ_run (Cert.InprojIdeal.defs (F := F)) (onTc (τ := Cert.InprojIdeal.τ) (Cert.InprojIdeal.main (F := F))) ⟨m, fun _ => 0, ρ⟩ :=
  congrArg (fun D : Defs Cert.InprojIdeal.nD Cert.InprojIdeal.τ Cert.InprojIdeal.sig (Elt F) (Pipeline.Sig Cert.InprojIdeal.Λ₀ (Fin 1) fun p => (Cert.InprojIdeal.pcfgs (F := F) p).Adm) =>
    θ_run D (onTc (τ := Cert.InprojIdeal.τ) (Cert.InprojIdeal.main (F := F))) ⟨m, fun _ => 0, ρ⟩) defs_same

end Cert.InprojIdeal.Proj

end
-- ==== Proof.InRef.lean ====
/- The input projection's reference: its run, and its values at an index. -/
module

public import proofs.«01_k».proof.Defs
public import proofs.«01_k».proof.Proof.Gen.InprojReferenceIdeal.Run
public import Idealize.ShloMosaic.Lib.Pointwise
public import Idealize.ShloMosaic.Lib.Claim

@[expose] public section

set_option maxRecDepth 16384

noncomputable section

namespace Cert.InprojReferenceIdeal.Proj

open Cert.InprojReferenceIdeal Cert.InprojReferenceIdeal.Gen
open Idealize.ShloMosaic Idealize.ShloMosaic.TcCoe
open Idealize.SL.Sem

/-- A row's element, normalized. -/
def rms (x g : Fin 1024 → EReal) (k : Fin 1024) : EReal :=
  x k * Ideal.rsqrt (Ideal.div (∑ l : Fin 1024, x l * x l) (Ideal.ofBits .f32 0x44800000#32) + Ideal.ofBits .f32 0x3727C5AC#32) * g k

/-- The projection's columns that are kept, in their order. -/
def col (n : Fin 10240) : Fin 10256 :=
  if n.val < 2048 then ⟨n.val, by omega⟩ else if n.val < 6144 then ⟨n.val + 8, by omega⟩ else ⟨n.val + 16, by omega⟩
theorem col_low (n : Fin 10240) (h : n.val < 2048) : (col n).val = n.val := by
  unfold col; rw [if_pos h]
theorem col_mid (n : Fin 10240) (h : ¬ n.val < 2048) (h' : n.val < 6144) : (col n).val = n.val + 8 := by
  unfold col; rw [if_neg h, if_pos h']
theorem col_high (n : Fin 10240) (h : ¬ n.val < 2048) (h' : ¬ n.val < 6144) : (col n).val = n.val + 16 := by
  unfold col; rw [if_neg h, if_neg h']

/-- The gates' columns. -/
def gateCol (n : Fin 16) : Fin 10256 :=
  if n.val < 8 then ⟨2048 + n.val, by omega⟩ else ⟨6144 + n.val, by omega⟩

theorem gateCol_low (n : Fin 16) (h : n.val < 8) : (gateCol n).val = 2048 + n.val := by
  unfold gateCol; rw [if_pos h]
theorem gateCol_high (n : Fin 16) (h : ¬ n.val < 8) : (gateCol n).val = 6144 + n.val := by
  unfold gateCol; rw [if_neg h]

/-- The rows, normalized. -/
def normed (X : FVec Ideal S65536x1024 .f32) (G : FVec Ideal S1024 .f32) : FVec Ideal S65536x1024 .f32 :=
  mulf (mulf X (broadcastInDim S65536x1024 ![0, 1] bcast_S65536x1_S65536x1024_0_1 (Host.rsqrt (addf (Host.divf (broadcastInDim S65536x1 ![0] bcast_S65536_S65536x1_0
      (Host.reduceAdd (mulf X X) (constant S_ .f32 0x00000000#32) reducesTo_S65536x1024_S65536_d1 h_S_)) (broadcastInDim S65536x1 ![] bcast_S_S65536x1 (constant S_ .f32 0x44800000#32)))
      (broadcastInDim S65536x1 ![] bcast_S_S65536x1 (constant S_ .f32 0x3727C5AC#32))))))
    (broadcastInDim S65536x1024 ![0, 1] bcast_S1x1024_S65536x1024_0_1 (broadcastInDim S1x1024 ![1] bcast_S1024_S1x1024_1 G))

/-- Every column of the projection. -/
def proj (H : FVec Ideal S65536x1024 .f32) (W : FVec Ideal S1024x10256 .f32) : FVec Ideal S65536x10256 .f32 :=
  Host.dotGeneral dot_S65536x1024_S1024x10256_S65536x10256_1_0_0_1_n_n none H W

/-- The columns kept, -/
def kept (P : FVec Ideal S65536x10256 .f32) : FVec Ideal S65536x10240 .bf16 :=
  truncf .bf16 (concatenate S65536x10240 1 [⟨S65536x2048, extractStridedSlice S65536x2048 ![0, 0] P slices_S65536x10256_S65536x2048_0_0⟩,
    ⟨S65536x4096, extractStridedSlice S65536x4096 ![0, 2056] P slices_S65536x10256_S65536x4096_0_2056⟩,
    ⟨S65536x4096, extractStridedSlice S65536x4096 ![0, 6160] P slices_S65536x10256_S65536x4096_0_6160⟩]
    concatenates_S65536x2048_S65536x4096_S65536x4096_S65536x10240_d1) bitsLt_bf16_f32

/-- and the gates. -/
def gates (P : FVec Ideal S65536x10256 .f32) : FVec Ideal S65536x128 .f32 :=
  pad S65536x128 ![0, 0] ![0, 112] ![0, 0] (concatenate S65536x16 1 [⟨S65536x8, extractStridedSlice S65536x8 ![0, 2048] P slices_S65536x10256_S65536x8_0_2048⟩,
    ⟨S65536x8, extractStridedSlice S65536x8 ![0, 6152] P slices_S65536x10256_S65536x8_0_6152⟩] concatenates_S65536x8_S65536x8_S65536x16_d1)
    (sitofp .f32 (constantI S_ 32 0#32)) pads_S65536x16_S65536x128_000_01120 h_S_

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v21) = kept (proj (normed (m ((c.tc : Thread nD τ).loc main_arg0)) (m ((c.tc : Thread nD τ).loc main_arg1))) (m ((c.tc : Thread nD τ).loc main_arg2)))
      ∧ r.2.mem ((c.tc : Thread nD τ).loc main_v22) = gates (proj (normed (m ((c.tc : Thread nD τ).loc main_arg0)) (m ((c.tc : Thread nD τ).loc main_arg1))) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1, (h c).2.1, (h c).2.2⟩) (Value.run m ρ)

/-! ## At an index -/

variable (r : Fin 65536)

theorem normed_at (X : FVec Ideal S65536x1024 .f32) (G : FVec Ideal S1024 .f32) (k : Fin 1024) :
    normed X G (ix2 r k) = rms (fun l => X (ix2 r l)) (fun l => G (ix1 l)) k := by
  unfold rms
  pointwise [normed]

theorem proj_at (H : FVec Ideal S65536x1024 .f32) (W : FVec Ideal S1024x10256 .f32) (n : Fin 10256) :
    proj H W (ix2 r n) = ∑ k : Fin 1024, H (ix2 r k) * W (ix2 k n) := by
  pointwise [proj]

theorem kept_at (P : FVec Ideal S65536x10256 .f32) (n : Fin 10240) : kept P (ix2 r n) = P (ix2 r (col n)) := by
  pointwise [kept]
  by_cases h0 : n.val < 2048
  · rw [dif_pos h0]
    exact congrArg (fun a => P (ix2 r a)) (Fin.ext (col_low n h0).symm)
  · rw [dif_neg h0]
    by_cases h1 : n.val - 2048 < 4096
    · rw [dif_pos h1]
      exact congrArg (fun a => P (ix2 r a)) (Fin.ext (Eq.trans (show 2056 + (n.val - 2048) = n.val + 8 by omega) (col_mid n h0 (by omega)).symm))
    · rw [dif_neg h1]
      exact congrArg (fun a => P (ix2 r a)) (Fin.ext (Eq.trans (show 6160 + (n.val - 2048 - 4096) = n.val + 16 by omega) (col_high n h0 (by omega)).symm))

theorem gates_at (P : FVec Ideal S65536x10256 .f32) (n : Fin 128) :
    gates P (ix2 r n) = if h : n.val < 16 then P (ix2 r (gateCol ⟨n.val, h⟩)) else 0 := by
  pointwise [gates]
  by_cases h : n.val < 16
  · rw [dif_pos h, dif_pos h]
    by_cases h8 : n.val < 8
    · rw [dif_pos h8]
      exact congrArg (fun a => P (ix2 r a)) (Fin.ext (gateCol_low ⟨n.val, h⟩ h8).symm)
    · rw [dif_neg h8]
      exact congrArg (fun a => P (ix2 r a)) (Fin.ext (Eq.trans (show 6152 + (n.val - 8) = 6144 + n.val by omega) (gateCol_high ⟨n.val, h⟩ h8).symm))
  · rw [dif_neg h, dif_neg h]
    simp [FloatOps.sitofp]

end Cert.InprojReferenceIdeal.Proj

end
-- ==== Proof.InValue.lean ====
/- The input projection's blocks at an index, and the arrays the program leaves. -/
module

public import proofs.«01_k».proof.Proof.InRun
public import proofs.«01_k».proof.Proof.InRef
public import Idealize.ShloMosaic.Lib.Pipeline.ValueKit

@[expose] public section

set_option maxRecDepth 16384

noncomputable section

namespace Cert.InprojIdeal.Proj

open Cert.InprojIdeal Cert.InprojIdeal.Gen
open Cert.InprojReferenceIdeal.Proj (rms col col_low col_mid col_high gateCol gateCol_low gateCol_high)
open Idealize.ShloMosaic Idealize.ShloMosaic.TcCoe
open Idealize.SL.Sem

/-! ## The body's values at an index -/

section
variable (j : Fin 1024) (k : Fin 1024)

theorem pay2_at (x : Vec Ideal S1024x1024 .f32) (g : Vec Ideal S1x1024 .f32) :
    k0_pay2 x g (ix2 j k) = rms (fun l => x (ix2 j l)) (fun l => g (ix2 (0 : Fin 1) l)) k := by
  unfold rms
  pointwise [k0_pay2, k0_pay1]

theorem pay1_at (x : Vec Ideal S1024x1024 .f32) (g : Vec Ideal S1x1024 .f32) :
    k0_pay1 x g (ix2 j k) = rms (fun l => x (ix2 j l)) (fun l => g (ix2 (0 : Fin 1) l)) k := by
  unfold rms
  pointwise [k0_pay1]

theorem pay3_at (x : Vec Ideal S1024x1024 .f32) (g : Vec Ideal S1x1024 .f32) (w : Vec Ideal S1024x128 .bf16) (n : Fin 128) :
    k0_pay3 x g w (ix2 j n) = ∑ k : Fin 1024, rms (fun l => x (ix2 j l)) (fun l => g (ix2 (0 : Fin 1) l)) k * w (ix2 k n) := by
  simp only [← pay1_at]
  pointwise [k0_pay3]

theorem pay4_at (h : Vec Ideal S1024x1024 .bf16) (w : Vec Ideal S1024x2560 .bf16) (n : Fin 2560) :
    k0_pay4 h w (ix2 j n) = ∑ k : Fin 1024, h (ix2 j k) * w (ix2 k n) := by
  pointwise [k0_pay4]
end

/-! ## The host's values -/

variable (m : (ℓ : Loc nD τ sig) → Buf (Elt Ideal) ℓ) (c : Dev nD) (t : Fin cfg0.N)

abbrev argX : FVec Ideal S65536x1024 .f32 := m ((c : Thread nD τ).loc main_arg0)
abbrev argG : FVec Ideal S1024 .f32 := m ((c : Thread nD τ).loc main_arg1)
abbrev argW : FVec Ideal S1024x10256 .f32 := m ((c : Thread nD τ).loc main_arg2)

def big (W : FVec Ideal S1024x10256 .f32) : FVec Ideal S1024x10240 .bf16 :=
  concatenate S1024x10240 1 [⟨S1024x2048, extractStridedSlice S1024x2048 ![0, 0] (truncf .bf16 W bitsLt_bf16_f32) slices_S1024x10256_S1024x2048_0_0⟩,
    ⟨S1024x1024, extractStridedSlice S1024x1024 ![0, 2056] (truncf .bf16 W bitsLt_bf16_f32) slices_S1024x10256_S1024x1024_0_2056⟩,
    ⟨S1024x3072, extractStridedSlice S1024x3072 ![0, 3080] (truncf .bf16 W bitsLt_bf16_f32) slices_S1024x10256_S1024x3072_0_3080⟩,
    ⟨S1024x1024, extractStridedSlice S1024x1024 ![0, 6160] (truncf .bf16 W bitsLt_bf16_f32) slices_S1024x10256_S1024x1024_0_6160⟩,
    ⟨S1024x3072, extractStridedSlice S1024x3072 ![0, 7184] (truncf .bf16 W bitsLt_bf16_f32) slices_S1024x10256_S1024x3072_0_7184⟩]
    concatenates_S1024x2048_S1024x1024_S1024x3072_S1024x1024_S1024x3072_S1024x10240_d1

def little (W : FVec Ideal S1024x10256 .f32) : FVec Ideal S1024x128 .bf16 :=
  pad S1024x128 ![0, 0] ![0, 112] ![0, 0] (concatenate S1024x16 1 [⟨S1024x8, extractStridedSlice S1024x8 ![0, 2048] (truncf .bf16 W bitsLt_bf16_f32) slices_S1024x10256_S1024x8_0_2048⟩,
    ⟨S1024x8, extractStridedSlice S1024x8 ![0, 6152] (truncf .bf16 W bitsLt_bf16_f32) slices_S1024x10256_S1024x8_0_6152⟩] concatenates_S1024x8_S1024x8_S1024x16_d1)
    (sitofp .bf16 (constantI S_ 32 0#32)) pads_S1024x16_S1024x128_000_01120 h_S_

theorem V_big : V m c main_v6 = big (argW m c) := by
  unfold V big
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl

theorem V_little : V m c main_v10 = little (argW m c) := by
  unfold V little
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl

theorem V_gain : V m c main_v11 = shapeCast S1x1024 (argG m c) shapeCasts_S1024_S1x1024 := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl

theorem big_at (W : FVec Ideal S1024x10256 .f32) (k : Fin 1024) (n : Fin 10240) : big W (ix2 k n) = W (ix2 k (col n)) := by
  pointwise [big]
  by_cases h0 : n.val < 2048
  · rw [dif_pos h0]
    exact congrArg (fun a => W (ix2 k a)) (Fin.ext (col_low n h0).symm)
  rw [dif_neg h0]
  by_cases h1 : n.val - 2048 < 1024
  · rw [dif_pos h1]
    exact congrArg (fun a => W (ix2 k a)) (Fin.ext (Eq.trans (show 2056 + (n.val - 2048) = n.val + 8 by omega) (col_mid n h0 (by omega)).symm))
  rw [dif_neg h1]
  by_cases h2 : n.val - 2048 - 1024 < 3072
  · rw [dif_pos h2]
    exact congrArg (fun a => W (ix2 k a)) (Fin.ext (Eq.trans (show 3080 + (n.val - 2048 - 1024) = n.val + 8 by omega) (col_mid n h0 (by omega)).symm))
  rw [dif_neg h2]
  by_cases h3 : n.val - 2048 - 1024 - 3072 < 1024
  · rw [dif_pos h3]
    exact congrArg (fun a => W (ix2 k a)) (Fin.ext (Eq.trans (show 6160 + (n.val - 2048 - 1024 - 3072) = n.val + 16 by omega) (col_high n h0 (by omega)).symm))
  rw [dif_neg h3]
  exact congrArg (fun a => W (ix2 k a)) (Fin.ext (Eq.trans (show 7184 + (n.val - 2048 - 1024 - 3072 - 1024) = n.val + 16 by omega) (col_high n h0 (by omega)).symm))

theorem little_at (W : FVec Ideal S1024x10256 .f32) (k : Fin 1024) (n : Fin 128) :
    little W (ix2 k n) = if h : n.val < 16 then W (ix2 k (gateCol ⟨n.val, h⟩)) else 0 := by
  pointwise [little]
  by_cases h : n.val < 16
  · rw [dif_pos h, dif_pos h]
    by_cases h8 : n.val < 8
    · rw [dif_pos h8]
      exact congrArg (fun a => W (ix2 k a)) (Fin.ext (gateCol_low ⟨n.val, h⟩ h8).symm)
    · rw [dif_neg h8]
      exact congrArg (fun a => W (ix2 k a)) (Fin.ext (Eq.trans (show 6152 + (n.val - 8) = 6144 + n.val by omega) (gateCol_high ⟨n.val, h⟩ h8).symm))
  · rw [dif_neg h, dif_neg h]
    simp [FloatOps.sitofp]

theorem gain_at (g : FVec Ideal S1024 .f32) (h) (k : Fin 1024) : shapeCast S1x1024 g h (ix2 (0 : Fin 1) k) = g (ix1 k) := by
  pointwise

/-! ## Blocks at an index -/

theorem xIn_at (j k : Fin 1024) (r : Fin 65536) (hr : r.val = 1024 * (t.val / 4) + j.val) : xIn m c t (ix2 j k) = argX m c (ix2 r k) := by
  refine Eq.trans (congrArg (V m c main_arg0) (funext fun a => Fin.ext ?_)) (congrFun (V_main_arg0 m c) _)
  refine ((cfg0.win 0).rect_emb_val t (ix2 j k) a rfl).trans ?_
  rw [index_0]
  match a with
  | ⟨0, _⟩ => exact (congrArg (· + j.val) (Nat.mul_comm _ _)).trans hr.symm
  | ⟨1, _⟩ => show 0 * 1024 + k.val = k.val; omega

theorem gIn_at (k : Fin 1024) : gIn m c t (ix2 (0 : Fin 1) k) = argG m c (ix1 k) := by
  refine Eq.trans (congrArg (V m c main_v11) (funext fun a => Fin.ext ?_)) ((congrFun (V_gain m c) _).trans (gain_at _ _ k))
  refine ((cfg0.win 1).rect_emb_val t (ix2 (0 : Fin 1) k) a rfl).trans ?_
  rw [index_1]
  match a with
  | ⟨0, _⟩ => rfl
  | ⟨1, _⟩ => show 0 * 1024 + k.val = k.val; omega

theorem wIn_at (k : Fin 1024) (f : Fin 2560) (n : Fin 10240) (hn : n.val = 2560 * (t.val % 4) + f.val) : wIn m c t (ix2 k f) = argW m c (ix2 k (col n)) := by
  refine Eq.trans (congrArg (V m c main_v6) (funext fun a => Fin.ext ?_)) ((congrFun (V_big m c) _).trans (big_at _ k n))
  refine ((cfg0.win 2).rect_emb_val t (ix2 k f) a rfl).trans ?_
  rw [index_2]
  match a with
  | ⟨0, _⟩ => show 0 * 1024 + k.val = k.val; omega
  | ⟨1, _⟩ => exact (congrArg (· + f.val) (Nat.mul_comm _ _)).trans hn.symm

theorem wGate_at (k : Fin 1024) (n : Fin 128) : wGate m c t (ix2 k n) = if h : n.val < 16 then argW m c (ix2 k (gateCol ⟨n.val, h⟩)) else 0 := by
  refine Eq.trans (congrArg (V m c main_v10) (funext fun a => Fin.ext ?_)) ((congrFun (V_little m c) _).trans (little_at _ k n))
  refine ((cfg0.win 3).rect_emb_val t (ix2 k n) a rfl).trans ?_
  rw [index_3]
  match a with
  | ⟨0, _⟩ => show 0 * 1024 + k.val = k.val; omega
  | ⟨1, _⟩ => show 0 * 128 + n.val = n.val; omega

/-- What a point writes, at an index. -/
theorem made_at (j : Fin 1024) (f : Fin 2560) (r : Fin 65536) (hr : r.val = 1024 * (t.val / 4) + j.val) (n : Fin 10240) (hn : n.val = 2560 * (t.val % 4) + f.val) :
    made m c t (ix2 j f) = ∑ k : Fin 1024, rms (fun l => argX m c (ix2 r l)) (fun l => argG m c (ix1 l)) k * argW m c (ix2 k (col n)) := by
  unfold made normed
  rw [pay4_at]
  simp only [pay2_at, xIn_at m c t j _ r hr, gIn_at, wIn_at m c t _ f n hn]

/-- The gates a point writes, at an index. -/
theorem gates_pt (j : Fin 1024) (r : Fin 65536) (hr : r.val = 1024 * (t.val / 4) + j.val) (n : Fin 128) :
    gates m c t (ix2 j n) = if h : n.val < 16 then ∑ k : Fin 1024, rms (fun l => argX m c (ix2 r l)) (fun l => argG m c (ix1 l)) k * argW m c (ix2 k (gateCol ⟨n.val, h⟩)) else 0 := by
  unfold gates
  rw [pay3_at]
  simp only [xIn_at m c t j _ r hr, gIn_at, wGate_at]
  by_cases h : n.val < 16
  · simp only [dif_pos h]
  · simp only [dif_neg h, mul_zero, Finset.sum_const_zero]

/-! ## The arrays -/

theorem points : cfg0.N = 256 := N_0

def place4 (y : S1024x2560.Idx) : S65536x10240.Idx := ((cfg0.win 4).rect t).emb y
def place5 (y : S1024x128.Idx) : S65536x128.Idx := ((cfg0.win 5).rect t).emb y

theorem place4_val (y : S1024x2560.Idx) : (place4 t y 0).val = 1024 * (t.val / 4) + (y 0).val ∧ (place4 t y 1).val = 2560 * (t.val % 4) + (y 1).val := by
  have h0 := (cfg0.win 4).rect_emb_val t y (0 : Fin 2) rfl
  have h1 := (cfg0.win 4).rect_emb_val t y (1 : Fin 2) rfl
  rw [index_4] at h0 h1
  exact ⟨h0.trans (congrArg (· + (y 0).val) (Nat.mul_comm _ _)), h1.trans (congrArg (· + (y 1).val) (Nat.mul_comm _ _))⟩

theorem place5_val (y : S1024x128.Idx) : (place5 t y 0).val = 1024 * (t.val / 4) + (y 0).val ∧ (place5 t y 1).val = (y 1).val := by
  have h0 := (cfg0.win 5).rect_emb_val t y (0 : Fin 2) rfl
  have h1 := (cfg0.win 5).rect_emb_val t y (1 : Fin 2) rfl
  rw [index_5] at h0 h1
  refine ⟨h0.trans (congrArg (· + (y 0).val) (Nat.mul_comm _ _)), h1.trans ?_⟩
  show 0 * 128 + (y 1).val = (y 1).val; omega

/-- The two arrays, as the program leaves them. -/
def kept : FVec Ideal S65536x10240 .bf16 := fun i =>
  ∑ k : Fin 1024, rms (fun l => argX m c (ix2 (i 0) l)) (fun l => argG m c (ix1 l)) k * argW m c (ix2 k (col (i 1)))
def gateArr : FVec Ideal S65536x128 .f32 := fun i =>
  if h : (i 1).val < 16 then ∑ k : Fin 1024, rms (fun l => argX m c (ix2 (i 0) l)) (fun l => argG m c (ix1 l)) k * argW m c (ix2 k (gateCol ⟨(i 1).val, h⟩)) else 0

theorem flush_of_next {G : Pipeline.Grid} (w : Pipeline.Window sig G) (ho : w.isOut = true) (u : Fin G.N)
    (h : u.val + 1 = G.N ∨ ∃ h : u.val + 1 < G.N, w.index ⟨u.val + 1, h⟩ ≠ w.index u) : w.flush u = true := by
  unfold Pipeline.Window.flush
  rw [ho, Bool.true_and, Bool.or_eq_true, decide_eq_true_iff, decide_eq_true_iff]
  exact h

theorem flush_4 : (cfg0.win 4).flush t = true := by
  have ht : t.val < 256 := lt_of_lt_of_eq t.isLt points
  refine flush_of_next _ rfl t ?_
  by_cases h : t.val + 1 = 256
  · exact Or.inl (h.trans points.symm)
  · have hN : t.val + 1 < cfg0.N := lt_of_lt_of_eq (show t.val + 1 < 256 by omega) points.symm
    refine Or.inr ⟨hN, fun e => ?_⟩
    have e' := congrFun ((index_4 ⟨t.val + 1, hN⟩).symm.trans (e.trans (index_4 t))) 1
    change (t.val + 1) % 4 = t.val % 4 at e'
    omega

theorem flush_5' (h3 : t.val % 4 = 3) : (cfg0.win 5).flush t = true := by
  have ht : t.val < 256 := lt_of_lt_of_eq t.isLt points
  refine flush_of_next _ rfl t ?_
  by_cases h : t.val + 1 = 256
  · exact Or.inl (h.trans points.symm)
  · have hN : t.val + 1 < cfg0.N := lt_of_lt_of_eq (show t.val + 1 < 256 by omega) points.symm
    refine Or.inr ⟨hN, fun e => ?_⟩
    have e' := congrFun ((index_5 ⟨t.val + 1, hN⟩).symm.trans (e.trans (index_5 t))) 0
    change (t.val + 1) / 4 = t.val / 4 at e'
    omega

theorem left_4 : (data m c).flushed 4 t = ((cfg0.win 4).blk t).view.read (Elt Ideal) (kept m c) := by
  refine funext fun (y : S1024x2560.Idx) => ?_
  obtain ⟨e0, e1⟩ := place4_val t y
  obtain ⟨j, f, rfl⟩ : ∃ (j : Fin 1024) (f : Fin 2560), y = ix2 j f := ⟨y 0, y 1, funext fun x => match x with | ⟨0, _⟩ => rfl | ⟨1, _⟩ => rfl⟩
  exact made_at m c t j f (place4 t (ix2 j f) 0) e0 (place4 t (ix2 j f) 1) e1

theorem left_5 : (data m c).flushed 5 t = ((cfg0.win 5).blk t).view.read (Elt Ideal) (gateArr m c) := by
  refine funext fun (y : S1024x128.Idx) => ?_
  obtain ⟨e0, e1⟩ := place5_val t y
  obtain ⟨j, n, rfl⟩ : ∃ (j : Fin 1024) (n : Fin 128), y = ix2 j n := ⟨y 0, y 1, funext fun x => match x with | ⟨0, _⟩ => rfl | ⟨1, _⟩ => rfl⟩
  refine (gates_pt m c t j (place5 t (ix2 j n) 0) e0 n).trans ?_
  have e : place5 t (ix2 j n) 1 = n := Fin.ext e1
  show _ = gateArr m c (place5 t (ix2 j n))
  unfold gateArr
  rw [e]

theorem arr_4 : (data m c).arrAt 4 cfg0.N = kept m c := by
  refine funext fun (i : S65536x10240.Idx) => ?_
  have h0 : (i 0).val < 65536 := (i 0).isLt
  have h1 : (i 1).val < 10240 := (i 1).isLt
  have hu : 4 * ((i 0).val / 1024) + (i 1).val / 2560 < cfg0.N := by rw [points]; omega
  obtain ⟨u, hu⟩ : ∃ u : Fin cfg0.N, u.val = 4 * ((i 0).val / 1024) + (i 1).val / 2560 := ⟨⟨_, hu⟩, rfl⟩
  have e : place4 u (ix2 (⟨(i 0).val % 1024, Nat.mod_lt _ (by decide)⟩ : Fin 1024) (⟨(i 1).val % 2560, Nat.mod_lt _ (by decide)⟩ : Fin 2560)) = i := by
    obtain ⟨e0, e1⟩ := place4_val u (ix2 (⟨(i 0).val % 1024, Nat.mod_lt _ (by decide)⟩ : Fin 1024) (⟨(i 1).val % 2560, Nat.mod_lt _ (by decide)⟩ : Fin 2560))
    refine funext fun a => Fin.ext ?_
    match a with
    | ⟨0, _⟩ =>
      refine e0.trans ?_
      show 1024 * (u.val / 4) + (i 0).val % 1024 = (i 0).val
      omega
    | ⟨1, _⟩ =>
      refine e1.trans ?_
      show 2560 * (u.val % 4) + (i 1).val % 2560 = (i 1).val
      omega
  have hm : place4 u _ ∈ ((cfg0.win 4).blk u).view.set := Finset.mem_map.mpr ⟨ix2 (⟨(i 0).val % 1024, Nat.mod_lt _ (by decide)⟩ : Fin 1024) (⟨(i 1).val % 2560, Nat.mod_lt _ (by decide)⟩ : Fin 2560), Finset.mem_univ _, rfl⟩
  rw [e] at hm
  exact (data m c).arrAt_apply_of_mem 4 (kept m c) (fun t _ => left_4 m c t) _ u i u.isLt (flush_4 u) hm

theorem arr_5 : (data m c).arrAt 5 cfg0.N = gateArr m c := by
  refine funext fun (i : S65536x128.Idx) => ?_
  have h0 : (i 0).val < 65536 := (i 0).isLt
  have hu : 4 * ((i 0).val / 1024) + 3 < cfg0.N := by rw [points]; omega
  obtain ⟨u, hu⟩ : ∃ u : Fin cfg0.N, u.val = 4 * ((i 0).val / 1024) + 3 := ⟨⟨_, hu⟩, rfl⟩
  have e : place5 u (ix2 (⟨(i 0).val % 1024, Nat.mod_lt _ (by decide)⟩ : Fin 1024) (i 1)) = i := by
    obtain ⟨e0, e1⟩ := place5_val u (ix2 (⟨(i 0).val % 1024, Nat.mod_lt _ (by decide)⟩ : Fin 1024) (i 1))
    refine funext fun a => Fin.ext ?_
    match a with
    | ⟨0, _⟩ =>
      refine e0.trans ?_
      show 1024 * (u.val / 4) + (i 0).val % 1024 = (i 0).val
      omega
    | ⟨1, _⟩ => exact e1
  have hm : place5 u _ ∈ ((cfg0.win 5).blk u).view.set := Finset.mem_map.mpr ⟨ix2 (⟨(i 0).val % 1024, Nat.mod_lt _ (by decide)⟩ : Fin 1024) (i 1), Finset.mem_univ _, rfl⟩
  rw [e] at hm
  exact (data m c).arrAt_apply_of_mem 5 (gateArr m c) (fun t _ => left_5 m c t) _ u i u.isLt (flush_5' u (by omega)) hm

/-! ## The reference's -/

theorem kept_eq : kept m c = Cert.InprojReferenceIdeal.Proj.kept (Cert.InprojReferenceIdeal.Proj.proj (Cert.InprojReferenceIdeal.Proj.normed (argX m c) (argG m c)) (argW m c)) := by
  refine funext fun (i : S65536x10240.Idx) => ?_
  obtain ⟨r, n, rfl⟩ : ∃ (r : Fin 65536) (n : Fin 10240), i = ix2 r n := ⟨i 0, i 1, funext fun x => match x with | ⟨0, _⟩ => rfl | ⟨1, _⟩ => rfl⟩
  rw [Cert.InprojReferenceIdeal.Proj.kept_at, Cert.InprojReferenceIdeal.Proj.proj_at]
  simp only [Cert.InprojReferenceIdeal.Proj.normed_at]
  rfl

theorem gateArr_eq : gateArr m c = Cert.InprojReferenceIdeal.Proj.gates (Cert.InprojReferenceIdeal.Proj.proj (Cert.InprojReferenceIdeal.Proj.normed (argX m c) (argG m c)) (argW m c)) := by
  refine funext fun (i : S65536x128.Idx) => ?_
  obtain ⟨r, n, rfl⟩ : ∃ (r : Fin 65536) (n : Fin 128), i = ix2 r n := ⟨i 0, i 1, funext fun x => match x with | ⟨0, _⟩ => rfl | ⟨1, _⟩ => rfl⟩
  rw [Cert.InprojReferenceIdeal.Proj.gates_at]
  simp only [Cert.InprojReferenceIdeal.Proj.proj_at, Cert.InprojReferenceIdeal.Proj.normed_at]
  rfl

end Cert.InprojIdeal.Proj

end
-- ==== Proof.MgLowOut.lean ====
/- What a point of the merge's first half leaves in its two named results. -/
module

public import proofs.«01_k».proof.Proof.Gen.MergeLowIdeal.Value
public import Idealize.ShloMosaic.Lib.VecWindow

@[expose] public section

set_option maxRecDepth 16384

noncomputable section

namespace Cert.MergeLowIdeal.Mix

open Cert.MergeLowIdeal Cert.MergeLowIdeal.Gen
open Idealize.ShloMosaic Idealize.ShloMosaic.TcCoe Idealize.ShloMosaic.Tactic
open Idealize.SL.Sem

variable {F : FTy → Type} [FloatOps F]

theorem hz : (![0, 0] : Fin 2 → Nat) = fun _ => 0 := funext fun a => by fin_cases a <;> rfl

/-- The branches' matrices, of the three. -/
def slab0 (x : Vec F S3x1024x1024 .bf16) : Vec F S1x1024x1024 .bf16 := View.ld x (Rect.unit (s := S3x1024x1024) ![0, 0, 0] S1x1024x1024.size inb_S3x1024x1024_S1x1024x1024_0_0_0)
def slab1 (x : Vec F S3x1024x1024 .bf16) : Vec F S1x1024x1024 .bf16 := View.ld x (Rect.unit (s := S3x1024x1024) ![1, 0, 0] S1x1024x1024.size inb_S3x1024x1024_S1x1024x1024_1_0_0)
def slab2 (x : Vec F S3x1024x1024 .bf16) : Vec F S1x1024x1024 .bf16 := View.ld x (Rect.unit (s := S3x1024x1024) ![2, 0, 0] S1x1024x1024.size inb_S3x1024x1024_S1x1024x1024_2_0_0)

section
variable (x0 x1 x2 x3 x4 x5 : Vec F S512x1024 .bf16) (x6 : Vec F S512x1024 .f32) (x7 : Vec F S3x1024x1024 .bf16) (x8 : Vec F S1024x1024 .bf16) (x9 : Vec F S1x1024 .f32)

/-- The merged branches, -/
def mid : FVec F S512x1024 .bf16 := k0_pay3 x0 (slab0 x7) x3 x1 (slab1 x7) x4 x2 (slab2 x7) x5
/-- the rows with them added, -/
def sums : Vec F S512x1024 .f32 := k0_pay5 x6 (mid x0 x1 x2 x3 x4 x5 x7) (k0_pay4 x8) (constant S512x1024 .f32 0x00000000#32)
/-- and those normalized. -/
def normal : Vec F S512x1024 .bf16 := k0_pay8 x6 (mid x0 x1 x2 x3 x4 x5 x7) (k0_pay4 x8) (constant S512x1024 .f32 0x00000000#32) x9
end

theorem out_A_12 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S3x1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S32x1024 .bf16) (harg11 : arg11.IsWhole) (arg12 : Memref sig .tc .vmem S32x1 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S8x512 .i32) (harg15 : arg15.IsWhole) (arg16 : Memref sig .tc .vmem S8x512 .f32) (harg16 : arg16.IsWhole) (arg17 : Memref sig .tc .vmem S32x1 .f32) (harg17 : arg17.IsWhole) (arg18 : Memref sig .tc .vmem S32x1 .f32) (harg18 : arg18.IsWhole) (hc0 : cond0_0 i)
    (x0 : Vec F S512x1024 .bf16) (x1 : Vec F S512x1024 .bf16) (x2 : Vec F S512x1024 .bf16) (x3 : Vec F S512x1024 .bf16) (x4 : Vec F S512x1024 .bf16) (x5 : Vec F S512x1024 .bf16) (x6 : Vec F S512x1024 .f32) (x7 : Vec F S3x1024x1024 .bf16) (x8 : Vec F S1024x1024 .bf16) (x9 : Vec F S1x1024 .f32) (x10 : Vec F S32x1024 .bf16) (x11 : Vec F S32x1 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 = sums x0 x1 x2 x3 x4 x5 x6 x7 x8 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11)]
  unfold kernelRun0_A
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1024) hz]
  rfl

theorem out_A_13 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S3x1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S32x1024 .bf16) (harg11 : arg11.IsWhole) (arg12 : Memref sig .tc .vmem S32x1 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S8x512 .i32) (harg15 : arg15.IsWhole) (arg16 : Memref sig .tc .vmem S8x512 .f32) (harg16 : arg16.IsWhole) (arg17 : Memref sig .tc .vmem S32x1 .f32) (harg17 : arg17.IsWhole) (arg18 : Memref sig .tc .vmem S32x1 .f32) (harg18 : arg18.IsWhole) (hc0 : cond0_0 i)
    (x0 : Vec F S512x1024 .bf16) (x1 : Vec F S512x1024 .bf16) (x2 : Vec F S512x1024 .bf16) (x3 : Vec F S512x1024 .bf16) (x4 : Vec F S512x1024 .bf16) (x5 : Vec F S512x1024 .bf16) (x6 : Vec F S512x1024 .f32) (x7 : Vec F S3x1024x1024 .bf16) (x8 : Vec F S1024x1024 .bf16) (x9 : Vec F S1x1024 .f32) (x10 : Vec F S32x1024 .bf16) (x11 : Vec F S32x1 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 = normal x0 x1 x2 x3 x4 x5 x6 x7 x8 x9 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11)]
  unfold kernelRun0_A
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1024) hz]
  rfl

theorem out_B_12 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S3x1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S32x1024 .bf16) (harg11 : arg11.IsWhole) (arg12 : Memref sig .tc .vmem S32x1 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S8x512 .i32) (harg15 : arg15.IsWhole) (arg16 : Memref sig .tc .vmem S8x512 .f32) (harg16 : arg16.IsWhole) (arg17 : Memref sig .tc .vmem S32x1 .f32) (harg17 : arg17.IsWhole) (arg18 : Memref sig .tc .vmem S32x1 .f32) (harg18 : arg18.IsWhole) (hc0 : ¬cond0_0 i)
    (x0 : Vec F S512x1024 .bf16) (x1 : Vec F S512x1024 .bf16) (x2 : Vec F S512x1024 .bf16) (x3 : Vec F S512x1024 .bf16) (x4 : Vec F S512x1024 .bf16) (x5 : Vec F S512x1024 .bf16) (x6 : Vec F S512x1024 .f32) (x7 : Vec F S3x1024x1024 .bf16) (x8 : Vec F S1024x1024 .bf16) (x9 : Vec F S1x1024 .f32) (x10 : Vec F S32x1024 .bf16) (x11 : Vec F S32x1 .f32) (xs0 : Vec F S32x1 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0 = sums x0 x1 x2 x3 x4 x5 x6 x7 x8 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0)]
  unfold kernelRun0_B
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1024) hz]
  rfl

theorem out_B_13 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S3x1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S32x1024 .bf16) (harg11 : arg11.IsWhole) (arg12 : Memref sig .tc .vmem S32x1 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S8x512 .i32) (harg15 : arg15.IsWhole) (arg16 : Memref sig .tc .vmem S8x512 .f32) (harg16 : arg16.IsWhole) (arg17 : Memref sig .tc .vmem S32x1 .f32) (harg17 : arg17.IsWhole) (arg18 : Memref sig .tc .vmem S32x1 .f32) (harg18 : arg18.IsWhole) (hc0 : ¬cond0_0 i)
    (x0 : Vec F S512x1024 .bf16) (x1 : Vec F S512x1024 .bf16) (x2 : Vec F S512x1024 .bf16) (x3 : Vec F S512x1024 .bf16) (x4 : Vec F S512x1024 .bf16) (x5 : Vec F S512x1024 .bf16) (x6 : Vec F S512x1024 .f32) (x7 : Vec F S3x1024x1024 .bf16) (x8 : Vec F S1024x1024 .bf16) (x9 : Vec F S1x1024 .f32) (x10 : Vec F S32x1024 .bf16) (x11 : Vec F S32x1 .f32) (xs0 : Vec F S32x1 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0 = normal x0 x1 x2 x3 x4 x5 x6 x7 x8 x9 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0)]
  unfold kernelRun0_B
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1024) hz]
  rfl

end Cert.MergeLowIdeal.Mix

end
-- ==== Proof.MgLowRef.lean ====
/- The merge's reference over the first half of the rows: its run, and its values at an index. -/
module

public import proofs.«01_k».proof.Defs
public import proofs.«01_k».proof.Proof.Gen.MergeLowReferenceIdeal.Run
public import proofs.«01_k».proof.Proof.InRef

@[expose] public section

set_option maxRecDepth 16384

noncomputable section

namespace Cert.MergeLowReferenceIdeal.Mix

open Cert.MergeLowReferenceIdeal Cert.MergeLowReferenceIdeal.Gen
open Cert.InprojReferenceIdeal.Proj (rms)
open Idealize.ShloMosaic Idealize.ShloMosaic.TcCoe
open Idealize.SL.Sem

/-- A row of the half, as a row of the arrays. -/
def row (r : Fin 32768) : Fin 65536 := ⟨0 + r.val, by omega⟩

/-- The three branches' results, in their order. -/
def stacked (Y0 Y1 Y2 : FVec Ideal S65536x1024 .bf16) : FVec Ideal S65536x3x1024 .bf16 :=
  concatenate S65536x3x1024 1 [⟨S65536x1x1024, broadcastInDim S65536x1x1024 ![0, 2] bcast_S65536x1024_S65536x1x1024_0_2 Y0⟩,
    ⟨S65536x1x1024, broadcastInDim S65536x1x1024 ![0, 2] bcast_S65536x1024_S65536x1x1024_0_2 Y1⟩,
    ⟨S65536x1x1024, broadcastInDim S65536x1x1024 ![0, 2] bcast_S65536x1024_S65536x1x1024_0_2 Y2⟩]
    concatenates_S65536x1x1024_S65536x1x1024_S65536x1x1024_S65536x3x1024_d1

/-- Each through its own matrix. -/
def through (Y : FVec Ideal S65536x3x1024 .bf16) (W : FVec Ideal S3x1024x1024 .f32) : FVec Ideal S32768x3x1024 .f32 :=
  transpose S32768x3x1024 [2, 0, 1] (Host.dotGeneral dot_S3x1024x1024_S32768x3x1024_S3x1024x32768_1_2_2_0_0_1 none W
    (extf .f32 (extractStridedSlice S32768x3x1024 ![0, 0, 0] Y slices_S65536x3x1024_S32768x3x1024_0_0_0) bitsLt_bf16_f32)) transposes_S3x1024x32768_S32768x3x1024_2_0_1

/-- The branches' gates. -/
def gates (P : FVec Ideal S65536x10240 .bf16) : FVec Ideal S32768x3x1024 .f32 :=
  Host.divf (broadcastInDim S32768x3x1024 ![] bcast_S_S32768x3x1024 (constant S_ .f32 0x3F800000#32)) (addf (broadcastInDim S32768x3x1024 ![] bcast_S_S32768x3x1024 (constant S_ .f32 0x3F800000#32))
    (Host.exp (Host.negf (shapeCast S32768x3x1024 (extf .f32 (extractStridedSlice S32768x3072 ![0, 7168] P slices_S65536x10240_S32768x3072_0_7168) bitsLt_bf16_f32) shapeCasts_S32768x3072_S32768x3x1024))))

def mixed (G B : FVec Ideal S32768x3x1024 .f32) : FVec Ideal S32768x1024 .f32 :=
  Host.reduceAdd (mulf G B) (constant S_ .f32 0x00000000#32) reducesTo_S32768x3x1024_S32768x1024_d1 h_S_

def added (X : FVec Ideal S65536x1024 .f32) (M : FVec Ideal S32768x1024 .f32) (W : FVec Ideal S1024x1024 .f32) : FVec Ideal S32768x1024 .f32 :=
  addf (extractStridedSlice S32768x1024 ![0, 0] X slices_S65536x1024_S32768x1024_0_0) (Host.dotGeneral dot_S32768x1024_S1024x1024_S32768x1024_1_0_0_1_n_n none M W)

def normed (X : FVec Ideal S32768x1024 .f32) (G : FVec Ideal S1024 .f32) : FVec Ideal S32768x1024 .bf16 :=
  truncf .bf16 (mulf (mulf X (broadcastInDim S32768x1024 ![0, 1] bcast_S32768x1_S32768x1024_0_1 (Host.rsqrt (addf (Host.divf (broadcastInDim S32768x1 ![0] bcast_S32768_S32768x1_0
      (Host.reduceAdd (mulf X X) (constant S_ .f32 0x00000000#32) reducesTo_S32768x1024_S32768_d1 h_S_)) (broadcastInDim S32768x1 ![] bcast_S_S32768x1 (constant S_ .f32 0x44800000#32)))
      (broadcastInDim S32768x1 ![] bcast_S_S32768x1 (constant S_ .f32 0x3727C5AC#32))))))
    (broadcastInDim S32768x1024 ![0, 1] bcast_S1x1024_S32768x1024_0_1 (broadcastInDim S1x1024 ![1] bcast_S1024_S1x1024_1 G))) bitsLt_bf16_f32

/-- The rows after the merge. -/
def rows (Y0 Y1 Y2 : FVec Ideal S65536x1024 .bf16) (P : FVec Ideal S65536x10240 .bf16) (X : FVec Ideal S65536x1024 .f32) (W : FVec Ideal S3x1024x1024 .f32)
    (Wo : FVec Ideal S1024x1024 .f32) : FVec Ideal S32768x1024 .f32 :=
  added X (mixed (gates P) (through (stacked Y0 Y1 Y2) W)) Wo

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v21) = rows (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v35) = normed (rows (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1, (h c).2.1, (h c).2.2⟩) (Value.run m ρ)

/-! ## At an index -/

section
variable (r : Fin 32768) (k : Fin 1024)

/-- A gated branch at an index. -/
def part (p : EReal) (y : Fin 1024 → EReal) (w : Fin 1024 → EReal) : EReal := Ideal.logistic p * ∑ l : Fin 1024, y l * w l

theorem stacked_0 (Y0 Y1 Y2 : FVec Ideal S65536x1024 .bf16) (s : Fin 65536) : stacked Y0 Y1 Y2 (ix3 s (0 : Fin 3) k) = Y0 (ix2 s k) := by
  pointwise [stacked]
theorem stacked_1 (Y0 Y1 Y2 : FVec Ideal S65536x1024 .bf16) (s : Fin 65536) : stacked Y0 Y1 Y2 (ix3 s (1 : Fin 3) k) = Y1 (ix2 s k) := by
  pointwise [stacked]
theorem stacked_2 (Y0 Y1 Y2 : FVec Ideal S65536x1024 .bf16) (s : Fin 65536) : stacked Y0 Y1 Y2 (ix3 s (2 : Fin 3) k) = Y2 (ix2 s k) := by
  pointwise [stacked]

theorem through_at (Y : FVec Ideal S65536x3x1024 .bf16) (W : FVec Ideal S3x1024x1024 .f32) (n : Fin 3) :
    through Y W (ix3 r n k) = ∑ l : Fin 1024, W (ix3 n l k) * Y (ix3 (row r) n l) := by
  pointwise [through, row]

theorem gates_at (P : FVec Ideal S65536x10240 .bf16) (n : Fin 3) :
    gates P (ix3 r n k) = Ideal.logistic (P (ix2 (row r) (⟨7168 + (n.val * 1024 + k.val), by omega⟩ : Fin 10240))) := by
  unfold Ideal.logistic
  pointwise [gates, row]

theorem mixed_at (G B : FVec Ideal S32768x3x1024 .f32) : mixed G B (ix2 r k) = ∑ n : Fin 3, G (ix3 r n k) * B (ix3 r n k) := by
  pointwise [mixed]

theorem added_at (X : FVec Ideal S65536x1024 .f32) (M : FVec Ideal S32768x1024 .f32) (W : FVec Ideal S1024x1024 .f32) :
    added X M W (ix2 r k) = X (ix2 (row r) k) + ∑ l : Fin 1024, M (ix2 r l) * W (ix2 l k) := by
  pointwise [added, row]

theorem normed_at (X : FVec Ideal S32768x1024 .f32) (G : FVec Ideal S1024 .f32) :
    normed X G (ix2 r k) = rms (fun l => X (ix2 r l)) (fun l => G (ix1 l)) k := by
  unfold rms
  pointwise [normed]

/-- The merge's row, at an index. -/
theorem rows_at (Y0 Y1 Y2 : FVec Ideal S65536x1024 .bf16) (P : FVec Ideal S65536x10240 .bf16) (X : FVec Ideal S65536x1024 .f32) (W : FVec Ideal S3x1024x1024 .f32)
    (Wo : FVec Ideal S1024x1024 .f32) :
    rows Y0 Y1 Y2 P X W Wo (ix2 r k) = X (ix2 (row r) k) + ∑ l : Fin 1024,
      (part (P (ix2 (row r) (⟨7168 + l.val, by omega⟩ : Fin 10240))) (fun a => Y0 (ix2 (row r) a)) (fun a => W (ix3 (0 : Fin 3) a l))
        + part (P (ix2 (row r) (⟨8192 + l.val, by omega⟩ : Fin 10240))) (fun a => Y1 (ix2 (row r) a)) (fun a => W (ix3 (1 : Fin 3) a l))
        + part (P (ix2 (row r) (⟨9216 + l.val, by omega⟩ : Fin 10240))) (fun a => Y2 (ix2 (row r) a)) (fun a => W (ix3 (2 : Fin 3) a l))) * Wo (ix2 l k) := by
  unfold rows
  rw [added_at]
  refine congrArg (X (ix2 (row r) k) + ·) (Finset.sum_congr rfl fun l _ => congrArg (· * Wo (ix2 l k)) ?_)
  rw [mixed_at, Fin.sum_univ_three]
  simp only [gates_at, through_at, stacked_0, stacked_1, stacked_2]
  refine congrArg₂ (· + ·) (congrArg₂ (· + ·) ?_ ?_) ?_
  all_goals
    unfold part
    refine congrArg₂ (· * ·) (congrArg (fun j => Ideal.logistic (P (ix2 (row r) j))) (Fin.ext ?_)) (Finset.sum_congr rfl fun a _ => mul_comm _ _)
  · show 7168 + (0 * 1024 + l.val) = 7168 + l.val; omega
  · show 7168 + (1 * 1024 + l.val) = 8192 + l.val; omega
  · show 7168 + (2 * 1024 + l.val) = 9216 + l.val; omega

end

end Cert.MergeLowReferenceIdeal.Mix

end
-- ==== Proof.MgLowValue.lean ====
/- The merge's blocks at an index, over the first half of the rows, and the arrays the program leaves. -/
module

public import proofs.«01_k».proof.Proof.MgLowOut
public import proofs.«01_k».proof.Proof.MgLowRef
public import Idealize.ShloMosaic.Lib.Pipeline.ValueKit

@[expose] public section

set_option maxRecDepth 16384

noncomputable section

namespace Cert.MergeLowIdeal.Mix

open Cert.MergeLowIdeal Cert.MergeLowIdeal.Gen
open Cert.InprojReferenceIdeal.Proj (rms)
open Cert.MergeLowReferenceIdeal.Mix (part row)
open Idealize.ShloMosaic Idealize.ShloMosaic.TcCoe
open Idealize.SL.Sem

/-! ## The body's values at an index -/

section
variable (j : Fin 512) (k : Fin 1024)

theorem slab0_at (x : Vec Ideal S3x1024x1024 .bf16) (a l : Fin 1024) : slab0 x (ix3 (0 : Fin 1) a l) = x (ix3 (0 : Fin 3) a l) :=
  View.ld_unit_apply_of x _ _ _ _ _ fun b => match b with
    | ⟨0, _⟩ => rfl
    | ⟨1, _⟩ => (Nat.zero_add _).symm
    | ⟨2, _⟩ => (Nat.zero_add _).symm
theorem slab1_at (x : Vec Ideal S3x1024x1024 .bf16) (a l : Fin 1024) : slab1 x (ix3 (0 : Fin 1) a l) = x (ix3 (1 : Fin 3) a l) :=
  View.ld_unit_apply_of x _ _ _ _ _ fun b => match b with
    | ⟨0, _⟩ => rfl
    | ⟨1, _⟩ => (Nat.zero_add _).symm
    | ⟨2, _⟩ => (Nat.zero_add _).symm
theorem slab2_at (x : Vec Ideal S3x1024x1024 .bf16) (a l : Fin 1024) : slab2 x (ix3 (0 : Fin 1) a l) = x (ix3 (2 : Fin 3) a l) :=
  View.ld_unit_apply_of x _ _ _ _ _ fun b => match b with
    | ⟨0, _⟩ => rfl
    | ⟨1, _⟩ => (Nat.zero_add _).symm
    | ⟨2, _⟩ => (Nat.zero_add _).symm

theorem pay3_at (y0 y1 y2 g0 g1 g2 : Vec Ideal S512x1024 .bf16) (w0 w1 w2 : Vec Ideal S1x1024x1024 .bf16) :
    k0_pay3 y0 w0 g0 y1 w1 g1 y2 w2 g2 (ix2 j k)
      = part (g0 (ix2 j k)) (fun a => y0 (ix2 j a)) (fun a => w0 (ix3 (0 : Fin 1) a k))
        + part (g1 (ix2 j k)) (fun a => y1 (ix2 j a)) (fun a => w1 (ix3 (0 : Fin 1) a k))
        + part (g2 (ix2 j k)) (fun a => y2 (ix2 j a)) (fun a => w2 (ix3 (0 : Fin 1) a k)) := by
  unfold part
  pointwise [k0_pay3]

theorem pay5_at (x : Vec Ideal S512x1024 .f32) (y : FVec Ideal S512x1024 .bf16) (w : Vec Ideal S1024x1024 .bf16) :
    k0_pay5 x y (k0_pay4 w) (constant S512x1024 .f32 0x00000000#32) (ix2 j k) = x (ix2 j k) + ∑ l : Fin 1024, y (ix2 j l) * w (ix2 l k) := by
  pointwise [k0_pay5, k0_pay4]

theorem pay8_at (x : Vec Ideal S512x1024 .f32) (y : FVec Ideal S512x1024 .bf16) (w : FVec Ideal S1024x1024 .bf16) (z : FVec Ideal S512x1024 .f32) (g : Vec Ideal S1x1024 .f32) :
    k0_pay8 x y w z g (ix2 j k) = rms (fun l => k0_pay5 x y w z (ix2 j l)) (fun l => g (ix2 (0 : Fin 1) l)) k := by
  unfold rms
  pointwise [k0_pay8, k0_pay7]
end

/-! ## The host's values -/

variable (m : (ℓ : Loc nD τ sig) → Buf (Elt Ideal) ℓ) (c : Dev nD) (t : Fin cfg0.N)

abbrev argY0 : FVec Ideal S65536x1024 .bf16 := m ((c : Thread nD τ).loc main_arg0)
abbrev argY1 : FVec Ideal S65536x1024 .bf16 := m ((c : Thread nD τ).loc main_arg1)
abbrev argY2 : FVec Ideal S65536x1024 .bf16 := m ((c : Thread nD τ).loc main_arg2)
abbrev argP : FVec Ideal S65536x10240 .bf16 := m ((c : Thread nD τ).loc main_arg3)
abbrev argX : FVec Ideal S65536x1024 .f32 := m ((c : Thread nD τ).loc main_arg4)
abbrev argW : FVec Ideal S3x1024x1024 .f32 := m ((c : Thread nD τ).loc main_arg5)
abbrev argO : FVec Ideal S1024x1024 .f32 := m ((c : Thread nD τ).loc main_arg6)
abbrev argG : FVec Ideal S1024 .f32 := m ((c : Thread nD τ).loc main_arg7)

theorem V_w : V m c main_v0 = truncf .bf16 (argW m c) bitsLt_bf16_f32 := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results <;> rfl

theorem V_o : V m c main_v1 = truncf .bf16 (argO m c) bitsLt_bf16_f32 := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results <;> rfl

theorem V_g : V m c main_v2 = shapeCast S1x1024 (argG m c) shapeCasts_S1024_S1x1024 := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results <;> rfl

theorem gain_at (g : FVec Ideal S1024 .f32) (h) (k : Fin 1024) : shapeCast S1x1024 g h (ix2 (0 : Fin 1) k) = g (ix1 k) := by
  pointwise

/-! ## Blocks at an index -/

theorem points : cfg0.N = 64 := N_0

theorem index_0 : ∀ t : Fin grid0.N, win0_0.index t = ![t.val + 0, 0] := by decide +kernel
theorem index_1 : ∀ t : Fin grid0.N, win0_1.index t = ![t.val + 0, 0] := by decide +kernel
theorem index_2 : ∀ t : Fin grid0.N, win0_2.index t = ![t.val + 0, 0] := by decide +kernel
theorem index_3 : ∀ t : Fin grid0.N, win0_3.index t = ![t.val + 0, 7] := by decide +kernel
theorem index_4 : ∀ t : Fin grid0.N, win0_4.index t = ![t.val + 0, 8] := by decide +kernel
theorem index_5 : ∀ t : Fin grid0.N, win0_5.index t = ![t.val + 0, 9] := by decide +kernel
theorem index_6 : ∀ t : Fin grid0.N, win0_6.index t = ![t.val + 0, 0] := by decide +kernel
theorem index_12 : ∀ t : Fin grid0.N, win0_12.index t = ![t.val, 0] := by decide +kernel
theorem index_13 : ∀ t : Fin grid0.N, win0_13.index t = ![t.val, 0] := by decide +kernel

section
variable (j : Fin 512) (r : Fin 32768) (hr : r.val = t.val * 512 + j.val)
include hr

theorem row_at : (t.val + 0) * 512 + j.val = (row r).val := by
  refine Eq.trans ?_ (show 0 + r.val = (row r).val from rfl)
  omega

theorem y0_at (k : Fin 1024) : iblk m c 0 t (ix2 j k) = argY0 m c (ix2 (row r) k) := by
  refine Eq.trans (congrArg (V m c main_arg0) (funext fun b => Fin.ext ?_)) (congrFun (V_main_arg0 m c) _)
  refine ((cfg0.win 0).rect_emb_val t (ix2 j k) b rfl).trans ?_
  rw [index_0]
  match b with
  | ⟨0, _⟩ => exact row_at t j r hr
  | ⟨1, _⟩ => show 0 * 1024 + k.val = k.val; omega

theorem y1_at (k : Fin 1024) : iblk m c 1 t (ix2 j k) = argY1 m c (ix2 (row r) k) := by
  refine Eq.trans (congrArg (V m c main_arg1) (funext fun b => Fin.ext ?_)) (congrFun (V_main_arg1 m c) _)
  refine ((cfg0.win 1).rect_emb_val t (ix2 j k) b rfl).trans ?_
  rw [index_1]
  match b with
  | ⟨0, _⟩ => exact row_at t j r hr
  | ⟨1, _⟩ => show 0 * 1024 + k.val = k.val; omega

theorem y2_at (k : Fin 1024) : iblk m c 2 t (ix2 j k) = argY2 m c (ix2 (row r) k) := by
  refine Eq.trans (congrArg (V m c main_arg2) (funext fun b => Fin.ext ?_)) (congrFun (V_main_arg2 m c) _)
  refine ((cfg0.win 2).rect_emb_val t (ix2 j k) b rfl).trans ?_
  rw [index_2]
  match b with
  | ⟨0, _⟩ => exact row_at t j r hr
  | ⟨1, _⟩ => show 0 * 1024 + k.val = k.val; omega

theorem x_at (k : Fin 1024) : iblk m c 6 t (ix2 j k) = argX m c (ix2 (row r) k) := by
  refine Eq.trans (congrArg (V m c main_arg4) (funext fun b => Fin.ext ?_)) (congrFun (V_main_arg4 m c) _)
  refine ((cfg0.win 6).rect_emb_val t (ix2 j k) b rfl).trans ?_
  rw [index_6]
  match b with
  | ⟨0, _⟩ => exact row_at t j r hr
  | ⟨1, _⟩ => show 0 * 1024 + k.val = k.val; omega

theorem p0_at (k : Fin 1024) : iblk m c 3 t (ix2 j k) = argP m c (ix2 (row r) (⟨7168 + k.val, by omega⟩ : Fin 10240)) := by
  refine Eq.trans (congrArg (V m c main_arg3) (funext fun b => Fin.ext ?_)) (congrFun (V_main_arg3 m c) _)
  refine ((cfg0.win 3).rect_emb_val t (ix2 j k) b rfl).trans ?_
  rw [index_3]
  match b with
  | ⟨0, _⟩ => exact row_at t j r hr
  | ⟨1, _⟩ => show 7 * 1024 + k.val = 7168 + k.val; omega

theorem p1_at (k : Fin 1024) : iblk m c 4 t (ix2 j k) = argP m c (ix2 (row r) (⟨8192 + k.val, by omega⟩ : Fin 10240)) := by
  refine Eq.trans (congrArg (V m c main_arg3) (funext fun b => Fin.ext ?_)) (congrFun (V_main_arg3 m c) _)
  refine ((cfg0.win 4).rect_emb_val t (ix2 j k) b rfl).trans ?_
  rw [index_4]
  match b with
  | ⟨0, _⟩ => exact row_at t j r hr
  | ⟨1, _⟩ => show 8 * 1024 + k.val = 8192 + k.val; omega

theorem p2_at (k : Fin 1024) : iblk m c 5 t (ix2 j k) = argP m c (ix2 (row r) (⟨9216 + k.val, by omega⟩ : Fin 10240)) := by
  refine Eq.trans (congrArg (V m c main_arg3) (funext fun b => Fin.ext ?_)) (congrFun (V_main_arg3 m c) _)
  refine ((cfg0.win 5).rect_emb_val t (ix2 j k) b rfl).trans ?_
  rw [index_5]
  match b with
  | ⟨0, _⟩ => exact row_at t j r hr
  | ⟨1, _⟩ => show 9 * 1024 + k.val = 9216 + k.val; omega
end

theorem w_at (n : Fin 3) (a k : Fin 1024) : iblk m c 7 t (ix3 n a k) = argW m c (ix3 n a k) := by
  refine Eq.trans (congrArg (V m c main_v0) (funext fun b => Fin.ext ?_)) (congrFun (V_w m c) (ix3 n a k))
  refine ((cfg0.win 7).rect_emb_val t (ix3 n a k) b rfl).trans ?_
  match b with
  | ⟨0, _⟩ => show 0 * 3 + n.val = n.val; omega
  | ⟨1, _⟩ => show 0 * 1024 + a.val = a.val; omega
  | ⟨2, _⟩ => show 0 * 1024 + k.val = k.val; omega

theorem o_at (a k : Fin 1024) : iblk m c 8 t (ix2 a k) = argO m c (ix2 a k) := by
  refine Eq.trans (congrArg (V m c main_v1) (funext fun b => Fin.ext ?_)) (congrFun (V_o m c) (ix2 a k))
  refine ((cfg0.win 8).rect_emb_val t (ix2 a k) b rfl).trans ?_
  match b with
  | ⟨0, _⟩ => show 0 * 1024 + a.val = a.val; omega
  | ⟨1, _⟩ => show 0 * 1024 + k.val = k.val; omega

theorem g_at (k : Fin 1024) : iblk m c 9 t (ix2 (0 : Fin 1) k) = argG m c (ix1 k) := by
  refine Eq.trans (congrArg (V m c main_v2) (funext fun b => Fin.ext ?_)) ((congrFun (V_g m c) (ix2 (0 : Fin 1) k)).trans (gain_at _ _ k))
  refine ((cfg0.win 9).rect_emb_val t (ix2 (0 : Fin 1) k) b rfl).trans ?_
  match b with
  | ⟨0, _⟩ => rfl
  | ⟨1, _⟩ => show 0 * 1024 + k.val = k.val; omega

/-! ## What a point leaves -/

abbrev sumsAt : Vec Ideal S512x1024 .f32 :=
  sums (iblk m c 0 t) (iblk m c 1 t) (iblk m c 2 t) (iblk m c 3 t) (iblk m c 4 t) (iblk m c 5 t) (iblk m c 6 t) (iblk m c 7 t) (iblk m c 8 t)
abbrev normalAt : Vec Ideal S512x1024 .bf16 :=
  normal (iblk m c 0 t) (iblk m c 1 t) (iblk m c 2 t) (iblk m c 3 t) (iblk m c 4 t) (iblk m c 5 t) (iblk m c 6 t) (iblk m c 7 t) (iblk m c 8 t) (iblk m c 9 t)

theorem flushed_12 : (dats m 0 c).flushed 12 t = (cfg0.win 12).cut (grid0.coords t) (sumsAt m c t) := by
  by_cases h : t.val % 64 = 0
  · rw [Value.flushed12_A m c t h, out_A_12]
  · rw [Value.flushed12_B m c t h, out_B_12]

theorem flushed_13 : (dats m 0 c).flushed 13 t = (cfg0.win 13).cut (grid0.coords t) (normalAt m c t) := by
  by_cases h : t.val % 64 = 0
  · rw [Value.flushed13_A m c t h, out_A_13]
  · rw [Value.flushed13_B m c t h, out_B_13]

/-- The reference's arrays, of this program's arguments. -/
abbrev rowsArr : FVec Ideal S32768x1024 .f32 :=
  Cert.MergeLowReferenceIdeal.Mix.rows (argY0 m c) (argY1 m c) (argY2 m c) (argP m c) (argX m c) (argW m c) (argO m c)
abbrev normArr : FVec Ideal S32768x1024 .bf16 := Cert.MergeLowReferenceIdeal.Mix.normed (rowsArr m c) (argG m c)

section
variable (j : Fin 512) (r : Fin 32768) (hr : r.val = t.val * 512 + j.val) (k : Fin 1024)
include hr

theorem sums_pt : sumsAt m c t (ix2 j k) = rowsArr m c (ix2 r k) := by
  unfold sumsAt sums rowsArr
  rw [pay5_at, Cert.MergeLowReferenceIdeal.Mix.rows_at]
  unfold mid
  simp only [pay3_at, slab0_at, slab1_at, slab2_at, y0_at m c t j r hr, y1_at m c t j r hr, y2_at m c t j r hr, x_at m c t j r hr, w_at, o_at]
  simp only [p0_at m c t j r hr, p1_at m c t j r hr, p2_at m c t j r hr]

theorem normal_pt : normalAt m c t (ix2 j k) = normArr m c (ix2 r k) := by
  unfold normalAt normal normArr
  rw [pay8_at, Cert.MergeLowReferenceIdeal.Mix.normed_at]
  refine congrArg₂ (fun x g => rms x g k) (funext fun l => ?_) (funext fun l => g_at m c t l)
  exact sums_pt m c t j r hr l
end

/-! ## The arrays -/

def place12 (y : S512x1024.Idx) : S32768x1024.Idx := ((cfg0.win 12).rect t).emb y

theorem place12_val (y : S512x1024.Idx) : (place12 t y 0).val = t.val * 512 + (y 0).val ∧ (place12 t y 1).val = (y 1).val := by
  have h0 := (cfg0.win 12).rect_emb_val t y (0 : Fin 2) rfl
  have h1 := (cfg0.win 12).rect_emb_val t y (1 : Fin 2) rfl
  rw [index_12] at h0 h1
  refine ⟨h0, h1.trans ?_⟩
  show 0 * 1024 + (y 1).val = (y 1).val; omega

theorem left_12 : (dats m 0 c).flushed 12 t = ((cfg0.win 12).blk t).view.read (Elt Ideal) (rowsArr m c) := by
  rw [flushed_12]
  refine funext fun (y : S512x1024.Idx) => ?_
  obtain ⟨e0, e1⟩ := place12_val t y
  obtain ⟨j, k, rfl⟩ : ∃ (j : Fin 512) (k : Fin 1024), y = ix2 j k := ⟨y 0, y 1, funext fun x => match x with | ⟨0, _⟩ => rfl | ⟨1, _⟩ => rfl⟩
  refine (sums_pt m c t j (place12 t (ix2 j k) 0) e0 k).trans ?_
  show _ = rowsArr m c (place12 t (ix2 j k))
  refine congrArg (rowsArr m c) (funext fun x => Fin.ext ?_)
  match x with
  | ⟨0, _⟩ => rfl
  | ⟨1, _⟩ => exact e1.symm

theorem flush_12 : ∀ t : Fin grid0.N, win0_12.flush t = true := by decide +kernel

theorem arr_12 : (dats m 0 c).arrAt 12 cfg0.N = rowsArr m c := by
  refine funext fun (i : S32768x1024.Idx) => ?_
  have h0 : (i 0).val < 32768 := (i 0).isLt
  have hu : (i 0).val / 512 < cfg0.N := by rw [points]; omega
  obtain ⟨u, hu⟩ : ∃ u : Fin cfg0.N, u.val = (i 0).val / 512 := ⟨⟨_, hu⟩, rfl⟩
  have e : place12 u (ix2 (⟨(i 0).val % 512, Nat.mod_lt _ (by decide)⟩ : Fin 512) (i 1)) = i := by
    obtain ⟨e0, e1⟩ := place12_val u (ix2 (⟨(i 0).val % 512, Nat.mod_lt _ (by decide)⟩ : Fin 512) (i 1))
    refine funext fun a => Fin.ext ?_
    match a with
    | ⟨0, _⟩ =>
      refine e0.trans ?_
      show u.val * 512 + (i 0).val % 512 = (i 0).val
      omega
    | ⟨1, _⟩ => exact e1
  have hm : place12 u _ ∈ ((cfg0.win 12).blk u).view.set := Finset.mem_map.mpr ⟨ix2 (⟨(i 0).val % 512, Nat.mod_lt _ (by decide)⟩ : Fin 512) (i 1), Finset.mem_univ _, rfl⟩
  rw [e] at hm
  exact (dats m 0 c).arrAt_apply_of_mem 12 (rowsArr m c) (fun t _ => left_12 m c t) _ u i u.isLt (flush_12 u) hm

def place13 (y : S512x1024.Idx) : S32768x1024.Idx := ((cfg0.win 13).rect t).emb y

theorem place13_val (y : S512x1024.Idx) : (place13 t y 0).val = t.val * 512 + (y 0).val ∧ (place13 t y 1).val = (y 1).val := by
  have h0 := (cfg0.win 13).rect_emb_val t y (0 : Fin 2) rfl
  have h1 := (cfg0.win 13).rect_emb_val t y (1 : Fin 2) rfl
  rw [index_13] at h0 h1
  refine ⟨h0, h1.trans ?_⟩
  show 0 * 1024 + (y 1).val = (y 1).val; omega

theorem left_13 : (dats m 0 c).flushed 13 t = ((cfg0.win 13).blk t).view.read (Elt Ideal) (normArr m c) := by
  rw [flushed_13]
  refine funext fun (y : S512x1024.Idx) => ?_
  obtain ⟨e0, e1⟩ := place13_val t y
  obtain ⟨j, k, rfl⟩ : ∃ (j : Fin 512) (k : Fin 1024), y = ix2 j k := ⟨y 0, y 1, funext fun x => match x with | ⟨0, _⟩ => rfl | ⟨1, _⟩ => rfl⟩
  refine (normal_pt m c t j (place13 t (ix2 j k) 0) e0 k).trans ?_
  show _ = normArr m c (place13 t (ix2 j k))
  refine congrArg (normArr m c) (funext fun x => Fin.ext ?_)
  match x with
  | ⟨0, _⟩ => rfl
  | ⟨1, _⟩ => exact e1.symm

theorem flush_13 : ∀ t : Fin grid0.N, win0_13.flush t = true := by decide +kernel

theorem arr_13 : (dats m 0 c).arrAt 13 cfg0.N = normArr m c := by
  refine funext fun (i : S32768x1024.Idx) => ?_
  have h0 : (i 0).val < 32768 := (i 0).isLt
  have hu : (i 0).val / 512 < cfg0.N := by rw [points]; omega
  obtain ⟨u, hu⟩ : ∃ u : Fin cfg0.N, u.val = (i 0).val / 512 := ⟨⟨_, hu⟩, rfl⟩
  have e : place13 u (ix2 (⟨(i 0).val % 512, Nat.mod_lt _ (by decide)⟩ : Fin 512) (i 1)) = i := by
    obtain ⟨e0, e1⟩ := place13_val u (ix2 (⟨(i 0).val % 512, Nat.mod_lt _ (by decide)⟩ : Fin 512) (i 1))
    refine funext fun a => Fin.ext ?_
    match a with
    | ⟨0, _⟩ =>
      refine e0.trans ?_
      show u.val * 512 + (i 0).val % 512 = (i 0).val
      omega
    | ⟨1, _⟩ => exact e1
  have hm : place13 u _ ∈ ((cfg0.win 13).blk u).view.set := Finset.mem_map.mpr ⟨ix2 (⟨(i 0).val % 512, Nat.mod_lt _ (by decide)⟩ : Fin 512) (i 1), Finset.mem_univ _, rfl⟩
  rw [e] at hm
  exact (dats m 0 c).arrAt_apply_of_mem 13 (normArr m c) (fun t _ => left_13 m c t) _ u i u.isLt (flush_13 u) hm

theorem run (ρ : Dev nD → PrngReg) : θ_run defs (onTc (τ := τ) (main (F := Ideal))) ⟨m, fun _ => 0, ρ⟩ fun r => ∀ c : Dev nD,
    r.2.mem ((c : Thread nD τ).loc main_v6_0) = rowsArr m c ∧ r.2.mem ((c : Thread nD τ).loc main_v6_1) = normArr m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9) :=
  (θ_run defs _ _).mono (fun _ h c => ⟨(h c).1.trans (arr_12 m c), (h c).2.1.trans (arr_13 m c), (h c).2.2.2.2.2⟩) (Value.run_blocks m ρ)

end Cert.MergeLowIdeal.Mix

end
-- ==== Proof.MgHighOut.lean ====
/- What a point of the merge's second half leaves in its two named results. -/
module

public import proofs.«01_k».proof.Proof.Gen.MergeHighIdeal.Value
public import Idealize.ShloMosaic.Lib.VecWindow

@[expose] public section

set_option maxRecDepth 16384

noncomputable section

namespace Cert.MergeHighIdeal.Mix

open Cert.MergeHighIdeal Cert.MergeHighIdeal.Gen
open Idealize.ShloMosaic Idealize.ShloMosaic.TcCoe Idealize.ShloMosaic.Tactic
open Idealize.SL.Sem

variable {F : FTy → Type} [FloatOps F]

theorem hz : (![0, 0] : Fin 2 → Nat) = fun _ => 0 := funext fun a => by fin_cases a <;> rfl

/-- The branches' matrices, of the three. -/
def slab0 (x : Vec F S3x1024x1024 .bf16) : Vec F S1x1024x1024 .bf16 := View.ld x (Rect.unit (s := S3x1024x1024) ![0, 0, 0] S1x1024x1024.size inb_S3x1024x1024_S1x1024x1024_0_0_0)
def slab1 (x : Vec F S3x1024x1024 .bf16) : Vec F S1x1024x1024 .bf16 := View.ld x (Rect.unit (s := S3x1024x1024) ![1, 0, 0] S1x1024x1024.size inb_S3x1024x1024_S1x1024x1024_1_0_0)
def slab2 (x : Vec F S3x1024x1024 .bf16) : Vec F S1x1024x1024 .bf16 := View.ld x (Rect.unit (s := S3x1024x1024) ![2, 0, 0] S1x1024x1024.size inb_S3x1024x1024_S1x1024x1024_2_0_0)

section
variable (x0 x1 x2 x3 x4 x5 : Vec F S512x1024 .bf16) (x6 : Vec F S512x1024 .f32) (x7 : Vec F S3x1024x1024 .bf16) (x8 : Vec F S1024x1024 .bf16) (x9 : Vec F S1x1024 .f32)

/-- The merged branches, -/
def mid : FVec F S512x1024 .bf16 := k0_pay3 x0 (slab0 x7) x3 x1 (slab1 x7) x4 x2 (slab2 x7) x5
/-- the rows with them added, -/
def sums : Vec F S512x1024 .f32 := k0_pay5 x6 (mid x0 x1 x2 x3 x4 x5 x7) (k0_pay4 x8) (constant S512x1024 .f32 0x00000000#32)
/-- and those normalized. -/
def normal : Vec F S512x1024 .bf16 := k0_pay8 x6 (mid x0 x1 x2 x3 x4 x5 x7) (k0_pay4 x8) (constant S512x1024 .f32 0x00000000#32) x9
end

theorem out_A_12 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S3x1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S32x1024 .bf16) (harg11 : arg11.IsWhole) (arg12 : Memref sig .tc .vmem S32x1 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S8x512 .i32) (harg15 : arg15.IsWhole) (arg16 : Memref sig .tc .vmem S8x512 .f32) (harg16 : arg16.IsWhole) (arg17 : Memref sig .tc .vmem S32x1 .f32) (harg17 : arg17.IsWhole) (arg18 : Memref sig .tc .vmem S32x1 .f32) (harg18 : arg18.IsWhole) (hc0 : cond0_0 i)
    (x0 : Vec F S512x1024 .bf16) (x1 : Vec F S512x1024 .bf16) (x2 : Vec F S512x1024 .bf16) (x3 : Vec F S512x1024 .bf16) (x4 : Vec F S512x1024 .bf16) (x5 : Vec F S512x1024 .bf16) (x6 : Vec F S512x1024 .f32) (x7 : Vec F S3x1024x1024 .bf16) (x8 : Vec F S1024x1024 .bf16) (x9 : Vec F S1x1024 .f32) (x10 : Vec F S32x1024 .bf16) (x11 : Vec F S32x1 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 = sums x0 x1 x2 x3 x4 x5 x6 x7 x8 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11)]
  unfold kernelRun0_A
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1024) hz]
  rfl

theorem out_A_13 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S3x1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S32x1024 .bf16) (harg11 : arg11.IsWhole) (arg12 : Memref sig .tc .vmem S32x1 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S8x512 .i32) (harg15 : arg15.IsWhole) (arg16 : Memref sig .tc .vmem S8x512 .f32) (harg16 : arg16.IsWhole) (arg17 : Memref sig .tc .vmem S32x1 .f32) (harg17 : arg17.IsWhole) (arg18 : Memref sig .tc .vmem S32x1 .f32) (harg18 : arg18.IsWhole) (hc0 : cond0_0 i)
    (x0 : Vec F S512x1024 .bf16) (x1 : Vec F S512x1024 .bf16) (x2 : Vec F S512x1024 .bf16) (x3 : Vec F S512x1024 .bf16) (x4 : Vec F S512x1024 .bf16) (x5 : Vec F S512x1024 .bf16) (x6 : Vec F S512x1024 .f32) (x7 : Vec F S3x1024x1024 .bf16) (x8 : Vec F S1024x1024 .bf16) (x9 : Vec F S1x1024 .f32) (x10 : Vec F S32x1024 .bf16) (x11 : Vec F S32x1 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 = normal x0 x1 x2 x3 x4 x5 x6 x7 x8 x9 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11)]
  unfold kernelRun0_A
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1024) hz]
  rfl

theorem out_B_12 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S3x1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S32x1024 .bf16) (harg11 : arg11.IsWhole) (arg12 : Memref sig .tc .vmem S32x1 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S8x512 .i32) (harg15 : arg15.IsWhole) (arg16 : Memref sig .tc .vmem S8x512 .f32) (harg16 : arg16.IsWhole) (arg17 : Memref sig .tc .vmem S32x1 .f32) (harg17 : arg17.IsWhole) (arg18 : Memref sig .tc .vmem S32x1 .f32) (harg18 : arg18.IsWhole) (hc0 : ¬cond0_0 i)
    (x0 : Vec F S512x1024 .bf16) (x1 : Vec F S512x1024 .bf16) (x2 : Vec F S512x1024 .bf16) (x3 : Vec F S512x1024 .bf16) (x4 : Vec F S512x1024 .bf16) (x5 : Vec F S512x1024 .bf16) (x6 : Vec F S512x1024 .f32) (x7 : Vec F S3x1024x1024 .bf16) (x8 : Vec F S1024x1024 .bf16) (x9 : Vec F S1x1024 .f32) (x10 : Vec F S32x1024 .bf16) (x11 : Vec F S32x1 .f32) (xs0 : Vec F S32x1 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0 = sums x0 x1 x2 x3 x4 x5 x6 x7 x8 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0)]
  unfold kernelRun0_B
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1024) hz]
  rfl

theorem out_B_13 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S3x1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S32x1024 .bf16) (harg11 : arg11.IsWhole) (arg12 : Memref sig .tc .vmem S32x1 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S8x512 .i32) (harg15 : arg15.IsWhole) (arg16 : Memref sig .tc .vmem S8x512 .f32) (harg16 : arg16.IsWhole) (arg17 : Memref sig .tc .vmem S32x1 .f32) (harg17 : arg17.IsWhole) (arg18 : Memref sig .tc .vmem S32x1 .f32) (harg18 : arg18.IsWhole) (hc0 : ¬cond0_0 i)
    (x0 : Vec F S512x1024 .bf16) (x1 : Vec F S512x1024 .bf16) (x2 : Vec F S512x1024 .bf16) (x3 : Vec F S512x1024 .bf16) (x4 : Vec F S512x1024 .bf16) (x5 : Vec F S512x1024 .bf16) (x6 : Vec F S512x1024 .f32) (x7 : Vec F S3x1024x1024 .bf16) (x8 : Vec F S1024x1024 .bf16) (x9 : Vec F S1x1024 .f32) (x10 : Vec F S32x1024 .bf16) (x11 : Vec F S32x1 .f32) (xs0 : Vec F S32x1 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0 = normal x0 x1 x2 x3 x4 x5 x6 x7 x8 x9 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0)]
  unfold kernelRun0_B
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1024) hz]
  rfl

end Cert.MergeHighIdeal.Mix

end
-- ==== Proof.MgHighRef.lean ====
/- The merge's reference over the second half of the rows: its run, and its values at an index. -/
module

public import proofs.«01_k».proof.Defs
public import proofs.«01_k».proof.Proof.Gen.MergeHighReferenceIdeal.Run
public import proofs.«01_k».proof.Proof.InRef

@[expose] public section

set_option maxRecDepth 16384

noncomputable section

namespace Cert.MergeHighReferenceIdeal.Mix

open Cert.MergeHighReferenceIdeal Cert.MergeHighReferenceIdeal.Gen
open Cert.InprojReferenceIdeal.Proj (rms)
open Idealize.ShloMosaic Idealize.ShloMosaic.TcCoe
open Idealize.SL.Sem

/-- A row of the half, as a row of the arrays. -/
def row (r : Fin 32768) : Fin 65536 := ⟨32768 + r.val, by omega⟩

/-- The three branches' results, in their order. -/
def stacked (Y0 Y1 Y2 : FVec Ideal S65536x1024 .bf16) : FVec Ideal S65536x3x1024 .bf16 :=
  concatenate S65536x3x1024 1 [⟨S65536x1x1024, broadcastInDim S65536x1x1024 ![0, 2] bcast_S65536x1024_S65536x1x1024_0_2 Y0⟩,
    ⟨S65536x1x1024, broadcastInDim S65536x1x1024 ![0, 2] bcast_S65536x1024_S65536x1x1024_0_2 Y1⟩,
    ⟨S65536x1x1024, broadcastInDim S65536x1x1024 ![0, 2] bcast_S65536x1024_S65536x1x1024_0_2 Y2⟩]
    concatenates_S65536x1x1024_S65536x1x1024_S65536x1x1024_S65536x3x1024_d1

/-- Each through its own matrix. -/
def through (Y : FVec Ideal S65536x3x1024 .bf16) (W : FVec Ideal S3x1024x1024 .f32) : FVec Ideal S32768x3x1024 .f32 :=
  transpose S32768x3x1024 [2, 0, 1] (Host.dotGeneral dot_S3x1024x1024_S32768x3x1024_S3x1024x32768_1_2_2_0_0_1 none W
    (extf .f32 (extractStridedSlice S32768x3x1024 ![32768, 0, 0] Y slices_S65536x3x1024_S32768x3x1024_32768_0_0) bitsLt_bf16_f32)) transposes_S3x1024x32768_S32768x3x1024_2_0_1

/-- The branches' gates. -/
def gates (P : FVec Ideal S65536x10240 .bf16) : FVec Ideal S32768x3x1024 .f32 :=
  Host.divf (broadcastInDim S32768x3x1024 ![] bcast_S_S32768x3x1024 (constant S_ .f32 0x3F800000#32)) (addf (broadcastInDim S32768x3x1024 ![] bcast_S_S32768x3x1024 (constant S_ .f32 0x3F800000#32))
    (Host.exp (Host.negf (shapeCast S32768x3x1024 (extf .f32 (extractStridedSlice S32768x3072 ![32768, 7168] P slices_S65536x10240_S32768x3072_32768_7168) bitsLt_bf16_f32) shapeCasts_S32768x3072_S32768x3x1024))))

def mixed (G B : FVec Ideal S32768x3x1024 .f32) : FVec Ideal S32768x1024 .f32 :=
  Host.reduceAdd (mulf G B) (constant S_ .f32 0x00000000#32) reducesTo_S32768x3x1024_S32768x1024_d1 h_S_

def added (X : FVec Ideal S65536x1024 .f32) (M : FVec Ideal S32768x1024 .f32) (W : FVec Ideal S1024x1024 .f32) : FVec Ideal S32768x1024 .f32 :=
  addf (extractStridedSlice S32768x1024 ![32768, 0] X slices_S65536x1024_S32768x1024_32768_0) (Host.dotGeneral dot_S32768x1024_S1024x1024_S32768x1024_1_0_0_1_n_n none M W)

def normed (X : FVec Ideal S32768x1024 .f32) (G : FVec Ideal S1024 .f32) : FVec Ideal S32768x1024 .bf16 :=
  truncf .bf16 (mulf (mulf X (broadcastInDim S32768x1024 ![0, 1] bcast_S32768x1_S32768x1024_0_1 (Host.rsqrt (addf (Host.divf (broadcastInDim S32768x1 ![0] bcast_S32768_S32768x1_0
      (Host.reduceAdd (mulf X X) (constant S_ .f32 0x00000000#32) reducesTo_S32768x1024_S32768_d1 h_S_)) (broadcastInDim S32768x1 ![] bcast_S_S32768x1 (constant S_ .f32 0x44800000#32)))
      (broadcastInDim S32768x1 ![] bcast_S_S32768x1 (constant S_ .f32 0x3727C5AC#32))))))
    (broadcastInDim S32768x1024 ![0, 1] bcast_S1x1024_S32768x1024_0_1 (broadcastInDim S1x1024 ![1] bcast_S1024_S1x1024_1 G))) bitsLt_bf16_f32

/-- The rows after the merge. -/
def rows (Y0 Y1 Y2 : FVec Ideal S65536x1024 .bf16) (P : FVec Ideal S65536x10240 .bf16) (X : FVec Ideal S65536x1024 .f32) (W : FVec Ideal S3x1024x1024 .f32)
    (Wo : FVec Ideal S1024x1024 .f32) : FVec Ideal S32768x1024 .f32 :=
  added X (mixed (gates P) (through (stacked Y0 Y1 Y2) W)) Wo

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v21) = rows (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v35) = normed (rows (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1, (h c).2.1, (h c).2.2⟩) (Value.run m ρ)

/-! ## At an index -/

section
variable (r : Fin 32768) (k : Fin 1024)

/-- A gated branch at an index. -/
def part (p : EReal) (y : Fin 1024 → EReal) (w : Fin 1024 → EReal) : EReal := Ideal.logistic p * ∑ l : Fin 1024, y l * w l

theorem stacked_0 (Y0 Y1 Y2 : FVec Ideal S65536x1024 .bf16) (s : Fin 65536) : stacked Y0 Y1 Y2 (ix3 s (0 : Fin 3) k) = Y0 (ix2 s k) := by
  pointwise [stacked]
theorem stacked_1 (Y0 Y1 Y2 : FVec Ideal S65536x1024 .bf16) (s : Fin 65536) : stacked Y0 Y1 Y2 (ix3 s (1 : Fin 3) k) = Y1 (ix2 s k) := by
  pointwise [stacked]
theorem stacked_2 (Y0 Y1 Y2 : FVec Ideal S65536x1024 .bf16) (s : Fin 65536) : stacked Y0 Y1 Y2 (ix3 s (2 : Fin 3) k) = Y2 (ix2 s k) := by
  pointwise [stacked]

theorem through_at (Y : FVec Ideal S65536x3x1024 .bf16) (W : FVec Ideal S3x1024x1024 .f32) (n : Fin 3) :
    through Y W (ix3 r n k) = ∑ l : Fin 1024, W (ix3 n l k) * Y (ix3 (row r) n l) := by
  pointwise [through, row]

theorem gates_at (P : FVec Ideal S65536x10240 .bf16) (n : Fin 3) :
    gates P (ix3 r n k) = Ideal.logistic (P (ix2 (row r) (⟨7168 + (n.val * 1024 + k.val), by omega⟩ : Fin 10240))) := by
  unfold Ideal.logistic
  pointwise [gates, row]

theorem mixed_at (G B : FVec Ideal S32768x3x1024 .f32) : mixed G B (ix2 r k) = ∑ n : Fin 3, G (ix3 r n k) * B (ix3 r n k) := by
  pointwise [mixed]

theorem added_at (X : FVec Ideal S65536x1024 .f32) (M : FVec Ideal S32768x1024 .f32) (W : FVec Ideal S1024x1024 .f32) :
    added X M W (ix2 r k) = X (ix2 (row r) k) + ∑ l : Fin 1024, M (ix2 r l) * W (ix2 l k) := by
  pointwise [added, row]

theorem normed_at (X : FVec Ideal S32768x1024 .f32) (G : FVec Ideal S1024 .f32) :
    normed X G (ix2 r k) = rms (fun l => X (ix2 r l)) (fun l => G (ix1 l)) k := by
  unfold rms
  pointwise [normed]

/-- The merge's row, at an index. -/
theorem rows_at (Y0 Y1 Y2 : FVec Ideal S65536x1024 .bf16) (P : FVec Ideal S65536x10240 .bf16) (X : FVec Ideal S65536x1024 .f32) (W : FVec Ideal S3x1024x1024 .f32)
    (Wo : FVec Ideal S1024x1024 .f32) :
    rows Y0 Y1 Y2 P X W Wo (ix2 r k) = X (ix2 (row r) k) + ∑ l : Fin 1024,
      (part (P (ix2 (row r) (⟨7168 + l.val, by omega⟩ : Fin 10240))) (fun a => Y0 (ix2 (row r) a)) (fun a => W (ix3 (0 : Fin 3) a l))
        + part (P (ix2 (row r) (⟨8192 + l.val, by omega⟩ : Fin 10240))) (fun a => Y1 (ix2 (row r) a)) (fun a => W (ix3 (1 : Fin 3) a l))
        + part (P (ix2 (row r) (⟨9216 + l.val, by omega⟩ : Fin 10240))) (fun a => Y2 (ix2 (row r) a)) (fun a => W (ix3 (2 : Fin 3) a l))) * Wo (ix2 l k) := by
  unfold rows
  rw [added_at]
  refine congrArg (X (ix2 (row r) k) + ·) (Finset.sum_congr rfl fun l _ => congrArg (· * Wo (ix2 l k)) ?_)
  rw [mixed_at, Fin.sum_univ_three]
  simp only [gates_at, through_at, stacked_0, stacked_1, stacked_2]
  refine congrArg₂ (· + ·) (congrArg₂ (· + ·) ?_ ?_) ?_
  all_goals
    unfold part
    refine congrArg₂ (· * ·) (congrArg (fun j => Ideal.logistic (P (ix2 (row r) j))) (Fin.ext ?_)) (Finset.sum_congr rfl fun a _ => mul_comm _ _)
  · show 7168 + (0 * 1024 + l.val) = 7168 + l.val; omega
  · show 7168 + (1 * 1024 + l.val) = 8192 + l.val; omega
  · show 7168 + (2 * 1024 + l.val) = 9216 + l.val; omega

end

end Cert.MergeHighReferenceIdeal.Mix

end
-- ==== Proof.MgHighValue.lean ====
/- The merge's blocks at an index, over the second half of the rows, and the arrays the program leaves. -/
module

public import proofs.«01_k».proof.Proof.MgHighOut
public import proofs.«01_k».proof.Proof.MgHighRef
public import Idealize.ShloMosaic.Lib.Pipeline.ValueKit

@[expose] public section

set_option maxRecDepth 16384

noncomputable section

namespace Cert.MergeHighIdeal.Mix

open Cert.MergeHighIdeal Cert.MergeHighIdeal.Gen
open Cert.InprojReferenceIdeal.Proj (rms)
open Cert.MergeHighReferenceIdeal.Mix (part row)
open Idealize.ShloMosaic Idealize.ShloMosaic.TcCoe
open Idealize.SL.Sem

/-! ## The body's values at an index -/

section
variable (j : Fin 512) (k : Fin 1024)

theorem slab0_at (x : Vec Ideal S3x1024x1024 .bf16) (a l : Fin 1024) : slab0 x (ix3 (0 : Fin 1) a l) = x (ix3 (0 : Fin 3) a l) :=
  View.ld_unit_apply_of x _ _ _ _ _ fun b => match b with
    | ⟨0, _⟩ => rfl
    | ⟨1, _⟩ => (Nat.zero_add _).symm
    | ⟨2, _⟩ => (Nat.zero_add _).symm
theorem slab1_at (x : Vec Ideal S3x1024x1024 .bf16) (a l : Fin 1024) : slab1 x (ix3 (0 : Fin 1) a l) = x (ix3 (1 : Fin 3) a l) :=
  View.ld_unit_apply_of x _ _ _ _ _ fun b => match b with
    | ⟨0, _⟩ => rfl
    | ⟨1, _⟩ => (Nat.zero_add _).symm
    | ⟨2, _⟩ => (Nat.zero_add _).symm
theorem slab2_at (x : Vec Ideal S3x1024x1024 .bf16) (a l : Fin 1024) : slab2 x (ix3 (0 : Fin 1) a l) = x (ix3 (2 : Fin 3) a l) :=
  View.ld_unit_apply_of x _ _ _ _ _ fun b => match b with
    | ⟨0, _⟩ => rfl
    | ⟨1, _⟩ => (Nat.zero_add _).symm
    | ⟨2, _⟩ => (Nat.zero_add _).symm

theorem pay3_at (y0 y1 y2 g0 g1 g2 : Vec Ideal S512x1024 .bf16) (w0 w1 w2 : Vec Ideal S1x1024x1024 .bf16) :
    k0_pay3 y0 w0 g0 y1 w1 g1 y2 w2 g2 (ix2 j k)
      = part (g0 (ix2 j k)) (fun a => y0 (ix2 j a)) (fun a => w0 (ix3 (0 : Fin 1) a k))
        + part (g1 (ix2 j k)) (fun a => y1 (ix2 j a)) (fun a => w1 (ix3 (0 : Fin 1) a k))
        + part (g2 (ix2 j k)) (fun a => y2 (ix2 j a)) (fun a => w2 (ix3 (0 : Fin 1) a k)) := by
  unfold part
  pointwise [k0_pay3]

theorem pay5_at (x : Vec Ideal S512x1024 .f32) (y : FVec Ideal S512x1024 .bf16) (w : Vec Ideal S1024x1024 .bf16) :
    k0_pay5 x y (k0_pay4 w) (constant S512x1024 .f32 0x00000000#32) (ix2 j k) = x (ix2 j k) + ∑ l : Fin 1024, y (ix2 j l) * w (ix2 l k) := by
  pointwise [k0_pay5, k0_pay4]

theorem pay8_at (x : Vec Ideal S512x1024 .f32) (y : FVec Ideal S512x1024 .bf16) (w : FVec Ideal S1024x1024 .bf16) (z : FVec Ideal S512x1024 .f32) (g : Vec Ideal S1x1024 .f32) :
    k0_pay8 x y w z g (ix2 j k) = rms (fun l => k0_pay5 x y w z (ix2 j l)) (fun l => g (ix2 (0 : Fin 1) l)) k := by
  unfold rms
  pointwise [k0_pay8, k0_pay7]
end

/-! ## The host's values -/

variable (m : (ℓ : Loc nD τ sig) → Buf (Elt Ideal) ℓ) (c : Dev nD) (t : Fin cfg0.N)

abbrev argY0 : FVec Ideal S65536x1024 .bf16 := m ((c : Thread nD τ).loc main_arg0)
abbrev argY1 : FVec Ideal S65536x1024 .bf16 := m ((c : Thread nD τ).loc main_arg1)
abbrev argY2 : FVec Ideal S65536x1024 .bf16 := m ((c : Thread nD τ).loc main_arg2)
abbrev argP : FVec Ideal S65536x10240 .bf16 := m ((c : Thread nD τ).loc main_arg3)
abbrev argX : FVec Ideal S65536x1024 .f32 := m ((c : Thread nD τ).loc main_arg4)
abbrev argW : FVec Ideal S3x1024x1024 .f32 := m ((c : Thread nD τ).loc main_arg5)
abbrev argO : FVec Ideal S1024x1024 .f32 := m ((c : Thread nD τ).loc main_arg6)
abbrev argG : FVec Ideal S1024 .f32 := m ((c : Thread nD τ).loc main_arg7)

theorem V_w : V m c main_v0 = truncf .bf16 (argW m c) bitsLt_bf16_f32 := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results <;> rfl

theorem V_o : V m c main_v1 = truncf .bf16 (argO m c) bitsLt_bf16_f32 := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results <;> rfl

theorem V_g : V m c main_v2 = shapeCast S1x1024 (argG m c) shapeCasts_S1024_S1x1024 := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results <;> rfl

theorem gain_at (g : FVec Ideal S1024 .f32) (h) (k : Fin 1024) : shapeCast S1x1024 g h (ix2 (0 : Fin 1) k) = g (ix1 k) := by
  pointwise

/-! ## Blocks at an index -/

theorem points : cfg0.N = 64 := N_0

theorem index_0 : ∀ t : Fin grid0.N, win0_0.index t = ![t.val + 64, 0] := by decide +kernel
theorem index_1 : ∀ t : Fin grid0.N, win0_1.index t = ![t.val + 64, 0] := by decide +kernel
theorem index_2 : ∀ t : Fin grid0.N, win0_2.index t = ![t.val + 64, 0] := by decide +kernel
theorem index_3 : ∀ t : Fin grid0.N, win0_3.index t = ![t.val + 64, 7] := by decide +kernel
theorem index_4 : ∀ t : Fin grid0.N, win0_4.index t = ![t.val + 64, 8] := by decide +kernel
theorem index_5 : ∀ t : Fin grid0.N, win0_5.index t = ![t.val + 64, 9] := by decide +kernel
theorem index_6 : ∀ t : Fin grid0.N, win0_6.index t = ![t.val + 64, 0] := by decide +kernel
theorem index_12 : ∀ t : Fin grid0.N, win0_12.index t = ![t.val, 0] := by decide +kernel
theorem index_13 : ∀ t : Fin grid0.N, win0_13.index t = ![t.val, 0] := by decide +kernel

section
variable (j : Fin 512) (r : Fin 32768) (hr : r.val = t.val * 512 + j.val)
include hr

theorem row_at : (t.val + 64) * 512 + j.val = (row r).val := by
  refine Eq.trans ?_ (show 32768 + r.val = (row r).val from rfl)
  omega

theorem y0_at (k : Fin 1024) : iblk m c 0 t (ix2 j k) = argY0 m c (ix2 (row r) k) := by
  refine Eq.trans (congrArg (V m c main_arg0) (funext fun b => Fin.ext ?_)) (congrFun (V_main_arg0 m c) _)
  refine ((cfg0.win 0).rect_emb_val t (ix2 j k) b rfl).trans ?_
  rw [index_0]
  match b with
  | ⟨0, _⟩ => exact row_at t j r hr
  | ⟨1, _⟩ => show 0 * 1024 + k.val = k.val; omega

theorem y1_at (k : Fin 1024) : iblk m c 1 t (ix2 j k) = argY1 m c (ix2 (row r) k) := by
  refine Eq.trans (congrArg (V m c main_arg1) (funext fun b => Fin.ext ?_)) (congrFun (V_main_arg1 m c) _)
  refine ((cfg0.win 1).rect_emb_val t (ix2 j k) b rfl).trans ?_
  rw [index_1]
  match b with
  | ⟨0, _⟩ => exact row_at t j r hr
  | ⟨1, _⟩ => show 0 * 1024 + k.val = k.val; omega

theorem y2_at (k : Fin 1024) : iblk m c 2 t (ix2 j k) = argY2 m c (ix2 (row r) k) := by
  refine Eq.trans (congrArg (V m c main_arg2) (funext fun b => Fin.ext ?_)) (congrFun (V_main_arg2 m c) _)
  refine ((cfg0.win 2).rect_emb_val t (ix2 j k) b rfl).trans ?_
  rw [index_2]
  match b with
  | ⟨0, _⟩ => exact row_at t j r hr
  | ⟨1, _⟩ => show 0 * 1024 + k.val = k.val; omega

theorem x_at (k : Fin 1024) : iblk m c 6 t (ix2 j k) = argX m c (ix2 (row r) k) := by
  refine Eq.trans (congrArg (V m c main_arg4) (funext fun b => Fin.ext ?_)) (congrFun (V_main_arg4 m c) _)
  refine ((cfg0.win 6).rect_emb_val t (ix2 j k) b rfl).trans ?_
  rw [index_6]
  match b with
  | ⟨0, _⟩ => exact row_at t j r hr
  | ⟨1, _⟩ => show 0 * 1024 + k.val = k.val; omega

theorem p0_at (k : Fin 1024) : iblk m c 3 t (ix2 j k) = argP m c (ix2 (row r) (⟨7168 + k.val, by omega⟩ : Fin 10240)) := by
  refine Eq.trans (congrArg (V m c main_arg3) (funext fun b => Fin.ext ?_)) (congrFun (V_main_arg3 m c) _)
  refine ((cfg0.win 3).rect_emb_val t (ix2 j k) b rfl).trans ?_
  rw [index_3]
  match b with
  | ⟨0, _⟩ => exact row_at t j r hr
  | ⟨1, _⟩ => show 7 * 1024 + k.val = 7168 + k.val; omega

theorem p1_at (k : Fin 1024) : iblk m c 4 t (ix2 j k) = argP m c (ix2 (row r) (⟨8192 + k.val, by omega⟩ : Fin 10240)) := by
  refine Eq.trans (congrArg (V m c main_arg3) (funext fun b => Fin.ext ?_)) (congrFun (V_main_arg3 m c) _)
  refine ((cfg0.win 4).rect_emb_val t (ix2 j k) b rfl).trans ?_
  rw [index_4]
  match b with
  | ⟨0, _⟩ => exact row_at t j r hr
  | ⟨1, _⟩ => show 8 * 1024 + k.val = 8192 + k.val; omega

theorem p2_at (k : Fin 1024) : iblk m c 5 t (ix2 j k) = argP m c (ix2 (row r) (⟨9216 + k.val, by omega⟩ : Fin 10240)) := by
  refine Eq.trans (congrArg (V m c main_arg3) (funext fun b => Fin.ext ?_)) (congrFun (V_main_arg3 m c) _)
  refine ((cfg0.win 5).rect_emb_val t (ix2 j k) b rfl).trans ?_
  rw [index_5]
  match b with
  | ⟨0, _⟩ => exact row_at t j r hr
  | ⟨1, _⟩ => show 9 * 1024 + k.val = 9216 + k.val; omega
end

theorem w_at (n : Fin 3) (a k : Fin 1024) : iblk m c 7 t (ix3 n a k) = argW m c (ix3 n a k) := by
  refine Eq.trans (congrArg (V m c main_v0) (funext fun b => Fin.ext ?_)) (congrFun (V_w m c) (ix3 n a k))
  refine ((cfg0.win 7).rect_emb_val t (ix3 n a k) b rfl).trans ?_
  match b with
  | ⟨0, _⟩ => show 0 * 3 + n.val = n.val; omega
  | ⟨1, _⟩ => show 0 * 1024 + a.val = a.val; omega
  | ⟨2, _⟩ => show 0 * 1024 + k.val = k.val; omega

theorem o_at (a k : Fin 1024) : iblk m c 8 t (ix2 a k) = argO m c (ix2 a k) := by
  refine Eq.trans (congrArg (V m c main_v1) (funext fun b => Fin.ext ?_)) (congrFun (V_o m c) (ix2 a k))
  refine ((cfg0.win 8).rect_emb_val t (ix2 a k) b rfl).trans ?_
  match b with
  | ⟨0, _⟩ => show 0 * 1024 + a.val = a.val; omega
  | ⟨1, _⟩ => show 0 * 1024 + k.val = k.val; omega

theorem g_at (k : Fin 1024) : iblk m c 9 t (ix2 (0 : Fin 1) k) = argG m c (ix1 k) := by
  refine Eq.trans (congrArg (V m c main_v2) (funext fun b => Fin.ext ?_)) ((congrFun (V_g m c) (ix2 (0 : Fin 1) k)).trans (gain_at _ _ k))
  refine ((cfg0.win 9).rect_emb_val t (ix2 (0 : Fin 1) k) b rfl).trans ?_
  match b with
  | ⟨0, _⟩ => rfl
  | ⟨1, _⟩ => show 0 * 1024 + k.val = k.val; omega

/-! ## What a point leaves -/

abbrev sumsAt : Vec Ideal S512x1024 .f32 :=
  sums (iblk m c 0 t) (iblk m c 1 t) (iblk m c 2 t) (iblk m c 3 t) (iblk m c 4 t) (iblk m c 5 t) (iblk m c 6 t) (iblk m c 7 t) (iblk m c 8 t)
abbrev normalAt : Vec Ideal S512x1024 .bf16 :=
  normal (iblk m c 0 t) (iblk m c 1 t) (iblk m c 2 t) (iblk m c 3 t) (iblk m c 4 t) (iblk m c 5 t) (iblk m c 6 t) (iblk m c 7 t) (iblk m c 8 t) (iblk m c 9 t)

theorem flushed_12 : (dats m 0 c).flushed 12 t = (cfg0.win 12).cut (grid0.coords t) (sumsAt m c t) := by
  by_cases h : t.val % 64 = 0
  · rw [Value.flushed12_A m c t h, out_A_12]
  · rw [Value.flushed12_B m c t h, out_B_12]

theorem flushed_13 : (dats m 0 c).flushed 13 t = (cfg0.win 13).cut (grid0.coords t) (normalAt m c t) := by
  by_cases h : t.val % 64 = 0
  · rw [Value.flushed13_A m c t h, out_A_13]
  · rw [Value.flushed13_B m c t h, out_B_13]

/-- The reference's arrays, of this program's arguments. -/
abbrev rowsArr : FVec Ideal S32768x1024 .f32 :=
  Cert.MergeHighReferenceIdeal.Mix.rows (argY0 m c) (argY1 m c) (argY2 m c) (argP m c) (argX m c) (argW m c) (argO m c)
abbrev normArr : FVec Ideal S32768x1024 .bf16 := Cert.MergeHighReferenceIdeal.Mix.normed (rowsArr m c) (argG m c)

section
variable (j : Fin 512) (r : Fin 32768) (hr : r.val = t.val * 512 + j.val) (k : Fin 1024)
include hr

theorem sums_pt : sumsAt m c t (ix2 j k) = rowsArr m c (ix2 r k) := by
  unfold sumsAt sums rowsArr
  rw [pay5_at, Cert.MergeHighReferenceIdeal.Mix.rows_at]
  unfold mid
  simp only [pay3_at, slab0_at, slab1_at, slab2_at, y0_at m c t j r hr, y1_at m c t j r hr, y2_at m c t j r hr, x_at m c t j r hr, w_at, o_at]
  simp only [p0_at m c t j r hr, p1_at m c t j r hr, p2_at m c t j r hr]

theorem normal_pt : normalAt m c t (ix2 j k) = normArr m c (ix2 r k) := by
  unfold normalAt normal normArr
  rw [pay8_at, Cert.MergeHighReferenceIdeal.Mix.normed_at]
  refine congrArg₂ (fun x g => rms x g k) (funext fun l => ?_) (funext fun l => g_at m c t l)
  exact sums_pt m c t j r hr l
end

/-! ## The arrays -/

def place12 (y : S512x1024.Idx) : S32768x1024.Idx := ((cfg0.win 12).rect t).emb y

theorem place12_val (y : S512x1024.Idx) : (place12 t y 0).val = t.val * 512 + (y 0).val ∧ (place12 t y 1).val = (y 1).val := by
  have h0 := (cfg0.win 12).rect_emb_val t y (0 : Fin 2) rfl
  have h1 := (cfg0.win 12).rect_emb_val t y (1 : Fin 2) rfl
  rw [index_12] at h0 h1
  refine ⟨h0, h1.trans ?_⟩
  show 0 * 1024 + (y 1).val = (y 1).val; omega

theorem left_12 : (dats m 0 c).flushed 12 t = ((cfg0.win 12).blk t).view.read (Elt Ideal) (rowsArr m c) := by
  rw [flushed_12]
  refine funext fun (y : S512x1024.Idx) => ?_
  obtain ⟨e0, e1⟩ := place12_val t y
  obtain ⟨j, k, rfl⟩ : ∃ (j : Fin 512) (k : Fin 1024), y = ix2 j k := ⟨y 0, y 1, funext fun x => match x with | ⟨0, _⟩ => rfl | ⟨1, _⟩ => rfl⟩
  refine (sums_pt m c t j (place12 t (ix2 j k) 0) e0 k).trans ?_
  show _ = rowsArr m c (place12 t (ix2 j k))
  refine congrArg (rowsArr m c) (funext fun x => Fin.ext ?_)
  match x with
  | ⟨0, _⟩ => rfl
  | ⟨1, _⟩ => exact e1.symm

theorem flush_12 : ∀ t : Fin grid0.N, win0_12.flush t = true := by decide +kernel

theorem arr_12 : (dats m 0 c).arrAt 12 cfg0.N = rowsArr m c := by
  refine funext fun (i : S32768x1024.Idx) => ?_
  have h0 : (i 0).val < 32768 := (i 0).isLt
  have hu : (i 0).val / 512 < cfg0.N := by rw [points]; omega
  obtain ⟨u, hu⟩ : ∃ u : Fin cfg0.N, u.val = (i 0).val / 512 := ⟨⟨_, hu⟩, rfl⟩
  have e : place12 u (ix2 (⟨(i 0).val % 512, Nat.mod_lt _ (by decide)⟩ : Fin 512) (i 1)) = i := by
    obtain ⟨e0, e1⟩ := place12_val u (ix2 (⟨(i 0).val % 512, Nat.mod_lt _ (by decide)⟩ : Fin 512) (i 1))
    refine funext fun a => Fin.ext ?_
    match a with
    | ⟨0, _⟩ =>
      refine e0.trans ?_
      show u.val * 512 + (i 0).val % 512 = (i 0).val
      omega
    | ⟨1, _⟩ => exact e1
  have hm : place12 u _ ∈ ((cfg0.win 12).blk u).view.set := Finset.mem_map.mpr ⟨ix2 (⟨(i 0).val % 512, Nat.mod_lt _ (by decide)⟩ : Fin 512) (i 1), Finset.mem_univ _, rfl⟩
  rw [e] at hm
  exact (dats m 0 c).arrAt_apply_of_mem 12 (rowsArr m c) (fun t _ => left_12 m c t) _ u i u.isLt (flush_12 u) hm

def place13 (y : S512x1024.Idx) : S32768x1024.Idx := ((cfg0.win 13).rect t).emb y

theorem place13_val (y : S512x1024.Idx) : (place13 t y 0).val = t.val * 512 + (y 0).val ∧ (place13 t y 1).val = (y 1).val := by
  have h0 := (cfg0.win 13).rect_emb_val t y (0 : Fin 2) rfl
  have h1 := (cfg0.win 13).rect_emb_val t y (1 : Fin 2) rfl
  rw [index_13] at h0 h1
  refine ⟨h0, h1.trans ?_⟩
  show 0 * 1024 + (y 1).val = (y 1).val; omega

theorem left_13 : (dats m 0 c).flushed 13 t = ((cfg0.win 13).blk t).view.read (Elt Ideal) (normArr m c) := by
  rw [flushed_13]
  refine funext fun (y : S512x1024.Idx) => ?_
  obtain ⟨e0, e1⟩ := place13_val t y
  obtain ⟨j, k, rfl⟩ : ∃ (j : Fin 512) (k : Fin 1024), y = ix2 j k := ⟨y 0, y 1, funext fun x => match x with | ⟨0, _⟩ => rfl | ⟨1, _⟩ => rfl⟩
  refine (normal_pt m c t j (place13 t (ix2 j k) 0) e0 k).trans ?_
  show _ = normArr m c (place13 t (ix2 j k))
  refine congrArg (normArr m c) (funext fun x => Fin.ext ?_)
  match x with
  | ⟨0, _⟩ => rfl
  | ⟨1, _⟩ => exact e1.symm

theorem flush_13 : ∀ t : Fin grid0.N, win0_13.flush t = true := by decide +kernel

theorem arr_13 : (dats m 0 c).arrAt 13 cfg0.N = normArr m c := by
  refine funext fun (i : S32768x1024.Idx) => ?_
  have h0 : (i 0).val < 32768 := (i 0).isLt
  have hu : (i 0).val / 512 < cfg0.N := by rw [points]; omega
  obtain ⟨u, hu⟩ : ∃ u : Fin cfg0.N, u.val = (i 0).val / 512 := ⟨⟨_, hu⟩, rfl⟩
  have e : place13 u (ix2 (⟨(i 0).val % 512, Nat.mod_lt _ (by decide)⟩ : Fin 512) (i 1)) = i := by
    obtain ⟨e0, e1⟩ := place13_val u (ix2 (⟨(i 0).val % 512, Nat.mod_lt _ (by decide)⟩ : Fin 512) (i 1))
    refine funext fun a => Fin.ext ?_
    match a with
    | ⟨0, _⟩ =>
      refine e0.trans ?_
      show u.val * 512 + (i 0).val % 512 = (i 0).val
      omega
    | ⟨1, _⟩ => exact e1
  have hm : place13 u _ ∈ ((cfg0.win 13).blk u).view.set := Finset.mem_map.mpr ⟨ix2 (⟨(i 0).val % 512, Nat.mod_lt _ (by decide)⟩ : Fin 512) (i 1), Finset.mem_univ _, rfl⟩
  rw [e] at hm
  exact (dats m 0 c).arrAt_apply_of_mem 13 (normArr m c) (fun t _ => left_13 m c t) _ u i u.isLt (flush_13 u) hm

theorem run (ρ : Dev nD → PrngReg) : θ_run defs (onTc (τ := τ) (main (F := Ideal))) ⟨m, fun _ => 0, ρ⟩ fun r => ∀ c : Dev nD,
    r.2.mem ((c : Thread nD τ).loc main_v6_0) = rowsArr m c ∧ r.2.mem ((c : Thread nD τ).loc main_v6_1) = normArr m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9) :=
  (θ_run defs _ _).mono (fun _ h c => ⟨(h c).1.trans (arr_12 m c), (h c).2.1.trans (arr_13 m c), (h c).2.2.2.2.2⟩) (Value.run_blocks m ρ)

end Cert.MergeHighIdeal.Mix

end
-- ==== Proof.lean ====
/- The claims of the forgetting attention, of the experts, of the input projection and of the merge. -/
module

public import proofs.«01_k».proof.Defs
public import proofs.«01_k».proof.Proof.Value
public import proofs.«01_k».proof.Proof.Gen.Kernel.Frame
public import proofs.«01_k».proof.Proof.Gen.Pre_finite
public import proofs.«01_k».proof.Proof.ExpSame
public import proofs.«01_k».proof.Proof.ExpEq
public import proofs.«01_k».proof.Proof.InSame
public import proofs.«01_k».proof.Proof.InValue
public import proofs.«01_k».proof.Proof.Gen.MergeLow.Frame
public import proofs.«01_k».proof.Proof.MgLowValue
public import proofs.«01_k».proof.Proof.Gen.MergeHigh.Frame
public import proofs.«01_k».proof.Proof.MgHighValue
public import Idealize.ShloMosaic.Lib.Quiescent

@[expose] public section

set_option maxRecDepth 16384

noncomputable section

namespace Cert.Proof

open Idealize.ShloMosaic Idealize.ShloMosaic.TcCoe
open Idealize.SL.Sem
open Cert.KernelIdeal.Fox (Finite argX argY attRows)

theorem inf_bits : Ideal.ofBits .f32 0x7F800000#32 = (⊤ : EReal) := by
  simp [Ideal.ofBits, Ideal.ieee]

/-- A number whose absolute value is less than infinity is neither infinity. -/
theorem fin_of_lt {x : EReal} (h : BitVec.ofBool (decide (FloatOps.absf (F := Ideal) (φ := .f32) x < Ideal.ofBits .f32 0x7F800000#32)) = 1#1) : x ≠ ⊤ ∧ x ≠ ⊥ := by
  have h : ¬ (max x (-x) = ⊤) := fun e => by
    rw [inf_bits, show FloatOps.absf (F := Ideal) (φ := .f32) x = max x (-x) from rfl, e] at h
    simp at h
  constructor <;> rintro rfl <;> simp at h

theorem finite_of_pre (X : FVec Ideal Cert.Pre_finite.S65536x10240 .bf16) (Y : FVec Ideal Cert.Pre_finite.S65536x128 .f32)
    (hx : (Cert.Pre_finite.fn (F := Ideal) X Y).1 = fun _ => 1#1) (hy : (Cert.Pre_finite.fn (F := Ideal) X Y).2 = fun _ => 1#1) : Finite X Y where
  x r e h0 h1 := by
    have h := congrFun hx (ix2 r ⟨e.val - 3072, by omega⟩)
    pointwise [Cert.Pre_finite.fn] at h
    have e' : (⟨3072 + (e.val - 3072), by omega⟩ : Fin 10240) = e := Fin.ext (by dsimp only; omega)
    exact fin_of_lt (e' ▸ h)
  y r l := by
    have h := congrFun hy (ix2 r l)
    pointwise [Cert.Pre_finite.fn] at h
    exact fin_of_lt h

theorem finite_args {m : (ℓ : Loc Cert.KernelIdeal.nD Cert.KernelIdeal.τ Cert.KernelIdeal.sig) → Buf (Elt Ideal) ℓ}
    (h : Cert.Pre_KernelIdeal_finite (hPre_finite := Cert.Pre_finite.Gen.facts) m) (c : Dev Cert.KernelIdeal.nD) : Finite (argX m c) (argY m c) :=
  finite_of_pre _ _ (h c).1 (h c).2

/-! ## The experts -/

attribute [local instance] Cert.Experts.Gen.facts Cert.ExpertsIdeal.Gen.facts Cert.ExpertsReferenceIdeal.Gen.facts Cert.Pre_tiles.Gen.facts Cert.On_rows_held.Gen.facts

open Cert.ExpertsIdeal.Moe (Good run_main good_of_pre tiles_of_pre)

theorem experts_quiet : Cert.quiescent_Experts := fun m ρ h => by
  have hT := good_of_pre (F := Bits) m (tiles_of_pre _ _ _ _ _ _ _ (h 0).1 (h 0).2)
  rw [Cert.ExpertsIdeal.Moe.run_same]
  exact (θ_run Cert.ExpertsIdeal.defs _ _).mono (fun _ h => ⟨fun c => (h.1 c).2, h.2⟩) (run_main (F := Bits) m ρ hT)

theorem experts_good {m : (ℓ : Loc Cert.ExpertsIdeal.nD Cert.ExpertsIdeal.τ Cert.ExpertsIdeal.sig) → Buf (Elt Ideal) ℓ} (h : Cert.Pre_ExpertsIdeal m) : Good m :=
  good_of_pre m (tiles_of_pre _ _ _ _ _ _ _ (h 0).1 (h 0).2)

theorem experts_ideal_quiet : Cert.quiescent_ExpertsIdeal := fun m ρ h =>
  (θ_run Cert.ExpertsIdeal.defs _ _).mono (fun _ h => ⟨fun c => (h.1 c).2, h.2⟩) (run_main m ρ (experts_good h))

theorem experts_reference_quiet : Cert.quiescent_ExpertsReferenceIdeal := fun m ρ _ =>
  (θ_run Cert.ExpertsReferenceIdeal.defs _ _).mono (fun r h => ⟨fun c => (h c).2, sem_eq_zero_of_no_sems (by decide) r.2⟩) (Cert.ExpertsReferenceIdeal.Moe.run m ρ)

theorem experts_reference_quiet_tiles : Cert.quiescent_ExpertsReferenceIdeal_pre_tiles := fun m ρ _ => experts_reference_quiet m ρ trivial

theorem experts_equal : Cert.algebraic_ExpertsIdeal_ExpertsReferenceIdeal_on_rows_held := fun m g m' g' hpre hagree => by
  have hT := experts_good hpre
  refine ⟨fun c => Cert.ExpertsReferenceIdeal.Moe.ref (m ((c.tc : Thread Cert.ExpertsIdeal.nD Cert.ExpertsIdeal.τ).loc Cert.ExpertsIdeal.main_arg0))
      (Cert.ExpertsIdeal.Moe.argX m c) (Cert.ExpertsIdeal.Moe.argW m c) (Cert.ExpertsIdeal.Moe.argB m c) (Cert.ExpertsIdeal.Moe.argW' m c) (Cert.ExpertsIdeal.Moe.argB' m c),
    (θ_run Cert.ExpertsIdeal.defs _ _).mono (fun r h c => ⟨fun i hi => ?_, (h.1 c).2⟩) (run_main m g hT),
    (θ_run Cert.ExpertsReferenceIdeal.defs _ _).mono (fun r h c => ⟨fun i _ => ?_, (h c).2⟩) (Cert.ExpertsReferenceIdeal.Moe.run m' g')⟩
  · obtain rfl : c = 0 := Subsingleton.elim _ _
    obtain ⟨a, d, rfl⟩ : ∃ (a : Fin 147456) (d : Fin 1024), i = ix2 a d := ⟨i 0, i 1, funext fun x => match x with | ⟨0, _⟩ => rfl | ⟨1, _⟩ => rfl⟩
    have hN : Cert.ExpertsIdeal.Moe.live m = BitVec.toNat (w := 32) (m (((0 : Dev Cert.ExpertsIdeal.nD).tc : Thread Cert.ExpertsIdeal.nD Cert.ExpertsIdeal.τ).loc Cert.ExpertsIdeal.main_arg1) (ix1 (0 : Fin 1))) :=
      (congrArg BitVec.toNat (Cert.ExpertsIdeal.Moe.wordTiles_eq (F := Ideal) _)).trans (congrArg (BitVec.toNat (w := 32)) (congrFun (Cert.ExpertsIdeal.Moe.tbl_1 m) (ix1 (0 : Fin 1))))
    refine (congrFun (h.1 0).1 _).trans (Cert.ExpertsIdeal.Moe.rows_eq m hT 0 a d (hN ▸ ?_))
    exact Cert.ExpertsIdeal.Moe.row_of_on _ _ _ _ _ _ _ (hN ▸ hT.most) a d hi
  · obtain ⟨e0, _, e2, e3, e4, e5, e6⟩ := hagree c
    refine (congrFun (h c).1 i).trans ?_
    rw [e0, e2, e3, e4, e5, e6]

/-! ## The input projection -/

attribute [local instance] Cert.Inproj.Gen.facts Cert.InprojIdeal.Gen.facts Cert.InprojReferenceIdeal.Gen.facts

theorem inproj_quiet : Cert.quiescent_Inproj := fun m ρ _ => by
  rw [Cert.InprojIdeal.Proj.run_same]
  exact (θ_run Cert.InprojIdeal.defs _ _).mono (fun _ h => ⟨fun c => (h.1 c).2.2, h.2⟩) (Cert.InprojIdeal.Proj.run_main (F := Bits) m ρ)

theorem inproj_ideal_quiet : Cert.quiescent_InprojIdeal := fun m ρ _ =>
  (θ_run Cert.InprojIdeal.defs _ _).mono (fun _ h => ⟨fun c => (h.1 c).2.2, h.2⟩) (Cert.InprojIdeal.Proj.run_main m ρ)

theorem inproj_reference_quiet : Cert.quiescent_InprojReferenceIdeal := fun m ρ _ =>
  (θ_run Cert.InprojReferenceIdeal.defs _ _).mono (fun r h => ⟨fun c => (h c).2.2, sem_eq_zero_of_no_sems (by decide) r.2⟩) (Cert.InprojReferenceIdeal.Proj.run m ρ)

theorem inproj_equal : Cert.algebraic_InprojIdeal_InprojReferenceIdeal := fun m g m' g' _ hagree => by
  refine ⟨fun c => Cert.InprojIdeal.Proj.kept m c, fun c => Cert.InprojIdeal.Proj.gateArr m c,
    (θ_run Cert.InprojIdeal.defs _ _).mono (fun r h c => ⟨(h.1 c).1.trans (Cert.InprojIdeal.Proj.arr_4 m c), (h.1 c).2.1.trans (Cert.InprojIdeal.Proj.arr_5 m c), (h.1 c).2.2⟩)
      (Cert.InprojIdeal.Proj.run_main m g),
    (θ_run Cert.InprojReferenceIdeal.defs _ _).mono (fun r h c => ⟨(h c).1.trans ?_, (h c).2.1.trans ?_, (h c).2.2⟩) (Cert.InprojReferenceIdeal.Proj.run m' g')⟩
  · rw [(hagree c).1, (hagree c).2.1, (hagree c).2.2]
    exact (Cert.InprojIdeal.Proj.kept_eq m c).symm
  · rw [(hagree c).1, (hagree c).2.1, (hagree c).2.2]
    exact (Cert.InprojIdeal.Proj.gateArr_eq m c).symm

/-! ## The merge, over the first half of the rows -/

attribute [local instance] Cert.MergeLow.Gen.facts Cert.MergeLowIdeal.Gen.facts Cert.MergeLowReferenceIdeal.Gen.facts

theorem merge_low_reference_quiet : Cert.quiescent_MergeLowReferenceIdeal := fun m ρ _ =>
  (θ_run Cert.MergeLowReferenceIdeal.defs _ _).mono (fun r h => ⟨fun c => (h c).2.2, sem_eq_zero_of_no_sems (by decide) r.2⟩) (Cert.MergeLowReferenceIdeal.Mix.run m ρ)

theorem merge_low_equal : Cert.algebraic_MergeLowIdeal_MergeLowReferenceIdeal := fun m g m' g' _ hagree => by
  refine ⟨fun c => Cert.MergeLowIdeal.Mix.rowsArr m c, fun c => Cert.MergeLowIdeal.Mix.normArr m c, Cert.MergeLowIdeal.Mix.run m g,
    (θ_run Cert.MergeLowReferenceIdeal.defs _ _).mono (fun r h c => ⟨(h c).1.trans ?_, (h c).2.1.trans ?_, (h c).2.2⟩) (Cert.MergeLowReferenceIdeal.Mix.run m' g')⟩
  all_goals
    obtain ⟨e0, e1, e2, e3, e4, e5, e6, e7, _⟩ := hagree c
    first | rw [e0, e1, e2, e3, e4, e5, e6, e7] | rw [e0, e1, e2, e3, e4, e5, e6]

/-! ## The merge, over the second half of the rows -/

attribute [local instance] Cert.MergeHigh.Gen.facts Cert.MergeHighIdeal.Gen.facts Cert.MergeHighReferenceIdeal.Gen.facts

theorem merge_high_reference_quiet : Cert.quiescent_MergeHighReferenceIdeal := fun m ρ _ =>
  (θ_run Cert.MergeHighReferenceIdeal.defs _ _).mono (fun r h => ⟨fun c => (h c).2.2, sem_eq_zero_of_no_sems (by decide) r.2⟩) (Cert.MergeHighReferenceIdeal.Mix.run m ρ)

theorem merge_high_equal : Cert.algebraic_MergeHighIdeal_MergeHighReferenceIdeal := fun m g m' g' _ hagree => by
  refine ⟨fun c => Cert.MergeHighIdeal.Mix.rowsArr m c, fun c => Cert.MergeHighIdeal.Mix.normArr m c, Cert.MergeHighIdeal.Mix.run m g,
    (θ_run Cert.MergeHighReferenceIdeal.defs _ _).mono (fun r h c => ⟨(h c).1.trans ?_, (h c).2.1.trans ?_, (h c).2.2⟩) (Cert.MergeHighReferenceIdeal.Mix.run m' g')⟩
  all_goals
    obtain ⟨e0, e1, e2, e3, e4, e5, e6, e7, _⟩ := hagree c
    first | rw [e0, e1, e2, e3, e4, e5, e6, e7] | rw [e0, e1, e2, e3, e4, e5, e6]

theorem claim : Cert.Claim := by
  refine ⟨Cert.Kernel.Gen.facts, Cert.KernelIdeal.Gen.facts, Cert.ReferenceIdeal.Gen.facts, Cert.Experts.Gen.facts, Cert.ExpertsIdeal.Gen.facts,
    Cert.ExpertsReferenceIdeal.Gen.facts, Cert.Inproj.Gen.facts, Cert.InprojIdeal.Gen.facts, Cert.InprojReferenceIdeal.Gen.facts,
    Cert.MergeLow.Gen.facts, Cert.MergeLowIdeal.Gen.facts, Cert.MergeLowReferenceIdeal.Gen.facts, Cert.MergeHigh.Gen.facts, Cert.MergeHighIdeal.Gen.facts, Cert.MergeHighReferenceIdeal.Gen.facts,
    Cert.Pre_finite.Gen.facts, Cert.Pre_tiles.Gen.facts, Cert.On_rows_held.Gen.facts,
    fun m ρ _ => Cert.Kernel.Gen.frame m ρ, fun m ρ _ => Cert.KernelIdeal.Fox.quiet m ρ, fun m ρ _ => Cert.KernelIdeal.Fox.quiet m ρ,
    fun m ρ _ => ?_, fun m ρ _ => ?_, experts_quiet, experts_ideal_quiet, experts_reference_quiet, experts_reference_quiet_tiles,
    inproj_quiet, inproj_ideal_quiet, inproj_reference_quiet,
    fun m ρ _ => Cert.MergeLow.Gen.frame m ρ, fun m ρ _ => Cert.MergeLowIdeal.Gen.frame m ρ, merge_low_reference_quiet,
    fun m ρ _ => Cert.MergeHigh.Gen.frame m ρ, fun m ρ _ => Cert.MergeHighIdeal.Gen.frame m ρ, merge_high_reference_quiet,
    IdealRules.named_const.statement Cert.KernelIdeal.κ "q_scale" .f32 0x3E0293EE#32 (((Real.sqrt 128)⁻¹ * (Real.log 2)⁻¹ : ℝ) : EReal) rfl,
    fun m g m' g' hpre hagree => ?_, trivial, experts_equal, trivial, inproj_equal, trivial, merge_low_equal, trivial, merge_high_equal⟩
  iterate 2
    exact (θ_run Cert.ReferenceIdeal.defs _ _).mono (fun r h => ⟨fun c => (h c).2, sem_eq_zero_of_no_sems (by decide) r.2⟩) (Cert.ReferenceIdeal.Fox.run m ρ)
  have hf := finite_args hpre
  refine ⟨fun c => attRows m c, Cert.KernelIdeal.Fox.value m g hf, (θ_run Cert.ReferenceIdeal.defs _ _).mono (fun r h c => ⟨?_, (h c).2⟩) (Cert.ReferenceIdeal.Fox.run m' g')⟩
  refine (h c).1.trans ?_
  rw [(hagree c).1, (hagree c).2]
  exact Cert.KernelIdeal.Fox.ref_eq m c (hf c)

end Cert.Proof

end
